-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_trunk [hPre_finite_trunk : Cert.Pre_finite_trunk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_trunk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_trunk [hPre_finite_trunk : Cert.Pre_finite_trunk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_trunk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_trunk [hKernelIdeal : Cert.KernelIdeal.Facts] [hPre_finite_trunk : Cert.Pre_finite_trunk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_trunk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_trunk [hReferenceIdeal : Cert.ReferenceIdeal.Facts] [hPre_finite_trunk : Cert.Pre_finite_trunk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_trunk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "q_scale" .f32 0xBE38AA3B#32 ((-((8 * (Real.log 2))⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite_trunk [hKernelIdeal : Cert.KernelIdeal.Facts] [hReferenceIdeal : Cert.ReferenceIdeal.Facts] [hPre_finite_trunk : Cert.Pre_finite_trunk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_trunk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v583) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_trunk : Cert.Pre_finite_trunk.Facts),
    quiescent_Kernel (hKernel := hKernel)
    ∧ quiescent_KernelIdeal (hKernelIdeal := hKernelIdeal)
    ∧ quiescent_KernelIdeal_pre_finite_trunk (hKernelIdeal := hKernelIdeal) (hPre_finite_trunk := hPre_finite_trunk)
    ∧ quiescent_ReferenceIdeal (hReferenceIdeal := hReferenceIdeal)
    ∧ quiescent_ReferenceIdeal_pre_finite_trunk (hReferenceIdeal := hReferenceIdeal) (hPre_finite_trunk := hPre_finite_trunk)
    ∧ preserves_Kernel_KernelIdeal
    ∧ algebraic_KernelIdeal_ReferenceIdeal_pre_finite_trunk (hKernelIdeal := hKernelIdeal) (hReferenceIdeal := hReferenceIdeal) (hPre_finite_trunk := hPre_finite_trunk)
-- ==== Pre_finite_trunk.lean ====
abbrev S2x8192x1024 : Shape := ⟨3, ![2, 8192, 1024]⟩
abbrev S2x1024x2560 : Shape := ⟨3, ![2, 1024, 2560]⟩
abbrev S2x3x256 : Shape := ⟨3, ![2, 3, 256]⟩
abbrev S2x4x64x64 : Shape := ⟨4, ![2, 4, 64, 64]⟩
abbrev S2x256 : Shape := ⟨2, ![2, 256]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x1024x2560 : S_.BroadcastsInDim S2x1024x2560 (![] : Fin 0 → Fin S2x1024x2560.rank)
  reducesTo_S2x1024x2560_S_d0_1_2 : S2x1024x2560.ReducesTo [0, 1, 2] S_
  bcast_S_S2x3x256 : S_.BroadcastsInDim S2x3x256 (![] : Fin 0 → Fin S2x3x256.rank)
  reducesTo_S2x3x256_S_d0_1_2 : S2x3x256.ReducesTo [0, 1, 2] S_
  bcast_S_S2x4x64x64 : S_.BroadcastsInDim S2x4x64x64 (![] : Fin 0 → Fin S2x4x64x64.rank)
  reducesTo_S2x4x64x64_S_d0_1_2_3 : S2x4x64x64.ReducesTo [0, 1, 2, 3] S_
  bcast_S_S2x256 : S_.BroadcastsInDim S2x256 (![] : Fin 0 → Fin S2x256.rank)
  reducesTo_S2x256_S_d0_1 : S2x256.ReducesTo [0, 1] S_
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  reducesTo_S1024x1024_S_d0_1 : S1024x1024.ReducesTo [0, 1] S_
  slices_S2x1024x4096_S1x1024x4096_0_0_0 : S2x1024x4096.Slices ![0, 0, 0] S1x1024x4096
  shapeCasts_S1x1024x4096_S1024x4096 : S1x1024x4096.ShapeCasts S1024x4096
  bcast_S_S1024x4096 : S_.BroadcastsInDim S1024x4096 (![] : Fin 0 → Fin S1024x4096.rank)
  reducesTo_S1024x4096_S_d0_1 : S1024x4096.ReducesTo [0, 1] S_
  slices_S2x4096x1024_S1x4096x1024_0_0_0 : S2x4096x1024.Slices ![0, 0, 0] S1x4096x1024
  shapeCasts_S1x4096x1024_S4096x1024 : S1x4096x1024.ShapeCasts S4096x1024
  bcast_S_S4096x1024 : S_.BroadcastsInDim S4096x1024 (![] : Fin 0 → Fin S4096x1024.rank)
  reducesTo_S4096x1024_S_d0_1 : S4096x1024.ReducesTo [0, 1] S_

variable [Facts]

def fn_part4 {F : FTy → Type} [FloatOps F] (main_arg12 : FVec F S2x1024 .f32) (main_v65 : IVec S_ 1) (main_v71 : IVec S_ 1) : IVec S_ 1 :=
  let main_v72 : IVec S_ 1 := andi main_v65 main_v71
  let main_v73 : FVec F S1x1024 .f32 := (extractStridedSlice S1x1024 ![0, 0] · slices_S2x1024_S1x1024_0_0) main_arg12
  let main_v74 : FVec F S1024 .f32 := shapeCast S1024 main_v73 shapeCasts_S1x1024_S1024
  let main_v75 : FVec F S1024 .f32 := Host.absf main_v74
  let main_cst_22 : FVec F S_ .f32 := constant S_ .f32 0x7F800000#32
  let main_v76 : FVec F S1024 .f32 := broadcastInDim S1024 ![] bcast_S_S1024 main_cst_22
  let main_v77 : IVec S1024 1 := cmpf .olt main_v75 main_v76
  let main_c_23 : IVec S_ 1 := constantI S_ 1 1#1
  let main_v78 : IVec S_ 1 := (fun x v => Host.reduce IntOp.andi x v reducesTo_S1024_S_d0 h_S_) main_v77 main_c_23
  let main_v79 : IVec S_ 1 := andi main_v72 main_v78
  main_v79

def fn_part3 {F : FTy → Type} [FloatOps F] (main_arg10 : FVec F S2x4096x1024 .f32) (main_arg11 : FVec F S2x1024 .f32) (main_arg12 : FVec F S2x1024 .f32) (main_v51 : IVec S_ 1) (main_v53 : FVec F S1024x4096 .f32) : IVec S_ 1 :=
  let main_v54 : FVec F S1024x4096 .f32 := Host.absf main_v53
  let main_cst_16 : FVec F S_ .f32 := constant S_ .f32 0x7F800000#32
  let main_v55 : FVec F S1024x4096 .f32 := broadcastInDim S1024x4096 ![] bcast_S_S1024x4096 main_cst_16
  let main_v56 : IVec S1024x4096 1 := cmpf .olt main_v54 main_v55
  let main_c_17 : IVec S_ 1 := constantI S_ 1 1#1
  let main_v57 : IVec S_ 1 := (fun x v => Host.reduce IntOp.andi x v reducesTo_S1024x4096_S_d0_1 h_S_) main_v56 main_c_17
  let main_v58 : IVec S_ 1 := andi main_v51 main_v57
  let main_v59 : FVec F S1x4096x1024 .f32 := (extractStridedSlice S1x4096x1024 ![0, 0, 0] · slices_S2x4096x1024_S1x4096x1024_0_0_0) main_arg10
  let main_v60 : FVec F S4096x1024 .f32 := shapeCast S4096x1024 main_v59 shapeCasts_S1x4096x1024_S4096x1024
  let main_v61 : FVec F S4096x1024 .f32 := Host.absf main_v60
  let main_cst_18 : FVec F S_ .f32 := constant S_ .f32 0x7F800000#32
  let main_v62 : FVec F S4096x1024 .f32 := broadcastInDim S4096x1024 ![] bcast_S_S4096x1024 main_cst_18
  let main_v63 : IVec S4096x1024 1 := cmpf .olt main_v61 main_v62
  let main_c_19 : IVec S_ 1 := constantI S_ 1 1#1
  let main_v64 : IVec S_ 1 := (fun x v => Host.reduce IntOp.andi x v reducesTo_S4096x1024_S_d0_1 h_S_) main_v63 main_c_19
  let main_v65 : IVec S_ 1 := andi main_v58 main_v64
  let main_v66 : FVec F S1x1024 .f32 := (extractStridedSlice S1x1024 ![0, 0] · slices_S2x1024_S1x1024_0_0) main_arg11
  let main_v67 : FVec F S1024 .f32 := shapeCast S1024 main_v66 shapeCasts_S1x1024_S1024
  let main_v68 : FVec F S1024 .f32 := Host.absf main_v67
  let main_cst_20 : FVec F S_ .f32 := constant S_ .f32 0x7F800000#32
  let main_v69 : FVec F S1024 .f32 := broadcastInDim S1024 ![] bcast_S_S1024 main_cst_20
  let main_v70 : IVec S1024 1 := cmpf .olt main_v68 main_v69
  let main_c_21 : IVec S_ 1 := constantI S_ 1 1#1
  let main_v71 : IVec S_ 1 := (fun x v => Host.reduce IntOp.andi x v reducesTo_S1024_S_d0 h_S_) main_v70 main_c_21
  fn_part4 (F := F) main_arg12 main_v65 main_v71

def fn_part2 {F : FTy → Type} [FloatOps F] (main_arg7 : FVec F S2x1024 .f32) (main_arg8 : FVec F S2x1024 .f32) (main_arg9 : FVec F S2x1024x4096 .f32) (main_arg10 : FVec F S2x4096x1024 .f32) (main_arg11 : FVec F S2x1024 .f32) (main_arg12 : FVec F S2x1024 .f32) (main_v30 : IVec S_ 1) (main_v33 : FVec F S1024x1024 .f32) (main_v34 : FVec F S1024x1024 .f32) : IVec S_ 1 :=
  let main_v35 : IVec S1024x1024 1 := cmpf .olt main_v33 main_v34
  let main_c_11 : IVec S_ 1 := constantI S_ 1 1#1
  let main_v36 : IVec S_ 1 := (fun x v => Host.reduce IntOp.andi x v reducesTo_S1024x1024_S_d0_1 h_S_) main_v35 main_c_11
  let main_v37 : IVec S_ 1 := andi main_v30 main_v36
  let main_v38 : FVec F S1x1024 .f32 := (extractStridedSlice S1x1024 ![0, 0] · slices_S2x1024_S1x1024_0_0) main_arg7
  let main_v39 : FVec F S1024 .f32 := shapeCast S1024 main_v38 shapeCasts_S1x1024_S1024
  let main_v40 : FVec F S1024 .f32 := Host.absf main_v39
  let main_cst_12 : FVec F S_ .f32 := constant S_ .f32 0x7F800000#32
  let main_v41 : FVec F S1024 .f32 := broadcastInDim S1024 ![] bcast_S_S1024 main_cst_12
  let main_v42 : IVec S1024 1 := cmpf .olt main_v40 main_v41
  let main_c_13 : IVec S_ 1 := constantI S_ 1 1#1
  let main_v43 : IVec S_ 1 := (fun x v => Host.reduce IntOp.andi x v reducesTo_S1024_S_d0 h_S_) main_v42 main_c_13
  let main_v44 : IVec S_ 1 := andi main_v37 main_v43
  let main_v45 : FVec F S1x1024 .f32 := (extractStridedSlice S1x1024 ![0, 0] · slices_S2x1024_S1x1024_0_0) main_arg8
  let main_v46 : FVec F S1024 .f32 := shapeCast S1024 main_v45 shapeCasts_S1x1024_S1024
  let main_v47 : FVec F S1024 .f32 := Host.absf main_v46
  let main_cst_14 : FVec F S_ .f32 := constant S_ .f32 0x7F800000#32
  let main_v48 : FVec F S1024 .f32 := broadcastInDim S1024 ![] bcast_S_S1024 main_cst_14
  let main_v49 : IVec S1024 1 := cmpf .olt main_v47 main_v48
  let main_c_15 : IVec S_ 1 := constantI S_ 1 1#1
  let main_v50 : IVec S_ 1 := (fun x v => Host.reduce IntOp.andi x v reducesTo_S1024_S_d0 h_S_) main_v49 main_c_15
  let main_v51 : IVec S_ 1 := andi main_v44 main_v50
  let main_v52 : FVec F S1x1024x4096 .f32 := (extractStridedSlice S1x1024x4096 ![0, 0, 0] · slices_S2x1024x4096_S1x1024x4096_0_0_0) main_arg9
  let main_v53 : FVec F S1024x4096 .f32 := shapeCast S1024x4096 main_v52 shapeCasts_S1x1024x4096_S1024x4096
  fn_part3 (F := F) main_arg10 main_arg11 main_arg12 main_v51 main_v53

def fn_part1 {F : FTy → Type} [FloatOps F] (main_arg4 : FVec F S2x256 .f32) (main_arg5 : FVec F S2x1024 .f32) (main_arg6 : FVec F S2x1024x1024 .f32) (main_arg7 : FVec F S2x1024 .f32) (main_arg8 : FVec F S2x1024 .f32) (main_arg9 : FVec F S2x1024x4096 .f32) (main_arg10 : FVec F S2x4096x1024 .f32) (main_arg11 : FVec F S2x1024 .f32) (main_arg12 : FVec F S2x1024 .f32) (main_v13 : IVec S_ 1) (main_v16 : IVec S2x4x64x64 1) : IVec S_ 1 :=
  let main_c_5 : IVec S_ 1 := constantI S_ 1 1#1
  let main_v17 : IVec S_ 1 := (fun x v => Host.reduce IntOp.andi x v reducesTo_S2x4x64x64_S_d0_1_2_3 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S1x1024 .f32 := (extractStridedSlice S1x1024 ![0, 0] · slices_S2x1024_S1x1024_0_0) main_arg5
  let main_v25 : FVec F S1024 .f32 := shapeCast S1024 main_v24 shapeCasts_S1x1024_S1024
  let main_v26 : FVec F S1024 .f32 := Host.absf main_v25
  let main_cst_8 : FVec F S_ .f32 := constant S_ .f32 0x7F800000#32
  let main_v27 : FVec F S1024 .f32 := broadcastInDim S1024 ![] bcast_S_S1024 main_cst_8
  let main_v28 : IVec S1024 1 := cmpf .olt main_v26 main_v27
  let main_c_9 : IVec S_ 1 := constantI S_ 1 1#1
  let main_v29 : IVec S_ 1 := (fun x v => Host.reduce IntOp.andi x v reducesTo_S1024_S_d0 h_S_) main_v28 main_c_9
  let main_v30 : IVec S_ 1 := andi main_v23 main_v29
  let main_v31 : FVec F S1x1024x1024 .f32 := (extractStridedSlice S1x1024x1024 ![0, 0, 0] · slices_S2x1024x1024_S1x1024x1024_0_0_0) main_arg6
  let main_v32 : FVec F S1024x1024 .f32 := shapeCast S1024x1024 main_v31 shapeCasts_S1x1024x1024_S1024x1024
  let main_v33 : FVec F S1024x1024 .f32 := Host.absf main_v32
  let main_cst_10 : FVec F S_ .f32 := constant S_ .f32 0x7F800000#32
  let main_v34 : FVec F S1024x1024 .f32 := broadcastInDim S1024x1024 ![] bcast_S_S1024x1024 main_cst_10
  fn_part2 (F := F) main_arg7 main_arg8 main_arg9 main_arg10 main_arg11 main_arg12 main_v30 main_v33 main_v34

def fn {F : FTy → Type} [FloatOps F] (main_arg0 : FVec F S2x8192x1024 .f32) (main_arg1 : FVec F S2x1024x2560 .f32) (main_arg2 : FVec F S2x3x256 .f32) (main_arg3 : FVec F S2x4x64x64 .f32) (main_arg4 : FVec F S2x256 .f32) (main_arg5 : FVec F S2x1024 .f32) (main_arg6 : FVec F S2x1024x1024 .f32) (main_arg7 : FVec F S2x1024 .f32) (main_arg8 : FVec F S2x1024 .f32) (main_arg9 : FVec F S2x1024x4096 .f32) (main_arg10 : FVec F S2x4096x1024 .f32) (main_arg11 : FVec F S2x1024 .f32) (main_arg12 : FVec F S2x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x1024x2560 .f32 := Host.absf main_arg1
  let main_cst_0 : FVec F S_ .f32 := constant S_ .f32 0x7F800000#32
  let main_v5 : FVec F S2x1024x2560 .f32 := broadcastInDim S2x1024x2560 ![] bcast_S_S2x1024x2560 main_cst_0
  let main_v6 : IVec S2x1024x2560 1 := cmpf .olt main_v4 main_v5
  let main_c_1 : IVec S_ 1 := constantI S_ 1 1#1
  let main_v7 : IVec S_ 1 := (fun x v => Host.reduce IntOp.andi x v reducesTo_S2x1024x2560_S_d0_1_2 h_S_) main_v6 main_c_1
  let main_v8 : IVec S_ 1 := andi main_v3 main_v7
  let main_v9 : FVec F S2x3x256 .f32 := Host.absf main_arg2
  let main_cst_2 : FVec F S_ .f32 := constant S_ .f32 0x7F800000#32
  let main_v10 : FVec F S2x3x256 .f32 := broadcastInDim S2x3x256 ![] bcast_S_S2x3x256 main_cst_2
  let main_v11 : IVec S2x3x256 1 := cmpf .olt main_v9 main_v10
  let main_c_3 : IVec S_ 1 := constantI S_ 1 1#1
  let main_v12 : IVec S_ 1 := (fun x v => Host.reduce IntOp.andi x v reducesTo_S2x3x256_S_d0_1_2 h_S_) main_v11 main_c_3
  let main_v13 : IVec S_ 1 := andi main_v8 main_v12
  let main_v14 : FVec F S2x4x64x64 .f32 := Host.absf main_arg3
  let main_cst_4 : FVec F S_ .f32 := constant S_ .f32 0x7F800000#32
  let main_v15 : FVec F S2x4x64x64 .f32 := broadcastInDim S2x4x64x64 ![] bcast_S_S2x4x64x64 main_cst_4
  let main_v16 : IVec S2x4x64x64 1 := cmpf .olt main_v14 main_v15
  fn_part1 (F := F) main_arg4 main_arg5 main_arg6 main_arg7 main_arg8 main_arg9 main_arg10 main_arg11 main_arg12 main_v13 main_v16
-- ==== Kernel.lean ====
abbrev S2x8192x1024 : Shape := ⟨3, ![2, 8192, 1024]⟩
abbrev S2x1024x2560 : Shape := ⟨3, ![2, 1024, 2560]⟩
abbrev S2x3x256 : Shape := ⟨3, ![2, 3, 256]⟩
abbrev S2x4x64x64 : Shape := ⟨4, ![2, 4, 64, 64]⟩
abbrev S2x256 : Shape := ⟨2, ![2, 256]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S1x1024x2560 : Shape := ⟨3, ![1, 1024, 2560]⟩
abbrev S1024x2560 : Shape := ⟨2, ![1024, 2560]⟩
abbrev S16384x1536 : Shape := ⟨2, ![16384, 1536]⟩
abbrev S512x1024 : Shape := ⟨2, ![512, 1024]⟩
abbrev S512x1536 : Shape := ⟨2, ![512, 1536]⟩
abbrev S1024x512 : Shape := ⟨2, ![1024, 512]⟩
abbrev S512x512 : Shape := ⟨2, ![512, 512]⟩
abbrev S2x8192x1536 : Shape := ⟨3, ![2, 8192, 1536]⟩
abbrev S_ : Shape := ⟨0, ![]⟩
abbrev S256x256 : Shape := ⟨2, ![256, 256]⟩
abbrev S2x8192x512 : Shape := ⟨3, ![2, 8192, 512]⟩
abbrev S1x256x128 : Shape := ⟨3, ![1, 256, 128]⟩
abbrev S1x8192x128 : Shape := ⟨3, ![1, 8192, 128]⟩
abbrev S2x256x128 : Shape := ⟨3, ![2, 256, 128]⟩
abbrev S2x256x1 : Shape := ⟨3, ![2, 256, 1]⟩
abbrev S256x128 : Shape := ⟨2, ![256, 128]⟩
abbrev S256x1 : Shape := ⟨2, ![256, 1]⟩
abbrev S1x256x1 : Shape := ⟨3, ![1, 256, 1]⟩
abbrev S16384x512 : Shape := ⟨2, ![16384, 512]⟩
abbrev S1x3x256 : Shape := ⟨3, ![1, 3, 256]⟩
abbrev S3x256 : Shape := ⟨2, ![3, 256]⟩
abbrev S1x4x64x64 : Shape := ⟨4, ![1, 4, 64, 64]⟩
abbrev S4x64x64 : Shape := ⟨3, ![4, 64, 64]⟩
abbrev S1x256 : Shape := ⟨2, ![1, 256]⟩
abbrev S256 : Shape := ⟨1, ![256]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x64x64 : Shape := ⟨3, ![1, 64, 64]⟩
abbrev S64x64 : Shape := ⟨2, ![64, 64]⟩
abbrev S64x256 : Shape := ⟨2, ![64, 256]⟩
abbrev S256x1024 : Shape := ⟨2, ![256, 1024]⟩
abbrev S256x512 : Shape := ⟨2, ![256, 512]⟩
abbrev S16x1024 : Shape := ⟨2, ![16, 1024]⟩
abbrev S16x256 : Shape := ⟨2, ![16, 256]⟩
abbrev S272x256 : Shape := ⟨2, ![272, 256]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 207
  | .vmem => 90
  | .smem => 0
  | _ => 0

abbrev hbmTy0_0 (i : Nat) : BufTy := match i % 128 with
  | 0 => ⟨S2x8192x1024, .f32⟩
  | 1 => ⟨S2x1024x2560, .f32⟩
  | 2 => ⟨S2x3x256, .f32⟩
  | 3 => ⟨S2x4x64x64, .f32⟩
  | 4 => ⟨S2x256, .f32⟩
  | 5 => ⟨S2x1024, .f32⟩
  | 6 => ⟨S2x1024x1024, .f32⟩
  | 7 => ⟨S2x1024, .f32⟩
  | 8 => ⟨S2x1024, .f32⟩
  | 9 => ⟨S2x1024x4096, .f32⟩
  | 10 => ⟨S2x4096x1024, .f32⟩
  | 11 => ⟨S2x1024, .f32⟩
  | 12 => ⟨S2x1024, .f32⟩
  | 13 => ⟨S16384x1024, .f32⟩
  | 14 => ⟨S1x1024x2560, .f32⟩
  | 15 => ⟨S1024x2560, .f32⟩
  | 16 => ⟨S1024x2560, .bf16⟩
  | 17 => ⟨S16384x1536, .bf16⟩
  | 18 => ⟨S16384x1024, .f32⟩
  | 19 => ⟨S2x8192x1536, .bf16⟩
  | 20 => ⟨S_, .f32⟩
  | 21 => ⟨S256x256, .f32⟩
  | 22 => ⟨S256x256, .i32⟩
  | 23 => ⟨S_, .i32⟩
  | 24 => ⟨S256x256, .i32⟩
  | 25 => ⟨S256x256, .i32⟩
  | 26 => ⟨S256x256, .i32⟩
  | 27 => ⟨S256x256, .i1⟩
  | 28 => ⟨S_, .f32⟩
  | 29 => ⟨S256x256, .f32⟩
  | 30 => ⟨S256x256, .f32⟩
  | 31 => ⟨S256x256, .bf16⟩
  | 32 => ⟨S2x8192x512, .f32⟩
  | 33 => ⟨S16384x512, .f32⟩
  | 34 => ⟨S1x3x256, .f32⟩
  | 35 => ⟨S3x256, .f32⟩
  | 36 => ⟨S1x4x64x64, .f32⟩
  | 37 => ⟨S4x64x64, .f32⟩
  | 38 => ⟨S1x256, .f32⟩
  | 39 => ⟨S256, .f32⟩
  | 40 => ⟨S1x1024, .f32⟩
  | 41 => ⟨S1024, .f32⟩
  | 42 => ⟨S1x1024x1024, .f32⟩
  | 43 => ⟨S1024x1024, .f32⟩
  | 44 => ⟨S1024x1024, .bf16⟩
  | 45 => ⟨S1x1024, .f32⟩
  | 46 => ⟨S1024, .f32⟩
  | 47 => ⟨S1x1024, .f32⟩
  | 48 => ⟨S1024, .f32⟩
  | 49 => ⟨S1x64x64, .f32⟩
  | 50 => ⟨S64x64, .f32⟩
  | 51 => ⟨S1x64x64, .f32⟩
  | 52 => ⟨S64x64, .f32⟩
  | 53 => ⟨S1x64x64, .f32⟩
  | 54 => ⟨S64x64, .f32⟩
  | 55 => ⟨S1x64x64, .f32⟩
  | 56 => ⟨S64x64, .f32⟩
  | 57 => ⟨S_, .f32⟩
  | 58 => ⟨S64x256, .f32⟩
  | 59 => ⟨S_, .f32⟩
  | 60 => ⟨S64x256, .f32⟩
  | 61 => ⟨S_, .f32⟩
  | 62 => ⟨S64x256, .f32⟩
  | 63 => ⟨S_, .f32⟩
  | 64 => ⟨S64x256, .f32⟩
  | 65 => ⟨S256x256, .f32⟩
  | 66 => ⟨S256x256, .bf16⟩
  | 67 => ⟨S256, .i32⟩
  | 68 => ⟨S_, .i32⟩
  | 69 => ⟨S_, .i32⟩
  | 70 => ⟨S256, .i32⟩
  | 71 => ⟨S256, .i32⟩
  | 72 => ⟨S256, .i32⟩
  | 73 => ⟨S_, .i32⟩
  | 74 => ⟨S256, .i32⟩
  | 75 => ⟨S256, .i1⟩
  | 76 => ⟨S256, .i32⟩
  | 77 => ⟨S256, .i32⟩
  | 78 => ⟨S_, .i32⟩
  | 79 => ⟨S256, .i32⟩
  | 80 => ⟨S256, .i1⟩
  | 81 => ⟨S256, .i1⟩
  | 82 => ⟨S_, .i32⟩
  | 83 => ⟨S256, .i32⟩
  | 84 => ⟨S256, .i32⟩
  | 85 => ⟨S256, .i32⟩
  | 86 => ⟨S256x1, .i32⟩
  | 87 => ⟨S1x256, .i32⟩
  | 88 => ⟨S256x256, .i32⟩
  | 89 => ⟨S256x256, .i32⟩
  | 90 => ⟨S256x256, .i1⟩
  | 91 => ⟨S256x256, .bf16⟩
  | 92 => ⟨S1x256, .f32⟩
  | 93 => ⟨S1x1024, .f32⟩
  | 94 => ⟨S1x1024, .f32⟩
  | 95 => ⟨S1x1024, .f32⟩
  | 96 => ⟨S16384x1024, .f32⟩
  | 97 => ⟨S1x1024x4096, .f32⟩
  | 98 => ⟨S1024x4096, .f32⟩
  | 99 => ⟨S1024x4096, .bf16⟩
  | 100 => ⟨S1x4096x1024, .f32⟩
  | 101 => ⟨S4096x1024, .f32⟩
  | 102 => ⟨S4096x1024, .bf16⟩
  | 103 => ⟨S1x1024, .f32⟩
  | 104 => ⟨S1024, .f32⟩
  | 105 => ⟨S1x1024, .f32⟩
  | 106 => ⟨S1024, .f32⟩
  | 107 => ⟨S1x1024, .f32⟩
  | 108 => ⟨S1x1024, .f32⟩
  | 109 => ⟨S16384x1024, .f32⟩
  | 110 => ⟨S1x1024x2560, .f32⟩
  | 111 => ⟨S1024x2560, .f32⟩
  | 112 => ⟨S1024x2560, .bf16⟩
  | 113 => ⟨S16384x1536, .bf16⟩
  | 114 => ⟨S16384x1024, .f32⟩
  | 115 => ⟨S2x8192x1536, .bf16⟩
  | 116 => ⟨S_, .f32⟩
  | 117 => ⟨S256x256, .f32⟩
  | 118 => ⟨S256x256, .i32⟩
  | 119 => ⟨S_, .i32⟩
  | 120 => ⟨S256x256, .i32⟩
  | 121 => ⟨S256x256, .i32⟩
  | 122 => ⟨S256x256, .i32⟩
  | 123 => ⟨S256x256, .i1⟩
  | 124 => ⟨S_, .f32⟩
  | 125 => ⟨S256x256, .f32⟩
  | 126 => ⟨S256x256, .f32⟩
  | 127 => ⟨S256x256, .bf16⟩
  | _ => ⟨S2x8192x1024, .f32⟩

abbrev hbmTy0_1 (i : Nat) : BufTy := match i % 128 with
  | 0 => ⟨S2x8192x512, .f32⟩
  | 1 => ⟨S16384x512, .f32⟩
  | 2 => ⟨S1x3x256, .f32⟩
  | 3 => ⟨S3x256, .f32⟩
  | 4 => ⟨S1x4x64x64, .f32⟩
  | 5 => ⟨S4x64x64, .f32⟩
  | 6 => ⟨S1x256, .f32⟩
  | 7 => ⟨S256, .f32⟩
  | 8 => ⟨S1x1024, .f32⟩
  | 9 => ⟨S1024, .f32⟩
  | 10 => ⟨S1x1024x1024, .f32⟩
  | 11 => ⟨S1024x1024, .f32⟩
  | 12 => ⟨S1024x1024, .bf16⟩
  | 13 => ⟨S1x1024, .f32⟩
  | 14 => ⟨S1024, .f32⟩
  | 15 => ⟨S1x1024, .f32⟩
  | 16 => ⟨S1024, .f32⟩
  | 17 => ⟨S1x64x64, .f32⟩
  | 18 => ⟨S64x64, .f32⟩
  | 19 => ⟨S1x64x64, .f32⟩
  | 20 => ⟨S64x64, .f32⟩
  | 21 => ⟨S1x64x64, .f32⟩
  | 22 => ⟨S64x64, .f32⟩
  | 23 => ⟨S1x64x64, .f32⟩
  | 24 => ⟨S64x64, .f32⟩
  | 25 => ⟨S_, .f32⟩
  | 26 => ⟨S64x256, .f32⟩
  | 27 => ⟨S_, .f32⟩
  | 28 => ⟨S64x256, .f32⟩
  | 29 => ⟨S_, .f32⟩
  | 30 => ⟨S64x256, .f32⟩
  | 31 => ⟨S_, .f32⟩
  | 32 => ⟨S64x256, .f32⟩
  | 33 => ⟨S256x256, .f32⟩
  | 34 => ⟨S256x256, .bf16⟩
  | 35 => ⟨S256, .i32⟩
  | 36 => ⟨S_, .i32⟩
  | 37 => ⟨S_, .i32⟩
  | 38 => ⟨S256, .i32⟩
  | 39 => ⟨S256, .i32⟩
  | 40 => ⟨S256, .i32⟩
  | 41 => ⟨S_, .i32⟩
  | 42 => ⟨S256, .i32⟩
  | 43 => ⟨S256, .i1⟩
  | 44 => ⟨S256, .i32⟩
  | 45 => ⟨S256, .i32⟩
  | 46 => ⟨S_, .i32⟩
  | 47 => ⟨S256, .i32⟩
  | 48 => ⟨S256, .i1⟩
  | 49 => ⟨S256, .i1⟩
  | 50 => ⟨S_, .i32⟩
  | 51 => ⟨S256, .i32⟩
  | 52 => ⟨S256, .i32⟩
  | 53 => ⟨S256, .i32⟩
  | 54 => ⟨S256x1, .i32⟩
  | 55 => ⟨S1x256, .i32⟩
  | 56 => ⟨S256x256, .i32⟩
  | 57 => ⟨S256x256, .i32⟩
  | 58 => ⟨S256x256, .i1⟩
  | 59 => ⟨S256x256, .bf16⟩
  | 60 => ⟨S1x256, .f32⟩
  | 61 => ⟨S1x1024, .f32⟩
  | 62 => ⟨S1x1024, .f32⟩
  | 63 => ⟨S1x1024, .f32⟩
  | 64 => ⟨S16384x1024, .f32⟩
  | 65 => ⟨S1x1024x4096, .f32⟩
  | 66 => ⟨S1024x4096, .f32⟩
  | 67 => ⟨S1024x4096, .bf16⟩
  | 68 => ⟨S1x4096x1024, .f32⟩
  | 69 => ⟨S4096x1024, .f32⟩
  | 70 => ⟨S4096x1024, .bf16⟩
  | 71 => ⟨S1x1024, .f32⟩
  | 72 => ⟨S1024, .f32⟩
  | 73 => ⟨S1x1024, .f32⟩
  | 74 => ⟨S1024, .f32⟩
  | 75 => ⟨S1x1024, .f32⟩
  | 76 => ⟨S1x1024, .f32⟩
  | 77 => ⟨S16384x1024, .f32⟩
  | 78 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x1536, .bf16⟩
  | .local _ .vmem, ⟨4, _⟩ => ⟨S512x1536, .bf16⟩
  | .local _ .vmem, ⟨5, _⟩ => ⟨S512x1024, .f32⟩
  | .local _ .vmem, ⟨6, _⟩ => ⟨S512x1024, .f32⟩
  | .local _ .vmem, ⟨7, _⟩ => ⟨S1x256x128, .bf16⟩
  | .local _ .vmem, ⟨8, _⟩ => ⟨S1x256x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x8192x128, .bf16⟩
  | .local _ .vmem, ⟨12, _⟩ => ⟨S1x8192x128, .bf16⟩
  | .local _ .vmem, ⟨13, _⟩ => ⟨S256x256, .bf16⟩
  | .local _ .vmem, ⟨14, _⟩ => ⟨S1x256x128, .f32⟩
  | .local _ .vmem, ⟨15, _⟩ => ⟨S1x256x128, .f32⟩
  | .local _ .vmem, ⟨16, _⟩ => ⟨S2x256x128, .f32⟩
  | .local _ .vmem, ⟨17, _⟩ => ⟨S2x256x1, .f32⟩
  | .local _ .vmem, ⟨18, _⟩ => ⟨S256x1024, .f32⟩
  | .local _ .vmem, ⟨19, _⟩ => ⟨S256x1024, .f32⟩
  | .local _ .vmem, ⟨20, _⟩ => ⟨S256x512, .f32⟩
  | .local _ .vmem, ⟨21, _⟩ => ⟨S256x512, .f32⟩
  | .local _ .vmem, ⟨22, _⟩ => ⟨S256x1024, .f32⟩
  | .local _ .vmem, ⟨23, _⟩ => ⟨S256x1024, .f32⟩
  | .local _ .vmem, ⟨24, _⟩ => ⟨S16x1024, .f32⟩
  | .local _ .vmem, ⟨25, _⟩ => ⟨S16x1024, .f32⟩
  | .local _ .vmem, ⟨26, _⟩ => ⟨S3x256, .f32⟩
  | .local _ .vmem, ⟨27, _⟩ => ⟨S256x256, .bf16⟩
  | .local _ .vmem, ⟨28, _⟩ => ⟨S1x256, .f32⟩
  | .local _ .vmem, ⟨29, _⟩ => ⟨S1x1024, .f32⟩
  | .local _ .vmem, ⟨30, _⟩ => ⟨S256x256, .bf16⟩
  | .local _ .vmem, ⟨31, _⟩ => ⟨S1024x1024, .bf16⟩
  | .local _ .vmem, ⟨32, _⟩ => ⟨S1x1024, .f32⟩
  | .local _ .vmem, ⟨33, _⟩ => ⟨S1x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S1024x4096, .bf16⟩
  | .local _ .vmem, ⟨39, _⟩ => ⟨S4096x1024, .bf16⟩
  | .local _ .vmem, ⟨40, _⟩ => ⟨S1x1024, .f32⟩
  | .local _ .vmem, ⟨41, _⟩ => ⟨S1x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S512x1024, .f32⟩
  | .local _ .vmem, ⟨46, _⟩ => ⟨S512x1024, .f32⟩
  | .local _ .vmem, ⟨47, _⟩ => ⟨S1024x2560, .bf16⟩
  | .local _ .vmem, ⟨48, _⟩ => ⟨S512x1536, .bf16⟩
  | .local _ .vmem, ⟨49, _⟩ => ⟨S512x1536, .bf16⟩
  | .local _ .vmem, ⟨50, _⟩ => ⟨S512x1024, .f32⟩
  | .local _ .vmem, ⟨51, _⟩ => ⟨S512x1024, .f32⟩
  | .local _ .vmem, ⟨52, _⟩ => ⟨S1x256x128, .bf16⟩
  | .local _ .vmem, ⟨53, _⟩ => ⟨S1x256x128, .bf16⟩
  | .local _ .vmem, ⟨54, _⟩ => ⟨S1x8192x128, .bf16⟩
  | .local _ .vmem, ⟨55, _⟩ => ⟨S1x8192x128, .bf16⟩
  | .local _ .vmem, ⟨56, _⟩ => ⟨S1x8192x128, .bf16⟩
  | .local _ .vmem, ⟨57, _⟩ => ⟨S1x8192x128, .bf16⟩
  | .local _ .vmem, ⟨58, _⟩ => ⟨S256x256, .bf16⟩
  | .local _ .vmem, ⟨59, _⟩ => ⟨S1x256x128, .f32⟩
  | .local _ .vmem, ⟨60, _⟩ => ⟨S1x256x128, .f32⟩
  | .local _ .vmem, ⟨61, _⟩ => ⟨S2x256x128, .f32⟩
  | .local _ .vmem, ⟨62, _⟩ => ⟨S2x256x1, .f32⟩
  | .local _ .vmem, ⟨63, _⟩ => ⟨S256x1024, .f32⟩
  | .local _ .vmem, ⟨64, _⟩ => ⟨S256x1024, .f32⟩
  | .local _ .vmem, ⟨65, _⟩ => ⟨S256x512, .f32⟩
  | .local _ .vmem, ⟨66, _⟩ => ⟨S256x512, .f32⟩
  | .local _ .vmem, ⟨67, _⟩ => ⟨S256x1024, .f32⟩
  | .local _ .vmem, ⟨68, _⟩ => ⟨S256x1024, .f32⟩
  | .local _ .vmem, ⟨69, _⟩ => ⟨S16x1024, .f32⟩
  | .local _ .vmem, ⟨70, _⟩ => ⟨S16x1024, .f32⟩
  | .local _ .vmem, ⟨71, _⟩ => ⟨S3x256, .f32⟩
  | .local _ .vmem, ⟨72, _⟩ => ⟨S256x256, .bf16⟩
  | .local _ .vmem, ⟨73, _⟩ => ⟨S1x256, .f32⟩
  | .local _ .vmem, ⟨74, _⟩ => ⟨S1x1024, .f32⟩
  | .local _ .vmem, ⟨75, _⟩ => ⟨S256x256, .bf16⟩
  | .local _ .vmem, ⟨76, _⟩ => ⟨S1024x1024, .bf16⟩
  | .local _ .vmem, ⟨77, _⟩ => ⟨S1x1024, .f32⟩
  | .local _ .vmem, ⟨78, _⟩ => ⟨S1x1024, .f32⟩
  | .local _ .vmem, ⟨79, _⟩ => ⟨S256x1024, .f32⟩
  | .local _ .vmem, ⟨80, _⟩ => ⟨S256x1024, .f32⟩
  | .local _ .vmem, ⟨81, _⟩ => ⟨S256x1024, .f32⟩
  | .local _ .vmem, ⟨82, _⟩ => ⟨S256x1024, .f32⟩
  | .local _ .vmem, ⟨83, _⟩ => ⟨S1024x4096, .bf16⟩
  | .local _ .vmem, ⟨84, _⟩ => ⟨S4096x1024, .bf16⟩
  | .local _ .vmem, ⟨85, _⟩ => ⟨S1x1024, .f32⟩
  | .local _ .vmem, ⟨86, _⟩ => ⟨S1x1024, .f32⟩
  | .local _ .vmem, ⟨87, _⟩ => ⟨S256x1024, .f32⟩
  | .local _ .vmem, ⟨88, _⟩ => ⟨S256x1024, .f32⟩
  | .local _ .vmem, ⟨89, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_cst : Ref sig .tc := ⟨.hbm, 28, rfl⟩
abbrev main_call0_v5 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v4 : Ref sig .tc := ⟨.hbm, 58, rfl⟩
abbrev main_call1_cst_0 : Ref sig .tc := ⟨.hbm, 59, rfl⟩
abbrev main_call1_v5 : Ref sig .tc := ⟨.hbm, 60, rfl⟩
abbrev main_call1_cst_1 : Ref sig .tc := ⟨.hbm, 61, rfl⟩
abbrev main_call1_v6 : Ref sig .tc := ⟨.hbm, 62, rfl⟩
abbrev main_call1_cst_2 : Ref sig .tc := ⟨.hbm, 63, rfl⟩
abbrev main_call1_v7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65_0 : Ref sig .tc := ⟨.hbm, 113, rfl⟩
abbrev main_v65_1 : Ref sig .tc := ⟨.hbm, 114, rfl⟩
abbrev main_v66 : Ref sig .tc := ⟨.hbm, 115, rfl⟩
abbrev main_cst_0 : Ref sig .tc := ⟨.hbm, 116, rfl⟩
abbrev main_v67 : Ref sig .tc := ⟨.hbm, 117, rfl⟩
abbrev main_call3_v0 : Ref sig .tc := ⟨.hbm, 118, rfl⟩
abbrev main_call3_c : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_cst : Ref sig .tc := ⟨.hbm, 124, rfl⟩
abbrev main_call3_v5 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_call4_cst : Ref sig .tc := ⟨.hbm, 153, rfl⟩
abbrev main_call4_v4 : Ref sig .tc := ⟨.hbm, 154, rfl⟩
abbrev main_call4_cst_0 : Ref sig .tc := ⟨.hbm, 155, rfl⟩
abbrev main_call4_v5 : Ref sig .tc := ⟨.hbm, 156, rfl⟩
abbrev main_call4_cst_1 : Ref sig .tc := ⟨.hbm, 157, rfl⟩
abbrev main_call4_v6 : Ref sig .tc := ⟨.hbm, 158, rfl⟩
abbrev main_call4_cst_2 : Ref sig .tc := ⟨.hbm, 159, rfl⟩
abbrev main_call4_v7 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_c_1 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_v6 : Ref sig .tc := ⟨.hbm, 171, rfl⟩
abbrev main_call5_v7 : Ref sig .tc := ⟨.hbm, 172, rfl⟩
abbrev main_call5_v8 : Ref sig .tc := ⟨.hbm, 173, rfl⟩
abbrev main_call5_c : Ref sig .tc := ⟨.hbm, 174, rfl⟩
abbrev main_call5_v9 : Ref sig .tc := ⟨.hbm, 175, rfl⟩
abbrev main_call5_v10 : Ref sig .tc := ⟨.hbm, 176, rfl⟩
abbrev main_call5_v11 : Ref sig .tc := ⟨.hbm, 177, rfl⟩
abbrev main_call5_c_0 : Ref sig .tc := ⟨.hbm, 178, rfl⟩
abbrev main_call5_v12 : Ref sig .tc := ⟨.hbm, 179, rfl⟩
abbrev main_call5_v13 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg11_0 : Ref sig .tc := ⟨.vmem, 33, rfl⟩
abbrev cc2_stg12_0 : Ref sig .tc := ⟨.vmem, 34, rfl⟩
abbrev cc2_stg12_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_scratch0 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg4_1 : Ref sig .tc := ⟨.vmem, 60, rfl⟩
abbrev cc5_scratch0 : Ref sig .tc := ⟨.vmem, 61, rfl⟩
abbrev cc5_scratch1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg2_1 : Ref sig .tc := ⟨.vmem, 68, rfl⟩
abbrev cc6_stg3_0 : Ref sig .tc := ⟨.vmem, 69, rfl⟩
abbrev cc6_stg3_1 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg8_0 : Ref sig .tc := ⟨.vmem, 75, rfl⟩
abbrev cc6_stg9_0 : Ref sig .tc := ⟨.vmem, 76, rfl⟩
abbrev cc6_stg10_0 : Ref sig .tc := ⟨.vmem, 77, rfl⟩
abbrev cc6_stg11_0 : Ref sig .tc := ⟨.vmem, 78, rfl⟩
abbrev cc6_stg12_0 : Ref sig .tc := ⟨.vmem, 79, rfl⟩
abbrev cc6_stg12_1 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg2_0 : Ref sig .tc := ⟨.vmem, 84, rfl⟩
abbrev cc7_stg3_0 : Ref sig .tc := ⟨.vmem, 85, rfl⟩
abbrev cc7_stg4_0 : Ref sig .tc := ⟨.vmem, 86, rfl⟩
abbrev cc7_stg5_0 : Ref sig .tc := ⟨.vmem, 87, rfl⟩
abbrev cc7_stg5_1 : Ref sig .tc := ⟨.vmem, 88, rfl⟩
abbrev cc7_scratch0 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem12_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem2_1 : DmaSem sig := 46
abbrev cc4_sem3_0 : DmaSem sig := 47
abbrev cc4_sem3_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem4_0 : DmaSem sig := 56
abbrev cc5_sem4_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem2_1 : DmaSem sig := 63
abbrev cc6_sem3_0 : DmaSem sig := 64
abbrev cc6_sem3_1 : DmaSem sig := 65
abbrev cc6_sem4_0 : DmaSem sig := 66
abbrev cc6_sem5_0 : DmaSem sig := 67
abbrev cc6_sem6_0 : DmaSem sig := 68
abbrev cc6_sem7_0 : DmaSem sig := 69
abbrev cc6_sem8_0 : DmaSem sig := 70
abbrev cc6_sem9_0 : DmaSem sig := 71
abbrev cc6_sem10_0 : DmaSem sig := 72
abbrev cc6_sem11_0 : DmaSem sig := 73
abbrev cc6_sem12_0 : DmaSem sig := 74
abbrev cc6_sem12_1 : DmaSem sig := 75
abbrev cc7_sem0_0 : DmaSem sig := 76
abbrev cc7_sem0_1 : DmaSem sig := 77
abbrev cc7_sem1_0 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem5_1 : DmaSem sig := 83

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 4, 32], ![false, false, false]⟩

def k1_mult1 (i : grid1.Coords) : BitVec 32 :=
  let arg2 : BitVec 32 := BitVec.ofNat 32 (i 2).val
  let c256_i32 : BitVec 32 := 256#32
  let v17 : BitVec 32 := Scalar.muli arg2 c256_i32
  v17
def k1_off1 (i : grid1.Coords) : Fin 3 → Nat :=
  let c0_5 : Index := 0#32
  let arg2 : BitVec 32 := BitVec.ofNat 32 (i 2).val
  let c256_i32 : BitVec 32 := 256#32
  let v17 : BitVec 32 := Scalar.muli arg2 c256_i32
  let v18 : BitVec 32 := v17
  let v19 : Index := Scalar.indexCast v18
  let c0_6 : Index := 0#32
  ![0, v19.toNat, 0]
@[reducible] def k1_t1_loop (i : grid1.Coords) : Scf.Loop 32 :=
  let c0_i32_42 : BitVec 32 := 0#32
  let arg2 : BitVec 32 := BitVec.ofNat 32 (i 2).val
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_43 : BitVec 32 := 1#32
  ⟨c0_i32_42, v107, c1_i32_43⟩
def k1_mult2 (i : grid1.Coords) (k1_t1 : Fin (k1_t1_loop i).trips) : BitVec 32 :=
  let arg2 : BitVec 32 := BitVec.ofNat 32 (i 2).val
  let c1_i32_54 : BitVec 32 := 1#32
  let v116 : BitVec 32 := Scalar.subi arg2 c1_i32_54
  let c0_i32_42 : BitVec 32 := 0#32
  let c1_i32_43 : BitVec 32 := 1#32
  let arg10 : BitVec 32 := Scf.iv c0_i32_42 c1_i32_43 k1_t1
  let v117 : BitVec 32 := Scalar.subi v116 arg10
  let c256_i32_55 : BitVec 32 := 256#32
  let v118 : BitVec 32 := Scalar.muli v117 c256_i32_55
  v118
def k1_off2 (i : grid1.Coords) (k1_t1 : Fin (k1_t1_loop i).trips) : Fin 3 → Nat :=
  let c0_56 : Index := 0#32
  let arg2 : BitVec 32 := BitVec.ofNat 32 (i 2).val
  let c1_i32_54 : BitVec 32 := 1#32
  let v116 : BitVec 32 := Scalar.subi arg2 c1_i32_54
  let c0_i32_42 : BitVec 32 := 0#32
  let c1_i32_43 : BitVec 32 := 1#32
  let arg10 : BitVec 32 := Scf.iv c0_i32_42 c1_i32_43 k1_t1
  let v117 : BitVec 32 := Scalar.subi v116 arg10
  let c256_i32_55 : BitVec 32 := 256#32
  let v118 : BitVec 32 := Scalar.muli v117 c256_i32_55
  let v119 : BitVec 32 := v118
  let v120 : Index := Scalar.indexCast v119
  let c0_57 : Index := 0#32
  ![0, v120.toNat, 0]
@[reducible] def k1_t2_loop (i : grid1.Coords) : Scf.Loop 32 :=
  let c0_i32_42 : BitVec 32 := 0#32
  let arg2 : BitVec 32 := BitVec.ofNat 32 (i 2).val
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let v104 : BitVec 32 := Scalar.addi c0_i32_42 v103
  let c1_i32_44 : BitVec 32 := 1#32
  ⟨v107, v104, c1_i32_44⟩
def k1_mult3 (i : grid1.Coords) (k1_t2 : Fin (k1_t2_loop i).trips) : BitVec 32 :=
  let arg2 : BitVec 32 := BitVec.ofNat 32 (i 2).val
  let c1_i32_54 : BitVec 32 := 1#32
  let v116 : BitVec 32 := Scalar.subi arg2 c1_i32_54
  let c0_i32_42 : BitVec 32 := 0#32
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg10 : BitVec 32 := Scf.iv v107 c1_i32_44 k1_t2
  let v117 : BitVec 32 := Scalar.subi v116 arg10
  let c256_i32_55 : BitVec 32 := 256#32
  let v118 : BitVec 32 := Scalar.muli v117 c256_i32_55
  v118
def k1_off3 (i : grid1.Coords) (k1_t2 : Fin (k1_t2_loop i).trips) : Fin 3 → Nat :=
  let c0_56 : Index := 0#32
  let arg2 : BitVec 32 := BitVec.ofNat 32 (i 2).val
  let c1_i32_54 : BitVec 32 := 1#32
  let v116 : BitVec 32 := Scalar.subi arg2 c1_i32_54
  let c0_i32_42 : BitVec 32 := 0#32
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg10 : BitVec 32 := Scf.iv v107 c1_i32_44 k1_t2
  let v117 : BitVec 32 := Scalar.subi v116 arg10
  let c256_i32_55 : BitVec 32 := 256#32
  let v118 : BitVec 32 := Scalar.muli v117 c256_i32_55
  let v119 : BitVec 32 := v118
  let v120 : Index := Scalar.indexCast v119
  let c0_57 : Index := 0#32
  ![0, v120.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S16x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S3x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1024x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S256x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x2560 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1536 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![2, 4, 32], ![false, false, false]⟩

def k5_mult1 (i : grid5.Coords) : BitVec 32 :=
  let arg2 : BitVec 32 := BitVec.ofNat 32 (i 2).val
  let c256_i32 : BitVec 32 := 256#32
  let v17 : BitVec 32 := Scalar.muli arg2 c256_i32
  v17
def k5_off1 (i : grid5.Coords) : Fin 3 → Nat :=
  let c0_5 : Index := 0#32
  let arg2 : BitVec 32 := BitVec.ofNat 32 (i 2).val
  let c256_i32 : BitVec 32 := 256#32
  let v17 : BitVec 32 := Scalar.muli arg2 c256_i32
  let v18 : BitVec 32 := v17
  let v19 : Index := Scalar.indexCast v18
  let c0_6 : Index := 0#32
  ![0, v19.toNat, 0]
@[reducible] def k5_t1_loop (i : grid5.Coords) : Scf.Loop 32 :=
  let c0_i32_42 : BitVec 32 := 0#32
  let arg2 : BitVec 32 := BitVec.ofNat 32 (i 2).val
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_43 : BitVec 32 := 1#32
  ⟨c0_i32_42, v107, c1_i32_43⟩
def k5_mult2 (i : grid5.Coords) (k5_t1 : Fin (k5_t1_loop i).trips) : BitVec 32 :=
  let arg2 : BitVec 32 := BitVec.ofNat 32 (i 2).val
  let c1_i32_54 : BitVec 32 := 1#32
  let v116 : BitVec 32 := Scalar.subi arg2 c1_i32_54
  let c0_i32_42 : BitVec 32 := 0#32
  let c1_i32_43 : BitVec 32 := 1#32
  let arg10 : BitVec 32 := Scf.iv c0_i32_42 c1_i32_43 k5_t1
  let v117 : BitVec 32 := Scalar.subi v116 arg10
  let c256_i32_55 : BitVec 32 := 256#32
  let v118 : BitVec 32 := Scalar.muli v117 c256_i32_55
  v118
def k5_off2 (i : grid5.Coords) (k5_t1 : Fin (k5_t1_loop i).trips) : Fin 3 → Nat :=
  let c0_56 : Index := 0#32
  let arg2 : BitVec 32 := BitVec.ofNat 32 (i 2).val
  let c1_i32_54 : BitVec 32 := 1#32
  let v116 : BitVec 32 := Scalar.subi arg2 c1_i32_54
  let c0_i32_42 : BitVec 32 := 0#32
  let c1_i32_43 : BitVec 32 := 1#32
  let arg10 : BitVec 32 := Scf.iv c0_i32_42 c1_i32_43 k5_t1
  let v117 : BitVec 32 := Scalar.subi v116 arg10
  let c256_i32_55 : BitVec 32 := 256#32
  let v118 : BitVec 32 := Scalar.muli v117 c256_i32_55
  let v119 : BitVec 32 := v118
  let v120 : Index := Scalar.indexCast v119
  let c0_57 : Index := 0#32
  ![0, v120.toNat, 0]
@[reducible] def k5_t2_loop (i : grid5.Coords) : Scf.Loop 32 :=
  let c0_i32_42 : BitVec 32 := 0#32
  let arg2 : BitVec 32 := BitVec.ofNat 32 (i 2).val
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let v104 : BitVec 32 := Scalar.addi c0_i32_42 v103
  let c1_i32_44 : BitVec 32 := 1#32
  ⟨v107, v104, c1_i32_44⟩
def k5_mult3 (i : grid5.Coords) (k5_t2 : Fin (k5_t2_loop i).trips) : BitVec 32 :=
  let arg2 : BitVec 32 := BitVec.ofNat 32 (i 2).val
  let c1_i32_54 : BitVec 32 := 1#32
  let v116 : BitVec 32 := Scalar.subi arg2 c1_i32_54
  let c0_i32_42 : BitVec 32 := 0#32
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg10 : BitVec 32 := Scf.iv v107 c1_i32_44 k5_t2
  let v117 : BitVec 32 := Scalar.subi v116 arg10
  let c256_i32_55 : BitVec 32 := 256#32
  let v118 : BitVec 32 := Scalar.muli v117 c256_i32_55
  v118
def k5_off3 (i : grid5.Coords) (k5_t2 : Fin (k5_t2_loop i).trips) : Fin 3 → Nat :=
  let c0_56 : Index := 0#32
  let arg2 : BitVec 32 := BitVec.ofNat 32 (i 2).val
  let c1_i32_54 : BitVec 32 := 1#32
  let v116 : BitVec 32 := Scalar.subi arg2 c1_i32_54
  let c0_i32_42 : BitVec 32 := 0#32
  let v103 : BitVec 32 := Scalar.subi arg2 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg10 : BitVec 32 := Scf.iv v107 c1_i32_44 k5_t2
  let v117 : BitVec 32 := Scalar.subi v116 arg10
  let c256_i32_55 : BitVec 32 := 256#32
  let v118 : BitVec 32 := Scalar.muli v117 c256_i32_55
  let v119 : BitVec 32 := v118
  let v120 : Index := Scalar.indexCast v119
  let c0_57 : Index := 0#32
  ![0, v120.toNat, 0]
def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage5_0 : Fin 2 → Memref sig .tc .vmem S1x256x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, true]

abbrev stage5_1 : Fin 2 → Memref sig .tc .vmem S1x8192x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, false]

abbrev stage5_2 : Fin 2 → Memref sig .tc .vmem S1x8192x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false, false]

abbrev stage5_4 : Fin 2 → Memref sig .tc .vmem S1x256x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S16x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S3x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S256x256 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1024x1024 .bf16 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x1024 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 2 → Memref sig .tc .vmem S256x1024 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x4096 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S4096x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S256x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]
-- ==== KernelIdeal.lean ====
variable {F : FTy → Type} [FloatOps F] [Named F]
def κ : String → Option EReal := fun
  | "log2e" => some (((Real.log 2)⁻¹ : ℝ) : EReal)
  | "q_scale" => some ((-((8 * (Real.log 2))⁻¹) : ℝ) : EReal)
  | _ => none
-- ==== ReferenceIdeal.lean ====
abbrev S2x8192x1024 : Shape := ⟨3, ![2, 8192, 1024]⟩
abbrev S2x1024x2560 : Shape := ⟨3, ![2, 1024, 2560]⟩
abbrev S2x3x256 : Shape := ⟨3, ![2, 3, 256]⟩
abbrev S2x4x64x64 : Shape := ⟨4, ![2, 4, 64, 64]⟩
abbrev S2x256 : Shape := ⟨2, ![2, 256]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S1x1024x2560 : Shape := ⟨3, ![1, 1024, 2560]⟩
abbrev S1024x2560 : Shape := ⟨2, ![1024, 2560]⟩
abbrev S1x3x256 : Shape := ⟨3, ![1, 3, 256]⟩
abbrev S3x256 : Shape := ⟨2, ![3, 256]⟩
abbrev S1x4x64x64 : Shape := ⟨4, ![1, 4, 64, 64]⟩
abbrev S4x64x64 : Shape := ⟨3, ![4, 64, 64]⟩
abbrev S1x256 : Shape := ⟨2, ![1, 256]⟩
abbrev S256 : Shape := ⟨1, ![256]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x2560 : Shape := ⟨2, ![16384, 2560]⟩
abbrev S2x8192x2560 : Shape := ⟨3, ![2, 8192, 2560]⟩
abbrev S2x8192x512 : Shape := ⟨3, ![2, 8192, 512]⟩
abbrev S2x8192x256 : Shape := ⟨3, ![2, 8192, 256]⟩
abbrev S2x8192x8x64 : Shape := ⟨4, ![2, 8192, 8, 64]⟩
abbrev S2x8x8192x64 : Shape := ⟨4, ![2, 8, 8192, 64]⟩
abbrev S2x8x8192x8192 : Shape := ⟨4, ![2, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8194x256 : Shape := ⟨3, ![2, 8194, 256]⟩
abbrev S1x1x256 : Shape := ⟨3, ![1, 1, 256]⟩
abbrev S2x8192x4x64 : Shape := ⟨4, ![2, 8192, 4, 64]⟩
abbrev S2x8193x4x64 : Shape := ⟨4, ![2, 8193, 4, 64]⟩
abbrev S2x8192x1x64 : Shape := ⟨4, ![2, 8192, 1, 64]⟩
abbrev S2x8192x64 : Shape := ⟨3, ![2, 8192, 64]⟩
abbrev S8192x2 : Shape := ⟨2, ![8192, 2]⟩
abbrev S1x8192x1 : Shape := ⟨3, ![1, 8192, 1]⟩
abbrev S4x64x2x8192 : Shape := ⟨4, ![4, 64, 2, 8192]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S1x1x1024 : Shape := ⟨3, ![1, 1, 1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 781
  | .vmem => 0
  | .smem => 0
  | _ => 0

abbrev hbmTy0_0 (i : Nat) : BufTy := match i % 128 with
  | 0 => ⟨S2x8192x1024, .f32⟩
  | 1 => ⟨S2x1024x2560, .f32⟩
  | 2 => ⟨S2x3x256, .f32⟩
  | 3 => ⟨S2x4x64x64, .f32⟩
  | 4 => ⟨S2x256, .f32⟩
  | 5 => ⟨S2x1024, .f32⟩
  | 6 => ⟨S2x1024x1024, .f32⟩
  | 7 => ⟨S2x1024, .f32⟩
  | 8 => ⟨S2x1024, .f32⟩
  | 9 => ⟨S2x1024x4096, .f32⟩
  | 10 => ⟨S2x4096x1024, .f32⟩
  | 11 => ⟨S2x1024, .f32⟩
  | 12 => ⟨S2x1024, .f32⟩
  | 13 => ⟨S16384x1024, .f32⟩
  | 14 => ⟨S1x1024x2560, .f32⟩
  | 15 => ⟨S1024x2560, .f32⟩
  | 16 => ⟨S1x3x256, .f32⟩
  | 17 => ⟨S3x256, .f32⟩
  | 18 => ⟨S1x4x64x64, .f32⟩
  | 19 => ⟨S4x64x64, .f32⟩
  | 20 => ⟨S1x256, .f32⟩
  | 21 => ⟨S256, .f32⟩
  | 22 => ⟨S1x1024, .f32⟩
  | 23 => ⟨S1024, .f32⟩
  | 24 => ⟨S1x1024x1024, .f32⟩
  | 25 => ⟨S1024x1024, .f32⟩
  | 26 => ⟨S1x1024, .f32⟩
  | 27 => ⟨S1024, .f32⟩
  | 28 => ⟨S1x1024, .f32⟩
  | 29 => ⟨S1024, .f32⟩
  | 30 => ⟨S1x1024x4096, .f32⟩
  | 31 => ⟨S1024x4096, .f32⟩
  | 32 => ⟨S1x4096x1024, .f32⟩
  | 33 => ⟨S4096x1024, .f32⟩
  | 34 => ⟨S1x1024, .f32⟩
  | 35 => ⟨S1024, .f32⟩
  | 36 => ⟨S1x1024, .f32⟩
  | 37 => ⟨S1024, .f32⟩
  | 38 => ⟨S16384x2560, .f32⟩
  | 39 => ⟨S2x8192x2560, .f32⟩
  | 40 => ⟨S2x8192x512, .f32⟩
  | 41 => ⟨S2x8192x512, .f32⟩
  | 42 => ⟨S2x8192x512, .f32⟩
  | 43 => ⟨S2x8192x256, .f32⟩
  | 44 => ⟨S2x8192x256, .f32⟩
  | 45 => ⟨S2x8192x256, .f32⟩
  | 46 => ⟨S2x8192x256, .f32⟩
  | 47 => ⟨S2x8192x8x64, .f32⟩
  | 48 => ⟨S2x8192x8x64, .f32⟩
  | 49 => ⟨S2x8192x8x64, .f32⟩
  | 50 => ⟨S2x8x8192x64, .f32⟩
  | 51 => ⟨S2x8x8192x64, .f32⟩
  | 52 => ⟨S2x8x8192x64, .f32⟩
  | 53 => ⟨S2x8x8192x8192, .f32⟩
  | 54 => ⟨S_, .f32⟩
  | 55 => ⟨S2x8x8192x8192, .f32⟩
  | 56 => ⟨S2x8x8192x8192, .f32⟩
  | 57 => ⟨S8192, .i32⟩
  | 58 => ⟨S8192x1, .i32⟩
  | 59 => ⟨S8192, .i32⟩
  | 60 => ⟨S1x8192, .i32⟩
  | 61 => ⟨S8192x8192, .i32⟩
  | 62 => ⟨S8192x8192, .i32⟩
  | 63 => ⟨S8192x8192, .i1⟩
  | 64 => ⟨S2x8x8192x8192, .f32⟩
  | 65 => ⟨S2x8x8192x8192, .f32⟩
  | 66 => ⟨S_, .f32⟩
  | 67 => ⟨S2x8x8192x8192, .f32⟩
  | 68 => ⟨S2x8x8192x8192, .f32⟩
  | 69 => ⟨S2x8x8192x8192, .f32⟩
  | 70 => ⟨S2x8x8192x8192, .f32⟩
  | 71 => ⟨S2x8x8192x8192, .i1⟩
  | 72 => ⟨S2x8x8192x8192, .f32⟩
  | 73 => ⟨S2x8x8192x8192, .f32⟩
  | 74 => ⟨S2x8x8192x8192, .f32⟩
  | 75 => ⟨S2x8x8192x8192, .f32⟩
  | 76 => ⟨S2x8x8192x8192, .f32⟩
  | 77 => ⟨S2x8x8192x8192, .f32⟩
  | 78 => ⟨S2x8x8192x8192, .f32⟩
  | 79 => ⟨S2x8x8192x8192, .f32⟩
  | 80 => ⟨S2x8x8192x8192, .f32⟩
  | 81 => ⟨S_, .f32⟩
  | 82 => ⟨S_, .f32⟩
  | 83 => ⟨S2x8x8192x8192, .i1⟩
  | 84 => ⟨S2x8x8192x8192, .f32⟩
  | 85 => ⟨S2x8x8192x8192, .f32⟩
  | 86 => ⟨S_, .f32⟩
  | 87 => ⟨S_, .f32⟩
  | 88 => ⟨S2x8x8192x8192, .f32⟩
  | 89 => ⟨S2x8x8192x8192, .f32⟩
  | 90 => ⟨S2x8x8192x8192, .f32⟩
  | 91 => ⟨S_, .f32⟩
  | 92 => ⟨S2x8x8192x8192, .f32⟩
  | 93 => ⟨S2x8x8192x8192, .f32⟩
  | 94 => ⟨S2x8x8192x8192, .f32⟩
  | 95 => ⟨S2x8x8192x8192, .f32⟩
  | 96 => ⟨S2x8x8192x8192, .i1⟩
  | 97 => ⟨S2x8x8192x8192, .f32⟩
  | 98 => ⟨S2x8x8192x8192, .f32⟩
  | 99 => ⟨S2x8x8192x8192, .f32⟩
  | 100 => ⟨S2x8x8192x8192, .f32⟩
  | 101 => ⟨S2x8x8192x8192, .f32⟩
  | 102 => ⟨S2x8x8192x8192, .f32⟩
  | 103 => ⟨S2x8x8192x8192, .f32⟩
  | 104 => ⟨S2x8x8192x8192, .f32⟩
  | 105 => ⟨S2x8x8192x8192, .f32⟩
  | 106 => ⟨S2x8x8192x8192, .f32⟩
  | 107 => ⟨S2x8x8192x8192, .f32⟩
  | 108 => ⟨S_, .f32⟩
  | 109 => ⟨S_, .f32⟩
  | 110 => ⟨S2x8x8192x8192, .i1⟩
  | 111 => ⟨S2x8x8192x8192, .f32⟩
  | 112 => ⟨S2x8x8192x8192, .f32⟩
  | 113 => ⟨S2x8x8192x64, .f32⟩
  | 114 => ⟨S2x8192x8x64, .f32⟩
  | 115 => ⟨S2x8192x512, .f32⟩
  | 116 => ⟨S2x8192x256, .f32⟩
  | 117 => ⟨S_, .i32⟩
  | 118 => ⟨S_, .f32⟩
  | 119 => ⟨S2x8194x256, .f32⟩
  | 120 => ⟨S2x8192x256, .f32⟩
  | 121 => ⟨S1x256, .f32⟩
  | 122 => ⟨S256, .f32⟩
  | 123 => ⟨S1x1x256, .f32⟩
  | 124 => ⟨S2x8192x256, .f32⟩
  | 125 => ⟨S2x8192x256, .f32⟩
  | 126 => ⟨S2x8192x256, .f32⟩
  | 127 => ⟨S1x256, .f32⟩
  | _ => ⟨S2x8192x1024, .f32⟩

abbrev hbmTy0_1 (i : Nat) : BufTy := match i % 128 with
  | 0 => ⟨S256, .f32⟩
  | 1 => ⟨S1x1x256, .f32⟩
  | 2 => ⟨S2x8192x256, .f32⟩
  | 3 => ⟨S2x8192x256, .f32⟩
  | 4 => ⟨S2x8192x256, .f32⟩
  | 5 => ⟨S2x8192x256, .f32⟩
  | 6 => ⟨S1x256, .f32⟩
  | 7 => ⟨S256, .f32⟩
  | 8 => ⟨S1x1x256, .f32⟩
  | 9 => ⟨S2x8192x256, .f32⟩
  | 10 => ⟨S2x8192x256, .f32⟩
  | 11 => ⟨S2x8192x256, .f32⟩
  | 12 => ⟨S2x8192x256, .f32⟩
  | 13 => ⟨S2x8192x4x64, .f32⟩
  | 14 => ⟨S_, .f32⟩
  | 15 => ⟨S_, .f32⟩
  | 16 => ⟨S2x8192x4x64, .f32⟩
  | 17 => ⟨S_, .i32⟩
  | 18 => ⟨S_, .f32⟩
  | 19 => ⟨S2x8193x4x64, .f32⟩
  | 20 => ⟨S8192, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S2x8192x1x64, .f32⟩
  | 31 => ⟨S2x8192x64, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192x1, .i32⟩
  | 43 => ⟨S8192x1, .i32⟩
  | 44 => ⟨S8192x2, .i32⟩
  | 45 => ⟨S2x8192x64, .f32⟩
  | 46 => ⟨S2x8192x64, .f32⟩
  | 47 => ⟨S_, .i32⟩
  | 48 => ⟨S8192, .i32⟩
  | 49 => ⟨S8192, .i32⟩
  | 50 => ⟨S8192, .i32⟩
  | 51 => ⟨S8192, .f32⟩
  | 52 => ⟨S1x8192x1, .f32⟩
  | 53 => ⟨S2x8192x64, .f32⟩
  | 54 => ⟨S2x8192x64, .f32⟩
  | 55 => ⟨S2x8192x1x64, .f32⟩
  | 56 => ⟨S2x8192x64, .f32⟩
  | 57 => ⟨S2x8192x64, .f32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S2x8192x1x64, .f32⟩
  | 68 => ⟨S2x8192x64, .f32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192x1, .i32⟩
  | 80 => ⟨S8192x1, .i32⟩
  | 81 => ⟨S8192x2, .i32⟩
  | 82 => ⟨S2x8192x64, .f32⟩
  | 83 => ⟨S2x8192x64, .f32⟩
  | 84 => ⟨S_, .i32⟩
  | 85 => ⟨S8192, .i32⟩
  | 86 => ⟨S8192, .i32⟩
  | 87 => ⟨S8192, .i32⟩
  | 88 => ⟨S8192, .f32⟩
  | 89 => ⟨S1x8192x1, .f32⟩
  | 90 => ⟨S2x8192x64, .f32⟩
  | 91 => ⟨S2x8192x64, .f32⟩
  | 92 => ⟨S2x8192x1x64, .f32⟩
  | 93 => ⟨S2x8192x64, .f32⟩
  | 94 => ⟨S2x8192x64, .f32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S2x8192x1x64, .f32⟩
  | 105 => ⟨S2x8192x64, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192x1, .i32⟩
  | 117 => ⟨S8192x1, .i32⟩
  | 118 => ⟨S8192x2, .i32⟩
  | 119 => ⟨S2x8192x64, .f32⟩
  | 120 => ⟨S2x8192x64, .f32⟩
  | 121 => ⟨S_, .i32⟩
  | 122 => ⟨S8192, .i32⟩
  | 123 => ⟨S8192, .i32⟩
  | 124 => ⟨S8192, .i32⟩
  | 125 => ⟨S8192, .f32⟩
  | 126 => ⟨S1x8192x1, .f32⟩
  | 127 => ⟨S2x8192x64, .f32⟩
  | _ => ⟨S2x8192x1024, .f32⟩

abbrev hbmTy0_2 (i : Nat) : BufTy := match i % 128 with
  | 0 => ⟨S2x8192x64, .f32⟩
  | 1 => ⟨S2x8192x1x64, .f32⟩
  | 2 => ⟨S2x8192x64, .f32⟩
  | 3 => ⟨S2x8192x64, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S_, .i32⟩
  | 11 => ⟨S8192, .i32⟩
  | 12 => ⟨S8192, .i32⟩
  | 13 => ⟨S2x8192x1x64, .f32⟩
  | 14 => ⟨S2x8192x64, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192x1, .i32⟩
  | 26 => ⟨S8192x1, .i32⟩
  | 27 => ⟨S8192x2, .i32⟩
  | 28 => ⟨S2x8192x64, .f32⟩
  | 29 => ⟨S2x8192x64, .f32⟩
  | 30 => ⟨S_, .i32⟩
  | 31 => ⟨S8192, .i32⟩
  | 32 => ⟨S8192, .i32⟩
  | 33 => ⟨S8192, .i32⟩
  | 34 => ⟨S8192, .f32⟩
  | 35 => ⟨S1x8192x1, .f32⟩
  | 36 => ⟨S2x8192x64, .f32⟩
  | 37 => ⟨S2x8192x64, .f32⟩
  | 38 => ⟨S2x8192x1x64, .f32⟩
  | 39 => ⟨S2x8192x64, .f32⟩
  | 40 => ⟨S2x8192x64, .f32⟩
  | 41 => ⟨S2x8192x1x64, .f32⟩
  | 42 => ⟨S2x8192x1x64, .f32⟩
  | 43 => ⟨S2x8192x1x64, .f32⟩
  | 44 => ⟨S2x8192x1x64, .f32⟩
  | 45 => ⟨S2x8192x4x64, .f32⟩
  | 46 => ⟨S4x64x2x8192, .f32⟩
  | 47 => ⟨S2x8192x4x64, .f32⟩
  | 48 => ⟨S2x8192x256, .f32⟩
  | 49 => ⟨S1x1x256, .f32⟩
  | 50 => ⟨S2x8192x256, .f32⟩
  | 51 => ⟨S2x8192x256, .f32⟩
  | 52 => ⟨S2x8192x1024, .f32⟩
  | 53 => ⟨S2x8192x16x64, .f32⟩
  | 54 => ⟨S2x8192x16x64, .f32⟩
  | 55 => ⟨S_, .f32⟩
  | 56 => ⟨S2x8192x16, .f32⟩
  | 57 => ⟨S2x8192x16x1, .f32⟩
  | 58 => ⟨S_, .f32⟩
  | 59 => ⟨S2x8192x16x1, .f32⟩
  | 60 => ⟨S2x8192x16x1, .f32⟩
  | 61 => ⟨S_, .f32⟩
  | 62 => ⟨S2x8192x16x1, .f32⟩
  | 63 => ⟨S2x8192x16x1, .f32⟩
  | 64 => ⟨S2x8192x16x1, .f32⟩
  | 65 => ⟨S2x8192x16x64, .f32⟩
  | 66 => ⟨S2x8192x16x64, .f32⟩
  | 67 => ⟨S2x8192x1024, .f32⟩
  | 68 => ⟨S1x1x1024, .f32⟩
  | 69 => ⟨S2x8192x1024, .f32⟩
  | 70 => ⟨S2x8192x1024, .f32⟩
  | 71 => ⟨S2x8192x1024, .f32⟩
  | 72 => ⟨S_, .f32⟩
  | 73 => ⟨S16384x1024, .f32⟩
  | 74 => ⟨S16384x1024, .f32⟩
  | 75 => ⟨S16384x1024, .f32⟩
  | 76 => ⟨S16384x1024, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x1024, .f32⟩
  | 84 => ⟨S16384x1024, .f32⟩
  | 85 => ⟨S16384x1024, .f32⟩
  | 86 => ⟨S_, .f32⟩
  | 87 => ⟨S16384, .f32⟩
  | 88 => ⟨S16384x1, .f32⟩
  | 89 => ⟨S_, .f32⟩
  | 90 => ⟨S16384x1, .f32⟩
  | 91 => ⟨S16384x1, .f32⟩
  | 92 => ⟨S_, .f32⟩
  | 93 => ⟨S16384x1, .f32⟩
  | 94 => ⟨S16384x1, .f32⟩
  | 95 => ⟨S16384x1, .f32⟩
  | 96 => ⟨S16384x1024, .f32⟩
  | 97 => ⟨S16384x1024, .f32⟩
  | 98 => ⟨S1x1024, .f32⟩
  | 99 => ⟨S16384x1024, .f32⟩
  | 100 => ⟨S16384x1024, .f32⟩
  | 101 => ⟨S1x1024, .f32⟩
  | 102 => ⟨S16384x1024, .f32⟩
  | 103 => ⟨S16384x1024, .f32⟩
  | 104 => ⟨S16384x4096, .f32⟩
  | 105 => ⟨S_, .f32⟩
  | 106 => ⟨S16384x4096, .f32⟩
  | 107 => ⟨S16384x4096, .f32⟩
  | 108 => ⟨S16384x4096, .f32⟩
  | 109 => ⟨S16384x1024, .f32⟩
  | 110 => ⟨S_, .f32⟩
  | 111 => ⟨S16384x1024, .f32⟩
  | 112 => ⟨S16384x1024, .f32⟩
  | 113 => ⟨S16384x1024, .f32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S16384x1024, .f32⟩
  | 121 => ⟨S16384x1024, .f32⟩
  | 122 => ⟨S16384x1024, .f32⟩
  | 123 => ⟨S_, .f32⟩
  | 124 => ⟨S16384, .f32⟩
  | 125 => ⟨S16384x1, .f32⟩
  | 126 => ⟨S_, .f32⟩
  | 127 => ⟨S16384x1, .f32⟩
  | _ => ⟨S2x8192x1024, .f32⟩

abbrev hbmTy0_3 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x1, .f32⟩
  | 5 => ⟨S16384x1024, .f32⟩
  | 6 => ⟨S16384x1024, .f32⟩
  | 7 => ⟨S1x1024, .f32⟩
  | 8 => ⟨S16384x1024, .f32⟩
  | 9 => ⟨S16384x1024, .f32⟩
  | 10 => ⟨S1x1024, .f32⟩
  | 11 => ⟨S16384x1024, .f32⟩
  | 12 => ⟨S16384x1024, .f32⟩
  | 13 => ⟨S1x1024x2560, .f32⟩
  | 14 => ⟨S1024x2560, .f32⟩
  | 15 => ⟨S1x3x256, .f32⟩
  | 16 => ⟨S3x256, .f32⟩
  | 17 => ⟨S1x4x64x64, .f32⟩
  | 18 => ⟨S4x64x64, .f32⟩
  | 19 => ⟨S1x256, .f32⟩
  | 20 => ⟨S256, .f32⟩
  | 21 => ⟨S1x1024, .f32⟩
  | 22 => ⟨S1024, .f32⟩
  | 23 => ⟨S1x1024x1024, .f32⟩
  | 24 => ⟨S1024x1024, .f32⟩
  | 25 => ⟨S1x1024, .f32⟩
  | 26 => ⟨S1024, .f32⟩
  | 27 => ⟨S1x1024, .f32⟩
  | 28 => ⟨S1024, .f32⟩
  | 29 => ⟨S1x1024x4096, .f32⟩
  | 30 => ⟨S1024x4096, .f32⟩
  | 31 => ⟨S1x4096x1024, .f32⟩
  | 32 => ⟨S4096x1024, .f32⟩
  | 33 => ⟨S1x1024, .f32⟩
  | 34 => ⟨S1024, .f32⟩
  | 35 => ⟨S1x1024, .f32⟩
  | 36 => ⟨S1024, .f32⟩
  | 37 => ⟨S16384x2560, .f32⟩
  | 38 => ⟨S2x8192x2560, .f32⟩
  | 39 => ⟨S2x8192x512, .f32⟩
  | 40 => ⟨S2x8192x512, .f32⟩
  | 41 => ⟨S2x8192x512, .f32⟩
  | 42 => ⟨S2x8192x256, .f32⟩
  | 43 => ⟨S2x8192x256, .f32⟩
  | 44 => ⟨S2x8192x256, .f32⟩
  | 45 => ⟨S2x8192x256, .f32⟩
  | 46 => ⟨S2x8192x8x64, .f32⟩
  | 47 => ⟨S2x8192x8x64, .f32⟩
  | 48 => ⟨S2x8192x8x64, .f32⟩
  | 49 => ⟨S2x8x8192x64, .f32⟩
  | 50 => ⟨S2x8x8192x64, .f32⟩
  | 51 => ⟨S2x8x8192x64, .f32⟩
  | 52 => ⟨S2x8x8192x8192, .f32⟩
  | 53 => ⟨S_, .f32⟩
  | 54 => ⟨S2x8x8192x8192, .f32⟩
  | 55 => ⟨S2x8x8192x8192, .f32⟩
  | 56 => ⟨S8192, .i32⟩
  | 57 => ⟨S8192x1, .i32⟩
  | 58 => ⟨S8192, .i32⟩
  | 59 => ⟨S1x8192, .i32⟩
  | 60 => ⟨S8192x8192, .i32⟩
  | 61 => ⟨S8192x8192, .i32⟩
  | 62 => ⟨S8192x8192, .i1⟩
  | 63 => ⟨S2x8x8192x8192, .f32⟩
  | 64 => ⟨S2x8x8192x8192, .f32⟩
  | 65 => ⟨S_, .f32⟩
  | 66 => ⟨S2x8x8192x8192, .f32⟩
  | 67 => ⟨S2x8x8192x8192, .f32⟩
  | 68 => ⟨S2x8x8192x8192, .f32⟩
  | 69 => ⟨S2x8x8192x8192, .f32⟩
  | 70 => ⟨S2x8x8192x8192, .i1⟩
  | 71 => ⟨S2x8x8192x8192, .f32⟩
  | 72 => ⟨S2x8x8192x8192, .f32⟩
  | 73 => ⟨S2x8x8192x8192, .f32⟩
  | 74 => ⟨S2x8x8192x8192, .f32⟩
  | 75 => ⟨S2x8x8192x8192, .f32⟩
  | 76 => ⟨S2x8x8192x8192, .f32⟩
  | 77 => ⟨S2x8x8192x8192, .f32⟩
  | 78 => ⟨S2x8x8192x8192, .f32⟩
  | 79 => ⟨S2x8x8192x8192, .f32⟩
  | 80 => ⟨S_, .f32⟩
  | 81 => ⟨S_, .f32⟩
  | 82 => ⟨S2x8x8192x8192, .i1⟩
  | 83 => ⟨S2x8x8192x8192, .f32⟩
  | 84 => ⟨S2x8x8192x8192, .f32⟩
  | 85 => ⟨S_, .f32⟩
  | 86 => ⟨S_, .f32⟩
  | 87 => ⟨S2x8x8192x8192, .f32⟩
  | 88 => ⟨S2x8x8192x8192, .f32⟩
  | 89 => ⟨S2x8x8192x8192, .f32⟩
  | 90 => ⟨S_, .f32⟩
  | 91 => ⟨S2x8x8192x8192, .f32⟩
  | 92 => ⟨S2x8x8192x8192, .f32⟩
  | 93 => ⟨S2x8x8192x8192, .f32⟩
  | 94 => ⟨S2x8x8192x8192, .f32⟩
  | 95 => ⟨S2x8x8192x8192, .i1⟩
  | 96 => ⟨S2x8x8192x8192, .f32⟩
  | 97 => ⟨S2x8x8192x8192, .f32⟩
  | 98 => ⟨S2x8x8192x8192, .f32⟩
  | 99 => ⟨S2x8x8192x8192, .f32⟩
  | 100 => ⟨S2x8x8192x8192, .f32⟩
  | 101 => ⟨S2x8x8192x8192, .f32⟩
  | 102 => ⟨S2x8x8192x8192, .f32⟩
  | 103 => ⟨S2x8x8192x8192, .f32⟩
  | 104 => ⟨S2x8x8192x8192, .f32⟩
  | 105 => ⟨S2x8x8192x8192, .f32⟩
  | 106 => ⟨S2x8x8192x8192, .f32⟩
  | 107 => ⟨S_, .f32⟩
  | 108 => ⟨S_, .f32⟩
  | 109 => ⟨S2x8x8192x8192, .i1⟩
  | 110 => ⟨S2x8x8192x8192, .f32⟩
  | 111 => ⟨S2x8x8192x8192, .f32⟩
  | 112 => ⟨S2x8x8192x64, .f32⟩
  | 113 => ⟨S2x8192x8x64, .f32⟩
  | 114 => ⟨S2x8192x512, .f32⟩
  | 115 => ⟨S2x8192x256, .f32⟩
  | 116 => ⟨S_, .i32⟩
  | 117 => ⟨S_, .f32⟩
  | 118 => ⟨S2x8194x256, .f32⟩
  | 119 => ⟨S2x8192x256, .f32⟩
  | 120 => ⟨S1x256, .f32⟩
  | 121 => ⟨S256, .f32⟩
  | 122 => ⟨S1x1x256, .f32⟩
  | 123 => ⟨S2x8192x256, .f32⟩
  | 124 => ⟨S2x8192x256, .f32⟩
  | 125 => ⟨S2x8192x256, .f32⟩
  | 126 => ⟨S1x256, .f32⟩
  | 127 => ⟨S256, .f32⟩
  | _ => ⟨S2x8192x1024, .f32⟩

abbrev hbmTy0_4 (i : Nat) : BufTy := match i % 128 with
  | 0 => ⟨S1x1x256, .f32⟩
  | 1 => ⟨S2x8192x256, .f32⟩
  | 2 => ⟨S2x8192x256, .f32⟩
  | 3 => ⟨S2x8192x256, .f32⟩
  | 4 => ⟨S2x8192x256, .f32⟩
  | 5 => ⟨S1x256, .f32⟩
  | 6 => ⟨S256, .f32⟩
  | 7 => ⟨S1x1x256, .f32⟩
  | 8 => ⟨S2x8192x256, .f32⟩
  | 9 => ⟨S2x8192x256, .f32⟩
  | 10 => ⟨S2x8192x256, .f32⟩
  | 11 => ⟨S2x8192x256, .f32⟩
  | 12 => ⟨S2x8192x4x64, .f32⟩
  | 13 => ⟨S_, .f32⟩
  | 14 => ⟨S_, .f32⟩
  | 15 => ⟨S2x8192x4x64, .f32⟩
  | 16 => ⟨S_, .i32⟩
  | 17 => ⟨S_, .f32⟩
  | 18 => ⟨S2x8193x4x64, .f32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S2x8192x1x64, .f32⟩
  | 30 => ⟨S2x8192x64, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S_, .i32⟩
  | 39 => ⟨S8192, .i32⟩
  | 40 => ⟨S8192, .i32⟩
  | 41 => ⟨S8192x1, .i32⟩
  | 42 => ⟨S8192x1, .i32⟩
  | 43 => ⟨S8192x2, .i32⟩
  | 44 => ⟨S2x8192x64, .f32⟩
  | 45 => ⟨S2x8192x64, .f32⟩
  | 46 => ⟨S_, .i32⟩
  | 47 => ⟨S8192, .i32⟩
  | 48 => ⟨S8192, .i32⟩
  | 49 => ⟨S8192, .i32⟩
  | 50 => ⟨S8192, .f32⟩
  | 51 => ⟨S1x8192x1, .f32⟩
  | 52 => ⟨S2x8192x64, .f32⟩
  | 53 => ⟨S2x8192x64, .f32⟩
  | 54 => ⟨S2x8192x1x64, .f32⟩
  | 55 => ⟨S2x8192x64, .f32⟩
  | 56 => ⟨S2x8192x64, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S2x8192x1x64, .f32⟩
  | 67 => ⟨S2x8192x64, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192x1, .i32⟩
  | 79 => ⟨S8192x1, .i32⟩
  | 80 => ⟨S8192x2, .i32⟩
  | 81 => ⟨S2x8192x64, .f32⟩
  | 82 => ⟨S2x8192x64, .f32⟩
  | 83 => ⟨S_, .i32⟩
  | 84 => ⟨S8192, .i32⟩
  | 85 => ⟨S8192, .i32⟩
  | 86 => ⟨S8192, .i32⟩
  | 87 => ⟨S8192, .f32⟩
  | 88 => ⟨S1x8192x1, .f32⟩
  | 89 => ⟨S2x8192x64, .f32⟩
  | 90 => ⟨S2x8192x64, .f32⟩
  | 91 => ⟨S2x8192x1x64, .f32⟩
  | 92 => ⟨S2x8192x64, .f32⟩
  | 93 => ⟨S2x8192x64, .f32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S2x8192x1x64, .f32⟩
  | 104 => ⟨S2x8192x64, .f32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S_, .i32⟩
  | 113 => ⟨S8192, .i32⟩
  | 114 => ⟨S8192, .i32⟩
  | 115 => ⟨S8192x1, .i32⟩
  | 116 => ⟨S8192x1, .i32⟩
  | 117 => ⟨S8192x2, .i32⟩
  | 118 => ⟨S2x8192x64, .f32⟩
  | 119 => ⟨S2x8192x64, .f32⟩
  | 120 => ⟨S_, .i32⟩
  | 121 => ⟨S8192, .i32⟩
  | 122 => ⟨S8192, .i32⟩
  | 123 => ⟨S8192, .i32⟩
  | 124 => ⟨S8192, .f32⟩
  | 125 => ⟨S1x8192x1, .f32⟩
  | 126 => ⟨S2x8192x64, .f32⟩
  | 127 => ⟨S2x8192x64, .f32⟩
  | _ => ⟨S2x8192x1024, .f32⟩

abbrev hbmTy0_5 (i : Nat) : BufTy := match i % 128 with
  | 0 => ⟨S2x8192x1x64, .f32⟩
  | 1 => ⟨S2x8192x64, .f32⟩
  | 2 => ⟨S2x8192x64, .f32⟩
  | 3 => ⟨S_, .i32⟩
  | 4 => ⟨S8192, .i32⟩
  | 5 => ⟨S8192, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S2x8192x1x64, .f32⟩
  | 13 => ⟨S2x8192x64, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192x1, .i32⟩
  | 25 => ⟨S8192x1, .i32⟩
  | 26 => ⟨S8192x2, .i32⟩
  | 27 => ⟨S2x8192x64, .f32⟩
  | 28 => ⟨S2x8192x64, .f32⟩
  | 29 => ⟨S_, .i32⟩
  | 30 => ⟨S8192, .i32⟩
  | 31 => ⟨S8192, .i32⟩
  | 32 => ⟨S8192, .i32⟩
  | 33 => ⟨S8192, .f32⟩
  | 34 => ⟨S1x8192x1, .f32⟩
  | 35 => ⟨S2x8192x64, .f32⟩
  | 36 => ⟨S2x8192x64, .f32⟩
  | 37 => ⟨S2x8192x1x64, .f32⟩
  | 38 => ⟨S2x8192x64, .f32⟩
  | 39 => ⟨S2x8192x64, .f32⟩
  | 40 => ⟨S2x8192x1x64, .f32⟩
  | 41 => ⟨S2x8192x1x64, .f32⟩
  | 42 => ⟨S2x8192x1x64, .f32⟩
  | 43 => ⟨S2x8192x1x64, .f32⟩
  | 44 => ⟨S2x8192x4x64, .f32⟩
  | 45 => ⟨S4x64x2x8192, .f32⟩
  | 46 => ⟨S2x8192x4x64, .f32⟩
  | 47 => ⟨S2x8192x256, .f32⟩
  | 48 => ⟨S1x1x256, .f32⟩
  | 49 => ⟨S2x8192x256, .f32⟩
  | 50 => ⟨S2x8192x256, .f32⟩
  | 51 => ⟨S2x8192x1024, .f32⟩
  | 52 => ⟨S2x8192x16x64, .f32⟩
  | 53 => ⟨S2x8192x16x64, .f32⟩
  | 54 => ⟨S_, .f32⟩
  | 55 => ⟨S2x8192x16, .f32⟩
  | 56 => ⟨S2x8192x16x1, .f32⟩
  | 57 => ⟨S_, .f32⟩
  | 58 => ⟨S2x8192x16x1, .f32⟩
  | 59 => ⟨S2x8192x16x1, .f32⟩
  | 60 => ⟨S_, .f32⟩
  | 61 => ⟨S2x8192x16x1, .f32⟩
  | 62 => ⟨S2x8192x16x1, .f32⟩
  | 63 => ⟨S2x8192x16x1, .f32⟩
  | 64 => ⟨S2x8192x16x64, .f32⟩
  | 65 => ⟨S2x8192x16x64, .f32⟩
  | 66 => ⟨S2x8192x1024, .f32⟩
  | 67 => ⟨S1x1x1024, .f32⟩
  | 68 => ⟨S2x8192x1024, .f32⟩
  | 69 => ⟨S2x8192x1024, .f32⟩
  | 70 => ⟨S2x8192x1024, .f32⟩
  | 71 => ⟨S_, .f32⟩
  | 72 => ⟨S16384x1024, .f32⟩
  | 73 => ⟨S16384x1024, .f32⟩
  | 74 => ⟨S16384x1024, .f32⟩
  | 75 => ⟨S16384x1024, .f32⟩
  | 76 => ⟨S_, .f32⟩
  | 77 => ⟨S16384, .f32⟩
  | 78 => ⟨S16384x1, .f32⟩
  | 79 => ⟨S_, .f32⟩
  | 80 => ⟨S16384x1, .f32⟩
  | 81 => ⟨S16384x1, .f32⟩
  | 82 => ⟨S16384x1024, .f32⟩
  | 83 => ⟨S16384x1024, .f32⟩
  | 84 => ⟨S16384x1024, .f32⟩
  | 85 => ⟨S_, .f32⟩
  | 86 => ⟨S16384, .f32⟩
  | 87 => ⟨S16384x1, .f32⟩
  | 88 => ⟨S_, .f32⟩
  | 89 => ⟨S16384x1, .f32⟩
  | 90 => ⟨S16384x1, .f32⟩
  | 91 => ⟨S_, .f32⟩
  | 92 => ⟨S16384x1, .f32⟩
  | 93 => ⟨S16384x1, .f32⟩
  | 94 => ⟨S16384x1, .f32⟩
  | 95 => ⟨S16384x1024, .f32⟩
  | 96 => ⟨S16384x1024, .f32⟩
  | 97 => ⟨S1x1024, .f32⟩
  | 98 => ⟨S16384x1024, .f32⟩
  | 99 => ⟨S16384x1024, .f32⟩
  | 100 => ⟨S1x1024, .f32⟩
  | 101 => ⟨S16384x1024, .f32⟩
  | 102 => ⟨S16384x1024, .f32⟩
  | 103 => ⟨S16384x4096, .f32⟩
  | 104 => ⟨S_, .f32⟩
  | 105 => ⟨S16384x4096, .f32⟩
  | 106 => ⟨S16384x4096, .f32⟩
  | 107 => ⟨S16384x4096, .f32⟩
  | 108 => ⟨S16384x1024, .f32⟩
  | 109 => ⟨S_, .f32⟩
  | 110 => ⟨S16384x1024, .f32⟩
  | 111 => ⟨S16384x1024, .f32⟩
  | 112 => ⟨S16384x1024, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S16384x1024, .f32⟩
  | 120 => ⟨S16384x1024, .f32⟩
  | 121 => ⟨S16384x1024, .f32⟩
  | 122 => ⟨S_, .f32⟩
  | 123 => ⟨S16384, .f32⟩
  | 124 => ⟨S16384x1, .f32⟩
  | 125 => ⟨S_, .f32⟩
  | 126 => ⟨S16384x1, .f32⟩
  | 127 => ⟨S16384x1, .f32⟩
  | _ => ⟨S2x8192x1024, .f32⟩

abbrev hbmTy0_6 (i : Nat) : BufTy := match i % 128 with
  | 0 => ⟨S_, .f32⟩
  | 1 => ⟨S16384x1, .f32⟩
  | 2 => ⟨S16384x1, .f32⟩
  | 3 => ⟨S16384x1, .f32⟩
  | 4 => ⟨S16384x1024, .f32⟩
  | 5 => ⟨S16384x1024, .f32⟩
  | 6 => ⟨S1x1024, .f32⟩
  | 7 => ⟨S16384x1024, .f32⟩
  | 8 => ⟨S16384x1024, .f32⟩
  | 9 => ⟨S1x1024, .f32⟩
  | 10 => ⟨S16384x1024, .f32⟩
  | 11 => ⟨S16384x1024, .f32⟩
  | 12 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_v0 : Ref sig .tc := ⟨.hbm, 65, rfl⟩
abbrev main_call0_call0_cst : Ref sig .tc := ⟨.hbm, 66, rfl⟩
abbrev main_call0_call0_v0 : Ref sig .tc := ⟨.hbm, 67, rfl⟩
abbrev main_call0_call0_v1 : Ref sig .tc := ⟨.hbm, 68, rfl⟩
abbrev main_call0_call0_v2 : Ref sig .tc := ⟨.hbm, 69, rfl⟩
abbrev main_call0_call0_v3 : Ref sig .tc := ⟨.hbm, 70, rfl⟩
abbrev main_call0_call0_v4 : Ref sig .tc := ⟨.hbm, 71, rfl⟩
abbrev main_call0_call0_v5 : Ref sig .tc := ⟨.hbm, 72, rfl⟩
abbrev main_call0_call0_v6 : Ref sig .tc := ⟨.hbm, 73, rfl⟩
abbrev main_call0_call0_v7 : Ref sig .tc := ⟨.hbm, 74, rfl⟩
abbrev main_call0_call0_v8 : Ref sig .tc := ⟨.hbm, 75, rfl⟩
abbrev main_call0_call0_v9 : Ref sig .tc := ⟨.hbm, 76, rfl⟩
abbrev main_call0_call0_v10 : Ref sig .tc := ⟨.hbm, 77, rfl⟩
abbrev main_call0_call0_v11 : Ref sig .tc := ⟨.hbm, 78, rfl⟩
abbrev main_call0_v1 : Ref sig .tc := ⟨.hbm, 79, rfl⟩
abbrev main_v51 : Ref sig .tc := ⟨.hbm, 80, rfl⟩
abbrev main_cst_0 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v52 : Ref sig .tc := ⟨.hbm, 85, rfl⟩
abbrev main_call2_cst : Ref sig .tc := ⟨.hbm, 86, rfl⟩
abbrev main_call2_v0 : Ref sig .tc := ⟨.hbm, 87, rfl⟩
abbrev main_v53 : Ref sig .tc := ⟨.hbm, 88, rfl⟩
abbrev main_v54 : Ref sig .tc := ⟨.hbm, 89, rfl⟩
abbrev main_call3_v0 : Ref sig .tc := ⟨.hbm, 90, rfl⟩
abbrev main_call3_call0_cst : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_call0_v2 : Ref sig .tc := ⟨.hbm, 94, rfl⟩
abbrev main_call3_call0_v3 : Ref sig .tc := ⟨.hbm, 95, rfl⟩
abbrev main_call3_call0_v4 : Ref sig .tc := ⟨.hbm, 96, rfl⟩
abbrev main_call3_call0_v5 : Ref sig .tc := ⟨.hbm, 97, rfl⟩
abbrev main_call3_call0_v6 : Ref sig .tc := ⟨.hbm, 98, rfl⟩
abbrev main_call3_call0_v7 : Ref sig .tc := ⟨.hbm, 99, rfl⟩
abbrev main_call3_call0_v8 : Ref sig .tc := ⟨.hbm, 100, rfl⟩
abbrev main_call3_call0_v9 : Ref sig .tc := ⟨.hbm, 101, rfl⟩
abbrev main_call3_call0_v10 : Ref sig .tc := ⟨.hbm, 102, rfl⟩
abbrev main_call3_call0_v11 : Ref sig .tc := ⟨.hbm, 103, rfl⟩
abbrev main_call3_v1 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_1 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_c : Ref sig .tc := ⟨.hbm, 117, rfl⟩
abbrev main_call5_v0 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_call6_call0_cst : Ref sig .tc := ⟨.hbm, 142, rfl⟩
abbrev main_call6_call0_v0 : Ref sig .tc := ⟨.hbm, 143, rfl⟩
abbrev main_v86 : Ref sig .tc := ⟨.hbm, 144, rfl⟩
abbrev main_c_2 : Ref sig .tc := ⟨.hbm, 145, rfl⟩
abbrev main_call7_v0 : Ref sig .tc := ⟨.hbm, 146, rfl⟩
abbrev main_v87 : Ref sig .tc := ⟨.hbm, 147, rfl⟩
abbrev main_v88 : Ref sig .tc := ⟨.hbm, 148, rfl⟩
abbrev main_c_3 : Ref sig .tc := ⟨.hbm, 149, rfl⟩
abbrev main_v89 : Ref sig .tc := ⟨.hbm, 150, rfl⟩
abbrev main_v90 : Ref sig .tc := ⟨.hbm, 151, rfl⟩
abbrev main_c_4 : Ref sig .tc := ⟨.hbm, 152, rfl⟩
abbrev main_v91 : Ref sig .tc := ⟨.hbm, 153, rfl⟩
abbrev main_v92 : Ref sig .tc := ⟨.hbm, 154, rfl⟩
abbrev main_c_5 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_c_6 : Ref sig .tc := ⟨.hbm, 160, rfl⟩
abbrev main_v97 : Ref sig .tc := ⟨.hbm, 161, rfl⟩
abbrev main_v98 : Ref sig .tc := ⟨.hbm, 162, rfl⟩
abbrev main_c_7 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_c_8 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_c_9 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_c_10 : Ref sig .tc := ⟨.hbm, 186, rfl⟩
abbrev main_v119 : Ref sig .tc := ⟨.hbm, 187, rfl⟩
abbrev main_v120 : Ref sig .tc := ⟨.hbm, 188, rfl⟩
abbrev main_c_11 : Ref sig .tc := ⟨.hbm, 189, rfl⟩
abbrev main_v121 : Ref sig .tc := ⟨.hbm, 190, rfl⟩
abbrev main_v122 : Ref sig .tc := ⟨.hbm, 191, rfl⟩
abbrev main_c_12 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_c_13 : Ref sig .tc := ⟨.hbm, 197, rfl⟩
abbrev main_v127 : Ref sig .tc := ⟨.hbm, 198, rfl⟩
abbrev main_v128 : Ref sig .tc := ⟨.hbm, 199, rfl⟩
abbrev main_c_14 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_c_15 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_c_16 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_c_17 : Ref sig .tc := ⟨.hbm, 223, rfl⟩
abbrev main_v149 : Ref sig .tc := ⟨.hbm, 224, rfl⟩
abbrev main_v150 : Ref sig .tc := ⟨.hbm, 225, rfl⟩
abbrev main_c_18 : Ref sig .tc := ⟨.hbm, 226, rfl⟩
abbrev main_v151 : Ref sig .tc := ⟨.hbm, 227, rfl⟩
abbrev main_v152 : Ref sig .tc := ⟨.hbm, 228, rfl⟩
abbrev main_c_19 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_c_20 : Ref sig .tc := ⟨.hbm, 234, rfl⟩
abbrev main_v157 : Ref sig .tc := ⟨.hbm, 235, rfl⟩
abbrev main_v158 : Ref sig .tc := ⟨.hbm, 236, rfl⟩
abbrev main_c_21 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_c_22 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_c_23 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_c_24 : Ref sig .tc := ⟨.hbm, 260, rfl⟩
abbrev main_v179 : Ref sig .tc := ⟨.hbm, 261, rfl⟩
abbrev main_v180 : Ref sig .tc := ⟨.hbm, 262, rfl⟩
abbrev main_c_25 : Ref sig .tc := ⟨.hbm, 263, rfl⟩
abbrev main_v181 : Ref sig .tc := ⟨.hbm, 264, rfl⟩
abbrev main_v182 : Ref sig .tc := ⟨.hbm, 265, rfl⟩
abbrev main_c_26 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_c_27 : Ref sig .tc := ⟨.hbm, 271, rfl⟩
abbrev main_v187 : Ref sig .tc := ⟨.hbm, 272, rfl⟩
abbrev main_v188 : Ref sig .tc := ⟨.hbm, 273, rfl⟩
abbrev main_c_28 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_c_29 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_c_30 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_cst_31 : Ref sig .tc := ⟨.hbm, 311, rfl⟩
abbrev main_v223 : Ref sig .tc := ⟨.hbm, 312, rfl⟩
abbrev main_v224 : Ref sig .tc := ⟨.hbm, 313, rfl⟩
abbrev main_cst_32 : Ref sig .tc := ⟨.hbm, 314, rfl⟩
abbrev main_v225 : Ref sig .tc := ⟨.hbm, 315, rfl⟩
abbrev main_v226 : Ref sig .tc := ⟨.hbm, 316, rfl⟩
abbrev main_cst_33 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_cst_34 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_cst_35 : Ref sig .tc := ⟨.hbm, 333, rfl⟩
abbrev main_v241 : Ref sig .tc := ⟨.hbm, 334, rfl⟩
abbrev main_v242 : Ref sig .tc := ⟨.hbm, 335, rfl⟩
abbrev main_cst_36 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_cst_37 : Ref sig .tc := ⟨.hbm, 342, rfl⟩
abbrev main_v248 : Ref sig .tc := ⟨.hbm, 343, rfl⟩
abbrev main_v249 : Ref sig .tc := ⟨.hbm, 344, rfl⟩
abbrev main_cst_38 : Ref sig .tc := ⟨.hbm, 345, rfl⟩
abbrev main_v250 : Ref sig .tc := ⟨.hbm, 346, rfl⟩
abbrev main_v251 : Ref sig .tc := ⟨.hbm, 347, rfl⟩
abbrev main_cst_39 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_call8_cst : Ref sig .tc := ⟨.hbm, 361, rfl⟩
abbrev main_call8_v0 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_cst_40 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_cst_41 : Ref sig .tc := ⟨.hbm, 370, rfl⟩
abbrev main_v270 : Ref sig .tc := ⟨.hbm, 371, rfl⟩
abbrev main_v271 : Ref sig .tc := ⟨.hbm, 372, rfl⟩
abbrev main_cst_42 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_cst_43 : Ref sig .tc := ⟨.hbm, 379, rfl⟩
abbrev main_v277 : Ref sig .tc := ⟨.hbm, 380, rfl⟩
abbrev main_v278 : Ref sig .tc := ⟨.hbm, 381, rfl⟩
abbrev main_cst_44 : Ref sig .tc := ⟨.hbm, 382, rfl⟩
abbrev main_v279 : Ref sig .tc := ⟨.hbm, 383, rfl⟩
abbrev main_v280 : Ref sig .tc := ⟨.hbm, 384, rfl⟩
abbrev main_cst_45 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev main_v287 : Ref sig .tc := ⟨.hbm, 392, rfl⟩
abbrev main_v288 : Ref sig .tc := ⟨.hbm, 393, rfl⟩
abbrev main_v289 : Ref sig .tc := ⟨.hbm, 394, rfl⟩
abbrev main_v290 : Ref sig .tc := ⟨.hbm, 395, rfl⟩
abbrev main_v291 : Ref sig .tc := ⟨.hbm, 396, rfl⟩
abbrev main_v292 : Ref sig .tc := ⟨.hbm, 397, rfl⟩
abbrev main_v293 : Ref sig .tc := ⟨.hbm, 398, rfl⟩
abbrev main_v294 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_v313 : Ref sig .tc := ⟨.hbm, 418, rfl⟩
abbrev main_v314 : Ref sig .tc := ⟨.hbm, 419, rfl⟩
abbrev main_v315 : Ref sig .tc := ⟨.hbm, 420, rfl⟩
abbrev main_v316 : Ref sig .tc := ⟨.hbm, 421, rfl⟩
abbrev main_v317 : Ref sig .tc := ⟨.hbm, 422, rfl⟩
abbrev main_v318 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_v327 : Ref sig .tc := ⟨.hbm, 432, rfl⟩
abbrev main_v328 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_cst_46 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_v337 : Ref sig .tc := ⟨.hbm, 443, rfl⟩
abbrev main_v338 : Ref sig .tc := ⟨.hbm, 444, rfl⟩
abbrev main_v339 : Ref sig .tc := ⟨.hbm, 445, rfl⟩
abbrev main_v340 : Ref sig .tc := ⟨.hbm, 446, rfl⟩
abbrev main_v341 : Ref sig .tc := ⟨.hbm, 447, rfl⟩
abbrev main_call9_v0 : Ref sig .tc := ⟨.hbm, 448, rfl⟩
abbrev main_call9_call0_cst : Ref sig .tc := ⟨.hbm, 449, rfl⟩
abbrev main_call9_call0_v0 : Ref sig .tc := ⟨.hbm, 450, rfl⟩
abbrev main_call9_call0_v1 : Ref sig .tc := ⟨.hbm, 451, rfl⟩
abbrev main_call9_call0_v2 : Ref sig .tc := ⟨.hbm, 452, rfl⟩
abbrev main_call9_call0_v3 : Ref sig .tc := ⟨.hbm, 453, rfl⟩
abbrev main_call9_call0_v4 : Ref sig .tc := ⟨.hbm, 454, rfl⟩
abbrev main_call9_call0_v5 : Ref sig .tc := ⟨.hbm, 455, rfl⟩
abbrev main_call9_call0_v6 : Ref sig .tc := ⟨.hbm, 456, rfl⟩
abbrev main_call9_call0_v7 : Ref sig .tc := ⟨.hbm, 457, rfl⟩
abbrev main_call9_call0_v8 : Ref sig .tc := ⟨.hbm, 458, rfl⟩
abbrev main_call9_call0_v9 : Ref sig .tc := ⟨.hbm, 459, rfl⟩
abbrev main_call9_call0_v10 : Ref sig .tc := ⟨.hbm, 460, rfl⟩
abbrev main_call9_call0_v11 : Ref sig .tc := ⟨.hbm, 461, rfl⟩
abbrev main_call9_v1 : Ref sig .tc := ⟨.hbm, 462, rfl⟩
abbrev main_v342 : Ref sig .tc := ⟨.hbm, 463, rfl⟩
abbrev main_cst_47 : Ref sig .tc := ⟨.hbm, 464, rfl⟩
abbrev main_call10_v0 : Ref sig .tc := ⟨.hbm, 465, rfl⟩
abbrev main_call10_v1 : Ref sig .tc := ⟨.hbm, 466, rfl⟩
abbrev main_call10_v2 : Ref sig .tc := ⟨.hbm, 467, rfl⟩
abbrev main_v343 : Ref sig .tc := ⟨.hbm, 468, rfl⟩
abbrev main_call11_cst : Ref sig .tc := ⟨.hbm, 469, rfl⟩
abbrev main_call11_v0 : Ref sig .tc := ⟨.hbm, 470, rfl⟩
abbrev main_v344 : Ref sig .tc := ⟨.hbm, 471, rfl⟩
abbrev main_v345 : Ref sig .tc := ⟨.hbm, 472, rfl⟩
abbrev main_call12_v0 : Ref sig .tc := ⟨.hbm, 473, rfl⟩
abbrev main_call12_call0_cst : Ref sig .tc := ⟨.hbm, 474, rfl⟩
abbrev main_call12_call0_v0 : Ref sig .tc := ⟨.hbm, 475, rfl⟩
abbrev main_call12_call0_v1 : Ref sig .tc := ⟨.hbm, 476, rfl⟩
abbrev main_call12_call0_v2 : Ref sig .tc := ⟨.hbm, 477, rfl⟩
abbrev main_call12_call0_v3 : Ref sig .tc := ⟨.hbm, 478, rfl⟩
abbrev main_call12_call0_v4 : Ref sig .tc := ⟨.hbm, 479, rfl⟩
abbrev main_call12_call0_v5 : Ref sig .tc := ⟨.hbm, 480, rfl⟩
abbrev main_call12_call0_v6 : Ref sig .tc := ⟨.hbm, 481, rfl⟩
abbrev main_call12_call0_v7 : Ref sig .tc := ⟨.hbm, 482, rfl⟩
abbrev main_call12_call0_v8 : Ref sig .tc := ⟨.hbm, 483, rfl⟩
abbrev main_call12_call0_v9 : Ref sig .tc := ⟨.hbm, 484, rfl⟩
abbrev main_call12_call0_v10 : Ref sig .tc := ⟨.hbm, 485, rfl⟩
abbrev main_call12_call0_v11 : Ref sig .tc := ⟨.hbm, 486, rfl⟩
abbrev main_call12_v1 : Ref sig .tc := ⟨.hbm, 487, rfl⟩
abbrev main_v346 : Ref sig .tc := ⟨.hbm, 488, rfl⟩
abbrev main_v347 : Ref sig .tc := ⟨.hbm, 489, rfl⟩
abbrev main_v348 : Ref sig .tc := ⟨.hbm, 490, rfl⟩
abbrev main_cst_48 : Ref sig .tc := ⟨.hbm, 491, rfl⟩
abbrev main_call13_v0 : Ref sig .tc := ⟨.hbm, 492, rfl⟩
abbrev main_call13_v1 : Ref sig .tc := ⟨.hbm, 493, rfl⟩
abbrev main_call13_v2 : Ref sig .tc := ⟨.hbm, 494, rfl⟩
abbrev main_v349 : Ref sig .tc := ⟨.hbm, 495, rfl⟩
abbrev main_v350 : Ref sig .tc := ⟨.hbm, 496, rfl⟩
abbrev main_v351 : Ref sig .tc := ⟨.hbm, 497, rfl⟩
abbrev main_v352 : Ref sig .tc := ⟨.hbm, 498, rfl⟩
abbrev main_v353 : Ref sig .tc := ⟨.hbm, 499, rfl⟩
abbrev main_c_49 : Ref sig .tc := ⟨.hbm, 500, rfl⟩
abbrev main_call14_v0 : Ref sig .tc := ⟨.hbm, 501, rfl⟩
abbrev main_v354 : Ref sig .tc := ⟨.hbm, 502, rfl⟩
abbrev main_v355 : Ref sig .tc := ⟨.hbm, 503, rfl⟩
abbrev main_v356 : Ref sig .tc := ⟨.hbm, 504, rfl⟩
abbrev main_v357 : Ref sig .tc := ⟨.hbm, 505, rfl⟩
abbrev main_v358 : Ref sig .tc := ⟨.hbm, 506, rfl⟩
abbrev main_v359 : Ref sig .tc := ⟨.hbm, 507, rfl⟩
abbrev main_v360 : Ref sig .tc := ⟨.hbm, 508, rfl⟩
abbrev main_v361 : Ref sig .tc := ⟨.hbm, 509, rfl⟩
abbrev main_v362 : Ref sig .tc := ⟨.hbm, 510, rfl⟩
abbrev main_v363 : Ref sig .tc := ⟨.hbm, 511, rfl⟩
abbrev main_v364 : Ref sig .tc := ⟨.hbm, 512, rfl⟩
abbrev main_v365 : Ref sig .tc := ⟨.hbm, 513, rfl⟩
abbrev main_v366 : Ref sig .tc := ⟨.hbm, 514, rfl⟩
abbrev main_v367 : Ref sig .tc := ⟨.hbm, 515, rfl⟩
abbrev main_v368 : Ref sig .tc := ⟨.hbm, 516, rfl⟩
abbrev main_v369 : Ref sig .tc := ⟨.hbm, 517, rfl⟩
abbrev main_v370 : Ref sig .tc := ⟨.hbm, 518, rfl⟩
abbrev main_v371 : Ref sig .tc := ⟨.hbm, 519, rfl⟩
abbrev main_v372 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_v376 : Ref sig .tc := ⟨.hbm, 524, rfl⟩
abbrev main_call15_call0_cst : Ref sig .tc := ⟨.hbm, 525, rfl⟩
abbrev main_call15_call0_v0 : Ref sig .tc := ⟨.hbm, 526, rfl⟩
abbrev main_v377 : Ref sig .tc := ⟨.hbm, 527, rfl⟩
abbrev main_c_50 : Ref sig .tc := ⟨.hbm, 528, rfl⟩
abbrev main_call16_v0 : Ref sig .tc := ⟨.hbm, 529, rfl⟩
abbrev main_v378 : Ref sig .tc := ⟨.hbm, 530, rfl⟩
abbrev main_v379 : Ref sig .tc := ⟨.hbm, 531, rfl⟩
abbrev main_c_51 : Ref sig .tc := ⟨.hbm, 532, rfl⟩
abbrev main_v380 : Ref sig .tc := ⟨.hbm, 533, rfl⟩
abbrev main_v381 : Ref sig .tc := ⟨.hbm, 534, rfl⟩
abbrev main_c_52 : Ref sig .tc := ⟨.hbm, 535, rfl⟩
abbrev main_v382 : Ref sig .tc := ⟨.hbm, 536, rfl⟩
abbrev main_v383 : Ref sig .tc := ⟨.hbm, 537, rfl⟩
abbrev main_c_53 : Ref sig .tc := ⟨.hbm, 538, rfl⟩
abbrev main_v384 : Ref sig .tc := ⟨.hbm, 539, rfl⟩
abbrev main_v385 : Ref sig .tc := ⟨.hbm, 540, rfl⟩
abbrev main_v386 : Ref sig .tc := ⟨.hbm, 541, rfl⟩
abbrev main_v387 : Ref sig .tc := ⟨.hbm, 542, rfl⟩
abbrev main_c_54 : Ref sig .tc := ⟨.hbm, 543, rfl⟩
abbrev main_v388 : Ref sig .tc := ⟨.hbm, 544, rfl⟩
abbrev main_v389 : Ref sig .tc := ⟨.hbm, 545, rfl⟩
abbrev main_c_55 : Ref sig .tc := ⟨.hbm, 546, rfl⟩
abbrev main_v390 : Ref sig .tc := ⟨.hbm, 547, rfl⟩
abbrev main_v391 : Ref sig .tc := ⟨.hbm, 548, rfl⟩
abbrev main_v392 : Ref sig .tc := ⟨.hbm, 549, rfl⟩
abbrev main_c_56 : Ref sig .tc := ⟨.hbm, 550, rfl⟩
abbrev main_v393 : Ref sig .tc := ⟨.hbm, 551, rfl⟩
abbrev main_v394 : Ref sig .tc := ⟨.hbm, 552, rfl⟩
abbrev main_v395 : Ref sig .tc := ⟨.hbm, 553, rfl⟩
abbrev main_v396 : Ref sig .tc := ⟨.hbm, 554, rfl⟩
abbrev main_v397 : Ref sig .tc := ⟨.hbm, 555, rfl⟩
abbrev main_v398 : Ref sig .tc := ⟨.hbm, 556, rfl⟩
abbrev main_v399 : Ref sig .tc := ⟨.hbm, 557, rfl⟩
abbrev main_c_57 : Ref sig .tc := ⟨.hbm, 558, rfl⟩
abbrev main_v400 : Ref sig .tc := ⟨.hbm, 559, rfl⟩
abbrev main_v401 : Ref sig .tc := ⟨.hbm, 560, rfl⟩
abbrev main_v402 : Ref sig .tc := ⟨.hbm, 561, rfl⟩
abbrev main_v403 : Ref sig .tc := ⟨.hbm, 562, rfl⟩
abbrev main_v404 : Ref sig .tc := ⟨.hbm, 563, rfl⟩
abbrev main_v405 : Ref sig .tc := ⟨.hbm, 564, rfl⟩
abbrev main_v406 : Ref sig .tc := ⟨.hbm, 565, rfl⟩
abbrev main_v407 : Ref sig .tc := ⟨.hbm, 566, rfl⟩
abbrev main_v408 : Ref sig .tc := ⟨.hbm, 567, rfl⟩
abbrev main_v409 : Ref sig .tc := ⟨.hbm, 568, rfl⟩
abbrev main_c_58 : Ref sig .tc := ⟨.hbm, 569, rfl⟩
abbrev main_v410 : Ref sig .tc := ⟨.hbm, 570, rfl⟩
abbrev main_v411 : Ref sig .tc := ⟨.hbm, 571, rfl⟩
abbrev main_c_59 : Ref sig .tc := ⟨.hbm, 572, rfl⟩
abbrev main_v412 : Ref sig .tc := ⟨.hbm, 573, rfl⟩
abbrev main_v413 : Ref sig .tc := ⟨.hbm, 574, rfl⟩
abbrev main_c_60 : Ref sig .tc := ⟨.hbm, 575, rfl⟩
abbrev main_v414 : Ref sig .tc := ⟨.hbm, 576, rfl⟩
abbrev main_v415 : Ref sig .tc := ⟨.hbm, 577, rfl⟩
abbrev main_v416 : Ref sig .tc := ⟨.hbm, 578, rfl⟩
abbrev main_v417 : Ref sig .tc := ⟨.hbm, 579, rfl⟩
abbrev main_c_61 : Ref sig .tc := ⟨.hbm, 580, rfl⟩
abbrev main_v418 : Ref sig .tc := ⟨.hbm, 581, rfl⟩
abbrev main_v419 : Ref sig .tc := ⟨.hbm, 582, rfl⟩
abbrev main_c_62 : Ref sig .tc := ⟨.hbm, 583, rfl⟩
abbrev main_v420 : Ref sig .tc := ⟨.hbm, 584, rfl⟩
abbrev main_v421 : Ref sig .tc := ⟨.hbm, 585, rfl⟩
abbrev main_v422 : Ref sig .tc := ⟨.hbm, 586, rfl⟩
abbrev main_c_63 : Ref sig .tc := ⟨.hbm, 587, rfl⟩
abbrev main_v423 : Ref sig .tc := ⟨.hbm, 588, rfl⟩
abbrev main_v424 : Ref sig .tc := ⟨.hbm, 589, rfl⟩
abbrev main_v425 : Ref sig .tc := ⟨.hbm, 590, rfl⟩
abbrev main_v426 : Ref sig .tc := ⟨.hbm, 591, rfl⟩
abbrev main_v427 : Ref sig .tc := ⟨.hbm, 592, rfl⟩
abbrev main_v428 : Ref sig .tc := ⟨.hbm, 593, rfl⟩
abbrev main_v429 : Ref sig .tc := ⟨.hbm, 594, rfl⟩
abbrev main_c_64 : Ref sig .tc := ⟨.hbm, 595, rfl⟩
abbrev main_v430 : Ref sig .tc := ⟨.hbm, 596, rfl⟩
abbrev main_v431 : Ref sig .tc := ⟨.hbm, 597, rfl⟩
abbrev main_v432 : Ref sig .tc := ⟨.hbm, 598, rfl⟩
abbrev main_v433 : Ref sig .tc := ⟨.hbm, 599, rfl⟩
abbrev main_v434 : Ref sig .tc := ⟨.hbm, 600, rfl⟩
abbrev main_v435 : Ref sig .tc := ⟨.hbm, 601, rfl⟩
abbrev main_v436 : Ref sig .tc := ⟨.hbm, 602, rfl⟩
abbrev main_v437 : Ref sig .tc := ⟨.hbm, 603, rfl⟩
abbrev main_v438 : Ref sig .tc := ⟨.hbm, 604, rfl⟩
abbrev main_v439 : Ref sig .tc := ⟨.hbm, 605, rfl⟩
abbrev main_c_65 : Ref sig .tc := ⟨.hbm, 606, rfl⟩
abbrev main_v440 : Ref sig .tc := ⟨.hbm, 607, rfl⟩
abbrev main_v441 : Ref sig .tc := ⟨.hbm, 608, rfl⟩
abbrev main_c_66 : Ref sig .tc := ⟨.hbm, 609, rfl⟩
abbrev main_v442 : Ref sig .tc := ⟨.hbm, 610, rfl⟩
abbrev main_v443 : Ref sig .tc := ⟨.hbm, 611, rfl⟩
abbrev main_c_67 : Ref sig .tc := ⟨.hbm, 612, rfl⟩
abbrev main_v444 : Ref sig .tc := ⟨.hbm, 613, rfl⟩
abbrev main_v445 : Ref sig .tc := ⟨.hbm, 614, rfl⟩
abbrev main_v446 : Ref sig .tc := ⟨.hbm, 615, rfl⟩
abbrev main_v447 : Ref sig .tc := ⟨.hbm, 616, rfl⟩
abbrev main_c_68 : Ref sig .tc := ⟨.hbm, 617, rfl⟩
abbrev main_v448 : Ref sig .tc := ⟨.hbm, 618, rfl⟩
abbrev main_v449 : Ref sig .tc := ⟨.hbm, 619, rfl⟩
abbrev main_c_69 : Ref sig .tc := ⟨.hbm, 620, rfl⟩
abbrev main_v450 : Ref sig .tc := ⟨.hbm, 621, rfl⟩
abbrev main_v451 : Ref sig .tc := ⟨.hbm, 622, rfl⟩
abbrev main_v452 : Ref sig .tc := ⟨.hbm, 623, rfl⟩
abbrev main_c_70 : Ref sig .tc := ⟨.hbm, 624, rfl⟩
abbrev main_v453 : Ref sig .tc := ⟨.hbm, 625, rfl⟩
abbrev main_v454 : Ref sig .tc := ⟨.hbm, 626, rfl⟩
abbrev main_v455 : Ref sig .tc := ⟨.hbm, 627, rfl⟩
abbrev main_v456 : Ref sig .tc := ⟨.hbm, 628, rfl⟩
abbrev main_v457 : Ref sig .tc := ⟨.hbm, 629, rfl⟩
abbrev main_v458 : Ref sig .tc := ⟨.hbm, 630, rfl⟩
abbrev main_v459 : Ref sig .tc := ⟨.hbm, 631, rfl⟩
abbrev main_c_71 : Ref sig .tc := ⟨.hbm, 632, rfl⟩
abbrev main_v460 : Ref sig .tc := ⟨.hbm, 633, rfl⟩
abbrev main_v461 : Ref sig .tc := ⟨.hbm, 634, rfl⟩
abbrev main_v462 : Ref sig .tc := ⟨.hbm, 635, rfl⟩
abbrev main_v463 : Ref sig .tc := ⟨.hbm, 636, rfl⟩
abbrev main_v464 : Ref sig .tc := ⟨.hbm, 637, rfl⟩
abbrev main_v465 : Ref sig .tc := ⟨.hbm, 638, rfl⟩
abbrev main_v466 : Ref sig .tc := ⟨.hbm, 639, rfl⟩
abbrev main_v467 : Ref sig .tc := ⟨.hbm, 640, rfl⟩
abbrev main_v468 : Ref sig .tc := ⟨.hbm, 641, rfl⟩
abbrev main_v469 : Ref sig .tc := ⟨.hbm, 642, rfl⟩
abbrev main_c_72 : Ref sig .tc := ⟨.hbm, 643, rfl⟩
abbrev main_v470 : Ref sig .tc := ⟨.hbm, 644, rfl⟩
abbrev main_v471 : Ref sig .tc := ⟨.hbm, 645, rfl⟩
abbrev main_c_73 : Ref sig .tc := ⟨.hbm, 646, rfl⟩
abbrev main_v472 : Ref sig .tc := ⟨.hbm, 647, rfl⟩
abbrev main_v473 : Ref sig .tc := ⟨.hbm, 648, rfl⟩
abbrev main_c_74 : Ref sig .tc := ⟨.hbm, 649, rfl⟩
abbrev main_v474 : Ref sig .tc := ⟨.hbm, 650, rfl⟩
abbrev main_v475 : Ref sig .tc := ⟨.hbm, 651, rfl⟩
abbrev main_v476 : Ref sig .tc := ⟨.hbm, 652, rfl⟩
abbrev main_v477 : Ref sig .tc := ⟨.hbm, 653, rfl⟩
abbrev main_c_75 : Ref sig .tc := ⟨.hbm, 654, rfl⟩
abbrev main_v478 : Ref sig .tc := ⟨.hbm, 655, rfl⟩
abbrev main_v479 : Ref sig .tc := ⟨.hbm, 656, rfl⟩
abbrev main_c_76 : Ref sig .tc := ⟨.hbm, 657, rfl⟩
abbrev main_v480 : Ref sig .tc := ⟨.hbm, 658, rfl⟩
abbrev main_v481 : Ref sig .tc := ⟨.hbm, 659, rfl⟩
abbrev main_v482 : Ref sig .tc := ⟨.hbm, 660, rfl⟩
abbrev main_c_77 : Ref sig .tc := ⟨.hbm, 661, rfl⟩
abbrev main_v483 : Ref sig .tc := ⟨.hbm, 662, rfl⟩
abbrev main_v484 : Ref sig .tc := ⟨.hbm, 663, rfl⟩
abbrev main_v485 : Ref sig .tc := ⟨.hbm, 664, rfl⟩
abbrev main_v486 : Ref sig .tc := ⟨.hbm, 665, rfl⟩
abbrev main_v487 : Ref sig .tc := ⟨.hbm, 666, rfl⟩
abbrev main_v488 : Ref sig .tc := ⟨.hbm, 667, rfl⟩
abbrev main_v489 : Ref sig .tc := ⟨.hbm, 668, rfl⟩
abbrev main_c_78 : Ref sig .tc := ⟨.hbm, 669, rfl⟩
abbrev main_v490 : Ref sig .tc := ⟨.hbm, 670, rfl⟩
abbrev main_v491 : Ref sig .tc := ⟨.hbm, 671, rfl⟩
abbrev main_v492 : Ref sig .tc := ⟨.hbm, 672, rfl⟩
abbrev main_v493 : Ref sig .tc := ⟨.hbm, 673, rfl⟩
abbrev main_v494 : Ref sig .tc := ⟨.hbm, 674, rfl⟩
abbrev main_v495 : Ref sig .tc := ⟨.hbm, 675, rfl⟩
abbrev main_v496 : Ref sig .tc := ⟨.hbm, 676, rfl⟩
abbrev main_v497 : Ref sig .tc := ⟨.hbm, 677, rfl⟩
abbrev main_v498 : Ref sig .tc := ⟨.hbm, 678, rfl⟩
abbrev main_v499 : Ref sig .tc := ⟨.hbm, 679, rfl⟩
abbrev main_v500 : Ref sig .tc := ⟨.hbm, 680, rfl⟩
abbrev main_v501 : Ref sig .tc := ⟨.hbm, 681, rfl⟩
abbrev main_v502 : Ref sig .tc := ⟨.hbm, 682, rfl⟩
abbrev main_v503 : Ref sig .tc := ⟨.hbm, 683, rfl⟩
abbrev main_v504 : Ref sig .tc := ⟨.hbm, 684, rfl⟩
abbrev main_v505 : Ref sig .tc := ⟨.hbm, 685, rfl⟩
abbrev main_v506 : Ref sig .tc := ⟨.hbm, 686, rfl⟩
abbrev main_v507 : Ref sig .tc := ⟨.hbm, 687, rfl⟩
abbrev main_v508 : Ref sig .tc := ⟨.hbm, 688, rfl⟩
abbrev main_v509 : Ref sig .tc := ⟨.hbm, 689, rfl⟩
abbrev main_v510 : Ref sig .tc := ⟨.hbm, 690, rfl⟩
abbrev main_v511 : Ref sig .tc := ⟨.hbm, 691, rfl⟩
abbrev main_v512 : Ref sig .tc := ⟨.hbm, 692, rfl⟩
abbrev main_v513 : Ref sig .tc := ⟨.hbm, 693, rfl⟩
abbrev main_cst_79 : Ref sig .tc := ⟨.hbm, 694, rfl⟩
abbrev main_v514 : Ref sig .tc := ⟨.hbm, 695, rfl⟩
abbrev main_v515 : Ref sig .tc := ⟨.hbm, 696, rfl⟩
abbrev main_cst_80 : Ref sig .tc := ⟨.hbm, 697, rfl⟩
abbrev main_v516 : Ref sig .tc := ⟨.hbm, 698, rfl⟩
abbrev main_v517 : Ref sig .tc := ⟨.hbm, 699, rfl⟩
abbrev main_cst_81 : Ref sig .tc := ⟨.hbm, 700, rfl⟩
abbrev main_v518 : Ref sig .tc := ⟨.hbm, 701, rfl⟩
abbrev main_v519 : Ref sig .tc := ⟨.hbm, 702, rfl⟩
abbrev main_v520 : Ref sig .tc := ⟨.hbm, 703, rfl⟩
abbrev main_v521 : Ref sig .tc := ⟨.hbm, 704, rfl⟩
abbrev main_v522 : Ref sig .tc := ⟨.hbm, 705, rfl⟩
abbrev main_v523 : Ref sig .tc := ⟨.hbm, 706, rfl⟩
abbrev main_v524 : Ref sig .tc := ⟨.hbm, 707, rfl⟩
abbrev main_v525 : Ref sig .tc := ⟨.hbm, 708, rfl⟩
abbrev main_v526 : Ref sig .tc := ⟨.hbm, 709, rfl⟩
abbrev main_v527 : Ref sig .tc := ⟨.hbm, 710, rfl⟩
abbrev main_cst_82 : Ref sig .tc := ⟨.hbm, 711, rfl⟩
abbrev main_v528 : Ref sig .tc := ⟨.hbm, 712, rfl⟩
abbrev main_v529 : Ref sig .tc := ⟨.hbm, 713, rfl⟩
abbrev main_v530 : Ref sig .tc := ⟨.hbm, 714, rfl⟩
abbrev main_v531 : Ref sig .tc := ⟨.hbm, 715, rfl⟩
abbrev main_cst_83 : Ref sig .tc := ⟨.hbm, 716, rfl⟩
abbrev main_v532 : Ref sig .tc := ⟨.hbm, 717, rfl⟩
abbrev main_v533 : Ref sig .tc := ⟨.hbm, 718, rfl⟩
abbrev main_cst_84 : Ref sig .tc := ⟨.hbm, 719, rfl⟩
abbrev main_v534 : Ref sig .tc := ⟨.hbm, 720, rfl⟩
abbrev main_v535 : Ref sig .tc := ⟨.hbm, 721, rfl⟩
abbrev main_v536 : Ref sig .tc := ⟨.hbm, 722, rfl⟩
abbrev main_v537 : Ref sig .tc := ⟨.hbm, 723, rfl⟩
abbrev main_v538 : Ref sig .tc := ⟨.hbm, 724, rfl⟩
abbrev main_cst_85 : Ref sig .tc := ⟨.hbm, 725, rfl⟩
abbrev main_v539 : Ref sig .tc := ⟨.hbm, 726, rfl⟩
abbrev main_v540 : Ref sig .tc := ⟨.hbm, 727, rfl⟩
abbrev main_cst_86 : Ref sig .tc := ⟨.hbm, 728, rfl⟩
abbrev main_v541 : Ref sig .tc := ⟨.hbm, 729, rfl⟩
abbrev main_v542 : Ref sig .tc := ⟨.hbm, 730, rfl⟩
abbrev main_cst_87 : Ref sig .tc := ⟨.hbm, 731, rfl⟩
abbrev main_v543 : Ref sig .tc := ⟨.hbm, 732, rfl⟩
abbrev main_v544 : Ref sig .tc := ⟨.hbm, 733, rfl⟩
abbrev main_v545 : Ref sig .tc := ⟨.hbm, 734, rfl⟩
abbrev main_v546 : Ref sig .tc := ⟨.hbm, 735, rfl⟩
abbrev main_v547 : Ref sig .tc := ⟨.hbm, 736, rfl⟩
abbrev main_v548 : Ref sig .tc := ⟨.hbm, 737, rfl⟩
abbrev main_v549 : Ref sig .tc := ⟨.hbm, 738, rfl⟩
abbrev main_v550 : Ref sig .tc := ⟨.hbm, 739, rfl⟩
abbrev main_v551 : Ref sig .tc := ⟨.hbm, 740, rfl⟩
abbrev main_v552 : Ref sig .tc := ⟨.hbm, 741, rfl⟩
abbrev main_v553 : Ref sig .tc := ⟨.hbm, 742, rfl⟩
abbrev main_v554 : Ref sig .tc := ⟨.hbm, 743, rfl⟩
abbrev main_call17_cst : Ref sig .tc := ⟨.hbm, 744, rfl⟩
abbrev main_call17_v0 : Ref sig .tc := ⟨.hbm, 745, rfl⟩
abbrev main_v555 : Ref sig .tc := ⟨.hbm, 746, rfl⟩
abbrev main_v556 : Ref sig .tc := ⟨.hbm, 747, rfl⟩
abbrev main_v557 : Ref sig .tc := ⟨.hbm, 748, rfl⟩
abbrev main_cst_88 : Ref sig .tc := ⟨.hbm, 749, rfl⟩
abbrev main_v558 : Ref sig .tc := ⟨.hbm, 750, rfl⟩
abbrev main_v559 : Ref sig .tc := ⟨.hbm, 751, rfl⟩
abbrev main_v560 : Ref sig .tc := ⟨.hbm, 752, rfl⟩
abbrev main_cst_89 : Ref sig .tc := ⟨.hbm, 753, rfl⟩
abbrev main_v561 : Ref sig .tc := ⟨.hbm, 754, rfl⟩
abbrev main_v562 : Ref sig .tc := ⟨.hbm, 755, rfl⟩
abbrev main_cst_90 : Ref sig .tc := ⟨.hbm, 756, rfl⟩
abbrev main_v563 : Ref sig .tc := ⟨.hbm, 757, rfl⟩
abbrev main_v564 : Ref sig .tc := ⟨.hbm, 758, rfl⟩
abbrev main_v565 : Ref sig .tc := ⟨.hbm, 759, rfl⟩
abbrev main_v566 : Ref sig .tc := ⟨.hbm, 760, rfl⟩
abbrev main_v567 : Ref sig .tc := ⟨.hbm, 761, rfl⟩
abbrev main_cst_91 : Ref sig .tc := ⟨.hbm, 762, rfl⟩
abbrev main_v568 : Ref sig .tc := ⟨.hbm, 763, rfl⟩
abbrev main_v569 : Ref sig .tc := ⟨.hbm, 764, rfl⟩
abbrev main_cst_92 : Ref sig .tc := ⟨.hbm, 765, rfl⟩
abbrev main_v570 : Ref sig .tc := ⟨.hbm, 766, rfl⟩
abbrev main_v571 : Ref sig .tc := ⟨.hbm, 767, rfl⟩
abbrev main_cst_93 : Ref sig .tc := ⟨.hbm, 768, rfl⟩
abbrev main_v572 : Ref sig .tc := ⟨.hbm, 769, rfl⟩
abbrev main_v573 : Ref sig .tc := ⟨.hbm, 770, rfl⟩
abbrev main_v574 : Ref sig .tc := ⟨.hbm, 771, rfl⟩
abbrev main_v575 : Ref sig .tc := ⟨.hbm, 772, rfl⟩
abbrev main_v576 : Ref sig .tc := ⟨.hbm, 773, rfl⟩
abbrev main_v577 : Ref sig .tc := ⟨.hbm, 774, rfl⟩
abbrev main_v578 : Ref sig .tc := ⟨.hbm, 775, rfl⟩
abbrev main_v579 : Ref sig .tc := ⟨.hbm, 776, rfl⟩
abbrev main_v580 : Ref sig .tc := ⟨.hbm, 777, rfl⟩
abbrev main_v581 : Ref sig .tc := ⟨.hbm, 778, rfl⟩
abbrev main_v582 : Ref sig .tc := ⟨.hbm, 779, rfl⟩
abbrev main_v583 : Ref sig .tc := ⟨.hbm, 780, rfl⟩

abbrev nD : Nat := 1
abbrev τ : Topo := Topo.v7x

variable {F : FTy → Type} [FloatOps F]
-- ==== Proof.LayerRun.lean ====
/- The kernel's run: it ends with the result's buffer at what the last step leaves, and with the arguments as launched. -/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
/-- From any memory with zero counters every run of the eight calls and the steps between them ends, faults nowhere, leaves the
    arguments as they were and leaves in the result's buffer what the last step writes there. -/
theorem run_whole : θ_run defs (onTc (τ := τ) (main (F := F))) ⟨m, fun _ => 0, ρ⟩ (fun r => ∀ c : Dev nD,
      r.2.mem ((c.tc : Thread nD τ).loc main_v123) = W29 m ρ c main_v123
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h hz => fun c =>
      ⟨(h c _ (mem_uc main_v123 (by decide))).trans rfl,
       (h c _ (mem_uc main_arg0 (by decide))).trans (W29_main_arg0 m ρ c),
       (h c _ (mem_uc main_arg1 (by decide))).trans (W29_main_arg1 m ρ c),
       (h c _ (mem_uc main_arg2 (by decide))).trans (W29_main_arg2 m ρ c),
       (h c _ (mem_uc main_arg3 (by decide))).trans (W29_main_arg3 m ρ c),
       (h c _ (mem_uc main_arg4 (by decide))).trans (W29_main_arg4 m ρ c),
       (h c _ (mem_uc main_arg5 (by decide))).trans (W29_main_arg5 m ρ c),
       (h c _ (mem_uc main_arg6 (by decide))).trans (W29_main_arg6 m ρ c),
       (h c _ (mem_uc main_arg7 (by decide))).trans (W29_main_arg7 m ρ c),
       (h c _ (mem_uc main_arg8 (by decide))).trans (W29_main_arg8 m ρ c),
       (h c _ (mem_uc main_arg9 (by decide))).trans (W29_main_arg9 m ρ c),
       (h c _ (mem_uc main_arg10 (by decide))).trans (W29_main_arg10 m ρ c),
       (h c _ (mem_uc main_arg11 (by decide))).trans (W29_main_arg11 m ρ c),
       (h c _ (mem_uc main_arg12 (by decide))).trans (W29_main_arg12 m ρ c)⟩)

end Cert.KernelIdeal.Whole

end
-- ==== Proof.StickMath.lean ====
/- The arithmetic of stick-breaking weights: a base-two recurrence over real scores, the extended-real expressions that
   compute it in base two and in base e, and the sums a block of 256 keys contributes. -/
module

public import Idealize.ShloMosaic.PureOps.Ideal
public import Mathlib.Analysis.SpecialFunctions.Pow.Real
public import Mathlib.Algebra.BigOperators.Intervals

@[expose] public section

noncomputable section

namespace Cert.Stick

open Idealize.ShloMosaic

/-- The base-two logarithm of one minus the break at a score: `n` is minus the score over the natural logarithm of two. -/
def logKeep (n : ℝ) : ℝ := min n 0 - Real.log (1 + (2 : ℝ) ^ (-max n (-n))) * (Real.log 2)⁻¹

/-- The weight that row `t` gives key `s`: the break at `s` times what the keys between `s` and `t` keep. -/
def weight (n : ℕ → ℝ) (t s : ℕ) : ℝ :=
  if s < t then (2 : ℝ) ^ ((∑ u ∈ Finset.Ico s t, logKeep (n u)) - n s) else 0

theorem ereal_max (a b : ℝ) : max (a : EReal) (b : EReal) = ((max a b : ℝ) : EReal) :=
  (EReal.coe_strictMono.monotone.map_max (a := a) (b := b)).symm

theorem ereal_min (a b : ℝ) : min (a : EReal) (b : EReal) = ((min a b : ℝ) : EReal) :=
  (EReal.coe_strictMono.monotone.map_min (a := a) (b := b)).symm

theorem ereal_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem log_two_pos : 0 < Real.log 2 := Real.log_pos (by norm_num)

theorem exp2_real (r : ℝ) : Ideal.exp2 (r : EReal) = (((2 : ℝ) ^ r : ℝ) : EReal) := rfl

theorem log_one_add_exp2 (r : ℝ) : Ideal.log (1 + (((2 : ℝ) ^ r : ℝ) : EReal)) = (Real.log (1 + (2 : ℝ) ^ r) : EReal) := by
  have h : (0 : ℝ) < 2 ^ r := Real.rpow_pos_of_pos (by norm_num) r
  rw [← EReal.coe_one, ← EReal.coe_add, Ideal.log_coe, if_neg (by linarith)]

/-- The base-two expression on extended reals, at a real score. -/
theorem keep_two (n : ℝ) :
    min (n : EReal) 0 - Ideal.log (1 + Ideal.exp2 (0 - max (n : EReal) (-(n : EReal)))) * (((Real.log 2)⁻¹ : ℝ) : EReal)
      = (logKeep n : EReal) := by
  rw [← EReal.coe_neg, ereal_max, zero_sub, ← EReal.coe_neg, exp2_real, log_one_add_exp2, ← EReal.coe_mul, ← EReal.coe_zero,
    ereal_min, ← EReal.coe_sub]
  rfl

theorem exp_mul_log_two (n : ℝ) : Real.exp (n * Real.log 2) = (2 : ℝ) ^ n := by
  rw [Real.rpow_def_of_pos (by norm_num), mul_comm]

/-- The base-e softplus of a real is minus the kept logarithm in base e. -/
theorem softplus_real (n : ℝ) :
    max (-(n * Real.log 2)) 0 + Real.log (1 + Real.exp (-max (-(n * Real.log 2)) (n * Real.log 2))) = -(logKeep n * Real.log 2) := by
  have h2 := log_two_pos
  have e1 : max (-(n * Real.log 2)) (n * Real.log 2) = max n (-n) * Real.log 2 := by
    rw [max_mul_of_nonneg _ _ h2.le, max_comm, neg_mul]
  have e2 : max (-(n * Real.log 2)) 0 = -(min n 0 * Real.log 2) := by
    rw [min_mul_of_nonneg _ _ h2.le, zero_mul, ← max_neg_neg, neg_zero]
  rw [e1, e2, ← neg_mul (max n (-n)), exp_mul_log_two]
  unfold logKeep
  field_simp
  ring

/-- A negated score's kept logarithm differs by the score. -/
theorem logKeep_neg (n : ℝ) : logKeep (-n) = logKeep n - n := by
  unfold logKeep
  rw [neg_neg, max_comm]
  rcases le_total n 0 with h | h
  · rw [min_eq_left h, min_eq_right (by linarith)]; ring
  · rw [min_eq_right h, min_eq_left (by linarith)]; ring

/-- Keys below row `t` from `s` on, split at a block boundary. -/
theorem keep_split (n : ℕ → ℝ) {s a t : ℕ} (h : s ≤ a) (h' : a ≤ t) :
    (∑ u ∈ Finset.Ico s a, logKeep (n u)) + ∑ u ∈ Finset.Ico a t, logKeep (n u) = ∑ u ∈ Finset.Ico s t, logKeep (n u) :=
  Finset.sum_Ico_consecutive _ h h'

/-- A sum over a block of consecutive positions. -/
theorem sum_block {M : Type} [AddCommMonoid M] (f : ℕ → M) (a w : ℕ) :
    ∑ s : Fin w, f (a + s.val) = ∑ u ∈ Finset.Ico a (a + w), f u := by
  rw [Finset.sum_Ico_eq_sum_range, Nat.add_sub_cancel_left, ← Fin.sum_univ_eq_sum_range (fun s => f (a + s))]

/-- A sum over a block from position `s` on. -/
theorem sum_block_from {M : Type} [AddCommMonoid M] (f : ℕ → M) (a w : ℕ) (s : Fin w) :
    ∑ s' : Fin w, (if s ≤ s' then f (a + s'.val) else 0) = ∑ u ∈ Finset.Ico (a + s.val) (a + w), f u := by
  have h := sum_block (fun u => if a + s.val ≤ u then f u else 0) a w
  simp only [add_le_add_iff_left, Fin.val_fin_le] at h
  rw [h, ← Finset.sum_filter]
  refine Finset.sum_congr ?_ fun _ _ => rfl
  ext u
  simp only [Finset.mem_filter, Finset.mem_Ico]
  omega

/-- A sum over a block from position `s` to position `r`, the rest masked out. -/
theorem sum_block_between {M : Type} [AddCommMonoid M] (f : ℕ → M) (a w : ℕ) (s r : Fin w) :
    ∑ s' : Fin w, (if s ≤ s' then (if s' < r then f (a + s'.val) else 0) else 0) = ∑ u ∈ Finset.Ico (a + s.val) (a + r.val), f u := by
  have h := sum_block_from (fun u => if u < a + r.val then f u else 0) a w s
  simp only [add_lt_add_iff_left, Fin.val_fin_lt] at h
  rw [h, ← Finset.sum_filter]
  refine Finset.sum_congr ?_ fun _ _ => rfl
  ext u
  have := r.isLt
  simp only [Finset.mem_filter, Finset.mem_Ico]
  omega

end Cert.Stick

end
-- ==== Proof.AttnSpec.lean ====
/- Stick-breaking attention of one array that holds queries, keys and values beside one another, at an index. -/
module

public import proofs.«01_k».proof.Proof.StickMath

@[expose] public section

set_option maxRecDepth 16384

noncomputable section

namespace Cert.Stick

open Idealize.ShloMosaic

/-- The product of query row `t` with key row `s` in head `h`. -/
def scoreAt (X : Fin 2 → Fin 8192 → Fin 1536 → EReal) (b : Fin 2) (h : Fin 8) (t s : Fin 8192) : EReal :=
  ∑ d : Fin 64, X b t ⟨h.val * 64 + d.val, by have := h.isLt; have := d.isLt; omega⟩ * X b s ⟨512 + (h.val * 64 + d.val), by have := h.isLt; have := d.isLt; omega⟩

/-- The same products as real numbers, by position. -/
def expo (X : Fin 2 → Fin 8192 → Fin 1536 → EReal) (b : Fin 2) (h : Fin 8) (t : Fin 8192) (s : ℕ) : ℝ :=
  if hs : s < 8192 then (scoreAt X b h t ⟨s, hs⟩).toReal else 0

/-- The attention's result: the values weighted by the stick each key breaks off. -/
def attnAt (X : Fin 2 → Fin 8192 → Fin 1536 → EReal) (b : Fin 2) (t : Fin 8192) (e : Fin 512) : EReal :=
  ∑ s : Fin 8192, (weight (expo X b ⟨e.val / 64, by have := e.isLt; omega⟩ t) t.val s.val : EReal) * X b s ⟨1024 + e.val, by have := e.isLt; omega⟩

/-- The queries and the keys are real numbers. -/
def RealQK (X : Fin 2 → Fin 8192 → Fin 1536 → EReal) : Prop := ∀ b t (j : Fin 1536), j.val < 1024 → ∃ r : ℝ, X b t j = (r : EReal)

/-- With real queries and keys the products are real. -/
theorem score_real {X : Fin 2 → Fin 8192 → Fin 1536 → EReal} (hX : RealQK X) (b : Fin 2) (h : Fin 8) (t s : Fin 8192) :
    scoreAt X b h t s = (expo X b h t s.val : EReal) := by
  have hr : ∃ r : ℝ, scoreAt X b h t s = (r : EReal) := by
    have hq : ∀ d : Fin 64, ∃ r : ℝ, X b t ⟨h.val * 64 + d.val, by have := h.isLt; have := d.isLt; omega⟩ = (r : EReal) := fun d =>
      hX b t _ (by have := h.isLt; have := d.isLt; show h.val * 64 + d.val < 1024; omega)
    have hk : ∀ d : Fin 64, ∃ r : ℝ, X b s ⟨512 + (h.val * 64 + d.val), by have := h.isLt; have := d.isLt; omega⟩ = (r : EReal) := fun d =>
      hX b s _ (by have := h.isLt; have := d.isLt; show 512 + (h.val * 64 + d.val) < 1024; omega)
    choose q hq using hq
    choose k hk using hk
    refine ⟨∑ d, q d * k d, ?_⟩
    unfold scoreAt
    rw [← ereal_sum]
    exact Finset.sum_congr rfl fun d _ => by rw [hq, hk, EReal.coe_mul]
  obtain ⟨r, hr⟩ := hr
  rw [expo, dif_pos s.isLt, hr, EReal.toReal_coe]

end Cert.Stick
end
-- ==== Proof.FfnSpec.lean ====
/- The feed-forward block and the layer normalization row by row. -/
module

public import Idealize.ShloMosaic.Lib.Pipeline.ValueKit

@[expose] public section

set_option maxRecDepth 16384

noncomputable section

namespace Cert.FfnRow

open Idealize.ShloMosaic

/-- Hidden unit `k` of a row: the rectified product of the row with the up-projection's column. -/
def hiddenUnit (x : Fin 1024 → EReal) (U : Fin 1024 → Fin 4096 → EReal) (k : Fin 4096) : EReal :=
  max (∑ d, x d * U d k) 0

/-- The row before normalization: the scaled residual plus the down-projection of the squared hidden units. -/
def preNorm (x : Fin 1024 → EReal) (U : Fin 1024 → Fin 4096 → EReal) (D : Fin 4096 → Fin 1024 → EReal) (l : Fin 1024) : EReal :=
  Ideal.ofBits .f32 0x3FB504F3#32 * x l + ∑ k, hiddenUnit x U k * hiddenUnit x U k * D k l

/-- The mean of a row. -/
def mean (p : Fin 1024 → EReal) : EReal := Ideal.div (∑ l, p l) (Ideal.ofBits .f32 0x44800000#32)

/-- Layer normalization of a row with gain `g` and bias `b`. -/
def layerNorm (p g b : Fin 1024 → EReal) (l : Fin 1024) : EReal :=
  (p l - mean p) * Ideal.rsqrt (mean (fun k => (p k - mean p) * (p k - mean p)) + Ideal.ofBits .f32 0x3727C5AC#32) * g l + b l

/-- The whole feed-forward block as a function of its five argument arrays. -/
def ffnOf (x : (⟨2, ![16384, 1024]⟩ : Shape).Idx → EReal) (up : (⟨2, ![1024, 4096]⟩ : Shape).Idx → EReal) (down : (⟨2, ![4096, 1024]⟩ : Shape).Idx → EReal)
    (g b : (⟨1, ![1024]⟩ : Shape).Idx → EReal) : (⟨2, ![16384, 1024]⟩ : Shape).Idx → EReal := fun y =>
  layerNorm (preNorm (fun d => x (ix2 (y 0) d)) (fun d k => up (ix2 d k)) (fun k l => down (ix2 k l))) (fun l => g (ix1 l)) (fun l => b (ix1 l)) (y 1)

/-- Normalizing equal rows with equal gains and biases gives equal rows. -/
theorem layerNorm_congr {p p' g g' b b' : Fin 1024 → EReal} (hp : ∀ l, p l = p' l) (hg : ∀ l, g l = g' l) (hb : ∀ l, b l = b' l) (l : Fin 1024) :
    layerNorm p g b l = layerNorm p' g' b' l := by
  rw [funext hp, funext hg, funext hb]

end Cert.FfnRow

end
-- ==== Proof.MixSpec.lean ====
/- The mixing of the head groups row by row: the plain formula, the real numbers it is made of, and the words that count its windows. -/
module

public import proofs.«01_k».proof.Proof.FfnSpec
public import Idealize.ShloMosaic.Lib.StableHlo.Predicate
public import Idealize.ShloMosaic.Lib.Pipeline.ValueKit
public import Idealize.ShloMosaic.Lib.WordCmp

@[expose] public section

set_option maxRecDepth 16384

noncomputable section

namespace Cert.MixRow

open Idealize.ShloMosaic
open Cert.FfnRow

/-- What a column held `k` rows before row `R` of its sequence of 8192 rows; zero before the sequence begins. -/
def back (c : Fin 16384 → EReal) (R : Fin 16384) (k : ℕ) : EReal :=
  if k ≤ R.val % 8192 then c ⟨R.val - k, by omega⟩ else 0

/-- The product of the second and the third quarter of a row's columns. -/
def gated (C : Fin 16384 → Fin 1024 → EReal) (l : Fin 256) (R : Fin 16384) : EReal :=
  C R ⟨256 + l.val, by omega⟩ * C R ⟨512 + l.val, by omega⟩

/-- The short convolution: three rows' gated columns weighted, gated again by the first quarter. -/
def convAt (C : Fin 16384 → Fin 1024 → EReal) (W : Fin 3 → Fin 256 → EReal) (R : Fin 16384) (l : Fin 256) : EReal :=
  C R ⟨l.val, by omega⟩ * (back (gated C l) R 0 * W 2 l + back (gated C l) R 1 * W 1 l + back (gated C l) R 2 * W 0 l)

/-- How many rows the window of a column of the last quarter is long: 2, 4, 8 and 16 by groups of 64 columns. -/
def window (l : Fin 256) : ℕ := 2 ^ (l.val / 64 + 1)

/-- The last quarter's columns. -/
def pooledColumn (C : Fin 16384 → Fin 1024 → EReal) (l : Fin 256) (R : Fin 16384) : EReal := C R ⟨768 + l.val, by omega⟩

/-- The trailing mean over a column's window, less the row's own entry. -/
def pooledAt (C : Fin 16384 → Fin 1024 → EReal) (R : Fin 16384) (l : Fin 256) : EReal :=
  Ideal.div (∑ k ∈ Finset.range (window l), back (pooledColumn C l) R k) (((min (R.val % 8192 + 1) (window l) : ℕ) : ℝ) : EReal) - pooledColumn C l R

/-- The pooled columns through their group's 64 × 64 matrix, scaled. -/
def poolAt (C : Fin 16384 → Fin 1024 → EReal) (P : Fin 4 → Fin 64 → Fin 64 → EReal) (S : Fin 256 → EReal) (R : Fin 16384) (l : Fin 256) : EReal :=
  (∑ j : Fin 64, pooledAt C R ⟨l.val / 64 * 64 + j.val, by omega⟩ * P ⟨l.val / 64, by omega⟩ j ⟨l.val % 64, by omega⟩) * S l

/-- A row of the three head groups beside one another: the attention's 512 columns, the convolution's 256, the pooling's 256. -/
def mixAt (A : Fin 16384 → Fin 512 → EReal) (C : Fin 16384 → Fin 1024 → EReal) (W : Fin 3 → Fin 256 → EReal) (P : Fin 4 → Fin 64 → Fin 64 → EReal)
    (S : Fin 256 → EReal) (R : Fin 16384) (e : Fin 1024) : EReal :=
  if h : e.val < 512 then A R ⟨e.val, h⟩
  else if h : e.val - 512 < 256 then convAt C W R ⟨e.val - 512, h⟩
  else poolAt C P S R ⟨e.val - 512 - 256, by omega⟩

/-- The sum of the squares of an entry's head, 64 columns. -/
def headSquares (M : Fin 1024 → EReal) (e : Fin 1024) : EReal :=
  ∑ j : Fin 64, M ⟨e.val / 64 * 64 + j.val, by omega⟩ * M ⟨e.val / 64 * 64 + j.val, by omega⟩

/-- A row normalized head by head by the root of the mean square, with a gain. -/
def headNorm (M G : Fin 1024 → EReal) (e : Fin 1024) : EReal :=
  M e * Ideal.rsqrt (Ideal.div (headSquares M e) (Ideal.ofBits .f32 0x42800000#32) + Ideal.ofBits .f32 0x358637BD#32) * G e

/-- The row before the last normalization: the scaled residual plus the normalized row through the output weights. -/
def projected (X M G : Fin 1024 → EReal) (O : Fin 1024 → Fin 1024 → EReal) (d : Fin 1024) : EReal :=
  Ideal.ofBits .f32 0x3FB504F3#32 * X d + ∑ e, headNorm M G e * O e d

/-- The whole mixing as a function of its ten argument arrays. -/
def mixOf (x : (⟨2, ![16384, 1024]⟩ : Shape).Idx → EReal) (attn : (⟨2, ![16384, 512]⟩ : Shape).Idx → EReal) (cp : (⟨2, ![16384, 1024]⟩ : Shape).Idx → EReal)
    (conv : (⟨2, ![3, 256]⟩ : Shape).Idx → EReal) (pool : (⟨3, ![4, 64, 64]⟩ : Shape).Idx → EReal) (scale : (⟨1, ![256]⟩ : Shape).Idx → EReal)
    (gain : (⟨1, ![1024]⟩ : Shape).Idx → EReal) (wo : (⟨2, ![1024, 1024]⟩ : Shape).Idx → EReal) (g b : (⟨1, ![1024]⟩ : Shape).Idx → EReal) :
    (⟨2, ![16384, 1024]⟩ : Shape).Idx → EReal := fun y =>
  layerNorm (projected (fun d => x (ix2 (y 0) d))
      (mixAt (fun R e => attn (ix2 R e)) (fun R l => cp (ix2 R l)) (fun k l => conv (ix2 k l)) (fun q i j => pool (ix3 q i j)) (fun l => scale (ix1 l)) (y 0))
      (fun e => gain (ix1 e)) (fun e d => wo (ix2 e d)))
    (fun d => g (ix1 d)) (fun d => b (ix1 d)) (y 1)

/-! ## Real numbers -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.zero : IsReal 0 := ⟨0, EReal.coe_zero.symm⟩

theorem IsReal.sum {ι : Type} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

theorem IsReal.back {c : Fin 16384 → EReal} (h : ∀ R, IsReal (c R)) (R : Fin 16384) (k : ℕ) : IsReal (back c R k) := by
  unfold MixRow.back
  split
  · exact h _
  · exact IsReal.zero

/-- A real less itself is zero. -/
theorem IsReal.sub_self {x : EReal} (hx : IsReal x) : x - x = 0 := by
  obtain ⟨a, rfl⟩ := hx
  rw [← EReal.coe_sub, _root_.sub_self, EReal.coe_zero]

/-- A row of real numbers is mixed to a row of real numbers. -/
theorem mixAt_real {A : Fin 16384 → Fin 512 → EReal} {C : Fin 16384 → Fin 1024 → EReal} {W : Fin 3 → Fin 256 → EReal} {P : Fin 4 → Fin 64 → Fin 64 → EReal}
    {S : Fin 256 → EReal} (hA : ∀ R e, IsReal (A R e)) (hC : ∀ R l, IsReal (C R l)) (hW : ∀ k l, IsReal (W k l)) (hP : ∀ g i j, IsReal (P g i j))
    (hS : ∀ l, IsReal (S l)) (R : Fin 16384) (e : Fin 1024) : IsReal (mixAt A C W P S R e) := by
  have hg : ∀ l R, IsReal (gated C l R) := fun l R => (hC _ _).mul (hC _ _)
  unfold mixAt
  split
  · exact hA _ _
  · split
    · unfold convAt
      exact (hC _ _).mul ((((IsReal.back (hg _) R 0).mul (hW _ _)).add ((IsReal.back (hg _) R 1).mul (hW _ _))).add ((IsReal.back (hg _) R 2).mul (hW _ _)))
    · unfold poolAt
      refine (IsReal.sum _ _ fun j _ => IsReal.mul ?_ (hP _ _ _)).mul (hS _)
      unfold pooledAt
      refine IsReal.sub ?_ (hC _ _)
      have hw : ∀ l, 0 < window l := fun l => Nat.pow_pos (by norm_num)
      have hn : ∀ l : Fin 256, ((min (R.val % 8192 + 1) (window l) : ℕ) : ℝ) ≠ 0 := fun l => by
        have := hw l
        exact Nat.cast_ne_zero.2 (by omega)
      rw [Ideal.div_coe (hn _)]
      exact (IsReal.sum _ _ fun k _ => IsReal.back (fun R => hC R _) R k).mul ⟨_, rfl⟩

/-- The five arrays that make the mixed row hold real numbers. -/
structure RealArrays (attn : (⟨2, ![16384, 512]⟩ : Shape).Idx → EReal) (cp : (⟨2, ![16384, 1024]⟩ : Shape).Idx → EReal)
    (conv : (⟨2, ![3, 256]⟩ : Shape).Idx → EReal) (pool : (⟨3, ![4, 64, 64]⟩ : Shape).Idx → EReal) (scale : (⟨1, ![256]⟩ : Shape).Idx → EReal) : Prop where
  attn : ∀ y, IsReal (attn y)
  cp : ∀ y, IsReal (cp y)
  conv : ∀ y, IsReal (conv y)
  pool : ∀ y, IsReal (pool y)
  scale : ∀ y, IsReal (scale y)

/-! ## Words that count -/

/-- The word of a small natural, read signed. -/
theorem toInt_word {n : ℕ} (h : n < 2 ^ 31) : (BitVec.ofNat 32 n).toInt = n := StableHlo.Predicate.toInt_ofNat_small n h

/-- A small natural's word as a real. -/
theorem real_of_word {n : ℕ} (h : n < 2 ^ 31) : (FloatOps.sitofp (F := Ideal) .f32 (BitVec.ofNat 32 n) : EReal) = ((n : ℝ) : EReal) := by
  show (((BitVec.ofNat 32 n).toInt : ℝ) : EReal) = _
  rw [toInt_word h]
  rfl

/-- The lesser of two small naturals' words is the word of the lesser. -/
theorem min_word {a b : ℕ} (ha : a < 2 ^ 31) (hb : b < 2 ^ 31) : IntOp.minsi (BitVec.ofNat 32 a) (BitVec.ofNat 32 b) = BitVec.ofNat 32 (min a b) := by
  unfold IntOp.minsi
  have e : (BitVec.ofNat 32 a).slt (BitVec.ofNat 32 b) = decide (a < b) := by
    rw [BitVec.slt_eq_decide, toInt_word ha, toInt_word hb]
    simp
  rw [e]
  by_cases h : a < b
  · simp only [h, decide_true, if_true]; rw [Nat.min_eq_left h.le]
  · simp only [h, decide_false, Bool.false_eq_true, if_false]; rw [Nat.min_eq_right (by omega)]

/-- The difference of two small naturals' words, held at zero from below, is the word of the truncated difference. -/
theorem sub_word {a b : ℕ} (ha : a < 2 ^ 30) (hb : b < 2 ^ 30) :
    IntOp.maxsi (IntOp.subi (BitVec.ofNat 32 a) (BitVec.ofNat 32 b)) 0#32 = BitVec.ofNat 32 (a - b) := by
  have e : (IntOp.subi (BitVec.ofNat 32 a) (BitVec.ofNat 32 b)).toInt = (a : ℤ) - b := by
    show (BitVec.ofNat 32 a - BitVec.ofNat 32 b).toInt = _
    rw [BitVec.toInt_sub, toInt_word (by omega), toInt_word (by omega)]
    rw [Int.bmod_def]
    split <;> omega
  have e0 : ((0#32 : BitVec 32)).toInt = 0 := by decide
  refine BitVec.eq_of_toInt_eq ?_
  rw [toInt_word (by omega)]
  unfold IntOp.maxsi
  rw [BitVec.slt_eq_decide, e, e0]
  by_cases h : (0 : ℤ) < (a : ℤ) - b
  · simp only [h, decide_true, if_true]
    rw [e]
    omega
  · simp only [h, decide_false, Bool.false_eq_true, if_false]
    rw [e0]
    omega

end Cert.MixRow

end
-- ==== Proof.LayerSpec.lean ====
/- One layer as a plain function of its own input and weights: the projections, the stick-breaking attention, the mixing, the feed-forward block. -/
module

public import proofs.«01_k».proof.Proof.AttnSpec
public import proofs.«01_k».proof.Proof.MixSpec

@[expose] public section

set_option maxRecDepth 16384

noncomputable section

namespace Cert.LayerRow

open Idealize.ShloMosaic
open Cert.FfnRow Cert.MixRow Cert.Stick

/-- The product of row `R` with column `j` of the input weights. -/
def prodAt (X : Fin 16384 → Fin 1024 → EReal) (W : Fin 1024 → Fin 2560 → EReal) (R : Fin 16384) (j : Fin 2560) : EReal := ∑ d, X R d * W d j

/-- The scale of the queries: minus one over eight times the logarithm of two. -/
def qScale : ℝ := -((8 * Real.log 2)⁻¹)

/-- The first 1536 columns of a row of products, its first 512 scaled. -/
def qkvCol (P : Fin 16384 → Fin 2560 → EReal) (R : Fin 16384) (j : Fin 1536) : EReal :=
  if j.val < 512 then P R ⟨j.val, by omega⟩ * (qScale : EReal) else P R ⟨j.val, by omega⟩

/-- The same by sequence and time. -/
def qkvAt (P : Fin 16384 → Fin 2560 → EReal) (b : Fin 2) (t : Fin 8192) (j : Fin 1536) : EReal := qkvCol P ⟨b.val * 8192 + t.val, by omega⟩ j

/-- The attention's result with its rows in one axis. -/
def attnRows (X : Fin 2 → Fin 8192 → Fin 1536 → EReal) (y : (⟨2, ![16384, 512]⟩ : Shape).Idx) : EReal :=
  attnAt X ⟨(y 0).val / 8192, by have h : (y 0).val < 16384 := (y 0).isLt; omega⟩ ⟨(y 0).val % 8192, by omega⟩ (y 1)

/-- The last 1024 columns of the products. -/
def mixCols (P : Fin 16384 → Fin 2560 → EReal) (y : (⟨2, ![16384, 1024]⟩ : Shape).Idx) : EReal :=
  P (y 0) ⟨1536 + (y 1).val, by have h : (y 1).val < 1024 := (y 1).isLt; omega⟩

/-- The products as a function of the layer's input and input weights. -/
def productsOf (x : (⟨2, ![16384, 1024]⟩ : Shape).Idx → EReal) (w : (⟨2, ![1024, 2560]⟩ : Shape).Idx → EReal) : Fin 16384 → Fin 2560 → EReal :=
  prodAt (fun R d => x (ix2 R d)) (fun d j => w (ix2 d j))

/-- The whole layer as a function of its thirteen argument arrays. -/
def layerOf (x : (⟨2, ![16384, 1024]⟩ : Shape).Idx → EReal) (w : (⟨2, ![1024, 2560]⟩ : Shape).Idx → EReal) (conv : (⟨2, ![3, 256]⟩ : Shape).Idx → EReal)
    (pool : (⟨3, ![4, 64, 64]⟩ : Shape).Idx → EReal) (scale : (⟨1, ![256]⟩ : Shape).Idx → EReal) (gain : (⟨1, ![1024]⟩ : Shape).Idx → EReal)
    (wo : (⟨2, ![1024, 1024]⟩ : Shape).Idx → EReal) (g1 b1 : (⟨1, ![1024]⟩ : Shape).Idx → EReal) (up : (⟨2, ![1024, 4096]⟩ : Shape).Idx → EReal)
    (down : (⟨2, ![4096, 1024]⟩ : Shape).Idx → EReal) (g2 b2 : (⟨1, ![1024]⟩ : Shape).Idx → EReal) : (⟨2, ![16384, 1024]⟩ : Shape).Idx → EReal :=
  ffnOf (mixOf x (attnRows (qkvAt (productsOf x w))) (mixCols (productsOf x w)) conv pool scale gain wo g1 b1) up down g2 b2

/-! ## Real numbers -/

/-- Real rows and real weights have real products. -/
theorem productsOf_real {x : (⟨2, ![16384, 1024]⟩ : Shape).Idx → EReal} {w : (⟨2, ![1024, 2560]⟩ : Shape).Idx → EReal} (hx : ∀ y, IsReal (x y)) (hw : ∀ y, IsReal (w y))
    (R : Fin 16384) (j : Fin 2560) : IsReal (productsOf x w R j) := by
  unfold productsOf prodAt
  exact IsReal.sum _ _ fun _ _ => (hx _).mul (hw _)

theorem qkvAt_real {P : Fin 16384 → Fin 2560 → EReal} (hP : ∀ R j, IsReal (P R j)) (b : Fin 2) (t : Fin 8192) (j : Fin 1536) : IsReal (qkvAt P b t j) := by
  unfold qkvAt qkvCol
  split
  · exact (hP _ _).mul ⟨_, rfl⟩
  · exact hP _ _

theorem realQK {P : Fin 16384 → Fin 2560 → EReal} (hP : ∀ R j, IsReal (P R j)) : RealQK (qkvAt P) := fun b t j _ => qkvAt_real hP b t j

/-- Attention over real numbers gives real numbers. -/
theorem attnRows_real {P : Fin 16384 → Fin 2560 → EReal} (hP : ∀ R j, IsReal (P R j)) (y : (⟨2, ![16384, 512]⟩ : Shape).Idx) : IsReal (attnRows (qkvAt P) y) := by
  unfold attnRows attnAt
  exact IsReal.sum _ _ fun _ _ => IsReal.mul ⟨_, rfl⟩ (qkvAt_real hP _ _ _)

end Cert.LayerRow

end
-- ==== Proof.LayerReal.lean ====
/- A layer of real numbers is real: no step of it divides by zero or takes the root of a number that is not positive. -/
module

public import proofs.«01_k».proof.Proof.LayerSpec

@[expose] public section

set_option maxRecDepth 16384

noncomputable section

namespace Cert.LayerRow

open Idealize.ShloMosaic
open Cert.FfnRow Cert.MixRow Cert.Stick

/-- A 32-bit pattern without sign whose exponent is neither the least nor the greatest is a positive real number. -/
theorem literal_pos (b : BitVec 32) (hs : (b.extractLsb' (8 + 23) 1 == 1#1) = false) (h1 : (b.extractLsb' 23 8).toNat ≠ 2 ^ 8 - 1) (h0 : (b.extractLsb' 23 8).toNat ≠ 0) :
    ∃ r : ℝ, 0 < r ∧ Ideal.ofBits .f32 b = (r : EReal) := by
  show ∃ r : ℝ, 0 < r ∧ Ideal.ieee 8 23 b = (r : EReal)
  unfold Ideal.ieee
  dsimp only
  rw [if_neg h1, if_neg h0, hs]
  refine ⟨_, ?_, rfl⟩
  rw [if_neg (by decide)]
  positivity

theorem rows_literal : ∃ r : ℝ, 0 < r ∧ Ideal.ofBits .f32 0x44800000#32 = (r : EReal) := literal_pos _ (by decide) (by decide) (by decide)

theorem norm_literal : ∃ r : ℝ, 0 < r ∧ Ideal.ofBits .f32 0x3727C5AC#32 = (r : EReal) := literal_pos _ (by decide) (by decide) (by decide)

theorem residual_literal : ∃ r : ℝ, 0 < r ∧ Ideal.ofBits .f32 0x3FB504F3#32 = (r : EReal) := literal_pos _ (by decide) (by decide) (by decide)

theorem head_literal : ∃ r : ℝ, 0 < r ∧ Ideal.ofBits .f32 0x42800000#32 = (r : EReal) := literal_pos _ (by decide) (by decide) (by decide)

theorem headNorm_literal : ∃ r : ℝ, 0 < r ∧ Ideal.ofBits .f32 0x358637BD#32 = (r : EReal) := literal_pos _ (by decide) (by decide) (by decide)

/-- One over the root of a positive real number is real. -/
theorem rsqrt_real {r : ℝ} (h : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.2 h.le), if_neg h.ne']

/-- One over the root of a mean of squares of real numbers, held away from zero by a positive number, is real. -/
theorem rsqrt_squares {n : ℕ} {d : Fin n → EReal} (hd : ∀ k, IsReal (d k)) {c e : EReal} (hc : ∃ r : ℝ, 0 < r ∧ c = (r : EReal)) (he : ∃ r : ℝ, 0 < r ∧ e = (r : EReal)) :
    IsReal (Ideal.rsqrt (Ideal.div (∑ k, d k * d k) c + e)) := by
  obtain ⟨c, hc, rfl⟩ := hc
  obtain ⟨e, he, rfl⟩ := he
  choose q hq using hd
  have h : ∑ k, d k * d k = ((∑ k, q k * q k : ℝ) : EReal) := by
    simp only [hq, ← EReal.coe_mul]
    exact ereal_sum _ _
  rw [Ideal.div_coe hc.ne', h, ← EReal.coe_mul, ← EReal.coe_add]
  exact rsqrt_real (add_pos_of_nonneg_of_pos (mul_nonneg (Finset.sum_nonneg fun k _ => mul_self_nonneg _) (by positivity)) he)

/-- The mean of a real row is real. -/
theorem mean_real {p : Fin 1024 → EReal} (hp : ∀ l, IsReal (p l)) : IsReal (mean p) := by
  obtain ⟨c, hc, h⟩ := rows_literal
  unfold mean
  rw [h, Ideal.div_coe hc.ne']
  exact (IsReal.sum _ _ fun l _ => hp l).mul ⟨_, rfl⟩

/-- Normalizing a real row with real gains and biases gives a real row. -/
theorem layerNorm_real {p g b : Fin 1024 → EReal} (hp : ∀ l, IsReal (p l)) (hg : ∀ l, IsReal (g l)) (hb : ∀ l, IsReal (b l)) (l : Fin 1024) :
    IsReal (layerNorm p g b l) := by
  have hd : ∀ k, IsReal (p k - mean p) := fun k => (hp k).sub (mean_real hp)
  exact (((hd l).mul (rsqrt_squares hd rows_literal norm_literal)).mul (hg l)).add (hb l)

/-- The larger of a real number and zero is real. -/
theorem max_zero_real {x : EReal} (hx : IsReal x) : IsReal (max x 0) := by
  rcases max_choice x 0 with h | h <;> rw [h]
  · exact hx
  · exact IsReal.zero

theorem positive_real {x : EReal} (h : ∃ r : ℝ, 0 < r ∧ x = (r : EReal)) : IsReal x := by
  obtain ⟨r, -, e⟩ := h
  exact ⟨r, e⟩

/-- The feed-forward block of real arrays is real. -/
theorem ffnOf_real {x : (⟨2, ![16384, 1024]⟩ : Shape).Idx → EReal} {up : (⟨2, ![1024, 4096]⟩ : Shape).Idx → EReal} {down : (⟨2, ![4096, 1024]⟩ : Shape).Idx → EReal}
    {g b : (⟨1, ![1024]⟩ : Shape).Idx → EReal} (hx : ∀ y, IsReal (x y)) (hu : ∀ y, IsReal (up y)) (hd : ∀ y, IsReal (down y)) (hg : ∀ y, IsReal (g y)) (hb : ∀ y, IsReal (b y))
    (y : (⟨2, ![16384, 1024]⟩ : Shape).Idx) : IsReal (ffnOf x up down g b y) := by
  unfold ffnOf
  refine layerNorm_real (fun l => ?_) (fun l => hg _) (fun l => hb _) _
  have hh : ∀ k, IsReal (hiddenUnit (fun d => x (ix2 (y 0) d)) (fun d k => up (ix2 d k)) k) := fun k =>
    max_zero_real (IsReal.sum _ _ fun d _ => (hx _).mul (hu _))
  exact ((positive_real residual_literal).mul (hx _)).add (IsReal.sum _ _ fun k _ => ((hh k).mul (hh k)).mul (hd _))

/-- A real row normalized head by head with real gains is real. -/
theorem headNorm_real {M G : Fin 1024 → EReal} (hM : ∀ e, IsReal (M e)) (hG : ∀ e, IsReal (G e)) (e : Fin 1024) : IsReal (headNorm M G e) :=
  ((hM e).mul (rsqrt_squares (fun j => hM _) head_literal headNorm_literal)).mul (hG e)

/-- The mixing of real arrays is real. -/
theorem mixOf_real {x : (⟨2, ![16384, 1024]⟩ : Shape).Idx → EReal} {attn : (⟨2, ![16384, 512]⟩ : Shape).Idx → EReal} {cp : (⟨2, ![16384, 1024]⟩ : Shape).Idx → EReal}
    {conv : (⟨2, ![3, 256]⟩ : Shape).Idx → EReal} {pool : (⟨3, ![4, 64, 64]⟩ : Shape).Idx → EReal} {scale : (⟨1, ![256]⟩ : Shape).Idx → EReal}
    {gain : (⟨1, ![1024]⟩ : Shape).Idx → EReal} {wo : (⟨2, ![1024, 1024]⟩ : Shape).Idx → EReal} {g b : (⟨1, ![1024]⟩ : Shape).Idx → EReal}
    (hx : ∀ y, IsReal (x y)) (hR : RealArrays attn cp conv pool scale) (hgain : ∀ y, IsReal (gain y)) (hwo : ∀ y, IsReal (wo y)) (hg : ∀ y, IsReal (g y)) (hb : ∀ y, IsReal (b y))
    (y : (⟨2, ![16384, 1024]⟩ : Shape).Idx) : IsReal (mixOf x attn cp conv pool scale gain wo g b y) := by
  unfold mixOf
  refine layerNorm_real (fun d => ?_) (fun l => hg _) (fun l => hb _) _
  refine ((positive_real residual_literal).mul (hx _)).add (IsReal.sum _ _ fun e _ => (headNorm_real (fun e => ?_) (fun e => hgain _) e).mul (hwo _))
  exact mixAt_real (fun R e => hR.attn _) (fun R l => hR.cp _) (fun k l => hR.conv _) (fun q i j => hR.pool _) (fun l => hR.scale _) _ _

/-- A layer of real arrays is real. -/
theorem layerOf_real {x : (⟨2, ![16384, 1024]⟩ : Shape).Idx → EReal} {w : (⟨2, ![1024, 2560]⟩ : Shape).Idx → EReal} {conv : (⟨2, ![3, 256]⟩ : Shape).Idx → EReal}
    {pool : (⟨3, ![4, 64, 64]⟩ : Shape).Idx → EReal} {scale : (⟨1, ![256]⟩ : Shape).Idx → EReal} {gain : (⟨1, ![1024]⟩ : Shape).Idx → EReal}
    {wo : (⟨2, ![1024, 1024]⟩ : Shape).Idx → EReal} {g1 b1 : (⟨1, ![1024]⟩ : Shape).Idx → EReal} {up : (⟨2, ![1024, 4096]⟩ : Shape).Idx → EReal}
    {down : (⟨2, ![4096, 1024]⟩ : Shape).Idx → EReal} {g2 b2 : (⟨1, ![1024]⟩ : Shape).Idx → EReal}
    (hx : ∀ y, IsReal (x y)) (hw : ∀ y, IsReal (w y)) (hconv : ∀ y, IsReal (conv y)) (hpool : ∀ y, IsReal (pool y)) (hscale : ∀ y, IsReal (scale y))
    (hgain : ∀ y, IsReal (gain y)) (hwo : ∀ y, IsReal (wo y)) (hg1 : ∀ y, IsReal (g1 y)) (hb1 : ∀ y, IsReal (b1 y)) (hup : ∀ y, IsReal (up y)) (hdown : ∀ y, IsReal (down y))
    (hg2 : ∀ y, IsReal (g2 y)) (hb2 : ∀ y, IsReal (b2 y)) (y : (⟨2, ![16384, 1024]⟩ : Shape).Idx) : IsReal (layerOf x w conv pool scale gain wo g1 b1 up down g2 b2 y) :=
  ffnOf_real (mixOf_real hx ⟨attnRows_real (productsOf_real hx hw), fun y => productsOf_real hx hw _ _, hconv, hpool, hscale⟩ hgain hwo hg1 hb1) hup hdown hg2 hb2 y

/-! ## The weights of one layer, and the two layers -/

/-- Row `l` of a stack of rows. -/
def slice1 {n : ℕ} (l : Fin 2) (a : (⟨2, ![2, n]⟩ : Shape).Idx → EReal) : (⟨1, ![n]⟩ : Shape).Idx → EReal := fun y => a (ix2 l (y 0))

/-- Matrix `l` of a stack of matrices. -/
def slice2 {n k : ℕ} (l : Fin 2) (a : (⟨3, ![2, n, k]⟩ : Shape).Idx → EReal) : (⟨2, ![n, k]⟩ : Shape).Idx → EReal := fun y => a (ix3 l (y 0) (y 1))

/-- Entry `l` of a stack of stacks of matrices. -/
def slice3 {n k j : ℕ} (l : Fin 2) (a : (⟨4, ![2, n, k, j]⟩ : Shape).Idx → EReal) : (⟨3, ![n, k, j]⟩ : Shape).Idx → EReal := fun y => a (ix4 l (y 0) (y 1) (y 2))

/-- Both sequences' rows one after another. -/
def flatRows (x : (⟨3, ![2, 8192, 1024]⟩ : Shape).Idx → EReal) : (⟨2, ![16384, 1024]⟩ : Shape).Idx → EReal := fun y =>
  x (ix3 ⟨(y 0).val / 8192, by have h : (y 0).val < 16384 := (y 0).isLt; omega⟩ ⟨(y 0).val % 8192, by omega⟩ (y 1))

/-- Rows one after another as two sequences. -/
def bySequence (x : (⟨2, ![16384, 1024]⟩ : Shape).Idx → EReal) : (⟨3, ![2, 8192, 1024]⟩ : Shape).Idx → EReal := fun y =>
  x (ix2 ⟨(y 0).val * 8192 + (y 1).val, by have h : (y 0).val < 2 := (y 0).isLt; have h' : (y 1).val < 8192 := (y 1).isLt; omega⟩ (y 2))

/-- Layer `l` of the stack as a function of its input rows and the stacked weights. -/
def layerAt (l : Fin 2) (x : (⟨2, ![16384, 1024]⟩ : Shape).Idx → EReal) (w : (⟨3, ![2, 1024, 2560]⟩ : Shape).Idx → EReal) (conv : (⟨3, ![2, 3, 256]⟩ : Shape).Idx → EReal)
    (pool : (⟨4, ![2, 4, 64, 64]⟩ : Shape).Idx → EReal) (scale : (⟨2, ![2, 256]⟩ : Shape).Idx → EReal) (gain : (⟨2, ![2, 1024]⟩ : Shape).Idx → EReal)
    (wo : (⟨3, ![2, 1024, 1024]⟩ : Shape).Idx → EReal) (g1 b1 : (⟨2, ![2, 1024]⟩ : Shape).Idx → EReal) (up : (⟨3, ![2, 1024, 4096]⟩ : Shape).Idx → EReal)
    (down : (⟨3, ![2, 4096, 1024]⟩ : Shape).Idx → EReal) (g2 b2 : (⟨2, ![2, 1024]⟩ : Shape).Idx → EReal) : (⟨2, ![16384, 1024]⟩ : Shape).Idx → EReal :=
  layerOf x (slice2 l w) (slice2 l conv) (slice3 l pool) (slice1 l scale) (slice1 l gain) (slice2 l wo) (slice1 l g1) (slice1 l b1) (slice2 l up) (slice2 l down) (slice1 l g2) (slice1 l b2)

/-- The whole stack of two layers as a function of its thirteen argument arrays. -/
def trunkOf (x : (⟨3, ![2, 8192, 1024]⟩ : Shape).Idx → EReal) (w : (⟨3, ![2, 1024, 2560]⟩ : Shape).Idx → EReal) (conv : (⟨3, ![2, 3, 256]⟩ : Shape).Idx → EReal)
    (pool : (⟨4, ![2, 4, 64, 64]⟩ : Shape).Idx → EReal) (scale : (⟨2, ![2, 256]⟩ : Shape).Idx → EReal) (gain : (⟨2, ![2, 1024]⟩ : Shape).Idx → EReal)
    (wo : (⟨3, ![2, 1024, 1024]⟩ : Shape).Idx → EReal) (g1 b1 : (⟨2, ![2, 1024]⟩ : Shape).Idx → EReal) (up : (⟨3, ![2, 1024, 4096]⟩ : Shape).Idx → EReal)
    (down : (⟨3, ![2, 4096, 1024]⟩ : Shape).Idx → EReal) (g2 b2 : (⟨2, ![2, 1024]⟩ : Shape).Idx → EReal) : (⟨3, ![2, 8192, 1024]⟩ : Shape).Idx → EReal :=
  bySequence (layerAt 1 (layerAt 0 (flatRows x) w conv pool scale gain wo g1 b1 up down g2 b2) w conv pool scale gain wo g1 b1 up down g2 b2)

/-- The arrays whose being real makes both layers' inputs and mixed rows real: all of the first five, and the first layer's of the others. -/
structure RealTrunk (x : (⟨3, ![2, 8192, 1024]⟩ : Shape).Idx → EReal) (w : (⟨3, ![2, 1024, 2560]⟩ : Shape).Idx → EReal) (conv : (⟨3, ![2, 3, 256]⟩ : Shape).Idx → EReal)
    (pool : (⟨4, ![2, 4, 64, 64]⟩ : Shape).Idx → EReal) (scale : (⟨2, ![2, 256]⟩ : Shape).Idx → EReal) (gain : (⟨2, ![2, 1024]⟩ : Shape).Idx → EReal)
    (wo : (⟨3, ![2, 1024, 1024]⟩ : Shape).Idx → EReal) (g1 b1 : (⟨2, ![2, 1024]⟩ : Shape).Idx → EReal) (up : (⟨3, ![2, 1024, 4096]⟩ : Shape).Idx → EReal)
    (down : (⟨3, ![2, 4096, 1024]⟩ : Shape).Idx → EReal) (g2 b2 : (⟨2, ![2, 1024]⟩ : Shape).Idx → EReal) : Prop where
  x : ∀ y, IsReal (x y)
  w : ∀ y, IsReal (w y)
  conv : ∀ y, IsReal (conv y)
  pool : ∀ y, IsReal (pool y)
  scale : ∀ y, IsReal (scale y)
  gain : ∀ y, IsReal (slice1 0 gain y)
  wo : ∀ y, IsReal (slice2 0 wo y)
  g1 : ∀ y, IsReal (slice1 0 g1 y)
  b1 : ∀ y, IsReal (slice1 0 b1 y)
  up : ∀ y, IsReal (slice2 0 up y)
  down : ∀ y, IsReal (slice2 0 down y)
  g2 : ∀ y, IsReal (slice1 0 g2 y)
  b2 : ∀ y, IsReal (slice1 0 b2 y)

/-- Where they are, the first layer's result is real. -/
theorem RealTrunk.first {x : (⟨3, ![2, 8192, 1024]⟩ : Shape).Idx → EReal} {w : (⟨3, ![2, 1024, 2560]⟩ : Shape).Idx → EReal} {conv : (⟨3, ![2, 3, 256]⟩ : Shape).Idx → EReal}
    {pool : (⟨4, ![2, 4, 64, 64]⟩ : Shape).Idx → EReal} {scale : (⟨2, ![2, 256]⟩ : Shape).Idx → EReal} {gain : (⟨2, ![2, 1024]⟩ : Shape).Idx → EReal}
    {wo : (⟨3, ![2, 1024, 1024]⟩ : Shape).Idx → EReal} {g1 b1 : (⟨2, ![2, 1024]⟩ : Shape).Idx → EReal} {up : (⟨3, ![2, 1024, 4096]⟩ : Shape).Idx → EReal}
    {down : (⟨3, ![2, 4096, 1024]⟩ : Shape).Idx → EReal} {g2 b2 : (⟨2, ![2, 1024]⟩ : Shape).Idx → EReal} (h : RealTrunk x w conv pool scale gain wo g1 b1 up down g2 b2)
    (y : (⟨2, ![16384, 1024]⟩ : Shape).Idx) : IsReal (layerAt 0 (flatRows x) w conv pool scale gain wo g1 b1 up down g2 b2 y) :=
  layerOf_real (fun y => h.x _) (fun y => h.w _) (fun y => h.conv _) (fun y => h.pool _) (fun y => h.scale _) h.gain h.wo h.g1 h.b1 h.up h.down h.g2 h.b2 y

end Cert.LayerRow

end
-- ==== Proof.HostSteps.lean ====
/- What the steps between the four calls leave in the buffers the calls read, as functions of what was there before. -/
module

public import proofs.«01_k».proof.Proof.Gen.KernelIdeal.Launch
public import proofs.«01_k».proof.Proof.LayerReal
public import Idealize.ShloMosaic.Lib.Pipeline.ValueKit
public import Idealize.ShloMosaic.Lib.WordCmp

@[expose] public section

set_option maxRecDepth 16384

noncomputable section

namespace Cert.KernelIdeal.Host

open Idealize.ShloMosaic Idealize.ShloMosaic.TcCoe Idealize.SL.Sem
open Cert.KernelIdeal Cert.KernelIdeal.Gen
open Cert.LayerRow

/-- What the buffers hold after the steps between the projections and the attention. -/
abbrev afterAttentionPrep (W : Valuation τ sig (Elt Ideal)) : Valuation τ sig (Elt Ideal) :=
  StableHlo.after hostOps1_2 (StableHlo.after hostOps1_1 (StableHlo.after hostOps1 W))

/-- What the buffers hold after the steps between the attention and the mixing. -/
abbrev afterMixPrep (W : Valuation τ sig (Elt Ideal)) : Valuation τ sig (Elt Ideal) :=
  StableHlo.after hostOps2_4 (StableHlo.after hostOps2_3 (StableHlo.after hostOps2_2 (StableHlo.after hostOps2_1 (StableHlo.after hostOps2 W))))

/-- The matrix of ones on and below the diagonal, as the host builds it. -/
theorem tril_at (W : Valuation τ sig (Elt Ideal)) (a b : Fin 256) : afterAttentionPrep W main_v8 (ix2 a b) = if b ≤ a then (1 : EReal) else 0 := by
  simp only [afterAttentionPrep, hostOps1, hostOps1_1, hostOps1_2]
  after_results_simp
  simp only [StableHlo.TRef.toBuf, StableHlo.TRef.ofBuf, cast_eq]
  pointwise
  have ha := a.isLt
  have hb := b.isLt
  have h : IntOp.cmpi CmpIPredicate.sge (IntOp.addi (BitVec.ofNat 32 a.val) 0#32) (BitVec.ofNat 32 b.val) = 1 ↔ b ≤ a := by
    rw [show IntOp.addi (BitVec.ofNat 32 a.val) 0#32 = BitVec.ofNat 32 a.val from BitVec.add_zero _]
    exact (WordCmp.cmpi_sge_ofNat_eq_one_iff (w := 32) (by omega) (by omega)).trans Fin.le_def.symm
  unfold Scalar.select
  simp only [h]

/-- The layer's four pooling matrices. -/
def poolMats (W : Valuation τ sig (Elt Ideal)) (g : Fin 4) (i j : Fin 64) : EReal := W main_arg3 (ix4 0 g i j)

/-- The pooling's matrix as the host lays it out: four 64 × 64 matrices on the diagonal of a 256 × 256 one. -/
theorem blockDiag_at (W : Valuation τ sig (Elt Ideal)) (k q : Fin 256) : afterMixPrep W main_v35 (ix2 k q)
    = if k.val / 64 = q.val / 64 then poolMats W ⟨q.val / 64, by omega⟩ ⟨k.val % 64, by omega⟩ ⟨q.val % 64, by omega⟩ else (0 : EReal) := by
  simp only [afterMixPrep, hostOps2, hostOps2_1, hostOps2_2, hostOps2_3, hostOps2_4]
  after_results_simp
  simp only [StableHlo.TRef.toBuf, StableHlo.TRef.ofBuf, cast_eq]
  pointwise
  after_results_simp
  simp only [StableHlo.TRef.toBuf, StableHlo.TRef.ofBuf, cast_eq]
  pointwise
  show (if h : k.val < 64 then (pad S64x256 ![0, 0] ![0, 192] ![0, 0] (fun i : S64x64.Idx => poolMats W 0 (i 0) (i 1)) (constant (F := Ideal) S_ FTy.f32 0#32) pads_S64x64_S64x256_000_01920 h_S_ (ix2 ⟨k.val, h⟩ q) : EReal)
    else if h : k.val - 64 < 64 then (pad S64x256 ![0, 64] ![0, 128] ![0, 0] (fun i : S64x64.Idx => poolMats W 1 (i 0) (i 1)) (constant (F := Ideal) S_ FTy.f32 0#32) pads_S64x64_S64x256_000_641280 h_S_ (ix2 ⟨k.val - 64, h⟩ q) : EReal)
    else if h : k.val - 64 - 64 < 64 then (pad S64x256 ![0, 128] ![0, 64] ![0, 0] (fun i : S64x64.Idx => poolMats W 2 (i 0) (i 1)) (constant (F := Ideal) S_ FTy.f32 0#32) pads_S64x64_S64x256_000_128640 h_S_ (ix2 ⟨k.val - 64 - 64, h⟩ q) : EReal)
    else (pad S64x256 ![0, 192] ![0, 0] ![0, 0] (fun i : S64x64.Idx => poolMats W 3 (i 0) (i 1)) (constant (F := Ideal) S_ FTy.f32 0#32) pads_S64x64_S64x256_000_19200 h_S_ (ix2 ⟨k.val - 64 - 64 - 64, by omega⟩ q) : EReal)) = _
  pointwise
  have e : ∀ (g g' : Fin 4) (i i' j j' : Fin 64), g.val = g'.val → i.val = i'.val → j.val = j'.val → poolMats W g i j = poolMats W g' i' j' :=
    fun g g' i i' j j' hg hi hj => by rw [Fin.ext hg, Fin.ext hi, Fin.ext hj]
  have hk := k.isLt
  have hq := q.isLt
  split_ifs <;> first
    | rfl
    | (exfalso; omega)
    | (refine e _ _ _ _ _ _ ?_ ?_ ?_ <;> dsimp only [Fin.val_zero, Fin.val_one, Fin.val_two] <;> omega)
    | (refine e _ _ _ _ _ _ ?_ ?_ ?_ <;> first | omega | (show (3 : ℕ) = q.val / 64; omega) | (show (1 : ℕ) = q.val / 64; omega) | (show (2 : ℕ) = q.val / 64; omega) | (show (0 : ℕ) = q.val / 64; omega))

/-- The sign of a word. -/
def signWord (a : BitVec 32) : BitVec 32 := if a = 0 then 0 else if a.msb = true then -1 else 1

/-- The quotient of a lane's number by 64, as the host computes it. -/
def headWord (a : BitVec 32) : BitVec 32 :=
  Scalar.select (IntOp.andi (IntOp.cmpi CmpIPredicate.ne (signWord a) (signWord 64#32)) (IntOp.cmpi CmpIPredicate.ne (IntOp.remsi ArithUnit.host a 64#32) 0#32))
    (IntOp.subi (IntOp.divsi ArithUnit.host a 64#32) 1#32) (IntOp.divsi ArithUnit.host a 64#32)

theorem headWord_fin : ∀ l : Fin 256, headWord (BitVec.ofNat 32 l.val) = BitVec.ofNat 32 (l.val / 64) := by decide +kernel

theorem sameHead_fin : ∀ a b : Fin 4, IntOp.cmpi CmpIPredicate.eq (BitVec.ofNat 32 a.val) (BitVec.ofNat 32 b.val) = if a.val = b.val then 1#1 else 0#1 := by decide +kernel

/-- The heads' ones as the host lays them out. -/
theorem ones_at (W : Valuation τ sig (Elt Ideal)) (k q : Fin 256) : afterMixPrep W main_v43 (ix2 k q) = if k.val / 64 = q.val / 64 then (1 : EReal) else (0 : EReal) := by
  simp only [afterMixPrep, hostOps2, hostOps2_1, hostOps2_2, hostOps2_3, hostOps2_4]
  after_results_simp
  simp only [StableHlo.TRef.toBuf, StableHlo.TRef.ofBuf, cast_eq]
  pointwise
  show (FloatOps.uitofp (F := Ideal) .bf16 (IntOp.cmpi CmpIPredicate.eq (headWord (BitVec.ofNat 32 k.val)) (headWord (BitVec.ofNat 32 q.val))) : EReal) = _
  rw [headWord_fin, headWord_fin, sameHead_fin ⟨k.val / 64, by omega⟩ ⟨q.val / 64, by omega⟩]
  by_cases h : k.val / 64 = q.val / 64
  · rw [if_pos h, if_pos h]
    show (((1#1 : BitVec 1).toNat : ℝ) : EReal) = 1
    norm_num
  · rw [if_neg h, if_neg h]
    show (((0#1 : BitVec 1).toNat : ℝ) : EReal) = 0
    norm_num

/-- The pooling's scales as one row. -/
theorem scale_at (W : Valuation τ sig (Elt Ideal)) (l : Fin 256) : afterMixPrep W main_v44 (ix2 0 l) = W main_arg4 (ix2 0 l) := by
  simp only [afterMixPrep, hostOps2, hostOps2_1, hostOps2_2, hostOps2_3, hostOps2_4]
  after_results_simp
  pointwise

/-- The gains as one row. -/
theorem gain_at (W : Valuation τ sig (Elt Ideal)) (d : Fin 1024) : afterMixPrep W main_v45 (ix2 0 d) = W main_arg5 (ix2 0 d) := by
  simp only [afterMixPrep, hostOps2, hostOps2_1, hostOps2_2, hostOps2_3, hostOps2_4]
  after_results_simp
  pointwise

/-- The last normalization's gains as one row. -/
theorem normGain_at (W : Valuation τ sig (Elt Ideal)) (d : Fin 1024) : afterMixPrep W main_v46 (ix2 0 d) = W main_arg7 (ix2 0 d) := by
  simp only [afterMixPrep, hostOps2, hostOps2_1, hostOps2_2, hostOps2_3, hostOps2_4]
  after_results_simp
  pointwise

/-- The last normalization's biases as one row. -/
theorem normBias_at (W : Valuation τ sig (Elt Ideal)) (d : Fin 1024) : afterMixPrep W main_v47 (ix2 0 d) = W main_arg8 (ix2 0 d) := by
  simp only [afterMixPrep, hostOps2, hostOps2_1, hostOps2_2, hostOps2_3, hostOps2_4]
  after_results_simp
  pointwise

/-- The output weights. -/
theorem weights_at (W : Valuation τ sig (Elt Ideal)) (e d : Fin 1024) : afterMixPrep W main_v21 (ix2 e d) = W main_arg6 (ix3 0 e d) := by
  simp only [afterMixPrep, hostOps2, hostOps2_1, hostOps2_2, hostOps2_3, hostOps2_4]
  after_results_simp
  pointwise

/-- The input weights as the projections read them. -/
theorem inputWeights_eq (W : Valuation τ sig (Elt Ideal)) : StableHlo.after hostOps0 W main_v3 = slice2 0 (W main_arg1) := by
  simp only [hostOps0]
  after_results_simp
  funext y
  obtain ⟨i, j, rfl⟩ : ∃ i j, y = ix2 i j := ⟨y 0, y 1, eq_ix2 y⟩
  pointwise [slice2]

/-- The projections' first result by sequence and time. -/
theorem bySequence_at (W : Valuation τ sig (Elt Ideal)) (b : Fin 2) (t : Fin 8192) (j : Fin 1536) : afterAttentionPrep W main_v5 (ix3 b t j) = W main_v4_0 (ix2 ⟨b.val * 8192 + t.val, by omega⟩ j) := by
  simp only [afterAttentionPrep, hostOps1, hostOps1_1, hostOps1_2]
  after_results_simp
  pointwise

/-- The attention's result with its rows in one axis. -/
theorem rows_at (W : Valuation τ sig (Elt Ideal)) (R : Fin 16384) (e : Fin 512) : afterMixPrep W main_v10 (ix2 R e) = W main_v9 (ix3 ⟨R.val / 8192, by omega⟩ ⟨R.val % 8192, by omega⟩ e) := by
  simp only [afterMixPrep, hostOps2, hostOps2_1, hostOps2_2, hostOps2_3, hostOps2_4]
  after_results_simp
  pointwise

/-- The convolution's taps. -/
theorem taps_eq (W : Valuation τ sig (Elt Ideal)) : afterMixPrep W main_v12 = slice2 0 (W main_arg2) := by
  simp only [afterMixPrep, hostOps2, hostOps2_1, hostOps2_2, hostOps2_3, hostOps2_4]
  after_results_simp
  funext y
  obtain ⟨i, j, rfl⟩ : ∃ i j, y = ix2 i j := ⟨y 0, y 1, eq_ix2 y⟩
  pointwise [slice2]

/-- The input's rows one after another. -/
theorem input_eq (W : Valuation τ sig (Elt Ideal)) : StableHlo.after hostOps0 W main_v0 = flatRows (W main_arg0) := by
  simp only [hostOps0]
  after_results_simp
  funext y
  obtain ⟨i, j, rfl⟩ : ∃ i j, y = ix2 i j := ⟨y 0, y 1, eq_ix2 y⟩
  pointwise [flatRows]

/-- The first feed-forward weights. -/
theorem up_eq (W : Valuation τ sig (Elt Ideal)) : StableHlo.after hostOps3 W main_v51 = slice2 0 (W main_arg9) := by
  simp only [hostOps3]
  after_results_simp
  funext y
  obtain ⟨i, j, rfl⟩ : ∃ i j, y = ix2 i j := ⟨y 0, y 1, eq_ix2 y⟩
  pointwise [slice2]

/-- The second feed-forward weights. -/
theorem down_eq (W : Valuation τ sig (Elt Ideal)) : StableHlo.after hostOps3 W main_v54 = slice2 0 (W main_arg10) := by
  simp only [hostOps3]
  after_results_simp
  funext y
  obtain ⟨i, j, rfl⟩ : ∃ i j, y = ix2 i j := ⟨y 0, y 1, eq_ix2 y⟩
  pointwise [slice2]

/-- The last gains as one row. -/
theorem lastGain_at (W : Valuation τ sig (Elt Ideal)) (l : Fin 1024) : StableHlo.after hostOps3 W main_v59 (ix2 0 l) = W main_arg11 (ix2 0 l) := by
  simp only [hostOps3]
  after_results_simp
  pointwise

/-- The last biases as one row. -/
theorem lastBias_at (W : Valuation τ sig (Elt Ideal)) (l : Fin 1024) : StableHlo.after hostOps3 W main_v60 (ix2 0 l) = W main_arg12 (ix2 0 l) := by
  simp only [hostOps3]
  after_results_simp
  pointwise

end Cert.KernelIdeal.Host
end
-- ==== Proof.ProjValue.lean ====
/- What the projection call leaves in its two result arrays, as functions of what its two argument arrays hold. -/
module

public import proofs.«01_k».proof.Proof.Gen.KernelIdeal.Frame.Region0
public import proofs.«01_k».proof.Proof.LayerSpec
public import Idealize.ShloMosaic.Lib.Pipeline.ValueKit
public import Idealize.ShloMosaic.Lib.Claim

@[expose] public section

set_option maxRecDepth 16384

noncomputable section

namespace Cert.KernelIdeal.Projection

open Idealize.ShloMosaic Idealize.ShloMosaic.TcCoe Idealize.SL.Sem
open Idealize.ShloMosaic.Pipeline (Dat)
open Cert.KernelIdeal Cert.KernelIdeal.Gen
open Cert.LayerRow

variable (V : (c : Dev nD) → (b : Ref sig .tc) → Buf (Elt Ideal) ((c : Thread nD τ).loc b))

/-- The constant the queries are scaled by. -/
theorem q_scale_ideal : Named.named (F := Ideal) (φ := .f32) κ "q_scale" 0xBE38AA3B#32 = ((qScale : ℝ) : EReal) := rfl

/-- Which block each window has at point `t`: the rows advance by one block, the weights stay. -/
theorem places : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- One block of queries, keys and values is the formula's at the block's rows. -/
theorem qkv_point (c : Dev nD) (t : Fin cfg0.N) (y) :
    out0_2 (iblk0 V c 0 t) (iblk0 V c 1 t) y
      = (fun y : S16384x1536.Idx => qkvCol (productsOf (V c main_v0) (V c main_v3)) (y 0) (y 1)) (((cfg0.win 2).blk t).view.emb y) := by
  unfold out0_2
  canon_tiles x h
  all_goals (pointwise [k0_pay1, k0_pay2, k0_pay3, k0_pay4, q_scale_ideal, qkvCol, productsOf, prodAt]; blk_simp [places t]; pointwise [h0, h1])
  case piece0 =>
    rw [if_neg (by omega)]
    blk_point [iblk0, places t]
  all_goals blk_point [iblk0, places t]

/-- One block of the mixer's input columns is the formula's at the block's rows. -/
theorem cp_point (c : Dev nD) (t : Fin cfg0.N) (y) :
    out0_3 (iblk0 V c 0 t) (iblk0 V c 1 t) y = mixCols (productsOf (V c main_v0) (V c main_v3)) (((cfg0.win 3).blk t).view.emb y) := by
  unfold out0_3
  canon_tiles x h
  all_goals (pointwise [k0_pay1, k0_pay5, k0_pay6, mixCols, productsOf, prodAt]; blk_point [iblk0, places t])

/-- The first result array after the run. -/
theorem qkv_final (c : Dev nD) : (dat0 V c).arrAt 2 cfg0.N
    = fun y : S16384x1536.Idx => qkvCol (productsOf (V c main_v0) (V c main_v3)) (y 0) (y 1) := by
  refine (dat0 V c).arrAt_eq_of_covers 2 _ (by decide +kernel) fun t _ y => ?_
  blk_simp
  rw [after0_2]
  exact qkv_point V c t y

/-- The second result array after the run. -/
theorem cp_final (c : Dev nD) : (dat0 V c).arrAt 3 cfg0.N = mixCols (productsOf (V c main_v0) (V c main_v3)) := by
  refine (dat0 V c).arrAt_eq_of_covers 3 _ (by decide +kernel) fun t _ y => ?_
  blk_simp
  rw [after0_3]
  exact cp_point V c t y

end Cert.KernelIdeal.Projection

end
-- ==== Proof.AttnBlock.lean ====
/- One block of 256 keys of the stick-breaking kernel, read at an index: its scores, the sums of kept logarithms from each
   key to the block's end, what the block adds to the output row and to the running sum. -/
module

public import proofs.«01_k».proof.Proof.Gen.KernelIdeal.Frame.Region1
public import Idealize.ShloMosaic.Lib.Pipeline.ValueKit
public import Idealize.ShloMosaic.Lib.Claim
public import proofs.«01_k».proof.Proof.StickMath

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen

open Cert.Stick

/-- The product of a query row with a key row. -/
def score (q k : Vec Ideal S256x128 .bf16) (r s : Fin 256) : EReal := ∑ l : Fin 128, q (ix2 r l) * k (ix2 s l)

theorem log2e_ideal : Named.named (F := Ideal) (φ := .f32) κ "log2e" 0x3FB8AA3B#32 = (((Real.log 2)⁻¹ : ℝ) : EReal) := rfl

/-- Selecting by the comparison of two small positions. -/
theorem select_lt (x r : Fin 256) (a b : EReal) :
    Scalar.select (IntOp.cmpi CmpIPredicate.slt (BitVec.ofNat 32 x.val) (BitVec.ofNat 32 r.val)) a b = if x < r then a else b := by
  unfold Scalar.select
  have h : IntOp.cmpi CmpIPredicate.slt (BitVec.ofNat 32 x.val) (BitVec.ofNat 32 r.val) = 1 ↔ x < r :=
    (WordCmp.cmpi_slt_ofNat_eq_one_iff (w := 32) (by have := x.isLt; omega) (by have := r.isLt; omega)).trans Fin.lt_def.symm
  simp only [h]

/-- The scores of a block. -/
theorem pay12_at (q k : Vec Ideal S256x128 .bf16) (r s : Fin 256) : k1_pay12 (F := Ideal) q k (ix2 r s) = score q k r s := by
  pointwise [k1_pay12, score]

/-- The kept logarithms of a block, before masking. -/
theorem pay47_at (q k : Vec Ideal S256x128 .bf16) (r s : Fin 256) (n : ℝ) (hn : score q k r s = (n : EReal)) :
    k1_pay47 (F := Ideal) q k (ix2 r s) = (logKeep n : EReal) := by
  have h46 : k1_pay46 (F := Ideal) q k (ix2 r s) = score q k r s := pay12_at q k r s
  pointwise [k1_pay47, log2e_ideal, h46, hn]
  exact keep_two n

section

variable {q k : Vec Ideal S256x128 .bf16} {u : Vec Ideal S256x256 .bf16} {n : Fin 256 → Fin 256 → ℝ}

/-- A sum against a column of the lower triangular matrix of ones. -/
theorem tri_sum (hu : ∀ a b : Fin 256, u (ix2 a b) = if b ≤ a then 1 else 0) (g : Fin 256 → ℝ) (s : Fin 256) :
    ∑ x, (g x : EReal) * u (ix2 x s) + ∑ x, ((g x : EReal) - (g x : EReal)) * u (ix2 x s)
      = ((∑ x, if s ≤ x then g x else 0 : ℝ) : EReal) := by
  simp only [hu, ← EReal.coe_sub, sub_self, EReal.coe_zero, zero_mul, Finset.sum_const_zero, add_zero, mul_ite, mul_one, mul_zero, ite_self]
  refine Eq.trans ?_ (ereal_sum Finset.univ fun x => if s ≤ x then g x else 0)
  refine Finset.sum_congr rfl fun x _ => ?_
  split_ifs <;> rfl

/-- The sums of kept logarithms from each key to the end of the block. -/
theorem pay13_at (hn : ∀ r s, score q k r s = (n r s : EReal)) (hu : ∀ a b : Fin 256, u (ix2 a b) = if b ≤ a then 1 else 0) (r s : Fin 256) :
    k1_pay13 (F := Ideal) q u k (ix2 r s) = ((∑ x, if s ≤ x then logKeep (n r x) else 0 : ℝ) : EReal) := by
  have e : ∀ x, min (score q k r x) 0 - Ideal.log (1 + FloatOps.exp2 (F := Ideal) (φ := .f32) (0 - FloatOps.absf (F := Ideal) (φ := .f32) (score q k r x))) * (((Real.log 2)⁻¹ : ℝ) : EReal)
      = (logKeep (n r x) : EReal) := fun x => by rw [hn]; exact keep_two _
  pointwise [k1_pay13, log2e_ideal, pay12_at]
  simp only [e]
  exact tri_sum hu _ s

/-- What a whole block adds to a row of the output. -/
theorem pay14_at (hn : ∀ r s, score q k r s = (n r s : EReal)) (hu : ∀ a b : Fin 256, u (ix2 a b) = if b ≤ a then 1 else 0)
    (v : Vec Ideal S256x128 .bf16) (R : Vec Ideal S1x256x1 .f32) (ρ : Fin 256 → ℝ) (hR : ∀ r, R (ix3 0 r 0) = (ρ r : EReal)) (r : Fin 256) (l : Fin 128) :
    k1_pay14 (F := Ideal) q u k v R (ix2 r l)
      = ∑ s, (((2 : ℝ) ^ ((∑ x, if s ≤ x then logKeep (n r x) else 0) + ρ r - n r s) : ℝ) : EReal) * v (ix2 s l) := by
  pointwise [k1_pay14, k1_pay11, pay12_at]
  refine Finset.sum_congr rfl fun s _ => ?_
  rw [pay13_at hn hu, hR, hn, ← EReal.coe_add, ← EReal.coe_sub]
  rfl

/-- What a whole block adds to the running sum. -/
theorem pay15_at (hn : ∀ r s, score q k r s = (n r s : EReal)) (hu : ∀ a b : Fin 256, u (ix2 a b) = if b ≤ a then 1 else 0)
    (R : Vec Ideal S1x256x1 .f32) (ρ : Fin 256 → ℝ) (hR : ∀ r, R (ix3 0 r 0) = (ρ r : EReal)) (r : Fin 256) :
    k1_pay15 (F := Ideal) q u k R (ix2 r 0) = ((ρ r + ∑ x, logKeep (n r x) : ℝ) : EReal) := by
  pointwise [k1_pay15, k1_pay11]
  rw [pay13_at hn hu, hR, ← EReal.coe_add]
  simp only [Fin.zero_le, if_true]

/-- The masked sums of the diagonal block. -/
theorem pay48_at (hn : ∀ r s, score q k r s = (n r s : EReal)) (hu : ∀ a b : Fin 256, u (ix2 a b) = if b ≤ a then 1 else 0) (r s : Fin 256) :
    k1_pay48 (F := Ideal) u k1_pay35 (k1_pay47 q k) (0 : EReal) (ix2 r s)
      = ((∑ x, if s ≤ x then (if x < r then logKeep (n r x) else 0) else 0 : ℝ) : EReal) := by
  have e : ∀ x, k1_pay47 (F := Ideal) q k (ix2 r x) = (logKeep (n r x) : EReal) := fun x => pay47_at q k r x _ (hn r x)
  pointwise [k1_pay48, k1_pay35]
  simp only [e, select_lt]
  have h := tri_sum hu (fun x => if x < r then logKeep (n r x) else 0) s
  rw [← h]
  congr 1
  · refine Finset.sum_congr rfl fun x _ => ?_
    split_ifs
    · rfl
    · rw [EReal.coe_zero, zero_mul]
  · refine Finset.sum_congr rfl fun x _ => ?_
    split_ifs <;> rfl

/-- What the diagonal block gives a row of the output. -/
theorem pay49_at (hn : ∀ r s, score q k r s = (n r s : EReal)) (hu : ∀ a b : Fin 256, u (ix2 a b) = if b ≤ a then 1 else 0)
    (v : Vec Ideal S256x128 .bf16) (r : Fin 256) (l : Fin 128) :
    k1_pay49 (F := Ideal) u k1_pay35 v k1_pay45 (k1_pay46 q k) (k1_pay47 q k) (FloatOps.ofBits FTy.f32 0#32) (ix3 0 r l)
      = ∑ s, ((if s < r then (2 : ℝ) ^ ((∑ x, if s ≤ x then (if x < r then logKeep (n r x) else 0) else 0) - n r s) else 0 : ℝ) : EReal) * v (ix2 s l) := by
  have h46 : ∀ s, k1_pay46 (F := Ideal) q k (ix2 r s) = score q k r s := fun s => pay12_at q k r s
  have h48 := fun s => pay48_at hn hu r s
  pointwise [k1_pay49, k1_pay45]
  refine Finset.sum_congr rfl fun s _ => ?_
  rw [h46, hn, h48 s, ← EReal.coe_sub]
  have h35 : k1_pay35 (ix2 r s) = IntOp.cmpi CmpIPredicate.slt (BitVec.ofNat 32 s.val) (BitVec.ofNat 32 r.val) := by
    pointwise [k1_pay35]
  rw [h35, select_lt]
  split_ifs
  · rfl
  · rw [EReal.coe_zero, zero_mul]

/-- What the diagonal block gives the running sum. -/
theorem pay50_at (hn : ∀ r s, score q k r s = (n r s : EReal)) (hu : ∀ a b : Fin 256, u (ix2 a b) = if b ≤ a then 1 else 0) (r : Fin 256) :
    k1_pay50 (F := Ideal) u k1_pay35 k1_pay45 (k1_pay47 q k) (FloatOps.ofBits FTy.f32 0#32) (ix3 0 r 0)
      = ((∑ x, (if x < r then logKeep (n r x) else 0) : ℝ) : EReal) := by
  have h48 := pay48_at hn hu r 0
  pointwise [k1_pay50, k1_pay45]
  refine Eq.trans h48 ?_
  simp only [Fin.zero_le, if_true]

end

theorem head0 (q u k v R) : k1_pay7 (F := Ideal) q u k v R = k1_pay14 q u (k1_pay2 k) (k1_pay3 v) R := rfl
theorem head0' (q u k R) : k1_pay8 (F := Ideal) q u k R = k1_pay15 q u (k1_pay2 k) R := rfl
theorem diag0 (x u k v) : k1_pay43 (F := Ideal) u k1_pay35 v k1_pay38 (k1_pay39 x k) (k1_pay40 x k) (k1_pay41 x k)
   = k1_pay49 u k1_pay35 v k1_pay45 (k1_pay46 (k1_pay32 x) (k1_pay36 k)) (k1_pay47 (k1_pay32 x) (k1_pay36 k)) (FloatOps.ofBits FTy.f32 0#32) := rfl
theorem diag0' (x u k) : k1_pay44 (F := Ideal) u k1_pay35 k1_pay38 (k1_pay40 x k) (k1_pay41 x k)
   = k1_pay50 u k1_pay35 k1_pay45 (k1_pay47 (k1_pay32 x) (k1_pay36 k)) (FloatOps.ofBits FTy.f32 0#32) := rfl
end Cert.KernelIdeal.Block
end
-- ==== Proof.AttnLoop.lean ====
/- The stick-breaking kernel's two running buffers, per head: what a trip of its loop over earlier key blocks writes there, and
   what the buffers hold after any number of trips. -/
module

public import proofs.«01_k».proof.Proof.Gen.KernelIdeal.Frame.Region1
public import Idealize.ShloMosaic.Lib.Pipeline.ValueKit
public import Idealize.ShloMosaic.Lib.Claim
public import Idealize.ShloMosaic.Lib.WritesUnit
public import proofs.«01_k».proof.Proof.AttnBlock

@[expose] public section

set_option maxRecDepth 16384

noncomputable section

namespace Cert.KernelIdeal.Trips

open Idealize.ShloMosaic Idealize.ShloMosaic.TcCoe Idealize.SL.Sem
open Idealize.ShloMosaic.Pipeline (Dat)
open Cert.KernelIdeal Cert.KernelIdeal.Gen

open Cert.Stick Cert.KernelIdeal.Block

/-! ### Payloads that only reshape or add -/

theorem pay9_at (a : FVec Ideal S256x128 .f32) (x : Vec Ideal S1x256x128 .f32) (r : Fin 256) (l : Fin 128) :
    k1_pay9 (F := Ideal) a x (ix3 0 r l) = x (ix3 0 r l) + a (ix2 r l) := by pointwise [k1_pay9]
theorem pay51_at (a : FVec Ideal S256x128 .f32) (x : Vec Ideal S1x256x128 .f32) (r : Fin 256) (l : Fin 128) :
    k1_pay51 (F := Ideal) a x (ix3 0 r l) = x (ix3 0 r l) + a (ix2 r l) := by pointwise [k1_pay51]
theorem pay10_at (a : FVec Ideal S256x1 .f32) (r : Fin 256) : k1_pay10 (F := Ideal) a (ix3 0 r 0) = a (ix2 r 0) := by pointwise [k1_pay10]
theorem pay52_at (a : FVec Ideal S256x1 .f32) (r : Fin 256) : k1_pay52 (F := Ideal) a (ix3 0 r 0) = a (ix2 r 0) := by pointwise [k1_pay52]
theorem pay2_at (x : Vec Ideal S1x256x128 .bf16) (r : Fin 256) (l : Fin 128) : k1_pay2 (F := Ideal) x (ix2 r l) = x (ix3 0 r l) := by pointwise [k1_pay2]
theorem pay3_at (x : Vec Ideal S1x256x128 .bf16) (r : Fin 256) (l : Fin 128) : k1_pay3 (F := Ideal) x (ix2 r l) = x (ix3 0 r l) := by pointwise [k1_pay3]

/-! ### The two buffers and their reads -/

/-- The head's part of the output buffer. -/
abbrev outRect0 : Rect S2x256x128 := Rect.unit (s := S2x256x128) ![0, 0, 0] S1x256x128.size inb_S2x256x128_S1x256x128_0_0_0
abbrev outRect1 : Rect S2x256x128 := Rect.unit (s := S2x256x128) ![1, 0, 0] S1x256x128.size inb_S2x256x128_S1x256x128_1_0_0
abbrev sumRect0 : Rect S2x256x1 := Rect.unit (s := S2x256x1) ![0, 0, 0] S1x256x1.size inb_S2x256x1_S1x256x1_0_0_0
abbrev sumRect1 : Rect S2x256x1 := Rect.unit (s := S2x256x1) ![1, 0, 0] S1x256x1.size inb_S2x256x1_S1x256x1_1_0_0

theorem outRect0_idx (r : Fin 256) (l : Fin 128) : outRect0.toLoadRect.idx (ix3 0 r l) = ix3 0 r l := by
  funext a; apply Fin.ext; fin_cases a <;> simp [LoadRect.idx, Rect.unit, Rect.toLoadRect]
theorem outRect1_idx (r : Fin 256) (l : Fin 128) : outRect1.toLoadRect.idx (ix3 0 r l) = ix3 1 r l := by
  funext a; apply Fin.ext; fin_cases a <;> simp [LoadRect.idx, Rect.unit, Rect.toLoadRect]
theorem sumRect0_idx (r : Fin 256) : sumRect0.toLoadRect.idx (ix3 0 r 0) = ix3 0 r 0 := by
  funext a; apply Fin.ext; fin_cases a <;> simp [LoadRect.idx, Rect.unit, Rect.toLoadRect]
theorem sumRect1_idx (r : Fin 256) : sumRect1.toLoadRect.idx (ix3 0 r 0) = ix3 1 r 0 := by
  funext a; apply Fin.ext; fin_cases a <;> simp [LoadRect.idx, Rect.unit, Rect.toLoadRect]

section

variable {sp : Space}

/-- One piece for each head of the output buffer, read back. -/
theorem out_pieces (v : View sig .tc sp S2x256x128 .f32) (f : BufTy.Contents (Elt Ideal) v.ty) (w1 w0 : Vec Ideal S1x256x128 .f32) (h : Fin 2)
    (r : Fin 256) (l : Fin 128) :
    v.read (Elt Ideal) (v.writes (Elt Ideal) f [⟨outRect1, w1⟩, ⟨outRect0, w0⟩]) (ix3 h r l) = if h = 1 then w1 (ix3 0 r l) else w0 (ix3 0 r l) := by
  fin_cases h
  · refine (View.read_writes_cons_unit_of_not_mem v f _ _ _ (ix3 0 r l) rfl 0 (Or.inl (show (0 : ℕ) < 1 by omega))).trans ?_
    exact View.read_writes_cons_unit_of_mem v f _ _ _ (ix3 0 r l) (ix3 0 r l) rfl fun a => by fin_cases a <;> simp
  · exact View.read_writes_cons_unit_of_mem v f _ _ _ (ix3 1 r l) (ix3 0 r l) rfl fun a => by fin_cases a <;> simp

/-- One piece for each head of the running sums, read back. -/
theorem sum_pieces (v : View sig .tc sp S2x256x1 .f32) (f : BufTy.Contents (Elt Ideal) v.ty) (w1 w0 : Vec Ideal S1x256x1 .f32) (h : Fin 2)
    (r : Fin 256) :
    v.read (Elt Ideal) (v.writes (Elt Ideal) f [⟨sumRect1, w1⟩, ⟨sumRect0, w0⟩]) (ix3 h r 0) = if h = 1 then w1 (ix3 0 r 0) else w0 (ix3 0 r 0) := by
  fin_cases h
  · refine (View.read_writes_cons_unit_of_not_mem v f _ _ _ (ix3 0 r 0) rfl 0 (Or.inl (show (0 : ℕ) < 1 by omega))).trans ?_
    exact View.read_writes_cons_unit_of_mem v f _ _ _ (ix3 0 r 0) (ix3 0 r 0) rfl fun a => by fin_cases a <;> simp
  · exact View.read_writes_cons_unit_of_mem v f _ _ _ (ix3 1 r 0) (ix3 0 r 0) rfl fun a => by fin_cases a <;> simp

end

/-- The buffers hold the output rows `A` and the running sums `ρ` of the two heads. -/
def Holds {a8 : Memref sig .tc .vmem S2x256x128 .f32} {a9 : Memref sig .tc .vmem S2x256x1 .f32} (f8 : BufTy.Contents (Elt Ideal) a8.view.ty)
    (f9 : BufTy.Contents (Elt Ideal) a9.view.ty) (A : Fin 2 → Fin 256 → Fin 128 → EReal) (ρ : Fin 2 → Fin 256 → ℝ) : Prop :=
  (∀ h r l, a8.view.read (Elt Ideal) f8 (ix3 h r l) = A h r l) ∧ ∀ h r, a9.view.read (Elt Ideal) f9 (ix3 h r 0) = (ρ h r : EReal)

/-! ### One trip -/

/-- The key rows, or value rows, that trip `k` loads. -/
abbrev loaded (i : grid1.Coords) (k : Fin (k1_t1_loop i).trips) : LoadRect S1x8192x128 :=
  (Rect.unit (s := S1x8192x128) (k1_off2 i k) S1x256x128.size (k1_off2_inb i k)).toLoadRect

theorem trip_out (𝒱 : Variants) (c : Dev nD) (bd : Option 𝒱.V) (i : grid1.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16) (v13 : FVec Ideal S256x256 .bf16) (v16 : IVec S256x256 1) (v24 : FVec Ideal S256x128 .bf16) (v64 : FVec Ideal S256x1 .f32) (v65 : FVec Ideal S256x256 .f32) (v77 : FVec Ideal S256x256 .f32) (cst_32 : Ideal .f32) (X_arg4 : BufTy.Contents (Elt Ideal) arg4.view.ty) (X_arg5 : BufTy.Contents (Elt Ideal) arg5.view.ty) (k : Fin (k1_t1_loop i).trips) (f8) (f9) :
    (trip_k1_t1 (F := Ideal) 𝒱 c bd i arg3 harg3 arg4 harg4 arg5 harg5 arg6 harg6 arg7 harg7 arg8 harg8 arg9 harg9 arg2 v2 v8 v11 v13 v16 v24 v64 v65 v77 cst_32 X_arg4 X_arg5 k).1 f8 f9
      = [⟨outRect1, k1_pay51 (k1_pay14 v11 v13 (k1_pay2 (arg4.view.readAt (Elt Ideal) (loaded i k) X_arg4)) (k1_pay3 (arg5.view.readAt (Elt Ideal) (loaded i k) X_arg5))
            (arg9.view.readAt (Elt Ideal) sumRect1.toLoadRect f9)) (arg8.view.readAt (Elt Ideal) outRect1.toLoadRect f8)⟩,
         ⟨outRect0, k1_pay9 (k1_pay14 v8 v13 (k1_pay2 (arg4.view.readAt (Elt Ideal) (loaded i k) X_arg4)) (k1_pay3 (arg5.view.readAt (Elt Ideal) (loaded i k) X_arg5))
            (arg9.view.readAt (Elt Ideal) sumRect0.toLoadRect f9)) (arg8.view.readAt (Elt Ideal) outRect0.toLoadRect f8)⟩] := by
  unfold trip_k1_t1
  rfl

theorem trip_sum (𝒱 : Variants) (c : Dev nD) (bd : Option 𝒱.V) (i : grid1.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16) (v13 : FVec Ideal S256x256 .bf16) (v16 : IVec S256x256 1) (v24 : FVec Ideal S256x128 .bf16) (v64 : FVec Ideal S256x1 .f32) (v65 : FVec Ideal S256x256 .f32) (v77 : FVec Ideal S256x256 .f32) (cst_32 : Ideal .f32) (X_arg4 : BufTy.Contents (Elt Ideal) arg4.view.ty) (X_arg5 : BufTy.Contents (Elt Ideal) arg5.view.ty) (k : Fin (k1_t1_loop i).trips) (f8) (f9) :
    (trip_k1_t1 (F := Ideal) 𝒱 c bd i arg3 harg3 arg4 harg4 arg5 harg5 arg6 harg6 arg7 harg7 arg8 harg8 arg9 harg9 arg2 v2 v8 v11 v13 v16 v24 v64 v65 v77 cst_32 X_arg4 X_arg5 k).2.1 f8 f9
      = [⟨sumRect1, k1_pay52 (k1_pay15 v11 v13 (k1_pay2 (arg4.view.readAt (Elt Ideal) (loaded i k) X_arg4)) (arg9.view.readAt (Elt Ideal) sumRect1.toLoadRect f9))⟩,
         ⟨sumRect0, k1_pay10 (k1_pay15 v8 v13 (k1_pay2 (arg4.view.readAt (Elt Ideal) (loaded i k) X_arg4)) (arg9.view.readAt (Elt Ideal) sumRect0.toLoadRect f9))⟩] := by
  unfold trip_k1_t1
  rfl

/-- The query rows of a head: the upper lanes masked away for the first, the lower ones for the second. -/
abbrev pick {α : Type} (x y : α) (h : Fin 2) : α := if h = 1 then y else x

section

variable (𝒱 : Variants) (c : Dev nD) (bd : Option 𝒱.V) (i : grid1.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16)  (v16 : IVec S256x256 1) (v24 : FVec Ideal S256x128 .bf16) (v64 : FVec Ideal S256x1 .f32) (v65 : FVec Ideal S256x256 .f32) (v77 : FVec Ideal S256x256 .f32) {u : FVec Ideal S256x256 .bf16} (cst_32 : Ideal .f32) (X_arg4 : BufTy.Contents (Elt Ideal) arg4.view.ty) (X_arg5 : BufTy.Contents (Elt Ideal) arg5.view.ty)

/-- One trip adds its block's weighted values to each output row, and its kept logarithms to each running sum. -/
theorem trip_holds (k : Fin (k1_t1_loop i).trips) (f8) (f9) (A : Fin 2 → Fin 256 → Fin 128 → EReal) (ρ : Fin 2 → Fin 256 → ℝ)
    (H : Holds (a8 := arg8) (a9 := arg9) f8 f9 A ρ) (n : Fin 2 → Fin 256 → Fin 256 → ℝ)
    (hn : ∀ h r s, score (pick v8 v11 h) (k1_pay2 (arg4.view.readAt (Elt Ideal) (loaded i k) X_arg4)) r s = (n h r s : EReal))
    (hu : ∀ a b : Fin 256, u (ix2 a b) = if b ≤ a then 1 else 0) :
    Holds (a8 := arg8) (a9 := arg9)
      (arg8.view.writes (Elt Ideal) f8 ((trip_k1_t1 (F := Ideal) 𝒱 c bd i arg3 harg3 arg4 harg4 arg5 harg5 arg6 harg6 arg7 harg7 arg8 harg8 arg9 harg9 arg2 v2 v8 v11 u v16 v24 v64 v65 v77 cst_32 X_arg4 X_arg5 k).1 f8 f9))
      (arg9.view.writes (Elt Ideal) f9 ((trip_k1_t1 (F := Ideal) 𝒱 c bd i arg3 harg3 arg4 harg4 arg5 harg5 arg6 harg6 arg7 harg7 arg8 harg8 arg9 harg9 arg2 v2 v8 v11 u v16 v24 v64 v65 v77 cst_32 X_arg4 X_arg5 k).2.1 f8 f9))
      (fun h r l => A h r l + ∑ s : Fin 256, (((2 : ℝ) ^ ((∑ x, if s ≤ x then logKeep (n h r x) else 0) + ρ h r - n h r s) : ℝ) : EReal)
        * arg5.view.readAt (Elt Ideal) (loaded i k) X_arg5 (ix3 0 s l))
      (fun h r => ρ h r + ∑ x, logKeep (n h r x)) := by
  obtain ⟨HA, Hρ⟩ := H
  have h0 : ∀ r, arg9.view.readAt (Elt Ideal) sumRect0.toLoadRect f9 (ix3 0 r 0) = (ρ 0 r : EReal) := fun r => by
    rw [View.readAt_apply, sumRect0_idx]; exact Hρ 0 r
  have h1 : ∀ r, arg9.view.readAt (Elt Ideal) sumRect1.toLoadRect f9 (ix3 0 r 0) = (ρ 1 r : EReal) := fun r => by
    rw [View.readAt_apply, sumRect1_idx]; exact Hρ 1 r
  have g0 : ∀ r l, arg8.view.readAt (Elt Ideal) outRect0.toLoadRect f8 (ix3 0 r l) = A 0 r l := fun r l => by
    rw [View.readAt_apply, outRect0_idx]; exact HA 0 r l
  have g1 : ∀ r l, arg8.view.readAt (Elt Ideal) outRect1.toLoadRect f8 (ix3 0 r l) = A 1 r l := fun r l => by
    rw [View.readAt_apply, outRect1_idx]; exact HA 1 r l
  rw [trip_out, trip_sum]
  refine ⟨fun h r l => (out_pieces _ _ _ _ h r l).trans ?_, fun h r => (sum_pieces _ _ _ _ h r).trans ?_⟩
  · fin_cases h
    · refine (pay9_at _ _ r l).trans ?_
      rw [g0, pay14_at (q := v8) (n := n 0) (hn 0) hu _ _ (ρ 0) h0]
      simp only [pay3_at]
      rfl
    · refine (pay51_at _ _ r l).trans ?_
      rw [g1, pay14_at (q := v11) (n := n 1) (hn 1) hu _ _ (ρ 1) h1]
      simp only [pay3_at]
      rfl
  · fin_cases h
    · exact (pay10_at _ r).trans (pay15_at (q := v8) (n := n 0) (hn 0) hu _ (ρ 0) h0 r)
    · exact (pay52_at _ r).trans (pay15_at (q := v11) (n := n 1) (hn 1) hu _ (ρ 1) h1 r)

end

/-! ### All trips -/

theorem trips_eq : ∀ i : grid1.Coords, (k1_t1_loop i).trips = (i 2).val := by decide +kernel

theorem off2_eq : ∀ (i : grid1.Coords) (k : Fin (k1_t1_loop i).trips), k1_off2 i k = ![0, ((i 2).val - 1 - k.val) * 256, 0] := by decide +kernel

/-- The row of the whole key sequence that row `s` of trip `k`'s block is. -/
theorem loaded_idx (i : grid1.Coords) (k : Fin (k1_t1_loop i).trips) (s : Fin 256) (l : Fin 128) (hs : ((i 2).val - 1 - k.val) * 256 + s.val < 8192) :
    (loaded i k).idx (ix3 0 s l) = ix3 0 ⟨((i 2).val - 1 - k.val) * 256 + s.val, hs⟩ l := by
  funext a; apply Fin.ext
  fin_cases a <;> simp [LoadRect.idx, Rect.unit, Rect.toLoadRect, off2_eq]

/-- The running sum of query row `r` of block `b`, over the keys from position `a` to the query's. -/
def runSum (N : ℕ → ℝ) (b a : ℕ) (r : Fin 256) : ℝ := ∑ w ∈ Finset.Ico a (b * 256 + r.val), logKeep (N w)

/-- The output row of query row `r` of block `b`, over the keys from position `a` to the end of the query's own block. -/
def runOut (N : ℕ → ℝ) (V : ℕ → EReal) (b a : ℕ) (r : Fin 256) : EReal :=
  ∑ s ∈ Finset.Ico a (b * 256 + 256), (weight N (b * 256 + r.val) s : EReal) * V s

theorem runSum_step (N : ℕ → ℝ) (b a : ℕ) (r : Fin 256) (h : a + 256 ≤ b * 256) :
    runSum N b (a + 256) r + ∑ x : Fin 256, logKeep (N (a + x.val)) = runSum N b a r := by
  rw [sum_block (fun w => logKeep (N w)), add_comm]
  exact Finset.sum_Ico_consecutive _ (by omega) (by omega)

theorem runOut_step (N : ℕ → ℝ) (V : ℕ → EReal) (b a : ℕ) (r : Fin 256) (h : a + 256 ≤ b * 256) :
    runOut N V b (a + 256) r + ∑ s : Fin 256, (((2 : ℝ) ^ ((∑ x : Fin 256, if s ≤ x then logKeep (N (a + x.val)) else 0) + runSum N b (a + 256) r - N (a + s.val)) : ℝ) : EReal) * V (a + s.val)
      = runOut N V b a r := by
  have e : ∀ s : Fin 256, (2 : ℝ) ^ ((∑ x : Fin 256, if s ≤ x then logKeep (N (a + x.val)) else 0) + runSum N b (a + 256) r - N (a + s.val)) = weight N (b * 256 + r.val) (a + s.val) := fun s => by
    have hs := s.isLt
    rw [sum_block_from (fun w => logKeep (N w)), runSum, Finset.sum_Ico_consecutive _ (by omega) (by omega), weight, if_pos (by omega)]
  simp only [e]
  rw [sum_block (fun s => (weight N (b * 256 + r.val) s : EReal) * V s), add_comm]
  exact Finset.sum_Ico_consecutive _ (by omega) (by omega)

section

variable (𝒱 : Variants) (c : Dev nD) (bd : Option 𝒱.V) (i : grid1.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16) (v16 : IVec S256x256 1) (v24 : FVec Ideal S256x128 .bf16) (v64 : FVec Ideal S256x1 .f32) (v65 : FVec Ideal S256x256 .f32) (v77 : FVec Ideal S256x256 .f32) {u : FVec Ideal S256x256 .bf16} (cst_32 : Ideal .f32) (X_arg4 : BufTy.Contents (Elt Ideal) arg4.view.ty) (X_arg5 : BufTy.Contents (Elt Ideal) arg5.view.ty)

/-- After `k` trips the buffers hold the rows and sums over the last `k` earlier blocks and the query's own. -/
theorem trips_hold (f8) (f9) (N : Fin 2 → Fin 256 → ℕ → ℝ) (V : ℕ → Fin 128 → EReal)
    (hN : ∀ h r (s : Fin 8192), ∑ l : Fin 128, pick v8 v11 h (ix2 r l) * arg4.view.read (Elt Ideal) X_arg4 (ix3 0 s l) = (N h r s.val : EReal))
    (hV : ∀ (s : Fin 8192) l, arg5.view.read (Elt Ideal) X_arg5 (ix3 0 s l) = V s.val l)
    (hu : ∀ a b : Fin 256, u (ix2 a b) = if b ≤ a then 1 else 0)
    (H : Holds (a8 := arg8) (a9 := arg9) f8 f9 (fun h r l => runOut (N h r) (fun s => V s l) (i 2).val ((i 2).val * 256) r)
      (fun h r => runSum (N h r) (i 2).val ((i 2).val * 256) r)) :
    ∀ k, k ≤ (i 2).val → Holds (a8 := arg8) (a9 := arg9)
      (arg8.view.writes (Elt Ideal) f8 (pb_k1_t1 (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 k).1)
      (arg9.view.writes (Elt Ideal) f9 (pb_k1_t1 (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 k).2)
      (fun h r l => runOut (N h r) (fun s => V s l) (i 2).val (((i 2).val - k) * 256) r)
      (fun h r => runSum (N h r) (i 2).val (((i 2).val - k) * 256) r)
  | 0, _ => H
  | k + 1, hk => by
    have ih := trips_hold f8 f9 N V hN hV hu H k (by omega)
    have hi : (i 2).val < 32 := (i 2).isLt
    have hkt : k < (k1_t1_loop i).trips := by rw [trips_eq]; omega
    have hs : ∀ s : Fin 256, ((i 2).val - 1 - k) * 256 + s.val < 8192 := fun s => by have := s.isLt; omega
    have ha : ((i 2).val - k) * 256 = ((i 2).val - 1 - k) * 256 + 256 := by omega
    have ha' : ((i 2).val - (k + 1)) * 256 = ((i 2).val - 1 - k) * 256 := by omega
    have hsucc := pb_k1_t1_succ (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 ⟨k, hkt⟩
    rw [show k + 1 = (⟨k, hkt⟩ : Fin (k1_t1_loop i).trips).val + 1 from rfl, hsucc]
    simp only [View.writes_append]
    have hstep := trip_holds 𝒱 c bd i arg3 harg3 arg4 harg4 arg5 harg5 arg6 harg6 arg7 harg7 arg8 harg8 arg9 harg9 arg2 v2 v8 v11 v16 v24 v64 v65 v77 cst_32 X_arg4 X_arg5 ⟨k, hkt⟩ _ _ _ _ ih (fun h r s => N h r (((i 2).val - 1 - k) * 256 + s.val))
      (fun h r s => by
        refine Eq.trans ?_ (hN h r ⟨_, hs s⟩)
        refine Finset.sum_congr rfl fun l _ => ?_
        rw [pay2_at, View.readAt_apply, loaded_idx i ⟨k, hkt⟩ s l (hs s)]) hu
    refine ⟨fun h r l => (hstep.1 h r l).trans ?_, fun h r => (hstep.2 h r).trans ?_⟩
    · simp only [View.readAt_apply, loaded_idx i ⟨k, hkt⟩ _ l (hs _), hV, ha, ha']
      exact runOut_step (N h r) (fun s => V s l) _ _ r (by omega)
    · simp only [ha, ha']
      exact congrArg _ (runSum_step (N h r) _ _ r (by omega))

/-- After the last trip the output buffer holds the rows over every key up to the query's own block. -/
theorem trips_hold_all (f8) (f9) (N : Fin 2 → Fin 256 → ℕ → ℝ) (V : ℕ → Fin 128 → EReal)
    (hN : ∀ h r (s : Fin 8192), ∑ l : Fin 128, pick v8 v11 h (ix2 r l) * arg4.view.read (Elt Ideal) X_arg4 (ix3 0 s l) = (N h r s.val : EReal))
    (hV : ∀ (s : Fin 8192) l, arg5.view.read (Elt Ideal) X_arg5 (ix3 0 s l) = V s.val l)
    (hu : ∀ a b : Fin 256, u (ix2 a b) = if b ≤ a then 1 else 0)
    (H : Holds (a8 := arg8) (a9 := arg9) f8 f9 (fun h r l => runOut (N h r) (fun s => V s l) (i 2).val ((i 2).val * 256) r)
      (fun h r => runSum (N h r) (i 2).val ((i 2).val * 256) r)) (k : ℕ) (hk : k = (i 2).val) (h : Fin 2) (r : Fin 256) (l : Fin 128) :
    arg8.view.read (Elt Ideal) (arg8.view.writes (Elt Ideal) f8 (pb_k1_t1 (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 k).1) (ix3 h r l)
      = runOut (N h r) (fun s => V s l) (i 2).val 0 r := by
  have h0 := (trips_hold 𝒱 c bd i arg3 harg3 arg4 harg4 arg5 harg5 arg6 harg6 arg7 harg7 arg8 harg8 arg9 harg9 arg2 v2 v8 v11 v16 v24 v64 v65 v77 cst_32 X_arg4 X_arg5 f8 f9 N V hN hV hu H k hk.le).1 h r l
  rw [h0, hk, Nat.sub_self, Nat.zero_mul]

end

/-! ### The query's own block -/

theorem pay36_at (x : Vec Ideal S1x256x128 .bf16) (r : Fin 256) (l : Fin 128) : k1_pay36 (F := Ideal) x (ix2 r l) = x (ix3 0 r l) := by pointwise [k1_pay36]
theorem pay37_at (x : Vec Ideal S1x256x128 .bf16) (r : Fin 256) (l : Fin 128) : k1_pay37 (F := Ideal) x (ix2 r l) = x (ix3 0 r l) := by pointwise [k1_pay37]

theorem runSum_own (N : ℕ → ℝ) (b : ℕ) (r : Fin 256) :
    (∑ x : Fin 256, if x < r then logKeep (N (b * 256 + x.val)) else 0) = runSum N b (b * 256) r := by
  have h := sum_block_between (fun w => logKeep (N w)) (b * 256) 256 0 r
  simpa [runSum] using h

theorem runOut_own (N : ℕ → ℝ) (V : ℕ → EReal) (b : ℕ) (r : Fin 256) :
    ∑ s : Fin 256, ((if s < r then (2 : ℝ) ^ ((∑ x : Fin 256, if s ≤ x then (if x < r then logKeep (N (b * 256 + x.val)) else 0) else 0) - N (b * 256 + s.val)) else 0 : ℝ) : EReal) * V (b * 256 + s.val)
      = runOut N V b (b * 256) r := by
  have e : ∀ s : Fin 256, (if s < r then (2 : ℝ) ^ ((∑ x : Fin 256, if s ≤ x then (if x < r then logKeep (N (b * 256 + x.val)) else 0) else 0) - N (b * 256 + s.val)) else 0)
      = weight N (b * 256 + r.val) (b * 256 + s.val) := fun s => by
    rw [sum_block_between (fun w => logKeep (N w)), weight]
    simp only [add_lt_add_iff_left, Fin.val_fin_lt]
  simp only [e]
  exact sum_block (fun s => (weight N (b * 256 + r.val) s : EReal) * V s) (b * 256) 256

/-- The query's own block gives each head's row its weighted values before the query, and its running sum. -/
theorem own_holds {a8 : Memref sig .tc .vmem S2x256x128 .f32} {a9 : Memref sig .tc .vmem S2x256x1 .f32} (f8 : BufTy.Contents (Elt Ideal) a8.view.ty)
    (f9 : BufTy.Contents (Elt Ideal) a9.view.ty) (x kk vv : Vec Ideal S1x256x128 .bf16) (u : Vec Ideal S256x256 .bf16) (b : ℕ)
    (N : Fin 2 → Fin 256 → ℕ → ℝ) (V : ℕ → Fin 128 → EReal)
    (hN : ∀ h r (s : Fin 256), score (pick (k1_pay32 (F := Ideal) x) (k1_pay33 x) h) (k1_pay36 kk) r s = (N h r (b * 256 + s.val) : EReal))
    (hV : ∀ (s : Fin 256) l, vv (ix3 0 s l) = V (b * 256 + s.val) l)
    (hu : ∀ a b : Fin 256, u (ix2 a b) = if b ≤ a then 1 else 0) :
    Holds (a8 := a8) (a9 := a9)
      (a8.view.writes (Elt Ideal) f8
        [⟨outRect1, k1_pay49 (F := Ideal) u k1_pay35 (k1_pay37 vv) k1_pay45 (k1_pay46 (k1_pay33 x) (k1_pay36 kk)) (k1_pay47 (k1_pay33 x) (k1_pay36 kk)) (FloatOps.ofBits FTy.f32 0#32)⟩,
         ⟨outRect0, k1_pay43 (F := Ideal) u k1_pay35 (k1_pay37 vv) k1_pay38 (k1_pay39 x kk) (k1_pay40 x kk) (k1_pay41 x kk)⟩])
      (a9.view.writes (Elt Ideal) f9
        [⟨sumRect1, k1_pay50 (F := Ideal) u k1_pay35 k1_pay45 (k1_pay47 (k1_pay33 x) (k1_pay36 kk)) (FloatOps.ofBits FTy.f32 0#32)⟩,
         ⟨sumRect0, k1_pay44 (F := Ideal) u k1_pay35 k1_pay38 (k1_pay40 x kk) (k1_pay41 x kk)⟩])
      (fun h r l => runOut (N h r) (fun s => V s l) b (b * 256) r)
      (fun h r => runSum (N h r) b (b * 256) r) := by
  refine ⟨fun h r l => (out_pieces _ _ _ _ h r l).trans ?_, fun h r => (sum_pieces _ _ _ _ h r).trans ?_⟩
  · fin_cases h
    · refine (congrFun (diag0 x u kk (k1_pay37 vv)) (ix3 0 r l)).trans ((pay49_at (n := fun r s => N 0 r (b * 256 + s.val)) (hN 0) hu _ r l).trans ?_)
      simp only [pay37_at, hV]
      exact runOut_own (N 0 r) (fun s => V s l) b r
    · refine (pay49_at (q := k1_pay33 x) (n := fun r s => N 1 r (b * 256 + s.val)) (hN 1) hu _ r l).trans ?_
      simp only [pay37_at, hV]
      exact runOut_own (N 1 r) (fun s => V s l) b r
  · fin_cases h
    · refine (congrFun (diag0' x u kk) (ix3 0 r 0)).trans ((pay50_at (n := fun r s => N 0 r (b * 256 + s.val)) (hN 0) hu r).trans ?_)
      exact congrArg _ (runSum_own (N 0 r) b r)
    · refine (pay50_at (q := k1_pay33 x) (n := fun r s => N 1 r (b * 256 + s.val)) (hN 1) hu r).trans ?_
      exact congrArg _ (runSum_own (N 1 r) b r)

/-! ### The masked query rows and the last selection -/

theorem lane_low : ∀ l : Fin 128, IntOp.cmpi CmpIPredicate.slt (BitVec.ofNat 32 l.val) 64#32 = if l.val < 64 then 1 else 0 := by decide

theorem select_low (l : Fin 128) (a b : EReal) :
    Scalar.select (IntOp.cmpi CmpIPredicate.slt (BitVec.ofNat 32 l.val) 64#32) a b = if l.val < 64 then a else b := by
  rw [lane_low]
  by_cases h : l.val < 64
  · rw [if_pos h, if_pos h]; rfl
  · rw [if_neg h, if_neg h]; rfl

theorem pay32_at (x : Vec Ideal S1x256x128 .bf16) (r : Fin 256) (l : Fin 128) :
    k1_pay32 (F := Ideal) x (ix2 r l) = if l.val < 64 then x (ix3 0 r l) else 0 := by
  pointwise [k1_pay32, k1_pay30, k1_pay31]
  exact select_low l _ _
theorem pay33_at (x : Vec Ideal S1x256x128 .bf16) (r : Fin 256) (l : Fin 128) :
    k1_pay33 (F := Ideal) x (ix2 r l) = if l.val < 64 then 0 else x (ix3 0 r l) := by
  pointwise [k1_pay33, k1_pay30, k1_pay31]
  exact select_low l _ _
theorem pay55_at (x y : Vec Ideal S1x256x128 .f32) (r : Fin 256) (l : Fin 128) :
    k1_pay1 (k1_pay55 (F := Ideal) k1_pay30 x y) (ix3 0 r l) = if l.val < 64 then x (ix3 0 r l) else y (ix3 0 r l) := by
  pointwise [k1_pay1, k1_pay55, k1_pay30]
  exact select_low l _ _
theorem pay34_at (x : Vec Ideal S256x256 .bf16) (r s : Fin 256) : k1_pay34 (F := Ideal) x (ix2 r s) = x (ix2 r s) := by
  pointwise [k1_pay34]

/-- A query row masked to a head's lanes meets only that head's 64 lanes of a key row. -/
theorem masked_sum (x : Vec Ideal S1x256x128 .bf16) (h : Fin 2) (r : Fin 256) (K : Fin 128 → EReal) :
    ∑ l : Fin 128, pick (k1_pay32 (F := Ideal) x) (k1_pay33 x) h (ix2 r l) * K l
      = ∑ d : Fin 64, x (ix3 0 r ⟨h.val * 64 + d.val, by have := h.isLt; have := d.isLt; omega⟩) * K ⟨h.val * 64 + d.val, by have := h.isLt; have := d.isLt; omega⟩ := by
  have hsplit : ∀ f : Fin 128 → EReal, ∑ l : Fin 128, f l = ∑ d : Fin 64, f ⟨d.val, by have := d.isLt; omega⟩ + ∑ d : Fin 64, f ⟨64 + d.val, by have := d.isLt; omega⟩ :=
    fun f => Fin.sum_univ_add (a := 64) (b := 64) f
  rw [hsplit]
  fin_cases h
  · simp [show pick (k1_pay32 (F := Ideal) x) (k1_pay33 x) 0 = k1_pay32 x from rfl, pay32_at]
  · simp [show pick (k1_pay32 (F := Ideal) x) (k1_pay33 x) 1 = k1_pay33 x from rfl, pay33_at]

end Cert.KernelIdeal.Trips
end
-- ==== Proof.AttnValue.lean ====
/- What the attention call leaves in its result array, as a function of what its argument array holds. -/
module

public import proofs.«01_k».proof.Proof.Gen.KernelIdeal.Frame.Region1
public import Idealize.ShloMosaic.Lib.Pipeline.ValueKit
public import Idealize.ShloMosaic.Lib.Claim
public import Idealize.ShloMosaic.Lib.LoopRemainder
public import proofs.«01_k».proof.Proof.AttnLoop
public import proofs.«01_k».proof.Proof.AttnSpec

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

open Cert.Stick Cert.KernelIdeal.Block Cert.KernelIdeal.Trips

/-- Which block each window has at point `t`. -/
theorem places : ∀ t : Fin cfg1.N, win1_0.index t = ![t.val / 128, t.val % 32, t.val / 32 % 4] ∧ win1_1.index t = ![t.val / 128, 0, 4 + t.val / 32 % 4] ∧ win1_2.index t = ![t.val / 128, 0, 8 + t.val / 32 % 4]
    ∧ win1_3.index t = ![0, 0] ∧ win1_4.index t = ![t.val / 128, t.val % 32, t.val / 32 % 4] ∧ (cfg1.grid.coords t 2).val = t.val % 32 :=
  (by decide +kernel : ∀ t : Fin grid1.N, _)

/-- The argument array by its coordinates. -/
def argAt (c : Dev nD) (b : Fin 2) (t : Fin 8192) (j : Fin 1536) : EReal := V c main_v5 (ix3 b t j)

/-- A load of the output buffer after three runs of stores, the newest of them none. -/
theorem cov_read {e : EltTy} {S : Shape} (v : View sig .tc .vmem S e) [∀ e, Nonempty (Elt Ideal e)] (L2 P1 L0 : List (View.Piece (Elt Ideal) S e))
    (B : LoadRect S) (j : B.shape.Idx) (y : S.Idx) (h2 : L2 = []) (hy : B.idx j = y) :
    v.readCov (L2 ++ (P1 ++ L0)) B j = v.read (Elt Ideal) (v.writes (Elt Ideal) (v.writes (Elt Ideal) v.junk L0) P1) y := by
  subst h2 hy
  rw [← View.writes_append]
  rfl

/-- The output row over every key: those at or after the query weigh nothing. -/
theorem runOut_all (N : ℕ → ℝ) (W : Fin 8192 → EReal) (V : ℕ → EReal) (hV : ∀ s : Fin 8192, V s.val = W s) (b : ℕ) (hb : b < 32) (r : Fin 256) :
    runOut N V b 0 r = ∑ s : Fin 8192, (weight N (b * 256 + r.val) s.val : EReal) * W s := by
  have h := sum_block (fun s => (weight N (b * 256 + r.val) s : EReal) * V s) 0 8192
  simp only [Nat.zero_add, hV] at h
  rw [h]
  refine Finset.sum_subset (fun s hs => ?_) fun s _ hs => ?_
  · rw [Finset.mem_Ico] at hs ⊢; omega
  · have hr := r.isLt
    rw [Finset.mem_Ico] at hs
    rw [weight, if_neg (by omega), EReal.coe_zero, zero_mul]

/-- A selection by lane, its two sides rewritten. -/
theorem low_congr (l : Fin 128) {x y x' y' : EReal} (hx : x = x') (hy : y = y') : (if l.val < 64 then x else y) = if l.val < 64 then x' else y' := by
  rw [hx, hy]

/-- The value columns by position. -/
def valAt (X : Fin 2 → Fin 8192 → Fin 1536 → EReal) (b : Fin 2) (e : Fin 512) (s : ℕ) : EReal :=
  if hs : s < 8192 then X b ⟨s, hs⟩ ⟨1024 + e.val, by have := e.isLt; omega⟩ else 0

/-- The result array after the run, where the queries and keys are real and the fourth array holds ones on and below the diagonal. -/
theorem attn_final (c : Dev nD) (hX : RealQK (argAt V c)) (hT : ∀ a b : Fin 256, V c main_v8 (ix2 a b) = if b ≤ a then (1 : EReal) else 0) : (dat1 V c).arrAt 4 cfg1.N
    = fun y : S2x8192x512.Idx => attnAt (argAt V c) (y 0) (y 1) (y 2) := by
  refine (dat1 V c).arrAt_eq_of_covers 4 _ (by decide +kernel) fun t _ y => ?_
  blk_simp
  rw [after1_4, outsAt1]
  frame_out
  obtain ⟨r, l, hy⟩ : ∃ (r : Fin 256) (l : Fin 128), y = (ix3 0 r l : S1x256x128.Idx) := ⟨y 1, y 2, by
    have h := eq_ix3 (n0 := 1) (n1 := 256) (n2 := 128) y
    rw [h]; congr 1; exact Subsingleton.elim _ _⟩
  subst hy
  have ht : t.val < 256 := lt_of_lt_of_eq t.isLt N_1
  obtain ⟨b, hb⟩ : ∃ b : Fin 2, b.val = t.val / 128 := ⟨⟨t.val / 128, by omega⟩, rfl⟩
  obtain ⟨p, hp⟩ : ∃ p : Fin 4, p.val = t.val / 32 % 4 := ⟨⟨t.val / 32 % 4, by omega⟩, rfl⟩
  obtain ⟨i, hi⟩ : ∃ i : Fin 32, i.val = t.val % 32 := ⟨⟨t.val % 32, by omega⟩, rfl⟩
  have hco : (grid1.coords t 2).val = i.val := (places t).2.2.2.2.2.trans hi.symm
  have hq : ∀ (r : Fin 256) (l : Fin 128), iblk1 V c 0 t (ix3 0 r l : S1x256x128.Idx)
      = argAt V c b ⟨i.val * 256 + r.val, by omega⟩ ⟨p.val * 128 + l.val, by omega⟩ := fun r l => by
    unfold argAt
    blk_point [iblk1, places t]
  have hk : ∀ (s : Fin 8192) (l : Fin 128), iblk1 V c 1 t (ix3 0 s l : S1x8192x128.Idx)
      = argAt V c b s ⟨512 + (p.val * 128 + l.val), by omega⟩ := fun s l => by
    unfold argAt
    blk_point [iblk1, places t]
  have hv : ∀ (s : Fin 8192) (l : Fin 128), iblk1 V c 2 t (ix3 0 s l : S1x8192x128.Idx)
      = argAt V c b s ⟨1024 + (p.val * 128 + l.val), by omega⟩ := fun s l => by
    unfold argAt
    blk_point [iblk1, places t]
  have hV : ∀ (s : Fin 8192) (l : Fin 128), iblk1 V c 2 t (ix3 0 s l : S1x8192x128.Idx) = valAt (argAt V c) b ⟨p.val * 128 + l.val, by omega⟩ s.val := fun s l => by
    rw [hv, valAt, dif_pos s.isLt]
  have hu : ∀ a b : Fin 256, k1_pay34 (F := Ideal) (iblk1 V c 3 t) (ix2 a b) = if b ≤ a then 1 else 0 := fun a b => by
    rw [pay34_at]
    refine Eq.trans ?_ (hT a b)
    blk_point [iblk1, places t]
  have hN : ∀ (h : Fin 2) (r : Fin 256) (s : Fin 8192),
      ∑ l : Fin 128, pick (k1_pay32 (F := Ideal) (iblk1 V c 0 t)) (k1_pay33 (iblk1 V c 0 t)) h (ix2 r l) * iblk1 V c 1 t (ix3 0 s l : S1x8192x128.Idx)
        = (expo (argAt V c) b ⟨p.val * 2 + h.val, by omega⟩ ⟨i.val * 256 + r.val, by omega⟩ s.val : EReal) := fun h r s => by
    rw [masked_sum (iblk1 V c 0 t) h r fun l => iblk1 V c 1 t (ix3 0 s l : S1x8192x128.Idx), ← score_real hX]
    unfold scoreAt
    refine Finset.sum_congr rfl fun d _ => ?_
    rw [hq, hk]
    congr 3 <;> simp only [Fin.mk.injEq] <;> omega
  have hrow : ∀ s : Fin 256, (grid1.coords t 2).val * 256 + s.val < 8192 := fun s => by rw [hco]; omega
  have hld : ∀ (w : Vec Ideal S1x8192x128 .bf16) (s : Fin 256) (l : Fin 128),
      View.ld w (Rect.unit (s := S1x8192x128) (k1_off1 (grid1.coords t)) S1x256x128.size (k1_off1_inb (grid1.coords t))) (ix3 0 s l)
        = w (ix3 0 ⟨(grid1.coords t 2).val * 256 + s.val, hrow s⟩ l) := fun w s l =>
    congrArg w (by
      funext a; apply Fin.ext
      fin_cases a <;> simp [LoadRect.idx, Rect.unit, Rect.toLoadRect, k1_off1_eq, Nat.mul_comm])
  have hown : ∀ (a8 : Memref sig .tc .vmem S2x256x128 .f32) (a9 : Memref sig .tc .vmem S2x256x1 .f32) f8 f9, _ := fun a8 a9 f8 f9 =>
    own_holds (a8 := a8) (a9 := a9) f8 f9 (iblk1 V c 0 t)
      (View.ld (iblk1 V c 1 t) (Rect.unit (s := S1x8192x128) (k1_off1 (grid1.coords t)) S1x256x128.size (k1_off1_inb (grid1.coords t))))
      (View.ld (iblk1 V c 2 t) (Rect.unit (s := S1x8192x128) (k1_off1 (grid1.coords t)) S1x256x128.size (k1_off1_inb (grid1.coords t))))
      (k1_pay34 (iblk1 V c 3 t)) (grid1.coords t 2).val
      (fun h r s => expo (argAt V c) b ⟨p.val * 2 + h.val, by omega⟩ ⟨i.val * 256 + r.val, by omega⟩ s)
      (fun s l => valAt (argAt V c) b ⟨p.val * 128 + l.val, by omega⟩ s)
      (fun h r s => by
        unfold score
        refine Eq.trans (Finset.sum_congr rfl fun l _ => ?_) (hN h r ⟨_, hrow s⟩)
        rw [pay36_at, hld])
      (fun s l => by
        rw [hld]
        exact hV ⟨_, hrow s⟩ l) hu
  refine (pay55_at _ _ r l).trans ?_
  refine (low_congr l (cov_read _ _ _ _ _ _ (ix3 0 r l) ?_ (outRect0_idx r l)) (cov_read _ _ _ _ _ _ (ix3 1 r l) ?_ (outRect1_idx r l))).trans ?_
  · rw [Scf.rem_trips]; rfl
  · rw [Scf.rem_trips]; rfl
  refine (low_congr l
    (trips_hold_all Variants.none c none (grid1.coords t) (ms1_0 t) _ (ms1_1 t) _ (ms1_2 t) _ (ms1_3 t) _ (ms1_4 t) _ scM1_0 _ scM1_1 _ _ _ _ _ _ _ _ _ _ _ _ _ _ _
        (fun h r s => expo (argAt V c) b ⟨p.val * 2 + h.val, by omega⟩ ⟨i.val * 256 + r.val, by omega⟩ s)
        (fun s l => valAt (argAt V c) b ⟨p.val * 128 + l.val, by omega⟩ s)
        ?_ ?_ hu ?_ _ (trips_eq _) 0 r l)
    (trips_hold_all Variants.none c none (grid1.coords t) (ms1_0 t) _ (ms1_1 t) _ (ms1_2 t) _ (ms1_3 t) _ (ms1_4 t) _ scM1_0 _ scM1_1 _ _ _ _ _ _ _ _ _ _ _ _ _ _ _
        (fun h r s => expo (argAt V c) b ⟨p.val * 2 + h.val, by omega⟩ ⟨i.val * 256 + r.val, by omega⟩ s)
        (fun s l => valAt (argAt V c) b ⟨p.val * 128 + l.val, by omega⟩ s)
        ?_ ?_ hu ?_ _ (trips_eq _) 1 r l)).trans ?_
  · intro h r s
    refine Eq.trans (Finset.sum_congr rfl fun l _ => ?_) (hN h r s)
    rw [Memref.IsWhole.read_unread]
  · intro s l
    rw [Memref.IsWhole.read_unread]
    exact hV s l
  · exact hown scM1_0 scM1_1 _ _
  · intro h r s
    refine Eq.trans (Finset.sum_congr rfl fun l _ => ?_) (hN h r s)
    rw [Memref.IsWhole.read_unread]
  · intro s l
    rw [Memref.IsWhole.read_unread]
    exact hV s l
  · exact hown scM1_0 scM1_1 _ _
  have e : ((cfg1.win 4).blk t).view.emb (ix3 0 r l : S1x256x128.Idx)
      = (ix3 b ⟨i.val * 256 + r.val, by omega⟩ ⟨p.val * 128 + l.val, by omega⟩ : S2x8192x512.Idx) := by
    blk_ext [places t]
  refine Eq.trans ?_ (congrArg (fun y : S2x8192x512.Idx => attnAt (argAt V c) (y 0) (y 1) (y 2)) e).symm
  have hW : ∀ s : Fin 8192, valAt (argAt V c) b ⟨p.val * 128 + l.val, by omega⟩ s.val = argAt V c b s ⟨1024 + (p.val * 128 + l.val), by omega⟩ := fun s => by
    rw [valAt, dif_pos s.isLt]
  rw [runOut_all _ _ _ hW _ (by rw [hco]; exact i.isLt), runOut_all _ _ _ hW _ (by rw [hco]; exact i.isLt)]
  rw [hco]
  by_cases hl : l.val < 64
  · rw [if_pos hl]
    refine Finset.sum_congr rfl fun s _ => ?_
    congr 5
    exact congrArg (fun h => expo (argAt V c) b h ⟨i.val * 256 + r.val, by omega⟩)
      (Fin.ext (show p.val * 2 + 0 = (p.val * 128 + l.val) / 64 by omega))
  · rw [if_neg hl]
    refine Finset.sum_congr rfl fun s _ => ?_
    congr 5
    exact congrArg (fun h => expo (argAt V c) b h ⟨i.val * 256 + r.val, by omega⟩)
      (Fin.ext (show p.val * 2 + 1 = (p.val * 128 + l.val) / 64 by omega))

end Cert.KernelIdeal.Attention

end
-- ==== Proof.MixBlock.lean ====
/- The mixing kernel's body on one block of 256 rows and the 16 rows before it, read at an index. -/
module

public import proofs.«01_k».proof.Proof.Gen.KernelIdeal.Frame.Region2
public import proofs.«01_k».proof.Proof.MixSpec
public import Idealize.ShloMosaic.Lib.Pipeline.ValueKit
public import Idealize.ShloMosaic.Lib.WordCmp
public import Idealize.ShloMosaic.Lib.Claim

@[expose] public section

set_option maxRecDepth 16384

noncomputable section

namespace Cert.KernelIdeal.Mixing

open Idealize.ShloMosaic Idealize.ShloMosaic.TcCoe Idealize.SL.Sem
open Cert.KernelIdeal Cert.KernelIdeal.Gen
open Cert.FfnRow Cert.MixRow

/-! ## Words -/

/-- The kernel's block number within its sequence of 32 blocks, as it computes it. -/
def tileWord (a : BitVec 32) : BitVec 32 :=
  let v1 : BitVec 32 := Scalar.select (Scalar.cmpi .eq 32#32 0#32) 1#32 32#32
  let v2 : BitVec 32 := Scalar.remsi a v1
  Scalar.select (Scalar.andi (Scalar.xori (Scalar.cmpi .slt v2 0#32) (Scalar.cmpi .slt v1 0#32)) (Scalar.cmpi .ne v2 0#32)) (Scalar.addi v2 v1) v2

theorem tileWord_fin : ∀ n : Fin 64, tileWord (BitVec.ofNat 32 n.val) = BitVec.ofNat 32 (n.val % 32) := by decide +kernel

theorem startWord_fin : ∀ n : Fin 64, Scalar.cmpi .eq (BitVec.ofNat 32 (n.val % 32)) 0#32 = if n.val % 32 = 0 then 1#1 else 0#1 := by decide +kernel

/-- The window's length as the kernel selects it. -/
theorem windowWord_fin : ∀ l : Fin 256, Scalar.select (IntOp.cmpi CmpIPredicate.slt (BitVec.ofNat 32 l.val) 192#32)
      (Scalar.select (IntOp.cmpi CmpIPredicate.slt (BitVec.ofNat 32 l.val) 128#32)
        (Scalar.select (IntOp.cmpi CmpIPredicate.slt (BitVec.ofNat 32 l.val) 64#32) 2#32 4#32) 8#32) 16#32
    = BitVec.ofNat 32 (window l) := by unfold window; decide +kernel

/-- Selecting by a comparison of two small words. -/
theorem select_lt {α : Type} (l n : ℕ) (hl : l < 2 ^ 31) (hn : n < 2 ^ 31) (a b : α) :
    Scalar.select (IntOp.cmpi CmpIPredicate.slt (BitVec.ofNat 32 l) (BitVec.ofNat 32 n)) a b = if l < n then a else b := by
  have hc := WordCmp.cmpi_slt_ofNat_eq_one_iff (w := 32) (a := l) (b := n) (by omega) (by omega)
  unfold Scalar.select
  by_cases h : l < n
  · exact (if_pos (hc.2 h)).trans (if_pos h).symm
  · exact (if_neg fun h1 => h (hc.1 h1)).trans (if_neg h).symm

/-! ## The rows before a block -/

/-- The rows before the block count as zero where a sequence begins. -/
theorem pay3_at (i : grid2.Coords) (h : Vec Ideal S16x1024 .f32) (r : Fin 16) (l : Fin 1024) :
    (k2_pay3 (F := Ideal) i h (ix2 r l) : EReal) = if (i 0).val % 32 = 0 then 0 else (h (ix2 r l) : EReal) := by
  have hi : (i 0).val < 64 := (i 0).isLt
  pointwise [k2_pay3]
  show Scalar.select (Scalar.cmpi .eq (tileWord (BitVec.ofNat 32 (i 0).val)) 0#32) (0 : EReal) (h (ix2 r l)) = _
  rw [tileWord_fin ⟨(i 0).val, hi⟩, startWord_fin ⟨(i 0).val, hi⟩]
  unfold Scalar.select
  by_cases h0 : (i 0).val % 32 = 0
  · simp only [h0, if_true]
    exact if_pos rfl
  · simp only [h0, if_false]
    rfl

/-- `k` rows back from row `r` of block `t`, by whether that lies in the block, before it, or before the sequence. -/
theorem back_block (c : Fin 16384 → EReal) (t : Fin 64) (r : Fin 256) (k : ℕ) (hk : k ≤ 16) :
    back c ⟨t.val * 256 + r.val, by omega⟩ k
      = if h : 16 + r.val - k < 16 then (if h0 : t.val % 32 = 0 then 0 else c ⟨t.val * 256 - 16 + (16 + r.val - k), by omega⟩)
        else c ⟨t.val * 256 + (16 + r.val - k - 16), by omega⟩ := by
  unfold back
  dsimp only
  have ht := t.isLt
  have hr := r.isLt
  by_cases h : 16 + r.val - k < 16
  · rw [dif_pos h]
    by_cases h0 : t.val % 32 = 0
    · rw [dif_pos h0, if_neg (by omega)]
    · rw [dif_neg h0, if_pos (by omega)]
      exact congrArg c (Fin.ext (by show t.val * 256 + r.val - k = t.val * 256 - 16 + (16 + r.val - k); omega))
  · rw [dif_neg h, if_pos (by omega)]
    exact congrArg c (Fin.ext (by show t.val * 256 + r.val - k = t.val * 256 + (16 + r.val - k - 16); omega))

/-- Block `t` of an array of rows, and the 16 rows before it where there are any. -/
structure Rows (C : Fin 16384 → Fin 1024 → EReal) (t : Fin 64) (x : Vec Ideal S256x1024 .f32) (h : Vec Ideal S16x1024 .f32) : Prop where
  block : ∀ (r : Fin 256) (l : Fin 1024), (x (ix2 r l) : EReal) = C ⟨t.val * 256 + r.val, by omega⟩ l
  before : t.val ≠ 0 → ∀ (r : Fin 16) (l : Fin 1024), (h (ix2 r l) : EReal) = C ⟨t.val * 256 - 16 + r.val, by omega⟩ l

variable {C : Fin 16384 → Fin 1024 → EReal} {t : Fin 64} {x : Vec Ideal S256x1024 .f32} {h : Vec Ideal S16x1024 .f32}

/-- The last quarter's columns of the 272 rows, `k` rows back from row `r` of the block. -/
theorem pay6_at (hC : Rows C t x h) (i : grid2.Coords) (hi : (i 0).val = t.val) (r : Fin 256) (l : Fin 256) (k : ℕ) (hk : k ≤ 16) :
    (k2_pay6 (F := Ideal) i x h (ix2 ⟨16 + r.val - k, by omega⟩ l) : EReal) = back (pooledColumn C l) ⟨t.val * 256 + r.val, by omega⟩ k := by
  rw [back_block _ t r k hk]
  pointwise [k2_pay6, k2_pay2]
  by_cases h1 : 16 + r.val - k < 16
  · rw [dif_pos h1, dif_pos h1, pay3_at, hi]
    by_cases h0 : t.val % 32 = 0
    · rw [if_pos h0, dif_pos h0]
    · rw [if_neg h0, dif_neg h0, hC.before (by omega)]
      rfl
  · rw [dif_neg h1, dif_neg h1, hC.block]
    rfl

/-- The gated columns of the 272 rows, `k` rows back from row `r` of the block. -/
theorem gated_at (hC : Rows C t x h) (i : grid2.Coords) (hi : (i 0).val = t.val) (r : Fin 256) (l : Fin 256) (k : ℕ) (hk : k ≤ 16) (j : ℕ)
    (hj : j = 16 + r.val - k) (hj' : j < 272) :
    (if h1 : j < 16 then (k2_pay3 (F := Ideal) i h (ix2 ⟨j, h1⟩ ⟨256 + l.val, by omega⟩) : EReal) * (k2_pay3 (F := Ideal) i h (ix2 ⟨j, h1⟩ ⟨512 + l.val, by omega⟩) : EReal)
      else (x (ix2 ⟨j - 16, by omega⟩ ⟨256 + l.val, by omega⟩) : EReal) * (x (ix2 ⟨j - 16, by omega⟩ ⟨512 + l.val, by omega⟩) : EReal))
      = back (gated C l) ⟨t.val * 256 + r.val, by omega⟩ k := by
  subst hj
  rw [back_block _ t r k hk]
  by_cases h1 : 16 + r.val - k < 16
  · rw [dif_pos h1, dif_pos h1, pay3_at, pay3_at, hi]
    by_cases h0 : t.val % 32 = 0
    · rw [if_pos h0, if_pos h0, dif_pos h0, mul_zero]
    · rw [if_neg h0, if_neg h0, dif_neg h0, hC.before (by omega), hC.before (by omega)]
      rfl
  · rw [dif_neg h1, dif_neg h1, hC.block, hC.block]
    rfl

/-- The short convolution of the block. -/
theorem conv_at (hC : Rows C t x h) (i : grid2.Coords) (hi : (i 0).val = t.val) (w : Vec Ideal S3x256 .f32) (r : Fin 256) (l : Fin 256) :
    (k2_pay11 (F := Ideal) (k2_pay4 x) (k2_pay8 i x h w) (k2_pay9 i x h) (k2_pay10 w) (ix2 r l) : EReal)
      = convAt C (fun k l => w (ix2 k l)) ⟨t.val * 256 + r.val, by omega⟩ l := by
  have hr := r.isLt
  have e0 := gated_at hC i hi r l 0 (by omega) (16 + r.val) (by omega) (by omega)
  have e1 := gated_at hC i hi r l 1 (by omega) ((16 + r.val + 272 - 1) % 272) (by omega) (by omega)
  have e2 := gated_at hC i hi r l 2 (by omega) ((16 + r.val + 272 - 2) % 272) (by omega) (by omega)
  unfold convAt
  rw [← e0, ← e1, ← e2, dif_neg (by omega), ← hC.block]
  pointwise [k2_pay11, k2_pay4, k2_pay7, k2_pay8, k2_pay9, k2_pay10, k2_pay5, k2_pay2]

/-! ## The windows -/

/-- A rotation by fewer rows than the row's number reads that many rows back. -/
theorem rotate_at (y : Vec Ideal S272x256 .f32) (n : BitVec 32) (hr : S272x256.Rotates 0 none) (i : Fin 272) (l : Fin 256) (hn : n.toNat ≤ i.val) :
    (dynamicRotate 0 n none y hr (ix2 i l) : EReal) = y (ix2 ⟨i.val - n.toNat, by omega⟩ l) := by
  have hi := i.isLt
  unfold dynamicRotate
  refine congrArg y (funext fun b => Fin.ext ?_)
  match b with
  | ⟨0, _⟩ =>
    show (i.val + 272 - (n.toNat + 0) % 272) % 272 = i.val - n.toNat
    omega
  | ⟨1, _⟩ => rfl

/-- The sum of the `w` rows up to row `i`. -/
def sumBack (y : Vec Ideal S272x256 .f32) (l : Fin 256) (i : Fin 272) (w : ℕ) : EReal := ∑ k ∈ Finset.range w, (y (ix2 ⟨i.val - k, by omega⟩ l) : EReal)

/-- A sum over windows added to itself rotated by the window's length is the sum over windows twice as long. -/
theorem double_at (y L : FVec Ideal S272x256 .f32) (l : Fin 256) (n : BitVec 32) (w : ℕ) (hw : n.toNat = w) (hr : S272x256.Rotates 0 none)
    (hL : ∀ i : Fin 272, w ≤ i.val + 1 → (L (ix2 i l) : EReal) = sumBack y l i w) (i : Fin 272) (hi : w + w ≤ i.val + 1) (hw0 : 0 < w) :
    ((addf L (dynamicRotate 0 n none L hr) : FVec Ideal S272x256 .f32) (ix2 i l) : EReal) = sumBack y l i (w + w) := by
  show (L (ix2 i l) : EReal) + (dynamicRotate 0 n none L hr (ix2 i l) : EReal) = _
  rw [rotate_at L n hr i l (by omega), hL i (by omega), hL _ (by show w ≤ i.val - n.toNat + 1; omega)]
  unfold sumBack
  rw [Finset.sum_range_add]
  refine congrArg (_ + ·) (Finset.sum_congr rfl fun k _ => ?_)
  refine congrArg y ?_
  refine congrArg (fun j : Fin 272 => (ix2 j l : S272x256.Idx)) (Fin.ext ?_)
  show i.val - n.toNat - k = i.val - (w + k)
  omega

/-- The selected window sums. -/
theorem pay10_at (y : Vec Ideal S272x256 .f32) (i : Fin 272) (hi : 16 ≤ i.val) (l : Fin 256) :
    (k2_pay12 (F := Ideal) y (ix2 i l) : EReal) = sumBack y l i (window l) := by
  have h1 : ∀ i : Fin 272, 1 ≤ i.val + 1 → (y (ix2 i l) : EReal) = sumBack y l i 1 := fun i _ => by
    unfold sumBack
    rw [Finset.sum_range_one]
    rfl
  have h2 := double_at y y l 1#32 1 rfl rotates_S272x256_d0 h1
  have h4 := double_at y _ l 2#32 2 rfl rotates_S272x256_d0 (fun i hi => h2 i hi (by omega))
  have h8 := double_at y _ l 4#32 4 rfl rotates_S272x256_d0 (fun i hi => h4 i hi (by omega))
  have h16 := double_at y _ l 8#32 8 rfl rotates_S272x256_d0 (fun i hi => h8 i hi (by omega))
  have hl := l.isLt
  have e : ∀ (n : ℕ) (hn : n < 2 ^ 31) (a b : Vec Ideal S272x256 .f32),
      ((select (cmpi .slt (iota .tc S272x256 32 [1] iota_S272x256_d1_w32) (broadcast S272x256 (BitVec.ofNat 32 n))) a b : Vec Ideal S272x256 .f32) (ix2 i l) : EReal)
        = if l.val < n then (a (ix2 i l) : EReal) else (b (ix2 i l) : EReal) := fun n hn a b => by
    refine Eq.trans ?_ (select_lt l.val n (by omega) hn (a (ix2 i l) : EReal) (b (ix2 i l) : EReal))
    pointwise
  unfold k2_pay12
  rw [e 192 (by norm_num), e 128 (by norm_num), e 64 (by norm_num), h2 i (by omega) (by omega), h4 i (by omega) (by omega), h8 i (by omega) (by omega),
    h16 i (by omega) (by omega)]
  unfold window
  have hq : l.val / 64 < 4 := by omega
  by_cases h192 : l.val < 192
  · rw [if_pos h192]
    by_cases h128 : l.val < 128
    · rw [if_pos h128]
      by_cases h64 : l.val < 64
      · rw [if_pos h64, show l.val / 64 = 0 by omega]; rfl
      · rw [if_neg h64, show l.val / 64 = 1 by omega]; rfl
    · rw [if_neg h128, show l.val / 64 = 2 by omega]; rfl
  · rw [if_neg h192, show l.val / 64 = 3 by omega]; rfl

/-- The window sums of the block. -/
theorem windows_at (hC : Rows C t x h) (i : grid2.Coords) (hi : (i 0).val = t.val) (r : Fin 256) (l : Fin 256) :
    (k2_pay12 (F := Ideal) (k2_pay6 i x h) (ix2 ⟨16 + r.val, by omega⟩ l) : EReal)
      = ∑ k ∈ Finset.range (window l), back (pooledColumn C l) ⟨t.val * 256 + r.val, by omega⟩ k := by
  rw [pay10_at _ _ (by show 16 ≤ 16 + r.val; omega)]
  unfold sumBack
  refine Finset.sum_congr rfl fun k hk => ?_
  have hk' : k < window l := Finset.mem_range.1 hk
  have hw : window l ≤ 16 := by
    have hl := l.isLt
    unfold window
    exact (Nat.pow_le_pow_right (by norm_num) (by omega : l.val / 64 + 1 ≤ 4)).trans (by norm_num)
  exact pay6_at hC i hi r l k (by omega)

end Cert.KernelIdeal.Mixing
end
-- ==== Proof.MixBody.lean ====
/- The mixing kernel's body on one block: the head groups beside one another, their normalization by heads, the projection and the last normalization. -/
module

public import proofs.«01_k».proof.Proof.MixBlock

@[expose] public section

set_option maxRecDepth 16384

noncomputable section

namespace Cert.KernelIdeal.Mixing

open Idealize.ShloMosaic Idealize.ShloMosaic.TcCoe Idealize.SL.Sem
open Cert.KernelIdeal Cert.KernelIdeal.Gen
open Cert.FfnRow Cert.MixRow

/-! ## The head groups -/

/-- The number of rows a window reaches over, as the kernel counts it. -/
theorem count_at (n : Fin 64) (r l : Fin 256) :
    (FloatOps.sitofp (F := Ideal) .f32 (IntOp.minsi (IntOp.addi (IntOp.addi (Scalar.muli (tileWord (BitVec.ofNat 32 n.val)) 256#32) (BitVec.ofNat 32 r.val)) 1#32)
        (BitVec.ofNat 32 (window l))) : EReal)
      = (((min ((n.val * 256 + r.val) % 8192 + 1) (window l) : ℕ) : ℝ) : EReal) := by
  have hn := n.isLt
  have hr := r.isLt
  have hw : window l ≤ 16 := by
    have hl := l.isLt
    unfold window
    exact (Nat.pow_le_pow_right (by norm_num) (by omega : l.val / 64 + 1 ≤ 4)).trans (by norm_num)
  have e : IntOp.addi (IntOp.addi (Scalar.muli (tileWord (BitVec.ofNat 32 n.val)) 256#32) (BitVec.ofNat 32 r.val)) 1#32
      = BitVec.ofNat 32 ((n.val * 256 + r.val) % 8192 + 1) := by
    rw [tileWord_fin]
    refine BitVec.eq_of_toNat_eq ?_
    show ((BitVec.ofNat 32 (n.val % 32) * 256#32 + BitVec.ofNat 32 r.val) + 1#32).toNat = _
    simp only [BitVec.toNat_add, BitVec.toNat_mul, BitVec.toNat_ofNat]
    omega
  rw [e, min_word (by omega) (by omega), real_of_word (by omega)]

/-- The mixed rows of a block: the attention's columns, the convolution's and the pooling's. -/
def mixed (i : grid2.Coords) (x : Vec Ideal S256x1024 .f32) (h : Vec Ideal S16x1024 .f32) (w : Vec Ideal S3x256 .f32) (p : Vec Ideal S256x256 .bf16)
    (s : Vec Ideal S1x256 .f32) (a : Vec Ideal S256x512 .f32) : FVec Ideal S256x1024 .f32 :=
  k2_pay15 (k2_pay2 x) (k2_pay11 (k2_pay4 x) (k2_pay8 i x h w) (k2_pay9 i x h) (k2_pay10 w)) (k2_pay12 (k2_pay6 i x h)) (k2_pay13 (BitVec.ofNat 32 (i 0).val))
    (iota .tc S256x256 32 [1] iota_S256x256_d1_w32) k2_pay14 128#32 p s a

/-- A sum over the four groups of 64 columns against a matrix that is zero off its diagonal blocks. -/
theorem sum_group (f g : Fin 256 → EReal) (q : Fin 256) :
    ∑ k : Fin 256, f k * (if k.val / 64 = q.val / 64 then g k else 0)
      = ∑ j : Fin 64, f ⟨q.val / 64 * 64 + j.val, by omega⟩ * g ⟨q.val / 64 * 64 + j.val, by omega⟩ := by
  have hq := q.isLt
  rw [Fin.sum_univ_tiles 4 64 rfl, Finset.sum_eq_single (⟨q.val / 64, by omega⟩ : Fin 4)]
  · refine Finset.sum_congr rfl fun j _ => ?_
    have hj := j.isLt
    rw [if_pos (by show (q.val / 64 * 64 + j.val) / 64 = q.val / 64; omega)]
  · intro b _ hb
    refine Finset.sum_eq_zero fun j _ => ?_
    have hj := j.isLt
    have hb' : b.val ≠ q.val / 64 := fun h => hb (Fin.ext h)
    rw [if_neg (by show ¬ (b.val * 64 + j.val) / 64 = q.val / 64; omega), mul_zero]
  · intro h
    exact absurd (Finset.mem_univ _) h

variable {C : Fin 16384 → Fin 1024 → EReal} {t : Fin 64} {x : Vec Ideal S256x1024 .f32} {h : Vec Ideal S16x1024 .f32}

/-- The pooled columns of the block, before their matrix. -/
theorem pooled_at (hC : Rows C t x h) (i : grid2.Coords) (hi : (i 0).val = t.val) (r l : Fin 256) :
    Ideal.div (k2_pay12 (F := Ideal) (k2_pay6 i x h) (ix2 ⟨16 + r.val, by omega⟩ l))
        (FloatOps.sitofp (F := Ideal) .f32 (IntOp.minsi (IntOp.addi (k2_pay13 (BitVec.ofNat 32 (i 0).val) (ix2 r l)) 1#32)
          (BitVec.ofNat 32 (window l))))
      - (x (ix2 r ⟨768 + l.val, by omega⟩) : EReal) = pooledAt C ⟨t.val * 256 + r.val, by omega⟩ l := by
  have e : k2_pay13 (BitVec.ofNat 32 (i 0).val) (ix2 r l) = IntOp.addi (Scalar.muli (tileWord (BitVec.ofNat 32 t.val)) 256#32) (BitVec.ofNat 32 r.val) := by
    rw [hi]
    pointwise [k2_pay13]
    rfl
  rw [windows_at hC i hi, e, count_at, hC.block]
  rfl

/-- The mixed rows of the block. -/
theorem mixed_at (hC : Rows C t x h) (i : grid2.Coords) (hi : (i 0).val = t.val) (w : Vec Ideal S3x256 .f32) (p : Vec Ideal S256x256 .bf16)
    (s : Vec Ideal S1x256 .f32) (a : Vec Ideal S256x512 .f32) (A : Fin 16384 → Fin 512 → EReal) (P : Fin 4 → Fin 64 → Fin 64 → EReal)
    (hA : ∀ r e, (a (ix2 r e) : EReal) = A ⟨t.val * 256 + r.val, by omega⟩ e)
    (hP : ∀ k q : Fin 256, (p (ix2 k q) : EReal) = if k.val / 64 = q.val / 64 then P ⟨q.val / 64, by omega⟩ ⟨k.val % 64, by omega⟩ ⟨q.val % 64, by omega⟩ else 0)
    (r : Fin 256) (e : Fin 1024) :
    (mixed i x h w p s a (ix2 r e) : EReal) = mixAt A C (fun k l => w (ix2 k l)) P (fun l => s (ix2 0 l)) ⟨t.val * 256 + r.val, by omega⟩ e := by
  unfold mixAt mixed
  pointwise [k2_pay15, k2_pay14, k2_pay2]
  by_cases h1 : e.val < 512
  · rw [dif_pos h1, dif_pos h1, hA]
  · rw [dif_neg h1, dif_neg h1]
    by_cases h2 : e.val - 512 < 256
    · rw [dif_pos h2, dif_pos h2, conv_at hC i hi]
    · rw [dif_neg h2, dif_neg h2]
      unfold poolAt
      refine congrArg₂ (· * ·) ?_ rfl
      refine Eq.trans ?_ ((sum_group (pooledAt C ⟨t.val * 256 + r.val, by omega⟩)
        (fun k => P ⟨(e.val - 512 - 256) / 64, by omega⟩ ⟨k.val % 64, by omega⟩ ⟨(e.val - 512 - 256) % 64, by omega⟩) ⟨e.val - 512 - 256, by omega⟩).trans ?_)
      · refine Finset.sum_congr rfl fun k _ => ?_
        rw [hP]
        refine congrArg₂ (· * ·) ?_ rfl
        rw [← pooled_at hC i hi r k, ← windowWord_fin k]
      · refine Finset.sum_congr rfl fun j _ => ?_
        refine congrArg₂ (· * ·) rfl ?_
        refine congrArg (fun u => P _ u _) (Fin.ext ?_)
        show ((e.val - 512 - 256) / 64 * 64 + j.val) % 64 = j.val
        have hj := j.isLt
        omega

/-! ## The norms by heads -/

/-- The squares' sums over the heads, as the kernel takes them from two parts of the squares. -/
def squareSums (v111 v114 : FVec Ideal S256x1024 .bf16) (v116 : FVec Ideal S256x256 .bf16) (v121 v124 v126 : FVec Ideal S256x256 .f32) : FVec Ideal S256x1024 .f32 :=
  concatenate S256x1024 1 [⟨S256x256, v121⟩, ⟨S256x256, addf v124 v126⟩,
    ⟨S256x256, addf (matmul dot_S256x256_S256x256_S256x256_1_0_0_1_n_n none (extractStridedSlice S256x256 ![0, 512] v111 slices_S256x1024_o0_512_S256x256) v116
        (constant S256x256 .f32 0x00000000#32))
      (matmul dot_S256x256_S256x256_S256x256_1_0_0_1_n_n none (extractStridedSlice S256x256 ![0, 512] v114 slices_S256x1024_o0_512_S256x256) v116
        (constant S256x256 .f32 0x00000000#32))⟩,
    ⟨S256x256, addf (matmul dot_S256x256_S256x256_S256x256_1_0_0_1_n_n none (extractStridedSlice S256x256 ![0, 768] v111 slices_S256x1024_o0_768_S256x256) v116
        (constant S256x256 .f32 0x00000000#32))
      (matmul dot_S256x256_S256x256_S256x256_1_0_0_1_n_n none (extractStridedSlice S256x256 ![0, 768] v114 slices_S256x1024_o0_768_S256x256) v116
        (constant S256x256 .f32 0x00000000#32))⟩] concatenates_S256x256_S256x256_S256x256_S256x256_S256x1024_d1

/-- The rows before the last normalization, from the mixed rows and their heads' sums of squares. -/
def projectedRows (v106 v134 : FVec Ideal S256x1024 .f32) (v141 : Vec Ideal S1x1024 .f32) (v145 : Vec Ideal S256x1024 .f32) (v149 : Vec Ideal S1024x1024 .bf16) :
    FVec Ideal S256x1024 .f32 :=
  have v140 : FVec Ideal S256x1024 .f32 := mulf v106 (rsqrt (addf (mulf v134 (broadcast S256x1024 (Scalar.ofBits .f32 0x3C800000#32))) (broadcast S256x1024 (Scalar.ofBits .f32 0x358637BD#32))))
  have v144 : FVec Ideal S256x1024 .f32 := mulf v140 (broadcastTo S256x1024 (shapeCast S1x1024 v141 shapeCasts_S1x1024_S1x1024) broadcasts_S1x1024_S256x1024)
  have v150 : FVec Ideal S1024x1024 .bf16 := shapeCast S1024x1024 v149 shapeCasts_S1024x1024_S1024x1024
  addf (mulf (broadcast S256x1024 (Scalar.ofBits .f32 0x3FB504F3#32)) (shapeCast S256x1024 v145 shapeCasts_S256x1024_S256x1024))
    (matmul dot_S256x1024_S1024x1024_S256x1024_1_0_0_1_n_n none (truncf .bf16 v144 bitsLt_bf16_f32) v150
      (constant S256x1024 .f32 0x00000000#32))

/-- The means of a block of rows, along each row. -/
def means (v152 : FVec Ideal S256x1024 .f32) : FVec Ideal S256x1024 .f32 :=
  broadcastTo S256x1024 (divf (shapeCast S256x1 (multiReduction .add [1] S256 v152 0x00000000#32 reduces_S256x1024_S256 (.inl rfl) rfl) shapeCasts_S256_S256x1)
    (broadcast S256x1 (Scalar.ofBits .f32 0x44800000#32))) broadcasts_S256x1_S256x1024

theorem pay23_eq (v109 : FVec Ideal S256x1024 .f32) (v111 v114 : FVec Ideal S256x1024 .bf16) (v116 : FVec Ideal S256x256 .bf16) (v121 v124 v126 : FVec Ideal S256x256 .f32)
    (v144 : Vec Ideal S1x1024 .f32) (v148 : Vec Ideal S256x1024 .f32) (v152 : Vec Ideal S1024x1024 .bf16) :
    k2_pay23 (F := Ideal) v109 v111 v114 v116 v121 v124 v126 v144 v148 v152
      = projectedRows v109 (squareSums v111 v114 v116 v121 v124 v126) v144 v148 v152 := rfl

theorem pay26_eq (v109 : FVec Ideal S256x1024 .f32) (v111 v114 : FVec Ideal S256x1024 .bf16) (v116 : FVec Ideal S256x256 .bf16) (v121 v124 v126 : FVec Ideal S256x256 .f32)
    (v144 : Vec Ideal S1x1024 .f32) (v148 : Vec Ideal S256x1024 .f32) (v152 : Vec Ideal S1024x1024 .bf16) :
    k2_pay26 (F := Ideal) v109 v111 v114 v116 v121 v124 v126 v144 v148 v152
      = means (projectedRows v109 (squareSums v111 v114 v116 v121 v124 v126) v144 v148 v152) := rfl

/-- The projected rows, read from the mixed rows and their sums of squares. -/
theorem projectedRows_at (M Q : FVec Ideal S256x1024 .f32) (g : Vec Ideal S1x1024 .f32) (x : Vec Ideal S256x1024 .f32) (o : Vec Ideal S1024x1024 .bf16)
    (r : Fin 256) (d : Fin 1024) (hQ : ∀ e, (Q (ix2 r e) : EReal) = headSquares (fun e => M (ix2 r e)) e) :
    (projectedRows M Q g x o (ix2 r d) : EReal)
      = projected (fun d => x (ix2 r d)) (fun e => M (ix2 r e)) (fun e => g (ix2 0 e)) (fun e d => o (ix2 e d)) d := by
  pointwise [projectedRows]
  simp only [hQ]
  unfold projected headNorm
  have e : ∀ y : EReal, y * Ideal.ofBits .f32 0x3C800000#32 = Ideal.div y (Ideal.ofBits .f32 0x42800000#32) := fun y => by
    have h1 : Ideal.ofBits .f32 0x42800000#32 = ((64 : ℝ) : EReal) := by simp [Ideal.ofBits, Ideal.ieee]; rw [← EReal.coe_mul]; norm_num
    have h2 : Ideal.ofBits .f32 0x3C800000#32 = ((1 / 64 : ℝ) : EReal) := by simp [Ideal.ofBits, Ideal.ieee]; rw [← EReal.coe_mul]; norm_num
    rw [h1, Ideal.div_coe (by norm_num), h2]
  simp only [e]

/-- The stored row is the normalization of the projected one. -/
theorem pay1_at (p : FVec Ideal S256x1024 .f32) (g b : Vec Ideal S1x1024 .f32) (r : Fin 256) (l : Fin 1024) :
    k2_pay1 (F := Ideal) p (k2_pay24 g) (k2_pay25 b) (means p) (ix2 r l)
      = layerNorm (fun l => p (ix2 r l)) (fun l => g (ix2 0 l)) (fun l => b (ix2 0 l)) l := by
  pointwise [k2_pay1, k2_pay24, k2_pay25, means, layerNorm, mean]

section
variable (v13 : FVec Ideal S256x1024 .f32) (v44 : FVec Ideal S256x256 .f32) (v62 : FVec Ideal S272x256 .f32) (v76 v77 v82 : IVec S256x256 32) (v83 : BitVec 32)
  (v100 : Vec Ideal S256x256 .bf16) (v103 : Vec Ideal S1x256 .f32) (v107 : Vec Ideal S256x512 .f32) (v115 : Vec Ideal S256x256 .bf16)

/-- The sum of the squares of an entry's head, taken within its quarter of the columns against a matrix of ones on the diagonal blocks. -/
theorem headSquares_quarter (f : Fin 1024 → EReal) (e : Fin 1024) (b : ℕ) (hb : b % 64 = 0) (hb' : b ≤ 768) (q : Fin 256) (hq : e.val = b + q.val) :
    ∑ k : Fin 256, f ⟨b + k.val, by omega⟩ * f ⟨b + k.val, by omega⟩ * (if k.val / 64 = q.val / 64 then 1 else 0) = headSquares f e := by
  refine (sum_group (fun k => f ⟨b + k.val, by omega⟩ * f ⟨b + k.val, by omega⟩) (fun _ => 1) q).trans (Finset.sum_congr rfl fun j _ => ?_)
  rw [mul_one]
  have h : (⟨b + (q.val / 64 * 64 + j.val), by omega⟩ : Fin 1024) = ⟨e.val / 64 * 64 + j.val, by omega⟩ := Fin.ext (by
    show b + (q.val / 64 * 64 + j.val) = e.val / 64 * 64 + j.val
    have hj := j.isLt
    omega)
  rw [← h]

/-- The squares' sums of the mixed rows. -/
theorem squareSums_at (r : Fin 256) (e : Fin 1024)
    (hr : ∀ e, IsReal (k2_pay15 (F := Ideal) v13 v44 v62 v76 v77 v82 v83 v100 v103 v107 (ix2 r e)))
    (hO : ∀ k q : Fin 256, (v115 (ix2 k q) : EReal) = if k.val / 64 = q.val / 64 then 1 else 0) :
    (squareSums (k2_pay17 v13 v44 v62 v76 v77 v82 v83 v100 v103 v107) (k2_pay18 v13 v44 v62 v76 v77 v82 v83 v100 v103 v107) (k2_pay19 v115)
      (k2_pay20 v13 v44 v62 v76 v77 v82 v83 v100 v103 v107 v115) (k2_pay21 v13 v44 v62 v76 v77 v82 v83 v100 v103 v107 v115) (k2_pay22 v13 v44 v62 v76 v77 v82 v83 v100 v103 v107 v115) (ix2 r e) : EReal)
      = headSquares (fun e => k2_pay15 v13 v44 v62 v76 v77 v82 v83 v100 v103 v107 (ix2 r e)) e := by
  generalize hM : k2_pay15 (F := Ideal) v13 v44 v62 v76 v77 v82 v83 v100 v103 v107 = M at hr
  pointwise [squareSums, k2_pay20, k2_pay21, k2_pay22, k2_pay19, k2_pay18, k2_pay17, k2_pay16]
  simp only [hM, hO, (hr _).mul (hr _) |>.sub_self, zero_mul, Finset.sum_const_zero, add_zero]
  by_cases h1 : e.val < 256
  · rw [dif_pos h1]
    refine Eq.trans (Finset.sum_congr rfl fun k _ => ?_) (headSquares_quarter (fun e => M (ix2 r e)) e 0 (by omega) (by omega) ⟨e.val, h1⟩ (by show e.val = 0 + e.val; omega))
    simp only [zero_add]
  · rw [dif_neg h1]
    by_cases h2 : e.val - 256 < 256
    · rw [dif_pos h2]
      exact headSquares_quarter (fun e => M (ix2 r e)) e 256 (by omega) (by omega) ⟨e.val - 256, h2⟩ (by show e.val = 256 + (e.val - 256); omega)
    · rw [dif_neg h2]
      by_cases h3 : e.val - 256 - 256 < 256
      · rw [dif_pos h3]
        exact headSquares_quarter (fun e => M (ix2 r e)) e 512 (by omega) (by omega) ⟨e.val - 256 - 256, h3⟩ (by show e.val = 512 + (e.val - 256 - 256); omega)
      · rw [dif_neg h3]
        exact headSquares_quarter (fun e => M (ix2 r e)) e 768 (by omega) (by omega) ⟨e.val - 256 - 256 - 256, by omega⟩
          (by show e.val = 768 + (e.val - 256 - 256 - 256); omega)

/-- The value the body stores, at an index. -/
theorem stored_at (r : Fin 256) (d : Fin 1024) (x : Vec Ideal S256x1024 .f32) (g lg lb : Vec Ideal S1x1024 .f32) (o : Vec Ideal S1024x1024 .bf16)
    (hr : ∀ e, IsReal (k2_pay15 (F := Ideal) v13 v44 v62 v76 v77 v82 v83 v100 v103 v107 (ix2 r e)))
    (hO : ∀ k q : Fin 256, (v115 (ix2 k q) : EReal) = if k.val / 64 = q.val / 64 then 1 else 0) :
    (k2_pay1 (F := Ideal)
      (k2_pay23 (k2_pay15 v13 v44 v62 v76 v77 v82 v83 v100 v103 v107) (k2_pay17 v13 v44 v62 v76 v77 v82 v83 v100 v103 v107)
        (k2_pay18 v13 v44 v62 v76 v77 v82 v83 v100 v103 v107) (k2_pay19 v115) (k2_pay20 v13 v44 v62 v76 v77 v82 v83 v100 v103 v107 v115) (k2_pay21 v13 v44 v62 v76 v77 v82 v83 v100 v103 v107 v115) (k2_pay22 v13 v44 v62 v76 v77 v82 v83 v100 v103 v107 v115) g x o)
      (k2_pay24 lg) (k2_pay25 lb)
      (k2_pay26 (k2_pay15 v13 v44 v62 v76 v77 v82 v83 v100 v103 v107) (k2_pay17 v13 v44 v62 v76 v77 v82 v83 v100 v103 v107)
        (k2_pay18 v13 v44 v62 v76 v77 v82 v83 v100 v103 v107) (k2_pay19 v115) (k2_pay20 v13 v44 v62 v76 v77 v82 v83 v100 v103 v107 v115) (k2_pay21 v13 v44 v62 v76 v77 v82 v83 v100 v103 v107 v115) (k2_pay22 v13 v44 v62 v76 v77 v82 v83 v100 v103 v107 v115) g x o) (ix2 r d) : EReal)
      = layerNorm (projected (fun d => x (ix2 r d)) (fun e => k2_pay15 v13 v44 v62 v76 v77 v82 v83 v100 v103 v107 (ix2 r e)) (fun e => g (ix2 0 e))
          (fun e d => o (ix2 e d))) (fun d => lg (ix2 0 d)) (fun d => lb (ix2 0 d)) d := by
  rw [pay26_eq, pay23_eq]
  refine (pay1_at _ lg lb r d).trans ?_
  rw [funext fun d => projectedRows_at _ _ g x o r d fun e => squareSums_at v13 v44 v62 v76 v77 v82 v83 v100 v103 v107 v115 r e hr hO]
end

end Cert.KernelIdeal.Mixing
end
-- ==== Proof.MixValue.lean ====
/- What the mixing kernel leaves in its result array, as a function of its ten argument arrays. -/
module

public import proofs.«01_k».proof.Proof.MixBody

@[expose] public section

set_option maxRecDepth 16384

noncomputable section

namespace Cert.KernelIdeal.Mixing

open Idealize.ShloMosaic Idealize.ShloMosaic.TcCoe Idealize.SL.Sem
open Idealize.ShloMosaic.Pipeline (Dat)
open Cert.KernelIdeal Cert.KernelIdeal.Gen
open Cert.FfnRow Cert.MixRow

variable (V : (c : Dev nD) → (b : Ref sig .tc) → Buf (Elt Ideal) ((c : Thread nD τ).loc b))

/-- Which block each window has at point `t`: rows advance by one block, the rows before it are the 16 that end there, weights stay. -/
theorem places : ∀ t : Fin cfg2.N, win2_0.index t = ![t.val, 0] ∧ win2_1.index t = ![t.val, 0] ∧ win2_2.index t = ![t.val, 0] ∧ win2_3.index t = ![t.val * 16 - 1, 0]
    ∧ win2_4.index t = ![0, 0] ∧ win2_5.index t = ![0, 0] ∧ win2_6.index t = ![0, 0] ∧ win2_7.index t = ![0, 0] ∧ win2_8.index t = ![0, 0] ∧ win2_9.index t = ![0, 0]
    ∧ win2_10.index t = ![0, 0] ∧ win2_11.index t = ![0, 0] ∧ win2_12.index t = ![t.val, 0] ∧ (cfg2.grid.coords t 0).val = t.val :=
  (by decide +kernel : ∀ t : Fin grid2.N, _)

/-- The result array after the run, from what the twelve argument arrays hold. -/
theorem mix_final (c : Dev nD) (pool : S4x64x64.Idx → EReal) (scale : S256.Idx → EReal) (gain : S1024.Idx → EReal) (wo : S1024x1024.Idx → EReal) (g b : S1024.Idx → EReal)
    (hR : RealArrays (V c main_v10) (V c main_v4_1) (V c main_v12) pool scale)
    (hB : ∀ k q : Fin 256, V c main_v35 (ix2 k q) = if k.val / 64 = q.val / 64 then pool (ix3 ⟨q.val / 64, by omega⟩ ⟨k.val % 64, by omega⟩ ⟨q.val % 64, by omega⟩) else (0 : EReal))
    (hE : ∀ k q : Fin 256, V c main_v43 (ix2 k q) = if k.val / 64 = q.val / 64 then (1 : EReal) else (0 : EReal))
    (hS : ∀ l : Fin 256, V c main_v44 (ix2 0 l) = scale (ix1 l)) (hG : ∀ d : Fin 1024, V c main_v45 (ix2 0 d) = gain (ix1 d))
    (hW : ∀ e d : Fin 1024, V c main_v21 (ix2 e d) = wo (ix2 e d)) (hNG : ∀ d : Fin 1024, V c main_v46 (ix2 0 d) = g (ix1 d))
    (hNB : ∀ d : Fin 1024, V c main_v47 (ix2 0 d) = b (ix1 d)) : (dat2 V c).arrAt 12 cfg2.N
    = mixOf (V c main_v0) (V c main_v10) (V c main_v4_1) (V c main_v12) pool scale gain wo g b := by
  refine (dat2 V c).arrAt_eq_of_covers 12 _ (by decide +kernel) fun t _ y => ?_
  blk_simp
  rw [after2_12]
  unfold_out out2_12
  frame_out
  obtain ⟨r, d, hy⟩ : ∃ (r : Fin 256) (d : Fin 1024), y = (ix2 r d : S256x1024.Idx) := ⟨y 0, y 1, eq_ix2 (n0 := 256) (n1 := 1024) y⟩
  subst hy
  have ht : t.val < 64 := lt_of_lt_of_eq t.isLt N_2
  have hi : (grid2.coords t 0).val = t.val := (places t).2.2.2.2.2.2.2.2.2.2.2.2.2
  have hC : Rows (fun R l => V c main_v4_1 (ix2 R l)) ⟨t.val, ht⟩ (iblk2 V c 2 t) (iblk2 V c 3 t) := {
    block := fun r l => by
      blk_point [iblk2, places t]
    before := fun h0 r l => by
      blk_point [iblk2, places t] }
  have hA : ∀ (r : Fin 256) (e : Fin 512), iblk2 V c 1 t (ix2 r e : S256x512.Idx) = V c main_v10 (ix2 ⟨t.val * 256 + r.val, by omega⟩ e) := fun r e => by
    blk_point [iblk2, places t]
  have hP : ∀ k q : Fin 256, iblk2 V c 5 t (ix2 k q : S256x256.Idx)
      = if k.val / 64 = q.val / 64 then pool (ix3 ⟨q.val / 64, by omega⟩ ⟨k.val % 64, by omega⟩ ⟨q.val % 64, by omega⟩) else (0 : EReal) := fun k q => by
    refine Eq.trans ?_ (hB k q)
    blk_point [iblk2, places t]
  have hO : ∀ k q : Fin 256, iblk2 V c 8 t (ix2 k q : S256x256.Idx) = if k.val / 64 = q.val / 64 then (1 : EReal) else (0 : EReal) := fun k q => by
    refine Eq.trans ?_ (hE k q)
    blk_point [iblk2, places t]
  have hw : ∀ (k : Fin 3) (l : Fin 256), iblk2 V c 4 t (ix2 k l : S3x256.Idx) = V c main_v12 (ix2 k l) := fun k l => by
    blk_point [iblk2, places t]
  have hs : ∀ l : Fin 256, iblk2 V c 6 t (ix2 0 l : S1x256.Idx) = scale (ix1 l) := fun l => by
    refine Eq.trans ?_ (hS l)
    blk_point [iblk2, places t]
  have hx : ∀ d : Fin 1024, iblk2 V c 0 t (ix2 r d : S256x1024.Idx) = V c main_v0 (ix2 ⟨t.val * 256 + r.val, by omega⟩ d) := fun d => by
    blk_point [iblk2, places t]
  have hg : ∀ d : Fin 1024, iblk2 V c 7 t (ix2 0 d : S1x1024.Idx) = gain (ix1 d) := fun d => by
    refine Eq.trans ?_ (hG d)
    blk_point [iblk2, places t]
  have ho : ∀ e d : Fin 1024, iblk2 V c 9 t (ix2 e d : S1024x1024.Idx) = wo (ix2 e d) := fun e d => by
    refine Eq.trans ?_ (hW e d)
    blk_point [iblk2, places t]
  have hlg : ∀ d : Fin 1024, iblk2 V c 10 t (ix2 0 d : S1x1024.Idx) = g (ix1 d) := fun d => by
    refine Eq.trans ?_ (hNG d)
    blk_point [iblk2, places t]
  have hlb : ∀ d : Fin 1024, iblk2 V c 11 t (ix2 0 d : S1x1024.Idx) = b (ix1 d) := fun d => by
    refine Eq.trans ?_ (hNB d)
    blk_point [iblk2, places t]
  have hM : ∀ e, mixed (grid2.coords t) (iblk2 V c 2 t) (iblk2 V c 3 t) (iblk2 V c 4 t) (iblk2 V c 5 t) (iblk2 V c 6 t) (iblk2 V c 1 t) (ix2 r e)
      = mixAt (fun R e => V c main_v10 (ix2 R e)) (fun R l => V c main_v4_1 (ix2 R l))
          (fun k l => V c main_v12 (ix2 k l)) (fun g i j => pool (ix3 g i j)) (fun l => scale (ix1 l)) ⟨t.val * 256 + r.val, by omega⟩ e := fun e => by
    refine (mixed_at hC (grid2.coords t) hi (iblk2 V c 4 t) (iblk2 V c 5 t) (iblk2 V c 6 t) (iblk2 V c 1 t)
      (fun R e => V c main_v10 (ix2 R e)) (fun g i j => pool (ix3 g i j)) hA hP r e).trans ?_
    exact congrArg₂ (fun w s => mixAt (fun R e => V c main_v10 (ix2 R e)) (fun R l => V c main_v4_1 (ix2 R l))
      w (fun g i j => pool (ix3 g i j)) s ⟨t.val * 256 + r.val, by omega⟩ e) (funext fun k => funext fun l => hw k l) (funext fun l => hs l)
  have hreal : ∀ e, IsReal (mixed (grid2.coords t) (iblk2 V c 2 t) (iblk2 V c 3 t) (iblk2 V c 4 t) (iblk2 V c 5 t) (iblk2 V c 6 t) (iblk2 V c 1 t) (ix2 r e)) := fun e => by
    rw [hM]
    exact mixAt_real (fun _ _ => hR.attn _) (fun _ _ => hR.cp _) (fun _ _ => hR.conv _) (fun _ _ _ => hR.pool _) (fun _ => hR.scale _) _ _
  refine (stored_at _ _ _ _ _ _ _ _ _ _ _ r d _ _ _ _ _ hreal hO).trans ?_
  have e : ((cfg2.win 12).blk t).view.emb (ix2 r d : S256x1024.Idx) = (ix2 ⟨t.val * 256 + r.val, by omega⟩ d : S16384x1024.Idx) := by
    blk_ext [places t]
  refine Eq.trans ?_ (congrArg (mixOf _ _ _ _ _ _ _ _ _ _) e).symm
  show layerNorm _ _ _ d = layerNorm _ _ _ d
  refine layerNorm_congr (fun d => ?_) hlg hlb d
  show projected _ _ _ _ d = projected _ _ _ _ d
  rw [funext hx, funext hg, funext fun e => funext fun d => ho e d]
  exact congrArg (fun M => projected _ M _ _ d) (funext hM)

end Cert.KernelIdeal.Mixing
end
-- ==== Proof.FfnValue.lean ====
/- What the feed-forward call leaves in its result array, as a function of what its five argument arrays hold. -/
module

public import proofs.«01_k».proof.Proof.Gen.KernelIdeal.Frame.Region3
public import proofs.«01_k».proof.Proof.FfnSpec
public import Idealize.ShloMosaic.Lib.Pipeline.ValueKit
public import Idealize.ShloMosaic.Lib.Claim

@[expose] public section

set_option maxRecDepth 16384

noncomputable section

namespace Cert.KernelIdeal.FeedForward

open Idealize.ShloMosaic Idealize.ShloMosaic.TcCoe Idealize.SL.Sem
open Idealize.ShloMosaic.Pipeline (Dat)
open Cert.KernelIdeal Cert.KernelIdeal.Gen
open Cert.FfnRow

variable (V : (c : Dev nD) → (b : Ref sig .tc) → Buf (Elt Ideal) ((c : Thread nD τ).loc b))

/-- What one chunk of 512 hidden units adds to a row: the squared rectified units through the down-projection. -/
def chunk (x : Fin 1024 → EReal) (U : Fin 1024 → Fin 512 → EReal) (D : Fin 512 → Fin 1024 → EReal) (l : Fin 1024) : EReal :=
  ∑ k, max (∑ d, x d * U d k) 0 * max (∑ d, x d * U d k) 0 * D k l

/-- The scaled residual of a row. -/
theorem pay4_at (x : Vec Ideal S256x1024 .f32) (r : Fin 256) (l : Fin 1024) :
    k3_pay4 (F := Ideal) x (ix2 r l) = Ideal.ofBits .f32 0x3FB504F3#32 * x (ix2 r l) := by
  pointwise [k3_pay4, k3_pay2]

/-- First chunk. -/
theorem pay5_at (x : Vec Ideal S256x1024 .f32) (u : Vec Ideal S1024x512 .bf16) (a : Vec Ideal S256x1024 .f32) (d : Vec Ideal S512x1024 .bf16) (r : Fin 256) (l : Fin 1024) :
    k3_pay5 (F := Ideal) x u a d (ix2 r l) = a (ix2 r l) + chunk (fun d => x (ix2 r d)) (fun d k => u (ix2 d k)) (fun k l => d (ix2 k l)) l := by
  pointwise [k3_pay5, k3_pay3, k3_pay2, chunk]

/-- Second chunk. -/
theorem pay8_at (x : Vec Ideal S256x1024 .f32) (u : Vec Ideal S1024x512 .bf16) (a : Vec Ideal S256x1024 .f32) (d : Vec Ideal S512x1024 .bf16) (r : Fin 256) (l : Fin 1024) :
    k3_pay8 (F := Ideal) (k3_pay6 x u) a (k3_pay7 d) (ix2 r l) = a (ix2 r l) + chunk (fun d => x (ix2 r d)) (fun d k => u (ix2 d k)) (fun k l => d (ix2 k l)) l := by
  pointwise [k3_pay8, k3_pay7, k3_pay6, k3_pay3, k3_pay2, chunk]

/-- Third chunk. -/
theorem pay9_at (x : Vec Ideal S256x1024 .f32) (u : Vec Ideal S1024x512 .bf16) (a : Vec Ideal S256x1024 .f32) (d : Vec Ideal S512x1024 .bf16) (r : Fin 256) (l : Fin 1024) :
    k3_pay9 (F := Ideal) (k3_pay3 x) u a d (ix2 r l) = a (ix2 r l) + chunk (fun d => x (ix2 r d)) (fun d k => u (ix2 d k)) (fun k l => d (ix2 k l)) l := by
  pointwise [k3_pay9, k3_pay3, k3_pay2, chunk]

/-- Fourth chunk. -/
theorem pay11_at (x : Vec Ideal S256x1024 .f32) (u : Vec Ideal S1024x512 .bf16) (a : Vec Ideal S256x1024 .f32) (d : Vec Ideal S512x1024 .bf16) (r : Fin 256) (l : Fin 1024) :
    k3_pay11 (F := Ideal) (k3_pay10 (k3_pay3 x) u a d) (ix2 r l) = a (ix2 r l) + chunk (fun d => x (ix2 r d)) (fun d k => u (ix2 d k)) (fun k l => d (ix2 k l)) l := by
  pointwise [k3_pay11, k3_pay10, k3_pay3, k3_pay2, chunk]

/-- Fifth chunk. -/
theorem pay12_at (x : Vec Ideal S256x1024 .f32) (u : Vec Ideal S1024x512 .bf16) (a : Vec Ideal S256x1024 .f32) (d : Vec Ideal S512x1024 .bf16) (r : Fin 256) (l : Fin 1024) :
    k3_pay12 (F := Ideal) (k3_pay3 x) u a d (ix2 r l) = a (ix2 r l) + chunk (fun d => x (ix2 r d)) (fun d k => u (ix2 d k)) (fun k l => d (ix2 k l)) l := by
  pointwise [k3_pay12, k3_pay3, k3_pay2, chunk]

/-- Sixth chunk. -/
theorem pay13_at (x : Vec Ideal S256x1024 .f32) (u : Vec Ideal S1024x512 .bf16) (a : Vec Ideal S256x1024 .f32) (d : Vec Ideal S512x1024 .bf16) (r : Fin 256) (l : Fin 1024) :
    k3_pay13 (F := Ideal) (k3_pay3 x) u a d (ix2 r l) = a (ix2 r l) + chunk (fun d => x (ix2 r d)) (fun d k => u (ix2 d k)) (fun k l => d (ix2 k l)) l := by
  pointwise [k3_pay13, k3_pay3, k3_pay2, chunk]

/-- Seventh chunk. -/
theorem pay14_at (x : Vec Ideal S256x1024 .f32) (u : Vec Ideal S1024x512 .bf16) (a : Vec Ideal S256x1024 .f32) (d : Vec Ideal S512x1024 .bf16) (r : Fin 256) (l : Fin 1024) :
    k3_pay14 (F := Ideal) (k3_pay3 x) u a d (ix2 r l) = a (ix2 r l) + chunk (fun d => x (ix2 r d)) (fun d k => u (ix2 d k)) (fun k l => d (ix2 k l)) l := by
  pointwise [k3_pay14, k3_pay3, k3_pay2, chunk]

/-- Eighth chunk. -/
theorem pay15_at (x : Vec Ideal S256x1024 .f32) (u : Vec Ideal S1024x512 .bf16) (a : Vec Ideal S256x1024 .f32) (d : Vec Ideal S512x1024 .bf16) (r : Fin 256) (l : Fin 1024) :
    k3_pay15 (F := Ideal) (k3_pay3 x) u a d (ix2 r l) = a (ix2 r l) + chunk (fun d => x (ix2 r d)) (fun d k => u (ix2 d k)) (fun k l => d (ix2 k l)) l := by
  pointwise [k3_pay15, k3_pay3, k3_pay2, chunk]

/-- The stored row is the normalization of the accumulated one. -/
theorem pay1_at (p : Vec Ideal S256x1024 .f32) (g b : Vec Ideal S1x1024 .f32) (r : Fin 256) (l : Fin 1024) :
    k3_pay1 (F := Ideal) p (k3_pay16 g) b (ix2 r l)
      = layerNorm (fun l => p (ix2 r l)) (fun l => g (ix2 0 l)) (fun l => b (ix2 0 l)) l := by
  pointwise [k3_pay1, k3_pay16, layerNorm, mean]

/-- Eight chunks of 512 hidden units make the row before normalization. -/
theorem preNorm_chunks (x : Fin 1024 → EReal) (U : Fin 1024 → Fin 4096 → EReal) (D : Fin 4096 → Fin 1024 → EReal) (l : Fin 1024) :
    preNorm x U D l = Ideal.ofBits .f32 0x3FB504F3#32 * x l
      + ∑ j : Fin 8, chunk x (fun d k => U d ⟨j.val * 512 + k.val, by omega⟩) (fun k l => D ⟨j.val * 512 + k.val, by omega⟩ l) l := by
  unfold preNorm
  rw [Fin.sum_univ_tiles 8 512 rfl]
  rfl

/-- Which block each window has at point `t`: rows advance by one block, weights and normalization vectors stay. -/
theorem places : ∀ t : Fin cfg3.N, win3_0.index t = ![t.val, 0] ∧ win3_1.index t = ![0, 0] ∧ win3_2.index t = ![0, 0]
    ∧ win3_3.index t = ![0, 0] ∧ win3_4.index t = ![0, 0] ∧ win3_5.index t = ![t.val, 0] :=
  (by decide +kernel : ∀ t : Fin grid3.N, _)

/-- The result array after the run. -/
theorem ffn_final (c : Dev nD) : (dat3 V c).arrAt 5 cfg3.N
    = ffnOf (V c main_v48) (V c main_v51) (V c main_v54) (fun y => V c main_v59 (ix2 0 (y 0))) (fun y => V c main_v60 (ix2 0 (y 0))) := by
  refine (dat3 V c).arrAt_eq_of_covers 5 _ (by decide +kernel) fun t _ y => ?_
  blk_simp
  rw [after3_5, outsAt3]
  frame_out
  obtain ⟨r, l, hy⟩ : ∃ (r : Fin 256) (l : Fin 1024), y = (ix2 r l : S256x1024.Idx) := ⟨y 0, y 1, eq_ix2 (n0 := 256) (n1 := 1024) y⟩
  subst hy
  refine (pay1_at _ _ _ r l).trans ?_
  simp only [pay15_at, pay14_at, pay13_at, pay12_at, pay11_at, pay9_at, pay8_at, pay5_at, pay4_at]
  have e : ((cfg3.win 5).blk t).view.emb (ix2 r l : S256x1024.Idx)
      = (ix2 ⟨t.val * 256 + r.val, by have h : t.val < 64 := lt_of_lt_of_eq t.isLt N_3; omega⟩ l : S16384x1024.Idx) := by
    blk_ext [places t]
  refine Eq.trans ?_ (congrArg (ffnOf _ _ _ _ _) e).symm
  refine layerNorm_congr (fun l => ?_) (fun l => ?_) (fun l => ?_) l
  · refine Eq.trans ?_ (preNorm_chunks _ _ _ l).symm
    rw [Fin.sum_univ_eight]
    simp only [← add_assoc]
    unfold chunk
    pointwise
    blk_point [iblk3, places t]
  · blk_point [iblk3, places t]
  · blk_point [iblk3, places t]

end Cert.KernelIdeal.FeedForward

end
-- ==== Proof.LayerKernel.lean ====
/- The first layer: its four calls and the steps between them, one after another, give the layer's formula. -/
module

public import proofs.«01_k».proof.Proof.Gen.KernelIdeal.Frame
public import proofs.«01_k».proof.Proof.HostSteps
public import proofs.«01_k».proof.Proof.ProjValue
public import proofs.«01_k».proof.Proof.AttnValue
public import proofs.«01_k».proof.Proof.MixValue
public import proofs.«01_k».proof.Proof.FfnValue
public import proofs.«01_k».proof.Proof.LayerReal

@[expose] public section

set_option maxHeartbeats 2000000
set_option maxRecDepth 16384

noncomputable section

namespace Cert.KernelIdeal.Whole

open Idealize.ShloMosaic Idealize.ShloMosaic.TcCoe Idealize.SL.Sem
open Cert.KernelIdeal Cert.KernelIdeal.Gen Cert.KernelIdeal.Host
open Cert.FfnRow Cert.MixRow Cert.Stick Cert.LayerRow

variable (m : (ℓ : Loc nD τ sig) → Buf (Elt Ideal) ℓ) (ρ : Dev nD → PrngReg) (c : Dev nD)

/-- What the layer's input weights are at launch. -/
abbrev inputWeights : (⟨2, ![1024, 2560]⟩ : Shape).Idx → EReal := slice2 0 (m ((c.tc : Thread nD τ).loc main_arg1))

variable (x : (⟨2, ![16384, 1024]⟩ : Shape).Idx → EReal)

/-- The products of the layer's input rows `x` with its input weights. -/
abbrev products : Fin 16384 → Fin 2560 → EReal := productsOf x (inputWeights m c)

theorem entry_products (hx : W1 m ρ c main_v0 = x) : productsOf (V1 m ρ c main_v0) (V1 m ρ c main_v3) = products m c x :=
  congrArg₂ productsOf hx ((inputWeights_eq (W0 m ρ c)).trans (congrArg (slice2 0) (W0_args m ρ c main_arg1 (by decide))))

/-- After the projections the first buffer holds the queries, keys and values. -/
theorem after_qkv (hx : W1 m ρ c main_v0 = x) (R : Fin 16384) (j : Fin 1536) : (W2 m ρ c main_v4_0 (ix2 R j) : EReal) = qkvCol (products m c x) R j := by
  refine (congrFun ((W2_arr m ρ c 2).trans (Projection.qkv_final (V1 m ρ) c)) (ix2 R j)).trans ?_
  rw [entry_products m ρ c x hx]
  rfl

/-- And the second the columns that the mixing reads. -/
theorem after_cp (hx : W1 m ρ c main_v0 = x) : W2 m ρ c main_v4_1 = mixCols (products m c x) := by
  refine ((W2_arr m ρ c 3).trans (Projection.cp_final (V1 m ρ) c)).trans ?_
  rw [entry_products m ρ c x hx]

/-- The attention reads the queries, keys and values by sequence and time. -/
theorem attention_arg (hx : W1 m ρ c main_v0 = x) : Attention.argAt (V5 m ρ) c = qkvAt (products m c x) := by
  funext b t j
  exact (bySequence_at (W2 m ρ c) b t j).trans (after_qkv m ρ c x hx _ j)

/-- After the attention its buffer holds the attention of them, where the products are real. -/
theorem after_attention (hx : W1 m ρ c main_v0 = x) (hP : ∀ R j, IsReal (products m c x R j)) (b : Fin 2) (t : Fin 8192) (e : Fin 512) :
    (W6 m ρ c main_v9 (ix3 b t e) : EReal) = attnAt (qkvAt (products m c x)) b t e := by
  have hX : RealQK (Attention.argAt (V5 m ρ) c) := by
    rw [attention_arg m ρ c x hx]
    exact realQK hP
  refine (congrFun ((W6_arr m ρ c 4).trans (Attention.attn_final (V5 m ρ) c hX (tril_at (W2 m ρ c)))) (ix3 b t e)).trans ?_
  rw [attention_arg m ρ c x hx]
  rfl

/-- The mixing reads the attention's rows. -/
theorem mix_attention (hx : W1 m ρ c main_v0 = x) (hP : ∀ R j, IsReal (products m c x R j)) : V11 m ρ c main_v10 = attnRows (qkvAt (products m c x)) := by
  funext y
  obtain ⟨R, e, rfl⟩ : ∃ (R : Fin 16384) (e : Fin 512), y = ix2 R e := ⟨y 0, y 1, eq_ix2 (n0 := 16384) (n1 := 512) y⟩
  exact (rows_at (W6 m ρ c) R e).trans (after_attention m ρ c x hx hP _ _ e)

/-- The mixing reads the projections' second result. -/
theorem mix_cp (hx : W1 m ρ c main_v0 = x) : V11 m ρ c main_v4_1 = mixCols (products m c x) :=
  (W11_of m ρ c main_v4_1 (by decide)).trans ((W10_of m ρ c main_v4_1 (by decide)).trans ((W9_of m ρ c main_v4_1 (by decide)).trans
    ((W8_of m ρ c main_v4_1 (by decide)).trans ((W7_of m ρ c main_v4_1 (by decide)).trans ((W6_of m ρ c main_v4_1 (by decide)).trans
    ((W5_of m ρ c main_v4_1 (by decide)).trans ((W4_of m ρ c main_v4_1 (by decide)).trans ((W3_of m ρ c main_v4_1 (by decide)).trans (after_cp m ρ c x hx)))))))))

/-- And the layer's input rows. -/
theorem mix_input (hx : W1 m ρ c main_v0 = x) : V11 m ρ c main_v0 = x :=
  (W11_of m ρ c main_v0 (by decide)).trans ((W10_of m ρ c main_v0 (by decide)).trans ((W9_of m ρ c main_v0 (by decide)).trans
    ((W8_of m ρ c main_v0 (by decide)).trans ((W7_of m ρ c main_v0 (by decide)).trans ((W6_of m ρ c main_v0 (by decide)).trans
    ((W5_of m ρ c main_v0 (by decide)).trans ((W4_of m ρ c main_v0 (by decide)).trans ((W3_of m ρ c main_v0 (by decide)).trans ((W2_of m ρ c main_v0 (by decide)).trans hx)))))))))

/-- And the layer's taps. -/
theorem mix_taps : V11 m ρ c main_v12 = slice2 0 (m ((c.tc : Thread nD τ).loc main_arg2)) :=
  (taps_eq (W6 m ρ c)).trans (congrArg (slice2 0) (W6_args m ρ c main_arg2 (by decide)))

/-- The rows after the mixing. -/
abbrev mixedRows : (⟨2, ![16384, 1024]⟩ : Shape).Idx → EReal :=
  mixOf x (attnRows (qkvAt (products m c x))) (mixCols (products m c x)) (slice2 0 (m ((c.tc : Thread nD τ).loc main_arg2)))
    (slice3 0 (m ((c.tc : Thread nD τ).loc main_arg3))) (slice1 0 (m ((c.tc : Thread nD τ).loc main_arg4))) (slice1 0 (m ((c.tc : Thread nD τ).loc main_arg5)))
    (slice2 0 (m ((c.tc : Thread nD τ).loc main_arg6))) (slice1 0 (m ((c.tc : Thread nD τ).loc main_arg7))) (slice1 0 (m ((c.tc : Thread nD τ).loc main_arg8)))

/-- After the mixing its buffer holds the mixed rows, where the five arrays that make them are real. -/
theorem after_mix (hx : W1 m ρ c main_v0 = x) (hP : ∀ R j, IsReal (products m c x R j)) (h2 : ∀ y, IsReal (slice2 0 (m ((c.tc : Thread nD τ).loc main_arg2)) y))
    (h3 : ∀ y, IsReal (slice3 0 (m ((c.tc : Thread nD τ).loc main_arg3)) y)) (h4 : ∀ y, IsReal (slice1 0 (m ((c.tc : Thread nD τ).loc main_arg4)) y)) :
    W12 m ρ c main_v48 = mixedRows m c x := by
  have hR : RealArrays (V11 m ρ c main_v10) (V11 m ρ c main_v4_1) (V11 m ρ c main_v12) (slice3 0 (m ((c.tc : Thread nD τ).loc main_arg3)))
      (slice1 0 (m ((c.tc : Thread nD τ).loc main_arg4))) := by
    refine ⟨?_, ?_, ?_, h3, h4⟩
    · rw [mix_attention m ρ c x hx hP]
      exact attnRows_real hP
    · rw [mix_cp m ρ c x hx]
      exact fun y => hP _ _
    · rw [mix_taps m ρ c]
      exact h2
  refine (W12_arr m ρ c 12).trans ((Mixing.mix_final (V11 m ρ) c _ _ (slice1 0 (m ((c.tc : Thread nD τ).loc main_arg5)))
    (slice2 0 (m ((c.tc : Thread nD τ).loc main_arg6))) (slice1 0 (m ((c.tc : Thread nD τ).loc main_arg7)))
    (slice1 0 (m ((c.tc : Thread nD τ).loc main_arg8))) hR ?_ ?_ ?_ ?_ ?_ ?_ ?_).trans ?_)
  · exact fun k q => (blockDiag_at (W6 m ρ c) k q).trans (if_congr Iff.rfl (congrFun (W6_args m ρ c main_arg3 (by decide)) _) rfl)
  · exact ones_at (W6 m ρ c)
  · exact fun l => (scale_at (W6 m ρ c) l).trans (congrFun (W6_args m ρ c main_arg4 (by decide)) _)
  · exact fun d => (gain_at (W6 m ρ c) d).trans (congrFun (W6_args m ρ c main_arg5 (by decide)) _)
  · exact fun e d => (weights_at (W6 m ρ c) e d).trans (congrFun (W6_args m ρ c main_arg6 (by decide)) _)
  · exact fun d => (normGain_at (W6 m ρ c) d).trans (congrFun (W6_args m ρ c main_arg7 (by decide)) _)
  · exact fun d => (normBias_at (W6 m ρ c) d).trans (congrFun (W6_args m ρ c main_arg8 (by decide)) _)
  · rw [mix_attention m ρ c x hx hP, mix_cp m ρ c x hx, mix_input m ρ c x hx, mix_taps m ρ c]

/-- After the layer's last call its buffer holds the layer's formula of its input rows, where they, the input weights and the mixing's own arrays are real. -/
theorem layer_final (hx : W1 m ρ c main_v0 = x) (h0 : ∀ y, IsReal (x y)) (h1 : ∀ y, IsReal (m ((c.tc : Thread nD τ).loc main_arg1) y))
    (h2 : ∀ y, IsReal (m ((c.tc : Thread nD τ).loc main_arg2) y)) (h3 : ∀ y, IsReal (m ((c.tc : Thread nD τ).loc main_arg3) y))
    (h4 : ∀ y, IsReal (m ((c.tc : Thread nD τ).loc main_arg4) y)) :
    W14 m ρ c main_v61
      = layerAt 0 x (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  have hm : V13 m ρ c main_v48 = mixedRows m c x := (W13_of m ρ c main_v48 (by decide)).trans
    (after_mix m ρ c x hx (productsOf_real h0 fun y => h1 _) (fun y => h2 _) (fun y => h3 _) (fun y => h4 _))
  have hu : V13 m ρ c main_v51 = slice2 0 (m ((c.tc : Thread nD τ).loc main_arg9)) :=
    (up_eq (W12 m ρ c)).trans (congrArg (slice2 0) (W12_args m ρ c main_arg9 (by decide)))
  have hd : V13 m ρ c main_v54 = slice2 0 (m ((c.tc : Thread nD τ).loc main_arg10)) :=
    (down_eq (W12 m ρ c)).trans (congrArg (slice2 0) (W12_args m ρ c main_arg10 (by decide)))
  have hg : (fun y : (⟨1, ![1024]⟩ : Shape).Idx => V13 m ρ c main_v59 (ix2 0 (y 0))) = slice1 0 (m ((c.tc : Thread nD τ).loc main_arg11)) := by
    funext y
    exact (lastGain_at (W12 m ρ c) (y 0)).trans (congrFun (W12_args m ρ c main_arg11 (by decide)) _)
  have hb : (fun y : (⟨1, ![1024]⟩ : Shape).Idx => V13 m ρ c main_v60 (ix2 0 (y 0))) = slice1 0 (m ((c.tc : Thread nD τ).loc main_arg12)) := by
    funext y
    exact (lastBias_at (W12 m ρ c) (y 0)).trans (congrFun (W12_args m ρ c main_arg12 (by decide)) _)
  refine ((W14_arr m ρ c 5).trans (FeedForward.ffn_final (V13 m ρ) c)).trans ?_
  rw [hm, hu, hd, hg, hb]
  rfl

end Cert.KernelIdeal.Whole

end
-- ==== Proof.SecondHostSteps.lean ====
/- The second layer: what the steps between the four calls leave in the buffers the calls read, as functions of what was there before. -/
module

public import proofs.«01_k».proof.Proof.Gen.KernelIdeal.Launch
public import proofs.«01_k».proof.Proof.LayerReal
public import proofs.«01_k».proof.Proof.HostSteps
public import Idealize.ShloMosaic.Lib.Pipeline.ValueKit
public import Idealize.ShloMosaic.Lib.WordCmp

@[expose] public section

set_option maxRecDepth 16384

noncomputable section

namespace Cert.KernelIdeal.SecondHost

open Idealize.ShloMosaic Idealize.ShloMosaic.TcCoe Idealize.SL.Sem
open Cert.KernelIdeal Cert.KernelIdeal.Gen
open Cert.LayerRow
open Cert.KernelIdeal.Host (headWord headWord_fin sameHead_fin)

/-- What the buffers hold after the steps between the projections and the attention. -/
abbrev afterAttentionPrep (W : Valuation τ sig (Elt Ideal)) : Valuation τ sig (Elt Ideal) :=
  StableHlo.after hostOps5_2 (StableHlo.after hostOps5_1 (StableHlo.after hostOps5 W))

/-- What the buffers hold after the steps between the attention and the mixing. -/
abbrev afterMixPrep (W : Valuation τ sig (Elt Ideal)) : Valuation τ sig (Elt Ideal) :=
  StableHlo.after hostOps6_4 (StableHlo.after hostOps6_3 (StableHlo.after hostOps6_2 (StableHlo.after hostOps6_1 (StableHlo.after hostOps6 W))))

/-- The matrix of ones on and below the diagonal, as the host builds it. -/
theorem tril_at (W : Valuation τ sig (Elt Ideal)) (a b : Fin 256) : afterAttentionPrep W main_v69 (ix2 a b) = if b ≤ a then (1 : EReal) else 0 := by
  simp only [afterAttentionPrep, hostOps5, hostOps5_1, hostOps5_2]
  after_results_simp
  simp only [StableHlo.TRef.toBuf, StableHlo.TRef.ofBuf, cast_eq]
  pointwise
  have ha := a.isLt
  have hb := b.isLt
  have h : IntOp.cmpi CmpIPredicate.sge (IntOp.addi (BitVec.ofNat 32 a.val) 0#32) (BitVec.ofNat 32 b.val) = 1 ↔ b ≤ a := by
    rw [show IntOp.addi (BitVec.ofNat 32 a.val) 0#32 = BitVec.ofNat 32 a.val from BitVec.add_zero _]
    exact (WordCmp.cmpi_sge_ofNat_eq_one_iff (w := 32) (by omega) (by omega)).trans Fin.le_def.symm
  unfold Scalar.select
  simp only [h]

/-- The layer's four pooling matrices. -/
def poolMats (W : Valuation τ sig (Elt Ideal)) (g : Fin 4) (i j : Fin 64) : EReal := W main_arg3 (ix4 1 g i j)

/-- The pooling's matrix as the host lays it out: four 64 × 64 matrices on the diagonal of a 256 × 256 one. -/
theorem blockDiag_at (W : Valuation τ sig (Elt Ideal)) (k q : Fin 256) : afterMixPrep W main_v96 (ix2 k q)
    = if k.val / 64 = q.val / 64 then poolMats W ⟨q.val / 64, by omega⟩ ⟨k.val % 64, by omega⟩ ⟨q.val % 64, by omega⟩ else (0 : EReal) := by
  simp only [afterMixPrep, hostOps6, hostOps6_1, hostOps6_2, hostOps6_3, hostOps6_4]
  after_results_simp
  simp only [StableHlo.TRef.toBuf, StableHlo.TRef.ofBuf, cast_eq]
  pointwise
  after_results_simp
  simp only [StableHlo.TRef.toBuf, StableHlo.TRef.ofBuf, cast_eq]
  pointwise
  show (if h : k.val < 64 then (pad S64x256 ![0, 0] ![0, 192] ![0, 0] (fun i : S64x64.Idx => poolMats W 0 (i 0) (i 1)) (constant (F := Ideal) S_ FTy.f32 0#32) pads_S64x64_S64x256_000_01920 h_S_ (ix2 ⟨k.val, h⟩ q) : EReal)
    else if h : k.val - 64 < 64 then (pad S64x256 ![0, 64] ![0, 128] ![0, 0] (fun i : S64x64.Idx => poolMats W 1 (i 0) (i 1)) (constant (F := Ideal) S_ FTy.f32 0#32) pads_S64x64_S64x256_000_641280 h_S_ (ix2 ⟨k.val - 64, h⟩ q) : EReal)
    else if h : k.val - 64 - 64 < 64 then (pad S64x256 ![0, 128] ![0, 64] ![0, 0] (fun i : S64x64.Idx => poolMats W 2 (i 0) (i 1)) (constant (F := Ideal) S_ FTy.f32 0#32) pads_S64x64_S64x256_000_128640 h_S_ (ix2 ⟨k.val - 64 - 64, h⟩ q) : EReal)
    else (pad S64x256 ![0, 192] ![0, 0] ![0, 0] (fun i : S64x64.Idx => poolMats W 3 (i 0) (i 1)) (constant (F := Ideal) S_ FTy.f32 0#32) pads_S64x64_S64x256_000_19200 h_S_ (ix2 ⟨k.val - 64 - 64 - 64, by omega⟩ q) : EReal)) = _
  pointwise
  have e : ∀ (g g' : Fin 4) (i i' j j' : Fin 64), g.val = g'.val → i.val = i'.val → j.val = j'.val → poolMats W g i j = poolMats W g' i' j' :=
    fun g g' i i' j j' hg hi hj => by rw [Fin.ext hg, Fin.ext hi, Fin.ext hj]
  have hk := k.isLt
  have hq := q.isLt
  split_ifs <;> first
    | rfl
    | (exfalso; omega)
    | (refine e _ _ _ _ _ _ ?_ ?_ ?_ <;> dsimp only [Fin.val_zero, Fin.val_one, Fin.val_two] <;> omega)
    | (refine e _ _ _ _ _ _ ?_ ?_ ?_ <;> first | omega | (show (3 : ℕ) = q.val / 64; omega) | (show (1 : ℕ) = q.val / 64; omega) | (show (2 : ℕ) = q.val / 64; omega) | (show (0 : ℕ) = q.val / 64; omega))

/-- The heads' ones as the host lays them out. -/
theorem ones_at (W : Valuation τ sig (Elt Ideal)) (k q : Fin 256) : afterMixPrep W main_v104 (ix2 k q) = if k.val / 64 = q.val / 64 then (1 : EReal) else (0 : EReal) := by
  simp only [afterMixPrep, hostOps6, hostOps6_1, hostOps6_2, hostOps6_3, hostOps6_4]
  after_results_simp
  simp only [StableHlo.TRef.toBuf, StableHlo.TRef.ofBuf, cast_eq]
  pointwise
  show (FloatOps.uitofp (F := Ideal) .bf16 (IntOp.cmpi CmpIPredicate.eq (headWord (BitVec.ofNat 32 k.val)) (headWord (BitVec.ofNat 32 q.val))) : EReal) = _
  rw [headWord_fin, headWord_fin, sameHead_fin ⟨k.val / 64, by omega⟩ ⟨q.val / 64, by omega⟩]
  by_cases h : k.val / 64 = q.val / 64
  · rw [if_pos h, if_pos h]
    show (((1#1 : BitVec 1).toNat : ℝ) : EReal) = 1
    norm_num
  · rw [if_neg h, if_neg h]
    show (((0#1 : BitVec 1).toNat : ℝ) : EReal) = 0
    norm_num

/-- The pooling's scales as one row. -/
theorem scale_at (W : Valuation τ sig (Elt Ideal)) (l : Fin 256) : afterMixPrep W main_v105 (ix2 0 l) = W main_arg4 (ix2 1 l) := by
  simp only [afterMixPrep, hostOps6, hostOps6_1, hostOps6_2, hostOps6_3, hostOps6_4]
  after_results_simp
  pointwise

/-- The gains as one row. -/
theorem gain_at (W : Valuation τ sig (Elt Ideal)) (d : Fin 1024) : afterMixPrep W main_v106 (ix2 0 d) = W main_arg5 (ix2 1 d) := by
  simp only [afterMixPrep, hostOps6, hostOps6_1, hostOps6_2, hostOps6_3, hostOps6_4]
  after_results_simp
  pointwise

/-- The last normalization's gains as one row. -/
theorem normGain_at (W : Valuation τ sig (Elt Ideal)) (d : Fin 1024) : afterMixPrep W main_v107 (ix2 0 d) = W main_arg7 (ix2 1 d) := by
  simp only [afterMixPrep, hostOps6, hostOps6_1, hostOps6_2, hostOps6_3, hostOps6_4]
  after_results_simp
  pointwise

/-- The last normalization's biases as one row. -/
theorem normBias_at (W : Valuation τ sig (Elt Ideal)) (d : Fin 1024) : afterMixPrep W main_v108 (ix2 0 d) = W main_arg8 (ix2 1 d) := by
  simp only [afterMixPrep, hostOps6, hostOps6_1, hostOps6_2, hostOps6_3, hostOps6_4]
  after_results_simp
  pointwise

/-- The output weights. -/
theorem weights_at (W : Valuation τ sig (Elt Ideal)) (e d : Fin 1024) : afterMixPrep W main_v82 (ix2 e d) = W main_arg6 (ix3 1 e d) := by
  simp only [afterMixPrep, hostOps6, hostOps6_1, hostOps6_2, hostOps6_3, hostOps6_4]
  after_results_simp
  pointwise

/-- The input weights as the projections read them. -/
theorem inputWeights_eq (W : Valuation τ sig (Elt Ideal)) : StableHlo.after hostOps4 W main_v64 = slice2 1 (W main_arg1) := by
  simp only [hostOps4]
  after_results_simp
  funext y
  obtain ⟨i, j, rfl⟩ : ∃ i j, y = ix2 i j := ⟨y 0, y 1, eq_ix2 y⟩
  pointwise [slice2]

/-- The projections' first result by sequence and time. -/
theorem bySequence_at (W : Valuation τ sig (Elt Ideal)) (b : Fin 2) (t : Fin 8192) (j : Fin 1536) : afterAttentionPrep W main_v66 (ix3 b t j) = W main_v65_0 (ix2 ⟨b.val * 8192 + t.val, by omega⟩ j) := by
  simp only [afterAttentionPrep, hostOps5, hostOps5_1, hostOps5_2]
  after_results_simp
  pointwise

/-- The attention's result with its rows in one axis. -/
theorem rows_at (W : Valuation τ sig (Elt Ideal)) (R : Fin 16384) (e : Fin 512) : afterMixPrep W main_v71 (ix2 R e) = W main_v70 (ix3 ⟨R.val / 8192, by omega⟩ ⟨R.val % 8192, by omega⟩ e) := by
  simp only [afterMixPrep, hostOps6, hostOps6_1, hostOps6_2, hostOps6_3, hostOps6_4]
  after_results_simp
  pointwise

/-- The convolution's taps. -/
theorem taps_eq (W : Valuation τ sig (Elt Ideal)) : afterMixPrep W main_v73 = slice2 1 (W main_arg2) := by
  simp only [afterMixPrep, hostOps6, hostOps6_1, hostOps6_2, hostOps6_3, hostOps6_4]
  after_results_simp
  funext y
  obtain ⟨i, j, rfl⟩ : ∃ i j, y = ix2 i j := ⟨y 0, y 1, eq_ix2 y⟩
  pointwise [slice2]

/-- The last rows as two sequences. -/
theorem output_eq (W : Valuation τ sig (Elt Ideal)) : StableHlo.after hostOps8 W main_v123 = bySequence (W main_v122) := by
  simp only [hostOps8]
  after_results_simp
  funext y
  obtain ⟨i, j, k, rfl⟩ : ∃ i j k, y = ix3 i j k := ⟨y 0, y 1, y 2, eq_ix3 y⟩
  pointwise [bySequence]

/-- The first feed-forward weights. -/
theorem up_eq (W : Valuation τ sig (Elt Ideal)) : StableHlo.after hostOps7 W main_v112 = slice2 1 (W main_arg9) := by
  simp only [hostOps7]
  after_results_simp
  funext y
  obtain ⟨i, j, rfl⟩ : ∃ i j, y = ix2 i j := ⟨y 0, y 1, eq_ix2 y⟩
  pointwise [slice2]

/-- The second feed-forward weights. -/
theorem down_eq (W : Valuation τ sig (Elt Ideal)) : StableHlo.after hostOps7 W main_v115 = slice2 1 (W main_arg10) := by
  simp only [hostOps7]
  after_results_simp
  funext y
  obtain ⟨i, j, rfl⟩ : ∃ i j, y = ix2 i j := ⟨y 0, y 1, eq_ix2 y⟩
  pointwise [slice2]

/-- The last gains as one row. -/
theorem lastGain_at (W : Valuation τ sig (Elt Ideal)) (l : Fin 1024) : StableHlo.after hostOps7 W main_v120 (ix2 0 l) = W main_arg11 (ix2 1 l) := by
  simp only [hostOps7]
  after_results_simp
  pointwise

/-- The last biases as one row. -/
theorem lastBias_at (W : Valuation τ sig (Elt Ideal)) (l : Fin 1024) : StableHlo.after hostOps7 W main_v121 (ix2 0 l) = W main_arg12 (ix2 1 l) := by
  simp only [hostOps7]
  after_results_simp
  pointwise

end Cert.KernelIdeal.SecondHost
end
-- ==== Proof.SecondProjValue.lean ====
/- The second layer: what the projection call leaves in its two result arrays, as functions of what its two argument arrays hold. -/
module

public import proofs.«01_k».proof.Proof.Gen.KernelIdeal.Frame.Region4
public import proofs.«01_k».proof.Proof.LayerSpec
public import Idealize.ShloMosaic.Lib.Pipeline.ValueKit
public import Idealize.ShloMosaic.Lib.Claim

@[expose] public section

set_option maxHeartbeats 2000000
set_option maxRecDepth 16384

noncomputable section

namespace Cert.KernelIdeal.SecondProjection

open Idealize.ShloMosaic Idealize.ShloMosaic.TcCoe Idealize.SL.Sem
open Idealize.ShloMosaic.Pipeline (Dat)
open Cert.KernelIdeal Cert.KernelIdeal.Gen
open Cert.LayerRow

variable (V : (c : Dev nD) → (b : Ref sig .tc) → Buf (Elt Ideal) ((c : Thread nD τ).loc b))

/-- The constant the queries are scaled by. -/
theorem q_scale_ideal : Named.named (F := Ideal) (φ := .f32) κ "q_scale" 0xBE38AA3B#32 = ((qScale : ℝ) : EReal) := rfl

/-- Which block each window has at point `t`: the rows advance by one block, the weights stay. -/
theorem places : ∀ t : Fin cfg4.N, win4_0.index t = ![t.val, 0] ∧ win4_1.index t = ![0, 0]
    ∧ win4_2.index t = ![t.val, 0] ∧ win4_3.index t = ![t.val, 0] :=
  (by decide +kernel : ∀ t : Fin grid4.N, _)

/-- One block of queries, keys and values is the formula's at the block's rows. -/
theorem qkv_point (c : Dev nD) (t : Fin cfg4.N) (y) :
    out4_2 (iblk4 V c 0 t) (iblk4 V c 1 t) y
      = (fun y : S16384x1536.Idx => qkvCol (productsOf (V c main_v61) (V c main_v64)) (y 0) (y 1)) (((cfg4.win 2).blk t).view.emb y) := by
  unfold out4_2
  canon_tiles x h
  all_goals (pointwise [k4_pay1, k4_pay2, k4_pay3, k4_pay4, q_scale_ideal, qkvCol, productsOf, prodAt]; blk_simp [places t]; pointwise [h0, h1])
  case piece0 =>
    rw [if_neg (by omega)]
    blk_point [iblk4, places t]
  all_goals blk_point [iblk4, places t]

/-- One block of the mixer's input columns is the formula's at the block's rows. -/
theorem cp_point (c : Dev nD) (t : Fin cfg4.N) (y) :
    out4_3 (iblk4 V c 0 t) (iblk4 V c 1 t) y = mixCols (productsOf (V c main_v61) (V c main_v64)) (((cfg4.win 3).blk t).view.emb y) := by
  unfold out4_3
  canon_tiles x h
  all_goals (pointwise [k4_pay1, k4_pay5, k4_pay6, mixCols, productsOf, prodAt]; blk_point [iblk4, places t])

/-- The first result array after the run. -/
theorem qkv_final (c : Dev nD) : (dat4 V c).arrAt 2 cfg4.N
    = fun y : S16384x1536.Idx => qkvCol (productsOf (V c main_v61) (V c main_v64)) (y 0) (y 1) := by
  refine (dat4 V c).arrAt_eq_of_covers 2 _ (by decide +kernel) fun t _ y => ?_
  blk_simp
  rw [after4_2]
  exact qkv_point V c t y

/-- The second result array after the run. -/
theorem cp_final (c : Dev nD) : (dat4 V c).arrAt 3 cfg4.N = mixCols (productsOf (V c main_v61) (V c main_v64)) := by
  refine (dat4 V c).arrAt_eq_of_covers 3 _ (by decide +kernel) fun t _ y => ?_
  blk_simp
  rw [after4_3]
  exact cp_point V c t y

end Cert.KernelIdeal.SecondProjection

end
-- ==== Proof.SecondAttnBlock.lean ====
/- The second layer: one block of 256 keys of the stick-breaking kernel, read at an index: its scores, the sums of kept logarithms from each
   key to the block's end, what the block adds to the output row and to the running sum. -/
module

public import proofs.«01_k».proof.Proof.Gen.KernelIdeal.Frame.Region5
public import Idealize.ShloMosaic.Lib.Pipeline.ValueKit
public import Idealize.ShloMosaic.Lib.Claim
public import proofs.«01_k».proof.Proof.StickMath

@[expose] public section

set_option maxRecDepth 16384

noncomputable section

namespace Cert.KernelIdeal.SecondBlock

open Idealize.ShloMosaic Idealize.ShloMosaic.TcCoe Idealize.SL.Sem
open Idealize.ShloMosaic.Pipeline (Dat)
open Cert.KernelIdeal Cert.KernelIdeal.Gen

open Cert.Stick

/-- The product of a query row with a key row. -/
def score (q k : Vec Ideal S256x128 .bf16) (r s : Fin 256) : EReal := ∑ l : Fin 128, q (ix2 r l) * k (ix2 s l)

theorem log2e_ideal : Named.named (F := Ideal) (φ := .f32) κ "log2e" 0x3FB8AA3B#32 = (((Real.log 2)⁻¹ : ℝ) : EReal) := rfl

/-- Selecting by the comparison of two small positions. -/
theorem select_lt (x r : Fin 256) (a b : EReal) :
    Scalar.select (IntOp.cmpi CmpIPredicate.slt (BitVec.ofNat 32 x.val) (BitVec.ofNat 32 r.val)) a b = if x < r then a else b := by
  unfold Scalar.select
  have h : IntOp.cmpi CmpIPredicate.slt (BitVec.ofNat 32 x.val) (BitVec.ofNat 32 r.val) = 1 ↔ x < r :=
    (WordCmp.cmpi_slt_ofNat_eq_one_iff (w := 32) (by have := x.isLt; omega) (by have := r.isLt; omega)).trans Fin.lt_def.symm
  simp only [h]

/-- The scores of a block. -/
theorem pay12_at (q k : Vec Ideal S256x128 .bf16) (r s : Fin 256) : k5_pay12 (F := Ideal) q k (ix2 r s) = score q k r s := by
  pointwise [k5_pay12, score]

/-- The kept logarithms of a block, before masking. -/
theorem pay47_at (q k : Vec Ideal S256x128 .bf16) (r s : Fin 256) (n : ℝ) (hn : score q k r s = (n : EReal)) :
    k5_pay47 (F := Ideal) q k (ix2 r s) = (logKeep n : EReal) := by
  have h46 : k5_pay46 (F := Ideal) q k (ix2 r s) = score q k r s := pay12_at q k r s
  pointwise [k5_pay47, log2e_ideal, h46, hn]
  exact keep_two n

section

variable {q k : Vec Ideal S256x128 .bf16} {u : Vec Ideal S256x256 .bf16} {n : Fin 256 → Fin 256 → ℝ}

/-- A sum against a column of the lower triangular matrix of ones. -/
theorem tri_sum (hu : ∀ a b : Fin 256, u (ix2 a b) = if b ≤ a then 1 else 0) (g : Fin 256 → ℝ) (s : Fin 256) :
    ∑ x, (g x : EReal) * u (ix2 x s) + ∑ x, ((g x : EReal) - (g x : EReal)) * u (ix2 x s)
      = ((∑ x, if s ≤ x then g x else 0 : ℝ) : EReal) := by
  simp only [hu, ← EReal.coe_sub, sub_self, EReal.coe_zero, zero_mul, Finset.sum_const_zero, add_zero, mul_ite, mul_one, mul_zero, ite_self]
  refine Eq.trans ?_ (ereal_sum Finset.univ fun x => if s ≤ x then g x else 0)
  refine Finset.sum_congr rfl fun x _ => ?_
  split_ifs <;> rfl

/-- The sums of kept logarithms from each key to the end of the block. -/
theorem pay13_at (hn : ∀ r s, score q k r s = (n r s : EReal)) (hu : ∀ a b : Fin 256, u (ix2 a b) = if b ≤ a then 1 else 0) (r s : Fin 256) :
    k5_pay13 (F := Ideal) q u k (ix2 r s) = ((∑ x, if s ≤ x then logKeep (n r x) else 0 : ℝ) : EReal) := by
  have e : ∀ x, min (score q k r x) 0 - Ideal.log (1 + FloatOps.exp2 (F := Ideal) (φ := .f32) (0 - FloatOps.absf (F := Ideal) (φ := .f32) (score q k r x))) * (((Real.log 2)⁻¹ : ℝ) : EReal)
      = (logKeep (n r x) : EReal) := fun x => by rw [hn]; exact keep_two _
  pointwise [k5_pay13, log2e_ideal, pay12_at]
  simp only [e]
  exact tri_sum hu _ s

/-- What a whole block adds to a row of the output. -/
theorem pay14_at (hn : ∀ r s, score q k r s = (n r s : EReal)) (hu : ∀ a b : Fin 256, u (ix2 a b) = if b ≤ a then 1 else 0)
    (v : Vec Ideal S256x128 .bf16) (R : Vec Ideal S1x256x1 .f32) (ρ : Fin 256 → ℝ) (hR : ∀ r, R (ix3 0 r 0) = (ρ r : EReal)) (r : Fin 256) (l : Fin 128) :
    k5_pay14 (F := Ideal) q u k v R (ix2 r l)
      = ∑ s, (((2 : ℝ) ^ ((∑ x, if s ≤ x then logKeep (n r x) else 0) + ρ r - n r s) : ℝ) : EReal) * v (ix2 s l) := by
  pointwise [k5_pay14, k5_pay11, pay12_at]
  refine Finset.sum_congr rfl fun s _ => ?_
  rw [pay13_at hn hu, hR, hn, ← EReal.coe_add, ← EReal.coe_sub]
  rfl

/-- What a whole block adds to the running sum. -/
theorem pay15_at (hn : ∀ r s, score q k r s = (n r s : EReal)) (hu : ∀ a b : Fin 256, u (ix2 a b) = if b ≤ a then 1 else 0)
    (R : Vec Ideal S1x256x1 .f32) (ρ : Fin 256 → ℝ) (hR : ∀ r, R (ix3 0 r 0) = (ρ r : EReal)) (r : Fin 256) :
    k5_pay15 (F := Ideal) q u k R (ix2 r 0) = ((ρ r + ∑ x, logKeep (n r x) : ℝ) : EReal) := by
  pointwise [k5_pay15, k5_pay11]
  rw [pay13_at hn hu, hR, ← EReal.coe_add]
  simp only [Fin.zero_le, if_true]

/-- The masked sums of the diagonal block. -/
theorem pay48_at (hn : ∀ r s, score q k r s = (n r s : EReal)) (hu : ∀ a b : Fin 256, u (ix2 a b) = if b ≤ a then 1 else 0) (r s : Fin 256) :
    k5_pay48 (F := Ideal) u k5_pay35 (k5_pay47 q k) (0 : EReal) (ix2 r s)
      = ((∑ x, if s ≤ x then (if x < r then logKeep (n r x) else 0) else 0 : ℝ) : EReal) := by
  have e : ∀ x, k5_pay47 (F := Ideal) q k (ix2 r x) = (logKeep (n r x) : EReal) := fun x => pay47_at q k r x _ (hn r x)
  pointwise [k5_pay48, k5_pay35]
  simp only [e, select_lt]
  have h := tri_sum hu (fun x => if x < r then logKeep (n r x) else 0) s
  rw [← h]
  congr 1
  · refine Finset.sum_congr rfl fun x _ => ?_
    split_ifs
    · rfl
    · rw [EReal.coe_zero, zero_mul]
  · refine Finset.sum_congr rfl fun x _ => ?_
    split_ifs <;> rfl

/-- What the diagonal block gives a row of the output. -/
theorem pay49_at (hn : ∀ r s, score q k r s = (n r s : EReal)) (hu : ∀ a b : Fin 256, u (ix2 a b) = if b ≤ a then 1 else 0)
    (v : Vec Ideal S256x128 .bf16) (r : Fin 256) (l : Fin 128) :
    k5_pay49 (F := Ideal) u k5_pay35 v k5_pay45 (k5_pay46 q k) (k5_pay47 q k) (FloatOps.ofBits FTy.f32 0#32) (ix3 0 r l)
      = ∑ s, ((if s < r then (2 : ℝ) ^ ((∑ x, if s ≤ x then (if x < r then logKeep (n r x) else 0) else 0) - n r s) else 0 : ℝ) : EReal) * v (ix2 s l) := by
  have h46 : ∀ s, k5_pay46 (F := Ideal) q k (ix2 r s) = score q k r s := fun s => pay12_at q k r s
  have h48 := fun s => pay48_at hn hu r s
  pointwise [k5_pay49, k5_pay45]
  refine Finset.sum_congr rfl fun s _ => ?_
  rw [h46, hn, h48 s, ← EReal.coe_sub]
  have h35 : k5_pay35 (ix2 r s) = IntOp.cmpi CmpIPredicate.slt (BitVec.ofNat 32 s.val) (BitVec.ofNat 32 r.val) := by
    pointwise [k5_pay35]
  rw [h35, select_lt]
  split_ifs
  · rfl
  · rw [EReal.coe_zero, zero_mul]

/-- What the diagonal block gives the running sum. -/
theorem pay50_at (hn : ∀ r s, score q k r s = (n r s : EReal)) (hu : ∀ a b : Fin 256, u (ix2 a b) = if b ≤ a then 1 else 0) (r : Fin 256) :
    k5_pay50 (F := Ideal) u k5_pay35 k5_pay45 (k5_pay47 q k) (FloatOps.ofBits FTy.f32 0#32) (ix3 0 r 0)
      = ((∑ x, (if x < r then logKeep (n r x) else 0) : ℝ) : EReal) := by
  have h48 := pay48_at hn hu r 0
  pointwise [k5_pay50, k5_pay45]
  refine Eq.trans h48 ?_
  simp only [Fin.zero_le, if_true]

end

theorem head0 (q u k v R) : k5_pay7 (F := Ideal) q u k v R = k5_pay14 q u (k5_pay2 k) (k5_pay3 v) R := rfl
theorem head0' (q u k R) : k5_pay8 (F := Ideal) q u k R = k5_pay15 q u (k5_pay2 k) R := rfl
theorem diag0 (x u k v) : k5_pay43 (F := Ideal) u k5_pay35 v k5_pay38 (k5_pay39 x k) (k5_pay40 x k) (k5_pay41 x k)
   = k5_pay49 u k5_pay35 v k5_pay45 (k5_pay46 (k5_pay32 x) (k5_pay36 k)) (k5_pay47 (k5_pay32 x) (k5_pay36 k)) (FloatOps.ofBits FTy.f32 0#32) := rfl
theorem diag0' (x u k) : k5_pay44 (F := Ideal) u k5_pay35 k5_pay38 (k5_pay40 x k) (k5_pay41 x k)
   = k5_pay50 u k5_pay35 k5_pay45 (k5_pay47 (k5_pay32 x) (k5_pay36 k)) (FloatOps.ofBits FTy.f32 0#32) := rfl
end Cert.KernelIdeal.SecondBlock
end
-- ==== Proof.SecondAttnLoop.lean ====
/- The second layer: the stick-breaking kernel's two running buffers, per head: what a trip of its loop over earlier key blocks writes there, and
   what the buffers hold after any number of trips. -/
module

public import proofs.«01_k».proof.Proof.Gen.KernelIdeal.Frame.Region5
public import Idealize.ShloMosaic.Lib.Pipeline.ValueKit
public import Idealize.ShloMosaic.Lib.Claim
public import Idealize.ShloMosaic.Lib.WritesUnit
public import proofs.«01_k».proof.Proof.SecondAttnBlock

@[expose] public section

set_option maxRecDepth 16384

noncomputable section

namespace Cert.KernelIdeal.SecondTrips

open Idealize.ShloMosaic Idealize.ShloMosaic.TcCoe Idealize.SL.Sem
open Idealize.ShloMosaic.Pipeline (Dat)
open Cert.KernelIdeal Cert.KernelIdeal.Gen

open Cert.Stick Cert.KernelIdeal.SecondBlock

/-! ### Payloads that only reshape or add -/

theorem pay9_at (a : FVec Ideal S256x128 .f32) (x : Vec Ideal S1x256x128 .f32) (r : Fin 256) (l : Fin 128) :
    k5_pay9 (F := Ideal) a x (ix3 0 r l) = x (ix3 0 r l) + a (ix2 r l) := by pointwise [k5_pay9]
theorem pay51_at (a : FVec Ideal S256x128 .f32) (x : Vec Ideal S1x256x128 .f32) (r : Fin 256) (l : Fin 128) :
    k5_pay51 (F := Ideal) a x (ix3 0 r l) = x (ix3 0 r l) + a (ix2 r l) := by pointwise [k5_pay51]
theorem pay10_at (a : FVec Ideal S256x1 .f32) (r : Fin 256) : k5_pay10 (F := Ideal) a (ix3 0 r 0) = a (ix2 r 0) := by pointwise [k5_pay10]
theorem pay52_at (a : FVec Ideal S256x1 .f32) (r : Fin 256) : k5_pay52 (F := Ideal) a (ix3 0 r 0) = a (ix2 r 0) := by pointwise [k5_pay52]
theorem pay2_at (x : Vec Ideal S1x256x128 .bf16) (r : Fin 256) (l : Fin 128) : k5_pay2 (F := Ideal) x (ix2 r l) = x (ix3 0 r l) := by pointwise [k5_pay2]
theorem pay3_at (x : Vec Ideal S1x256x128 .bf16) (r : Fin 256) (l : Fin 128) : k5_pay3 (F := Ideal) x (ix2 r l) = x (ix3 0 r l) := by pointwise [k5_pay3]

/-! ### The two buffers and their reads -/

/-- The head's part of the output buffer. -/
abbrev outRect0 : Rect S2x256x128 := Rect.unit (s := S2x256x128) ![0, 0, 0] S1x256x128.size inb_S2x256x128_S1x256x128_0_0_0
abbrev outRect1 : Rect S2x256x128 := Rect.unit (s := S2x256x128) ![1, 0, 0] S1x256x128.size inb_S2x256x128_S1x256x128_1_0_0
abbrev sumRect0 : Rect S2x256x1 := Rect.unit (s := S2x256x1) ![0, 0, 0] S1x256x1.size inb_S2x256x1_S1x256x1_0_0_0
abbrev sumRect1 : Rect S2x256x1 := Rect.unit (s := S2x256x1) ![1, 0, 0] S1x256x1.size inb_S2x256x1_S1x256x1_1_0_0

theorem outRect0_idx (r : Fin 256) (l : Fin 128) : outRect0.toLoadRect.idx (ix3 0 r l) = ix3 0 r l := by
  funext a; apply Fin.ext; fin_cases a <;> simp [LoadRect.idx, Rect.unit, Rect.toLoadRect]
theorem outRect1_idx (r : Fin 256) (l : Fin 128) : outRect1.toLoadRect.idx (ix3 0 r l) = ix3 1 r l := by
  funext a; apply Fin.ext; fin_cases a <;> simp [LoadRect.idx, Rect.unit, Rect.toLoadRect]
theorem sumRect0_idx (r : Fin 256) : sumRect0.toLoadRect.idx (ix3 0 r 0) = ix3 0 r 0 := by
  funext a; apply Fin.ext; fin_cases a <;> simp [LoadRect.idx, Rect.unit, Rect.toLoadRect]
theorem sumRect1_idx (r : Fin 256) : sumRect1.toLoadRect.idx (ix3 0 r 0) = ix3 1 r 0 := by
  funext a; apply Fin.ext; fin_cases a <;> simp [LoadRect.idx, Rect.unit, Rect.toLoadRect]

section

variable {sp : Space}

/-- One piece for each head of the output buffer, read back. -/
theorem out_pieces (v : View sig .tc sp S2x256x128 .f32) (f : BufTy.Contents (Elt Ideal) v.ty) (w1 w0 : Vec Ideal S1x256x128 .f32) (h : Fin 2)
    (r : Fin 256) (l : Fin 128) :
    v.read (Elt Ideal) (v.writes (Elt Ideal) f [⟨outRect1, w1⟩, ⟨outRect0, w0⟩]) (ix3 h r l) = if h = 1 then w1 (ix3 0 r l) else w0 (ix3 0 r l) := by
  fin_cases h
  · refine (View.read_writes_cons_unit_of_not_mem v f _ _ _ (ix3 0 r l) rfl 0 (Or.inl (show (0 : ℕ) < 1 by omega))).trans ?_
    exact View.read_writes_cons_unit_of_mem v f _ _ _ (ix3 0 r l) (ix3 0 r l) rfl fun a => by fin_cases a <;> simp
  · exact View.read_writes_cons_unit_of_mem v f _ _ _ (ix3 1 r l) (ix3 0 r l) rfl fun a => by fin_cases a <;> simp

/-- One piece for each head of the running sums, read back. -/
theorem sum_pieces (v : View sig .tc sp S2x256x1 .f32) (f : BufTy.Contents (Elt Ideal) v.ty) (w1 w0 : Vec Ideal S1x256x1 .f32) (h : Fin 2)
    (r : Fin 256) :
    v.read (Elt Ideal) (v.writes (Elt Ideal) f [⟨sumRect1, w1⟩, ⟨sumRect0, w0⟩]) (ix3 h r 0) = if h = 1 then w1 (ix3 0 r 0) else w0 (ix3 0 r 0) := by
  fin_cases h
  · refine (View.read_writes_cons_unit_of_not_mem v f _ _ _ (ix3 0 r 0) rfl 0 (Or.inl (show (0 : ℕ) < 1 by omega))).trans ?_
    exact View.read_writes_cons_unit_of_mem v f _ _ _ (ix3 0 r 0) (ix3 0 r 0) rfl fun a => by fin_cases a <;> simp
  · exact View.read_writes_cons_unit_of_mem v f _ _ _ (ix3 1 r 0) (ix3 0 r 0) rfl fun a => by fin_cases a <;> simp

end

/-- The buffers hold the output rows `A` and the running sums `ρ` of the two heads. -/
def Holds {a8 : Memref sig .tc .vmem S2x256x128 .f32} {a9 : Memref sig .tc .vmem S2x256x1 .f32} (f8 : BufTy.Contents (Elt Ideal) a8.view.ty)
    (f9 : BufTy.Contents (Elt Ideal) a9.view.ty) (A : Fin 2 → Fin 256 → Fin 128 → EReal) (ρ : Fin 2 → Fin 256 → ℝ) : Prop :=
  (∀ h r l, a8.view.read (Elt Ideal) f8 (ix3 h r l) = A h r l) ∧ ∀ h r, a9.view.read (Elt Ideal) f9 (ix3 h r 0) = (ρ h r : EReal)

/-! ### One trip -/

/-- The key rows, or value rows, that trip `k` loads. -/
abbrev loaded (i : grid5.Coords) (k : Fin (k5_t1_loop i).trips) : LoadRect S1x8192x128 :=
  (Rect.unit (s := S1x8192x128) (k5_off2 i k) S1x256x128.size (k5_off2_inb i k)).toLoadRect

theorem trip_out (𝒱 : Variants) (c : Dev nD) (bd : Option 𝒱.V) (i : grid5.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16) (v13 : FVec Ideal S256x256 .bf16) (v16 : IVec S256x256 1) (v24 : FVec Ideal S256x128 .bf16) (v64 : FVec Ideal S256x1 .f32) (v65 : FVec Ideal S256x256 .f32) (v77 : FVec Ideal S256x256 .f32) (cst_32 : Ideal .f32) (X_arg4 : BufTy.Contents (Elt Ideal) arg4.view.ty) (X_arg5 : BufTy.Contents (Elt Ideal) arg5.view.ty) (k : Fin (k5_t1_loop i).trips) (f8) (f9) :
    (trip_k5_t1 (F := Ideal) 𝒱 c bd i arg3 harg3 arg4 harg4 arg5 harg5 arg6 harg6 arg7 harg7 arg8 harg8 arg9 harg9 arg2 v2 v8 v11 v13 v16 v24 v64 v65 v77 cst_32 X_arg4 X_arg5 k).1 f8 f9
      = [⟨outRect1, k5_pay51 (k5_pay14 v11 v13 (k5_pay2 (arg4.view.readAt (Elt Ideal) (loaded i k) X_arg4)) (k5_pay3 (arg5.view.readAt (Elt Ideal) (loaded i k) X_arg5))
            (arg9.view.readAt (Elt Ideal) sumRect1.toLoadRect f9)) (arg8.view.readAt (Elt Ideal) outRect1.toLoadRect f8)⟩,
         ⟨outRect0, k5_pay9 (k5_pay14 v8 v13 (k5_pay2 (arg4.view.readAt (Elt Ideal) (loaded i k) X_arg4)) (k5_pay3 (arg5.view.readAt (Elt Ideal) (loaded i k) X_arg5))
            (arg9.view.readAt (Elt Ideal) sumRect0.toLoadRect f9)) (arg8.view.readAt (Elt Ideal) outRect0.toLoadRect f8)⟩] := by
  unfold trip_k5_t1
  rfl

theorem trip_sum (𝒱 : Variants) (c : Dev nD) (bd : Option 𝒱.V) (i : grid5.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16) (v13 : FVec Ideal S256x256 .bf16) (v16 : IVec S256x256 1) (v24 : FVec Ideal S256x128 .bf16) (v64 : FVec Ideal S256x1 .f32) (v65 : FVec Ideal S256x256 .f32) (v77 : FVec Ideal S256x256 .f32) (cst_32 : Ideal .f32) (X_arg4 : BufTy.Contents (Elt Ideal) arg4.view.ty) (X_arg5 : BufTy.Contents (Elt Ideal) arg5.view.ty) (k : Fin (k5_t1_loop i).trips) (f8) (f9) :
    (trip_k5_t1 (F := Ideal) 𝒱 c bd i arg3 harg3 arg4 harg4 arg5 harg5 arg6 harg6 arg7 harg7 arg8 harg8 arg9 harg9 arg2 v2 v8 v11 v13 v16 v24 v64 v65 v77 cst_32 X_arg4 X_arg5 k).2.1 f8 f9
      = [⟨sumRect1, k5_pay52 (k5_pay15 v11 v13 (k5_pay2 (arg4.view.readAt (Elt Ideal) (loaded i k) X_arg4)) (arg9.view.readAt (Elt Ideal) sumRect1.toLoadRect f9))⟩,
         ⟨sumRect0, k5_pay10 (k5_pay15 v8 v13 (k5_pay2 (arg4.view.readAt (Elt Ideal) (loaded i k) X_arg4)) (arg9.view.readAt (Elt Ideal) sumRect0.toLoadRect f9))⟩] := by
  unfold trip_k5_t1
  rfl

/-- The query rows of a head: the upper lanes masked away for the first, the lower ones for the second. -/
abbrev pick {α : Type} (x y : α) (h : Fin 2) : α := if h = 1 then y else x

section

variable (𝒱 : Variants) (c : Dev nD) (bd : Option 𝒱.V) (i : grid5.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16)  (v16 : IVec S256x256 1) (v24 : FVec Ideal S256x128 .bf16) (v64 : FVec Ideal S256x1 .f32) (v65 : FVec Ideal S256x256 .f32) (v77 : FVec Ideal S256x256 .f32) {u : FVec Ideal S256x256 .bf16} (cst_32 : Ideal .f32) (X_arg4 : BufTy.Contents (Elt Ideal) arg4.view.ty) (X_arg5 : BufTy.Contents (Elt Ideal) arg5.view.ty)

/-- One trip adds its block's weighted values to each output row, and its kept logarithms to each running sum. -/
theorem trip_holds (k : Fin (k5_t1_loop i).trips) (f8) (f9) (A : Fin 2 → Fin 256 → Fin 128 → EReal) (ρ : Fin 2 → Fin 256 → ℝ)
    (H : Holds (a8 := arg8) (a9 := arg9) f8 f9 A ρ) (n : Fin 2 → Fin 256 → Fin 256 → ℝ)
    (hn : ∀ h r s, score (pick v8 v11 h) (k5_pay2 (arg4.view.readAt (Elt Ideal) (loaded i k) X_arg4)) r s = (n h r s : EReal))
    (hu : ∀ a b : Fin 256, u (ix2 a b) = if b ≤ a then 1 else 0) :
    Holds (a8 := arg8) (a9 := arg9)
      (arg8.view.writes (Elt Ideal) f8 ((trip_k5_t1 (F := Ideal) 𝒱 c bd i arg3 harg3 arg4 harg4 arg5 harg5 arg6 harg6 arg7 harg7 arg8 harg8 arg9 harg9 arg2 v2 v8 v11 u v16 v24 v64 v65 v77 cst_32 X_arg4 X_arg5 k).1 f8 f9))
      (arg9.view.writes (Elt Ideal) f9 ((trip_k5_t1 (F := Ideal) 𝒱 c bd i arg3 harg3 arg4 harg4 arg5 harg5 arg6 harg6 arg7 harg7 arg8 harg8 arg9 harg9 arg2 v2 v8 v11 u v16 v24 v64 v65 v77 cst_32 X_arg4 X_arg5 k).2.1 f8 f9))
      (fun h r l => A h r l + ∑ s : Fin 256, (((2 : ℝ) ^ ((∑ x, if s ≤ x then logKeep (n h r x) else 0) + ρ h r - n h r s) : ℝ) : EReal)
        * arg5.view.readAt (Elt Ideal) (loaded i k) X_arg5 (ix3 0 s l))
      (fun h r => ρ h r + ∑ x, logKeep (n h r x)) := by
  obtain ⟨HA, Hρ⟩ := H
  have h0 : ∀ r, arg9.view.readAt (Elt Ideal) sumRect0.toLoadRect f9 (ix3 0 r 0) = (ρ 0 r : EReal) := fun r => by
    rw [View.readAt_apply, sumRect0_idx]; exact Hρ 0 r
  have h1 : ∀ r, arg9.view.readAt (Elt Ideal) sumRect1.toLoadRect f9 (ix3 0 r 0) = (ρ 1 r : EReal) := fun r => by
    rw [View.readAt_apply, sumRect1_idx]; exact Hρ 1 r
  have g0 : ∀ r l, arg8.view.readAt (Elt Ideal) outRect0.toLoadRect f8 (ix3 0 r l) = A 0 r l := fun r l => by
    rw [View.readAt_apply, outRect0_idx]; exact HA 0 r l
  have g1 : ∀ r l, arg8.view.readAt (Elt Ideal) outRect1.toLoadRect f8 (ix3 0 r l) = A 1 r l := fun r l => by
    rw [View.readAt_apply, outRect1_idx]; exact HA 1 r l
  rw [trip_out, trip_sum]
  refine ⟨fun h r l => (out_pieces _ _ _ _ h r l).trans ?_, fun h r => (sum_pieces _ _ _ _ h r).trans ?_⟩
  · fin_cases h
    · refine (pay9_at _ _ r l).trans ?_
      rw [g0, pay14_at (q := v8) (n := n 0) (hn 0) hu _ _ (ρ 0) h0]
      simp only [pay3_at]
      rfl
    · refine (pay51_at _ _ r l).trans ?_
      rw [g1, pay14_at (q := v11) (n := n 1) (hn 1) hu _ _ (ρ 1) h1]
      simp only [pay3_at]
      rfl
  · fin_cases h
    · exact (pay10_at _ r).trans (pay15_at (q := v8) (n := n 0) (hn 0) hu _ (ρ 0) h0 r)
    · exact (pay52_at _ r).trans (pay15_at (q := v11) (n := n 1) (hn 1) hu _ (ρ 1) h1 r)

end

/-! ### All trips -/

theorem trips_eq : ∀ i : grid5.Coords, (k5_t1_loop i).trips = (i 2).val := by decide +kernel

theorem off2_eq : ∀ (i : grid5.Coords) (k : Fin (k5_t1_loop i).trips), k5_off2 i k = ![0, ((i 2).val - 1 - k.val) * 256, 0] := by decide +kernel

/-- The row of the whole key sequence that row `s` of trip `k`'s block is. -/
theorem loaded_idx (i : grid5.Coords) (k : Fin (k5_t1_loop i).trips) (s : Fin 256) (l : Fin 128) (hs : ((i 2).val - 1 - k.val) * 256 + s.val < 8192) :
    (loaded i k).idx (ix3 0 s l) = ix3 0 ⟨((i 2).val - 1 - k.val) * 256 + s.val, hs⟩ l := by
  funext a; apply Fin.ext
  fin_cases a <;> simp [LoadRect.idx, Rect.unit, Rect.toLoadRect, off2_eq]

/-- The running sum of query row `r` of block `b`, over the keys from position `a` to the query's. -/
def runSum (N : ℕ → ℝ) (b a : ℕ) (r : Fin 256) : ℝ := ∑ w ∈ Finset.Ico a (b * 256 + r.val), logKeep (N w)

/-- The output row of query row `r` of block `b`, over the keys from position `a` to the end of the query's own block. -/
def runOut (N : ℕ → ℝ) (V : ℕ → EReal) (b a : ℕ) (r : Fin 256) : EReal :=
  ∑ s ∈ Finset.Ico a (b * 256 + 256), (weight N (b * 256 + r.val) s : EReal) * V s

theorem runSum_step (N : ℕ → ℝ) (b a : ℕ) (r : Fin 256) (h : a + 256 ≤ b * 256) :
    runSum N b (a + 256) r + ∑ x : Fin 256, logKeep (N (a + x.val)) = runSum N b a r := by
  rw [sum_block (fun w => logKeep (N w)), add_comm]
  exact Finset.sum_Ico_consecutive _ (by omega) (by omega)

theorem runOut_step (N : ℕ → ℝ) (V : ℕ → EReal) (b a : ℕ) (r : Fin 256) (h : a + 256 ≤ b * 256) :
    runOut N V b (a + 256) r + ∑ s : Fin 256, (((2 : ℝ) ^ ((∑ x : Fin 256, if s ≤ x then logKeep (N (a + x.val)) else 0) + runSum N b (a + 256) r - N (a + s.val)) : ℝ) : EReal) * V (a + s.val)
      = runOut N V b a r := by
  have e : ∀ s : Fin 256, (2 : ℝ) ^ ((∑ x : Fin 256, if s ≤ x then logKeep (N (a + x.val)) else 0) + runSum N b (a + 256) r - N (a + s.val)) = weight N (b * 256 + r.val) (a + s.val) := fun s => by
    have hs := s.isLt
    rw [sum_block_from (fun w => logKeep (N w)), runSum, Finset.sum_Ico_consecutive _ (by omega) (by omega), weight, if_pos (by omega)]
  simp only [e]
  rw [sum_block (fun s => (weight N (b * 256 + r.val) s : EReal) * V s), add_comm]
  exact Finset.sum_Ico_consecutive _ (by omega) (by omega)

section

variable (𝒱 : Variants) (c : Dev nD) (bd : Option 𝒱.V) (i : grid5.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (arg2 : BitVec 32) (v2 : IVec S256x128 1) (v8 : FVec Ideal S256x128 .bf16) (v11 : FVec Ideal S256x128 .bf16) (v16 : IVec S256x256 1) (v24 : FVec Ideal S256x128 .bf16) (v64 : FVec Ideal S256x1 .f32) (v65 : FVec Ideal S256x256 .f32) (v77 : FVec Ideal S256x256 .f32) {u : FVec Ideal S256x256 .bf16} (cst_32 : Ideal .f32) (X_arg4 : BufTy.Contents (Elt Ideal) arg4.view.ty) (X_arg5 : BufTy.Contents (Elt Ideal) arg5.view.ty)

/-- After `k` trips the buffers hold the rows and sums over the last `k` earlier blocks and the query's own. -/
theorem trips_hold (f8) (f9) (N : Fin 2 → Fin 256 → ℕ → ℝ) (V : ℕ → Fin 128 → EReal)
    (hN : ∀ h r (s : Fin 8192), ∑ l : Fin 128, pick v8 v11 h (ix2 r l) * arg4.view.read (Elt Ideal) X_arg4 (ix3 0 s l) = (N h r s.val : EReal))
    (hV : ∀ (s : Fin 8192) l, arg5.view.read (Elt Ideal) X_arg5 (ix3 0 s l) = V s.val l)
    (hu : ∀ a b : Fin 256, u (ix2 a b) = if b ≤ a then 1 else 0)
    (H : Holds (a8 := arg8) (a9 := arg9) f8 f9 (fun h r l => runOut (N h r) (fun s => V s l) (i 2).val ((i 2).val * 256) r)
      (fun h r => runSum (N h r) (i 2).val ((i 2).val * 256) r)) :
    ∀ k, k ≤ (i 2).val → Holds (a8 := arg8) (a9 := arg9)
      (arg8.view.writes (Elt Ideal) f8 (pb_k5_t1 (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 k).1)
      (arg9.view.writes (Elt Ideal) f9 (pb_k5_t1 (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 k).2)
      (fun h r l => runOut (N h r) (fun s => V s l) (i 2).val (((i 2).val - k) * 256) r)
      (fun h r => runSum (N h r) (i 2).val (((i 2).val - k) * 256) r)
  | 0, _ => H
  | k + 1, hk => by
    have ih := trips_hold f8 f9 N V hN hV hu H k (by omega)
    have hi : (i 2).val < 32 := (i 2).isLt
    have hkt : k < (k5_t1_loop i).trips := by rw [trips_eq]; omega
    have hs : ∀ s : Fin 256, ((i 2).val - 1 - k) * 256 + s.val < 8192 := fun s => by have := s.isLt; omega
    have ha : ((i 2).val - k) * 256 = ((i 2).val - 1 - k) * 256 + 256 := by omega
    have ha' : ((i 2).val - (k + 1)) * 256 = ((i 2).val - 1 - k) * 256 := by omega
    have hsucc := pb_k5_t1_succ (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 ⟨k, hkt⟩
    rw [show k + 1 = (⟨k, hkt⟩ : Fin (k5_t1_loop i).trips).val + 1 from rfl, hsucc]
    simp only [View.writes_append]
    have hstep := trip_holds 𝒱 c bd i arg3 harg3 arg4 harg4 arg5 harg5 arg6 harg6 arg7 harg7 arg8 harg8 arg9 harg9 arg2 v2 v8 v11 v16 v24 v64 v65 v77 cst_32 X_arg4 X_arg5 ⟨k, hkt⟩ _ _ _ _ ih (fun h r s => N h r (((i 2).val - 1 - k) * 256 + s.val))
      (fun h r s => by
        refine Eq.trans ?_ (hN h r ⟨_, hs s⟩)
        refine Finset.sum_congr rfl fun l _ => ?_
        rw [pay2_at, View.readAt_apply, loaded_idx i ⟨k, hkt⟩ s l (hs s)]) hu
    refine ⟨fun h r l => (hstep.1 h r l).trans ?_, fun h r => (hstep.2 h r).trans ?_⟩
    · simp only [View.readAt_apply, loaded_idx i ⟨k, hkt⟩ _ l (hs _), hV, ha, ha']
      exact runOut_step (N h r) (fun s => V s l) _ _ r (by omega)
    · simp only [ha, ha']
      exact congrArg _ (runSum_step (N h r) _ _ r (by omega))

/-- After the last trip the output buffer holds the rows over every key up to the query's own block. -/
theorem trips_hold_all (f8) (f9) (N : Fin 2 → Fin 256 → ℕ → ℝ) (V : ℕ → Fin 128 → EReal)
    (hN : ∀ h r (s : Fin 8192), ∑ l : Fin 128, pick v8 v11 h (ix2 r l) * arg4.view.read (Elt Ideal) X_arg4 (ix3 0 s l) = (N h r s.val : EReal))
    (hV : ∀ (s : Fin 8192) l, arg5.view.read (Elt Ideal) X_arg5 (ix3 0 s l) = V s.val l)
    (hu : ∀ a b : Fin 256, u (ix2 a b) = if b ≤ a then 1 else 0)
    (H : Holds (a8 := arg8) (a9 := arg9) f8 f9 (fun h r l => runOut (N h r) (fun s => V s l) (i 2).val ((i 2).val * 256) r)
      (fun h r => runSum (N h r) (i 2).val ((i 2).val * 256) r)) (k : ℕ) (hk : k = (i 2).val) (h : Fin 2) (r : Fin 256) (l : Fin 128) :
    arg8.view.read (Elt Ideal) (arg8.view.writes (Elt Ideal) f8 (pb_k5_t1 (F := Ideal) 𝒱 c bd i arg3 harg3 arg4 harg4 arg5 harg5 arg6 harg6 arg7 harg7 arg8 harg8 arg9 harg9 arg2 v2 v8 v11 u v16 v24 v64 v65 v77 cst_32 X_arg4 X_arg5 f8 f9 k).1) (ix3 h r l)
      = runOut (N h r) (fun s => V s l) (i 2).val 0 r := by
  have h0 := (trips_hold 𝒱 c bd i arg3 harg3 arg4 harg4 arg5 harg5 arg6 harg6 arg7 harg7 arg8 harg8 arg9 harg9 arg2 v2 v8 v11 v16 v24 v64 v65 v77 cst_32 X_arg4 X_arg5 f8 f9 N V hN hV hu H k hk.le).1 h r l
  rw [h0, hk, Nat.sub_self, Nat.zero_mul]

end

/-! ### The query's own block -/

theorem pay36_at (x : Vec Ideal S1x256x128 .bf16) (r : Fin 256) (l : Fin 128) : k5_pay36 (F := Ideal) x (ix2 r l) = x (ix3 0 r l) := by pointwise [k5_pay36]
theorem pay37_at (x : Vec Ideal S1x256x128 .bf16) (r : Fin 256) (l : Fin 128) : k5_pay37 (F := Ideal) x (ix2 r l) = x (ix3 0 r l) := by pointwise [k5_pay37]

theorem runSum_own (N : ℕ → ℝ) (b : ℕ) (r : Fin 256) :
    (∑ x : Fin 256, if x < r then logKeep (N (b * 256 + x.val)) else 0) = runSum N b (b * 256) r := by
  have h := sum_block_between (fun w => logKeep (N w)) (b * 256) 256 0 r
  simpa [runSum] using h

theorem runOut_own (N : ℕ → ℝ) (V : ℕ → EReal) (b : ℕ) (r : Fin 256) :
    ∑ s : Fin 256, ((if s < r then (2 : ℝ) ^ ((∑ x : Fin 256, if s ≤ x then (if x < r then logKeep (N (b * 256 + x.val)) else 0) else 0) - N (b * 256 + s.val)) else 0 : ℝ) : EReal) * V (b * 256 + s.val)
      = runOut N V b (b * 256) r := by
  have e : ∀ s : Fin 256, (if s < r then (2 : ℝ) ^ ((∑ x : Fin 256, if s ≤ x then (if x < r then logKeep (N (b * 256 + x.val)) else 0) else 0) - N (b * 256 + s.val)) else 0)
      = weight N (b * 256 + r.val) (b * 256 + s.val) := fun s => by
    rw [sum_block_between (fun w => logKeep (N w)), weight]
    simp only [add_lt_add_iff_left, Fin.val_fin_lt]
  simp only [e]
  exact sum_block (fun s => (weight N (b * 256 + r.val) s : EReal) * V s) (b * 256) 256

/-- The query's own block gives each head's row its weighted values before the query, and its running sum. -/
theorem own_holds {a8 : Memref sig .tc .vmem S2x256x128 .f32} {a9 : Memref sig .tc .vmem S2x256x1 .f32} (f8 : BufTy.Contents (Elt Ideal) a8.view.ty)
    (f9 : BufTy.Contents (Elt Ideal) a9.view.ty) (x kk vv : Vec Ideal S1x256x128 .bf16) (u : Vec Ideal S256x256 .bf16) (b : ℕ)
    (N : Fin 2 → Fin 256 → ℕ → ℝ) (V : ℕ → Fin 128 → EReal)
    (hN : ∀ h r (s : Fin 256), score (pick (k5_pay32 (F := Ideal) x) (k5_pay33 x) h) (k5_pay36 kk) r s = (N h r (b * 256 + s.val) : EReal))
    (hV : ∀ (s : Fin 256) l, vv (ix3 0 s l) = V (b * 256 + s.val) l)
    (hu : ∀ a b : Fin 256, u (ix2 a b) = if b ≤ a then 1 else 0) :
    Holds (a8 := a8) (a9 := a9)
      (a8.view.writes (Elt Ideal) f8
        [⟨outRect1, k5_pay49 (F := Ideal) u k5_pay35 (k5_pay37 vv) k5_pay45 (k5_pay46 (k5_pay33 x) (k5_pay36 kk)) (k5_pay47 (k5_pay33 x) (k5_pay36 kk)) (FloatOps.ofBits FTy.f32 0#32)⟩,
         ⟨outRect0, k5_pay43 (F := Ideal) u k5_pay35 (k5_pay37 vv) k5_pay38 (k5_pay39 x kk) (k5_pay40 x kk) (k5_pay41 x kk)⟩])
      (a9.view.writes (Elt Ideal) f9
        [⟨sumRect1, k5_pay50 (F := Ideal) u k5_pay35 k5_pay45 (k5_pay47 (k5_pay33 x) (k5_pay36 kk)) (FloatOps.ofBits FTy.f32 0#32)⟩,
         ⟨sumRect0, k5_pay44 (F := Ideal) u k5_pay35 k5_pay38 (k5_pay40 x kk) (k5_pay41 x kk)⟩])
      (fun h r l => runOut (N h r) (fun s => V s l) b (b * 256) r)
      (fun h r => runSum (N h r) b (b * 256) r) := by
  refine ⟨fun h r l => (out_pieces _ _ _ _ h r l).trans ?_, fun h r => (sum_pieces _ _ _ _ h r).trans ?_⟩
  · fin_cases h
    · refine (congrFun (diag0 x u kk (k5_pay37 vv)) (ix3 0 r l)).trans ((pay49_at (n := fun r s => N 0 r (b * 256 + s.val)) (hN 0) hu _ r l).trans ?_)
      simp only [pay37_at, hV]
      exact runOut_own (N 0 r) (fun s => V s l) b r
    · refine (pay49_at (q := k5_pay33 x) (n := fun r s => N 1 r (b * 256 + s.val)) (hN 1) hu _ r l).trans ?_
      simp only [pay37_at, hV]
      exact runOut_own (N 1 r) (fun s => V s l) b r
  · fin_cases h
    · refine (congrFun (diag0' x u kk) (ix3 0 r 0)).trans ((pay50_at (n := fun r s => N 0 r (b * 256 + s.val)) (hN 0) hu r).trans ?_)
      exact congrArg _ (runSum_own (N 0 r) b r)
    · refine (pay50_at (q := k5_pay33 x) (n := fun r s => N 1 r (b * 256 + s.val)) (hN 1) hu r).trans ?_
      exact congrArg _ (runSum_own (N 1 r) b r)

/-! ### The masked query rows and the last selection -/

theorem lane_low : ∀ l : Fin 128, IntOp.cmpi CmpIPredicate.slt (BitVec.ofNat 32 l.val) 64#32 = if l.val < 64 then 1 else 0 := by decide

theorem select_low (l : Fin 128) (a b : EReal) :
    Scalar.select (IntOp.cmpi CmpIPredicate.slt (BitVec.ofNat 32 l.val) 64#32) a b = if l.val < 64 then a else b := by
  rw [lane_low]
  by_cases h : l.val < 64
  · rw [if_pos h, if_pos h]; rfl
  · rw [if_neg h, if_neg h]; rfl

theorem pay32_at (x : Vec Ideal S1x256x128 .bf16) (r : Fin 256) (l : Fin 128) :
    k5_pay32 (F := Ideal) x (ix2 r l) = if l.val < 64 then x (ix3 0 r l) else 0 := by
  pointwise [k5_pay32, k5_pay30, k5_pay31]
  exact select_low l _ _
theorem pay33_at (x : Vec Ideal S1x256x128 .bf16) (r : Fin 256) (l : Fin 128) :
    k5_pay33 (F := Ideal) x (ix2 r l) = if l.val < 64 then 0 else x (ix3 0 r l) := by
  pointwise [k5_pay33, k5_pay30, k5_pay31]
  exact select_low l _ _
theorem pay55_at (x y : Vec Ideal S1x256x128 .f32) (r : Fin 256) (l : Fin 128) :
    k5_pay1 (k5_pay55 (F := Ideal) k5_pay30 x y) (ix3 0 r l) = if l.val < 64 then x (ix3 0 r l) else y (ix3 0 r l) := by
  pointwise [k5_pay1, k5_pay55, k5_pay30]
  exact select_low l _ _
theorem pay34_at (x : Vec Ideal S256x256 .bf16) (r s : Fin 256) : k5_pay34 (F := Ideal) x (ix2 r s) = x (ix2 r s) := by
  pointwise [k5_pay34]

/-- A query row masked to a head's lanes meets only that head's 64 lanes of a key row. -/
theorem masked_sum (x : Vec Ideal S1x256x128 .bf16) (h : Fin 2) (r : Fin 256) (K : Fin 128 → EReal) :
    ∑ l : Fin 128, pick (k5_pay32 (F := Ideal) x) (k5_pay33 x) h (ix2 r l) * K l
      = ∑ d : Fin 64, x (ix3 0 r ⟨h.val * 64 + d.val, by have := h.isLt; have := d.isLt; omega⟩) * K ⟨h.val * 64 + d.val, by have := h.isLt; have := d.isLt; omega⟩ := by
  have hsplit : ∀ f : Fin 128 → EReal, ∑ l : Fin 128, f l = ∑ d : Fin 64, f ⟨d.val, by have := d.isLt; omega⟩ + ∑ d : Fin 64, f ⟨64 + d.val, by have := d.isLt; omega⟩ :=
    fun f => Fin.sum_univ_add (a := 64) (b := 64) f
  rw [hsplit]
  fin_cases h
  · simp [show pick (k5_pay32 (F := Ideal) x) (k5_pay33 x) 0 = k5_pay32 x from rfl, pay32_at]
  · simp [show pick (k5_pay32 (F := Ideal) x) (k5_pay33 x) 1 = k5_pay33 x from rfl, pay33_at]

end Cert.KernelIdeal.SecondTrips
end
-- ==== Proof.SecondAttnValue.lean ====
/- The second layer: what the attention call leaves in its result array, as a function of what its argument array holds. -/
module

public import proofs.«01_k».proof.Proof.Gen.KernelIdeal.Frame.Region5
public import Idealize.ShloMosaic.Lib.Pipeline.ValueKit
public import Idealize.ShloMosaic.Lib.Claim
public import Idealize.ShloMosaic.Lib.LoopRemainder
public import proofs.«01_k».proof.Proof.SecondAttnLoop
public import proofs.«01_k».proof.Proof.AttnSpec

@[expose] public section

set_option maxRecDepth 16384

noncomputable section

namespace Cert.KernelIdeal.SecondAttention

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

open Cert.Stick Cert.KernelIdeal.SecondBlock Cert.KernelIdeal.SecondTrips

/-- Which block each window has at point `t`. -/
theorem places : ∀ t : Fin cfg5.N, win5_0.index t = ![t.val / 128, t.val % 32, t.val / 32 % 4] ∧ win5_1.index t = ![t.val / 128, 0, 4 + t.val / 32 % 4] ∧ win5_2.index t = ![t.val / 128, 0, 8 + t.val / 32 % 4]
    ∧ win5_3.index t = ![0, 0] ∧ win5_4.index t = ![t.val / 128, t.val % 32, t.val / 32 % 4] ∧ (cfg5.grid.coords t 2).val = t.val % 32 :=
  (by decide +kernel : ∀ t : Fin grid5.N, _)

/-- The argument array by its coordinates. -/
def argAt (c : Dev nD) (b : Fin 2) (t : Fin 8192) (j : Fin 1536) : EReal := V c main_v66 (ix3 b t j)

/-- A load of the output buffer after three runs of stores, the newest of them none. -/
theorem cov_read {e : EltTy} {S : Shape} (v : View sig .tc .vmem S e) [∀ e, Nonempty (Elt Ideal e)] (L2 P1 L0 : List (View.Piece (Elt Ideal) S e))
    (B : LoadRect S) (j : B.shape.Idx) (y : S.Idx) (h2 : L2 = []) (hy : B.idx j = y) :
    v.readCov (L2 ++ (P1 ++ L0)) B j = v.read (Elt Ideal) (v.writes (Elt Ideal) (v.writes (Elt Ideal) v.junk L0) P1) y := by
  subst h2 hy
  rw [← View.writes_append]
  rfl

/-- The output row over every key: those at or after the query weigh nothing. -/
theorem runOut_all (N : ℕ → ℝ) (W : Fin 8192 → EReal) (V : ℕ → EReal) (hV : ∀ s : Fin 8192, V s.val = W s) (b : ℕ) (hb : b < 32) (r : Fin 256) :
    runOut N V b 0 r = ∑ s : Fin 8192, (weight N (b * 256 + r.val) s.val : EReal) * W s := by
  have h := sum_block (fun s => (weight N (b * 256 + r.val) s : EReal) * V s) 0 8192
  simp only [Nat.zero_add, hV] at h
  rw [h]
  refine Finset.sum_subset (fun s hs => ?_) fun s _ hs => ?_
  · rw [Finset.mem_Ico] at hs ⊢; omega
  · have hr := r.isLt
    rw [Finset.mem_Ico] at hs
    rw [weight, if_neg (by omega), EReal.coe_zero, zero_mul]

/-- A selection by lane, its two sides rewritten. -/
theorem low_congr (l : Fin 128) {x y x' y' : EReal} (hx : x = x') (hy : y = y') : (if l.val < 64 then x else y) = if l.val < 64 then x' else y' := by
  rw [hx, hy]

/-- The value columns by position. -/
def valAt (X : Fin 2 → Fin 8192 → Fin 1536 → EReal) (b : Fin 2) (e : Fin 512) (s : ℕ) : EReal :=
  if hs : s < 8192 then X b ⟨s, hs⟩ ⟨1024 + e.val, by have := e.isLt; omega⟩ else 0

/-- The result array after the run, where the queries and keys are real and the fourth array holds ones on and below the diagonal. -/
theorem attn_final (c : Dev nD) (hX : RealQK (argAt V c)) (hT : ∀ a b : Fin 256, V c main_v69 (ix2 a b) = if b ≤ a then (1 : EReal) else 0) : (dat5 V c).arrAt 4 cfg5.N
    = fun y : S2x8192x512.Idx => attnAt (argAt V c) (y 0) (y 1) (y 2) := by
  refine (dat5 V c).arrAt_eq_of_covers 4 _ (by decide +kernel) fun t _ y => ?_
  blk_simp
  rw [after5_4, outsAt5]
  frame_out
  obtain ⟨r, l, hy⟩ : ∃ (r : Fin 256) (l : Fin 128), y = (ix3 0 r l : S1x256x128.Idx) := ⟨y 1, y 2, by
    have h := eq_ix3 (n0 := 1) (n1 := 256) (n2 := 128) y
    rw [h]; congr 1; exact Subsingleton.elim _ _⟩
  subst hy
  have ht : t.val < 256 := lt_of_lt_of_eq t.isLt N_5
  obtain ⟨b, hb⟩ : ∃ b : Fin 2, b.val = t.val / 128 := ⟨⟨t.val / 128, by omega⟩, rfl⟩
  obtain ⟨p, hp⟩ : ∃ p : Fin 4, p.val = t.val / 32 % 4 := ⟨⟨t.val / 32 % 4, by omega⟩, rfl⟩
  obtain ⟨i, hi⟩ : ∃ i : Fin 32, i.val = t.val % 32 := ⟨⟨t.val % 32, by omega⟩, rfl⟩
  have hco : (grid5.coords t 2).val = i.val := (places t).2.2.2.2.2.trans hi.symm
  have hq : ∀ (r : Fin 256) (l : Fin 128), iblk5 V c 0 t (ix3 0 r l : S1x256x128.Idx)
      = argAt V c b ⟨i.val * 256 + r.val, by omega⟩ ⟨p.val * 128 + l.val, by omega⟩ := fun r l => by
    unfold argAt
    blk_point [iblk5, places t]
  have hk : ∀ (s : Fin 8192) (l : Fin 128), iblk5 V c 1 t (ix3 0 s l : S1x8192x128.Idx)
      = argAt V c b s ⟨512 + (p.val * 128 + l.val), by omega⟩ := fun s l => by
    unfold argAt
    blk_point [iblk5, places t]
  have hv : ∀ (s : Fin 8192) (l : Fin 128), iblk5 V c 2 t (ix3 0 s l : S1x8192x128.Idx)
      = argAt V c b s ⟨1024 + (p.val * 128 + l.val), by omega⟩ := fun s l => by
    unfold argAt
    blk_point [iblk5, places t]
  have hV : ∀ (s : Fin 8192) (l : Fin 128), iblk5 V c 2 t (ix3 0 s l : S1x8192x128.Idx) = valAt (argAt V c) b ⟨p.val * 128 + l.val, by omega⟩ s.val := fun s l => by
    rw [hv, valAt, dif_pos s.isLt]
  have hu : ∀ a b : Fin 256, k5_pay34 (F := Ideal) (iblk5 V c 3 t) (ix2 a b) = if b ≤ a then 1 else 0 := fun a b => by
    rw [pay34_at]
    refine Eq.trans ?_ (hT a b)
    blk_point [iblk5, places t]
  have hN : ∀ (h : Fin 2) (r : Fin 256) (s : Fin 8192),
      ∑ l : Fin 128, pick (k5_pay32 (F := Ideal) (iblk5 V c 0 t)) (k5_pay33 (iblk5 V c 0 t)) h (ix2 r l) * iblk5 V c 1 t (ix3 0 s l : S1x8192x128.Idx)
        = (expo (argAt V c) b ⟨p.val * 2 + h.val, by omega⟩ ⟨i.val * 256 + r.val, by omega⟩ s.val : EReal) := fun h r s => by
    rw [masked_sum (iblk5 V c 0 t) h r fun l => iblk5 V c 1 t (ix3 0 s l : S1x8192x128.Idx), ← score_real hX]
    unfold scoreAt
    refine Finset.sum_congr rfl fun d _ => ?_
    rw [hq, hk]
    congr 3 <;> simp only [Fin.mk.injEq] <;> omega
  have hrow : ∀ s : Fin 256, (grid5.coords t 2).val * 256 + s.val < 8192 := fun s => by rw [hco]; omega
  have hld : ∀ (w : Vec Ideal S1x8192x128 .bf16) (s : Fin 256) (l : Fin 128),
      View.ld w (Rect.unit (s := S1x8192x128) (k5_off1 (grid5.coords t)) S1x256x128.size (k5_off1_inb (grid5.coords t))) (ix3 0 s l)
        = w (ix3 0 ⟨(grid5.coords t 2).val * 256 + s.val, hrow s⟩ l) := fun w s l =>
    congrArg w (by
      funext a; apply Fin.ext
      fin_cases a <;> simp [LoadRect.idx, Rect.unit, Rect.toLoadRect, k5_off1_eq, Nat.mul_comm])
  have hown : ∀ (a8 : Memref sig .tc .vmem S2x256x128 .f32) (a9 : Memref sig .tc .vmem S2x256x1 .f32) f8 f9, _ := fun a8 a9 f8 f9 =>
    own_holds (a8 := a8) (a9 := a9) f8 f9 (iblk5 V c 0 t)
      (View.ld (iblk5 V c 1 t) (Rect.unit (s := S1x8192x128) (k5_off1 (grid5.coords t)) S1x256x128.size (k5_off1_inb (grid5.coords t))))
      (View.ld (iblk5 V c 2 t) (Rect.unit (s := S1x8192x128) (k5_off1 (grid5.coords t)) S1x256x128.size (k5_off1_inb (grid5.coords t))))
      (k5_pay34 (iblk5 V c 3 t)) (grid5.coords t 2).val
      (fun h r s => expo (argAt V c) b ⟨p.val * 2 + h.val, by omega⟩ ⟨i.val * 256 + r.val, by omega⟩ s)
      (fun s l => valAt (argAt V c) b ⟨p.val * 128 + l.val, by omega⟩ s)
      (fun h r s => by
        unfold score
        refine Eq.trans (Finset.sum_congr rfl fun l _ => ?_) (hN h r ⟨_, hrow s⟩)
        rw [pay36_at, hld])
      (fun s l => by
        rw [hld]
        exact hV ⟨_, hrow s⟩ l) hu
  refine (pay55_at _ _ r l).trans ?_
  refine (low_congr l (cov_read _ _ _ _ _ _ (ix3 0 r l) ?_ (outRect0_idx r l)) (cov_read _ _ _ _ _ _ (ix3 1 r l) ?_ (outRect1_idx r l))).trans ?_
  · rw [Scf.rem_trips]; rfl
  · rw [Scf.rem_trips]; rfl
  refine (low_congr l
    (trips_hold_all Variants.none c none (grid5.coords t) (ms5_0 t) _ (ms5_1 t) _ (ms5_2 t) _ (ms5_3 t) _ (ms5_4 t) _ scM5_0 _ scM5_1 _ _ _ _ _ _ _ _ _ _ _ _ _ _ _
        (fun h r s => expo (argAt V c) b ⟨p.val * 2 + h.val, by omega⟩ ⟨i.val * 256 + r.val, by omega⟩ s)
        (fun s l => valAt (argAt V c) b ⟨p.val * 128 + l.val, by omega⟩ s)
        ?_ ?_ hu ?_ _ (trips_eq _) 0 r l)
    (trips_hold_all Variants.none c none (grid5.coords t) (ms5_0 t) _ (ms5_1 t) _ (ms5_2 t) _ (ms5_3 t) _ (ms5_4 t) _ scM5_0 _ scM5_1 _ _ _ _ _ _ _ _ _ _ _ _ _ _ _
        (fun h r s => expo (argAt V c) b ⟨p.val * 2 + h.val, by omega⟩ ⟨i.val * 256 + r.val, by omega⟩ s)
        (fun s l => valAt (argAt V c) b ⟨p.val * 128 + l.val, by omega⟩ s)
        ?_ ?_ hu ?_ _ (trips_eq _) 1 r l)).trans ?_
  · intro h r s
    refine Eq.trans (Finset.sum_congr rfl fun l _ => ?_) (hN h r s)
    rw [Memref.IsWhole.read_unread]
  · intro s l
    rw [Memref.IsWhole.read_unread]
    exact hV s l
  · exact hown scM5_0 scM5_1 _ _
  · intro h r s
    refine Eq.trans (Finset.sum_congr rfl fun l _ => ?_) (hN h r s)
    rw [Memref.IsWhole.read_unread]
  · intro s l
    rw [Memref.IsWhole.read_unread]
    exact hV s l
  · exact hown scM5_0 scM5_1 _ _
  have e : ((cfg5.win 4).blk t).view.emb (ix3 0 r l : S1x256x128.Idx)
      = (ix3 b ⟨i.val * 256 + r.val, by omega⟩ ⟨p.val * 128 + l.val, by omega⟩ : S2x8192x512.Idx) := by
    blk_ext [places t]
  refine Eq.trans ?_ (congrArg (fun y : S2x8192x512.Idx => attnAt (argAt V c) (y 0) (y 1) (y 2)) e).symm
  have hW : ∀ s : Fin 8192, valAt (argAt V c) b ⟨p.val * 128 + l.val, by omega⟩ s.val = argAt V c b s ⟨1024 + (p.val * 128 + l.val), by omega⟩ := fun s => by
    rw [valAt, dif_pos s.isLt]
  rw [runOut_all _ _ _ hW _ (by rw [hco]; exact i.isLt), runOut_all _ _ _ hW _ (by rw [hco]; exact i.isLt)]
  rw [hco]
  by_cases hl : l.val < 64
  · rw [if_pos hl]
    refine Finset.sum_congr rfl fun s _ => ?_
    congr 5
    exact congrArg (fun h => expo (argAt V c) b h ⟨i.val * 256 + r.val, by omega⟩)
      (Fin.ext (show p.val * 2 + 0 = (p.val * 128 + l.val) / 64 by omega))
  · rw [if_neg hl]
    refine Finset.sum_congr rfl fun s _ => ?_
    congr 5
    exact congrArg (fun h => expo (argAt V c) b h ⟨i.val * 256 + r.val, by omega⟩)
      (Fin.ext (show p.val * 2 + 1 = (p.val * 128 + l.val) / 64 by omega))

end Cert.KernelIdeal.SecondAttention

end
-- ==== Proof.SecondMixBlock.lean ====
/- The second layer: the mixing kernel's body on one block of 256 rows and the 16 rows before it, read at an index. -/
module

public import proofs.«01_k».proof.Proof.Gen.KernelIdeal.Frame.Region6
public import proofs.«01_k».proof.Proof.MixSpec
public import Idealize.ShloMosaic.Lib.Pipeline.ValueKit
public import Idealize.ShloMosaic.Lib.WordCmp
public import Idealize.ShloMosaic.Lib.Claim

@[expose] public section

set_option maxHeartbeats 2000000
set_option maxRecDepth 16384

noncomputable section

namespace Cert.KernelIdeal.SecondMixing

open Idealize.ShloMosaic Idealize.ShloMosaic.TcCoe Idealize.SL.Sem
open Cert.KernelIdeal Cert.KernelIdeal.Gen
open Cert.FfnRow Cert.MixRow

/-! ## Words -/

/-- The kernel's block number within its sequence of 32 blocks, as it computes it. -/
def tileWord (a : BitVec 32) : BitVec 32 :=
  let v1 : BitVec 32 := Scalar.select (Scalar.cmpi .eq 32#32 0#32) 1#32 32#32
  let v2 : BitVec 32 := Scalar.remsi a v1
  Scalar.select (Scalar.andi (Scalar.xori (Scalar.cmpi .slt v2 0#32) (Scalar.cmpi .slt v1 0#32)) (Scalar.cmpi .ne v2 0#32)) (Scalar.addi v2 v1) v2

theorem tileWord_fin : ∀ n : Fin 64, tileWord (BitVec.ofNat 32 n.val) = BitVec.ofNat 32 (n.val % 32) := by decide +kernel

theorem startWord_fin : ∀ n : Fin 64, Scalar.cmpi .eq (BitVec.ofNat 32 (n.val % 32)) 0#32 = if n.val % 32 = 0 then 1#1 else 0#1 := by decide +kernel

/-- The window's length as the kernel selects it. -/
theorem windowWord_fin : ∀ l : Fin 256, Scalar.select (IntOp.cmpi CmpIPredicate.slt (BitVec.ofNat 32 l.val) 192#32)
      (Scalar.select (IntOp.cmpi CmpIPredicate.slt (BitVec.ofNat 32 l.val) 128#32)
        (Scalar.select (IntOp.cmpi CmpIPredicate.slt (BitVec.ofNat 32 l.val) 64#32) 2#32 4#32) 8#32) 16#32
    = BitVec.ofNat 32 (window l) := by unfold window; decide +kernel

/-- Selecting by a comparison of two small words. -/
theorem select_lt {α : Type} (l n : ℕ) (hl : l < 2 ^ 31) (hn : n < 2 ^ 31) (a b : α) :
    Scalar.select (IntOp.cmpi CmpIPredicate.slt (BitVec.ofNat 32 l) (BitVec.ofNat 32 n)) a b = if l < n then a else b := by
  have hc := WordCmp.cmpi_slt_ofNat_eq_one_iff (w := 32) (a := l) (b := n) (by omega) (by omega)
  unfold Scalar.select
  by_cases h : l < n
  · exact (if_pos (hc.2 h)).trans (if_pos h).symm
  · exact (if_neg fun h1 => h (hc.1 h1)).trans (if_neg h).symm

/-! ## The rows before a block -/

/-- The rows before the block count as zero where a sequence begins. -/
theorem pay3_at (i : grid6.Coords) (h : Vec Ideal S16x1024 .f32) (r : Fin 16) (l : Fin 1024) :
    (k6_pay3 (F := Ideal) i h (ix2 r l) : EReal) = if (i 0).val % 32 = 0 then 0 else (h (ix2 r l) : EReal) := by
  have hi : (i 0).val < 64 := (i 0).isLt
  pointwise [k6_pay3]
  show Scalar.select (Scalar.cmpi .eq (tileWord (BitVec.ofNat 32 (i 0).val)) 0#32) (0 : EReal) (h (ix2 r l)) = _
  rw [tileWord_fin ⟨(i 0).val, hi⟩, startWord_fin ⟨(i 0).val, hi⟩]
  unfold Scalar.select
  by_cases h0 : (i 0).val % 32 = 0
  · simp only [h0, if_true]
    exact if_pos rfl
  · simp only [h0, if_false]
    rfl

/-- `k` rows back from row `r` of block `t`, by whether that lies in the block, before it, or before the sequence. -/
theorem back_block (c : Fin 16384 → EReal) (t : Fin 64) (r : Fin 256) (k : ℕ) (hk : k ≤ 16) :
    back c ⟨t.val * 256 + r.val, by omega⟩ k
      = if h : 16 + r.val - k < 16 then (if h0 : t.val % 32 = 0 then 0 else c ⟨t.val * 256 - 16 + (16 + r.val - k), by omega⟩)
        else c ⟨t.val * 256 + (16 + r.val - k - 16), by omega⟩ := by
  unfold back
  dsimp only
  have ht := t.isLt
  have hr := r.isLt
  by_cases h : 16 + r.val - k < 16
  · rw [dif_pos h]
    by_cases h0 : t.val % 32 = 0
    · rw [dif_pos h0, if_neg (by omega)]
    · rw [dif_neg h0, if_pos (by omega)]
      exact congrArg c (Fin.ext (by show t.val * 256 + r.val - k = t.val * 256 - 16 + (16 + r.val - k); omega))
  · rw [dif_neg h, if_pos (by omega)]
    exact congrArg c (Fin.ext (by show t.val * 256 + r.val - k = t.val * 256 + (16 + r.val - k - 16); omega))

/-- Block `t` of an array of rows, and the 16 rows before it where there are any. -/
structure Rows (C : Fin 16384 → Fin 1024 → EReal) (t : Fin 64) (x : Vec Ideal S256x1024 .f32) (h : Vec Ideal S16x1024 .f32) : Prop where
  block : ∀ (r : Fin 256) (l : Fin 1024), (x (ix2 r l) : EReal) = C ⟨t.val * 256 + r.val, by omega⟩ l
  before : t.val ≠ 0 → ∀ (r : Fin 16) (l : Fin 1024), (h (ix2 r l) : EReal) = C ⟨t.val * 256 - 16 + r.val, by omega⟩ l

variable {C : Fin 16384 → Fin 1024 → EReal} {t : Fin 64} {x : Vec Ideal S256x1024 .f32} {h : Vec Ideal S16x1024 .f32}

/-- The last quarter's columns of the 272 rows, `k` rows back from row `r` of the block. -/
theorem pay6_at (hC : Rows C t x h) (i : grid6.Coords) (hi : (i 0).val = t.val) (r : Fin 256) (l : Fin 256) (k : ℕ) (hk : k ≤ 16) :
    (k6_pay6 (F := Ideal) i x h (ix2 ⟨16 + r.val - k, by omega⟩ l) : EReal) = back (pooledColumn C l) ⟨t.val * 256 + r.val, by omega⟩ k := by
  rw [back_block _ t r k hk]
  pointwise [k6_pay6, k6_pay2]
  by_cases h1 : 16 + r.val - k < 16
  · rw [dif_pos h1, dif_pos h1, pay3_at, hi]
    by_cases h0 : t.val % 32 = 0
    · rw [if_pos h0, dif_pos h0]
    · rw [if_neg h0, dif_neg h0, hC.before (by omega)]
      rfl
  · rw [dif_neg h1, dif_neg h1, hC.block]
    rfl

/-- The gated columns of the 272 rows, `k` rows back from row `r` of the block. -/
theorem gated_at (hC : Rows C t x h) (i : grid6.Coords) (hi : (i 0).val = t.val) (r : Fin 256) (l : Fin 256) (k : ℕ) (hk : k ≤ 16) (j : ℕ)
    (hj : j = 16 + r.val - k) (hj' : j < 272) :
    (if h1 : j < 16 then (k6_pay3 (F := Ideal) i h (ix2 ⟨j, h1⟩ ⟨256 + l.val, by omega⟩) : EReal) * (k6_pay3 (F := Ideal) i h (ix2 ⟨j, h1⟩ ⟨512 + l.val, by omega⟩) : EReal)
      else (x (ix2 ⟨j - 16, by omega⟩ ⟨256 + l.val, by omega⟩) : EReal) * (x (ix2 ⟨j - 16, by omega⟩ ⟨512 + l.val, by omega⟩) : EReal))
      = back (gated C l) ⟨t.val * 256 + r.val, by omega⟩ k := by
  subst hj
  rw [back_block _ t r k hk]
  by_cases h1 : 16 + r.val - k < 16
  · rw [dif_pos h1, dif_pos h1, pay3_at, pay3_at, hi]
    by_cases h0 : t.val % 32 = 0
    · rw [if_pos h0, if_pos h0, dif_pos h0, mul_zero]
    · rw [if_neg h0, if_neg h0, dif_neg h0, hC.before (by omega), hC.before (by omega)]
      rfl
  · rw [dif_neg h1, dif_neg h1, hC.block, hC.block]
    rfl

/-- The short convolution of the block. -/
theorem conv_at (hC : Rows C t x h) (i : grid6.Coords) (hi : (i 0).val = t.val) (w : Vec Ideal S3x256 .f32) (r : Fin 256) (l : Fin 256) :
    (k6_pay11 (F := Ideal) (k6_pay4 x) (k6_pay8 i x h w) (k6_pay9 i x h) (k6_pay10 w) (ix2 r l) : EReal)
      = convAt C (fun k l => w (ix2 k l)) ⟨t.val * 256 + r.val, by omega⟩ l := by
  have hr := r.isLt
  have e0 := gated_at hC i hi r l 0 (by omega) (16 + r.val) (by omega) (by omega)
  have e1 := gated_at hC i hi r l 1 (by omega) ((16 + r.val + 272 - 1) % 272) (by omega) (by omega)
  have e2 := gated_at hC i hi r l 2 (by omega) ((16 + r.val + 272 - 2) % 272) (by omega) (by omega)
  unfold convAt
  rw [← e0, ← e1, ← e2, dif_neg (by omega), ← hC.block]
  pointwise [k6_pay11, k6_pay4, k6_pay7, k6_pay8, k6_pay9, k6_pay10, k6_pay5, k6_pay2]

/-! ## The windows -/

/-- A rotation by fewer rows than the row's number reads that many rows back. -/
theorem rotate_at (y : Vec Ideal S272x256 .f32) (n : BitVec 32) (hr : S272x256.Rotates 0 none) (i : Fin 272) (l : Fin 256) (hn : n.toNat ≤ i.val) :
    (dynamicRotate 0 n none y hr (ix2 i l) : EReal) = y (ix2 ⟨i.val - n.toNat, by omega⟩ l) := by
  have hi := i.isLt
  unfold dynamicRotate
  refine congrArg y (funext fun b => Fin.ext ?_)
  match b with
  | ⟨0, _⟩ =>
    show (i.val + 272 - (n.toNat + 0) % 272) % 272 = i.val - n.toNat
    omega
  | ⟨1, _⟩ => rfl

/-- The sum of the `w` rows up to row `i`. -/
def sumBack (y : Vec Ideal S272x256 .f32) (l : Fin 256) (i : Fin 272) (w : ℕ) : EReal := ∑ k ∈ Finset.range w, (y (ix2 ⟨i.val - k, by omega⟩ l) : EReal)

/-- A sum over windows added to itself rotated by the window's length is the sum over windows twice as long. -/
theorem double_at (y L : FVec Ideal S272x256 .f32) (l : Fin 256) (n : BitVec 32) (w : ℕ) (hw : n.toNat = w) (hr : S272x256.Rotates 0 none)
    (hL : ∀ i : Fin 272, w ≤ i.val + 1 → (L (ix2 i l) : EReal) = sumBack y l i w) (i : Fin 272) (hi : w + w ≤ i.val + 1) (hw0 : 0 < w) :
    ((addf L (dynamicRotate 0 n none L hr) : FVec Ideal S272x256 .f32) (ix2 i l) : EReal) = sumBack y l i (w + w) := by
  show (L (ix2 i l) : EReal) + (dynamicRotate 0 n none L hr (ix2 i l) : EReal) = _
  rw [rotate_at L n hr i l (by omega), hL i (by omega), hL _ (by show w ≤ i.val - n.toNat + 1; omega)]
  unfold sumBack
  rw [Finset.sum_range_add]
  refine congrArg (_ + ·) (Finset.sum_congr rfl fun k _ => ?_)
  refine congrArg y ?_
  refine congrArg (fun j : Fin 272 => (ix2 j l : S272x256.Idx)) (Fin.ext ?_)
  show i.val - n.toNat - k = i.val - (w + k)
  omega

/-- The selected window sums. -/
theorem pay10_at (y : Vec Ideal S272x256 .f32) (i : Fin 272) (hi : 16 ≤ i.val) (l : Fin 256) :
    (k6_pay12 (F := Ideal) y (ix2 i l) : EReal) = sumBack y l i (window l) := by
  have h1 : ∀ i : Fin 272, 1 ≤ i.val + 1 → (y (ix2 i l) : EReal) = sumBack y l i 1 := fun i _ => by
    unfold sumBack
    rw [Finset.sum_range_one]
    rfl
  have h2 := double_at y y l 1#32 1 rfl rotates_S272x256_d0 h1
  have h4 := double_at y _ l 2#32 2 rfl rotates_S272x256_d0 (fun i hi => h2 i hi (by omega))
  have h8 := double_at y _ l 4#32 4 rfl rotates_S272x256_d0 (fun i hi => h4 i hi (by omega))
  have h16 := double_at y _ l 8#32 8 rfl rotates_S272x256_d0 (fun i hi => h8 i hi (by omega))
  have hl := l.isLt
  have e : ∀ (n : ℕ) (hn : n < 2 ^ 31) (a b : Vec Ideal S272x256 .f32),
      ((select (cmpi .slt (iota .tc S272x256 32 [1] iota_S272x256_d1_w32) (broadcast S272x256 (BitVec.ofNat 32 n))) a b : Vec Ideal S272x256 .f32) (ix2 i l) : EReal)
        = if l.val < n then (a (ix2 i l) : EReal) else (b (ix2 i l) : EReal) := fun n hn a b => by
    refine Eq.trans ?_ (select_lt l.val n (by omega) hn (a (ix2 i l) : EReal) (b (ix2 i l) : EReal))
    pointwise
  unfold k6_pay12
  rw [e 192 (by norm_num), e 128 (by norm_num), e 64 (by norm_num), h2 i (by omega) (by omega), h4 i (by omega) (by omega), h8 i (by omega) (by omega),
    h16 i (by omega) (by omega)]
  unfold window
  have hq : l.val / 64 < 4 := by omega
  by_cases h192 : l.val < 192
  · rw [if_pos h192]
    by_cases h128 : l.val < 128
    · rw [if_pos h128]
      by_cases h64 : l.val < 64
      · rw [if_pos h64, show l.val / 64 = 0 by omega]; rfl
      · rw [if_neg h64, show l.val / 64 = 1 by omega]; rfl
    · rw [if_neg h128, show l.val / 64 = 2 by omega]; rfl
  · rw [if_neg h192, show l.val / 64 = 3 by omega]; rfl

/-- The window sums of the block. -/
theorem windows_at (hC : Rows C t x h) (i : grid6.Coords) (hi : (i 0).val = t.val) (r : Fin 256) (l : Fin 256) :
    (k6_pay12 (F := Ideal) (k6_pay6 i x h) (ix2 ⟨16 + r.val, by omega⟩ l) : EReal)
      = ∑ k ∈ Finset.range (window l), back (pooledColumn C l) ⟨t.val * 256 + r.val, by omega⟩ k := by
  rw [pay10_at _ _ (by show 16 ≤ 16 + r.val; omega)]
  unfold sumBack
  refine Finset.sum_congr rfl fun k hk => ?_
  have hk' : k < window l := Finset.mem_range.1 hk
  have hw : window l ≤ 16 := by
    have hl := l.isLt
    unfold window
    exact (Nat.pow_le_pow_right (by norm_num) (by omega : l.val / 64 + 1 ≤ 4)).trans (by norm_num)
  exact pay6_at hC i hi r l k (by omega)

end Cert.KernelIdeal.SecondMixing
end
-- ==== Proof.SecondMixBody.lean ====
/- The second layer: the mixing kernel's body on one block: the head groups beside one another, their normalization by heads, the projection and the last normalization. -/
module

public import proofs.«01_k».proof.Proof.SecondMixBlock

@[expose] public section

set_option maxHeartbeats 2000000
set_option maxRecDepth 16384

noncomputable section

namespace Cert.KernelIdeal.SecondMixing

open Idealize.ShloMosaic Idealize.ShloMosaic.TcCoe Idealize.SL.Sem
open Cert.KernelIdeal Cert.KernelIdeal.Gen
open Cert.FfnRow Cert.MixRow

/-! ## The head groups -/

/-- The number of rows a window reaches over, as the kernel counts it. -/
theorem count_at (n : Fin 64) (r l : Fin 256) :
    (FloatOps.sitofp (F := Ideal) .f32 (IntOp.minsi (IntOp.addi (IntOp.addi (Scalar.muli (tileWord (BitVec.ofNat 32 n.val)) 256#32) (BitVec.ofNat 32 r.val)) 1#32)
        (BitVec.ofNat 32 (window l))) : EReal)
      = (((min ((n.val * 256 + r.val) % 8192 + 1) (window l) : ℕ) : ℝ) : EReal) := by
  have hn := n.isLt
  have hr := r.isLt
  have hw : window l ≤ 16 := by
    have hl := l.isLt
    unfold window
    exact (Nat.pow_le_pow_right (by norm_num) (by omega : l.val / 64 + 1 ≤ 4)).trans (by norm_num)
  have e : IntOp.addi (IntOp.addi (Scalar.muli (tileWord (BitVec.ofNat 32 n.val)) 256#32) (BitVec.ofNat 32 r.val)) 1#32
      = BitVec.ofNat 32 ((n.val * 256 + r.val) % 8192 + 1) := by
    rw [tileWord_fin]
    refine BitVec.eq_of_toNat_eq ?_
    show ((BitVec.ofNat 32 (n.val % 32) * 256#32 + BitVec.ofNat 32 r.val) + 1#32).toNat = _
    simp only [BitVec.toNat_add, BitVec.toNat_mul, BitVec.toNat_ofNat]
    omega
  rw [e, min_word (by omega) (by omega), real_of_word (by omega)]

/-- The mixed rows of a block: the attention's columns, the convolution's and the pooling's. -/
def mixed (i : grid6.Coords) (x : Vec Ideal S256x1024 .f32) (h : Vec Ideal S16x1024 .f32) (w : Vec Ideal S3x256 .f32) (p : Vec Ideal S256x256 .bf16)
    (s : Vec Ideal S1x256 .f32) (a : Vec Ideal S256x512 .f32) : FVec Ideal S256x1024 .f32 :=
  k6_pay15 (k6_pay2 x) (k6_pay11 (k6_pay4 x) (k6_pay8 i x h w) (k6_pay9 i x h) (k6_pay10 w)) (k6_pay12 (k6_pay6 i x h)) (k6_pay13 (BitVec.ofNat 32 (i 0).val))
    (iota .tc S256x256 32 [1] iota_S256x256_d1_w32) k6_pay14 128#32 p s a

/-- A sum over the four groups of 64 columns against a matrix that is zero off its diagonal blocks. -/
theorem sum_group (f g : Fin 256 → EReal) (q : Fin 256) :
    ∑ k : Fin 256, f k * (if k.val / 64 = q.val / 64 then g k else 0)
      = ∑ j : Fin 64, f ⟨q.val / 64 * 64 + j.val, by omega⟩ * g ⟨q.val / 64 * 64 + j.val, by omega⟩ := by
  have hq := q.isLt
  rw [Fin.sum_univ_tiles 4 64 rfl, Finset.sum_eq_single (⟨q.val / 64, by omega⟩ : Fin 4)]
  · refine Finset.sum_congr rfl fun j _ => ?_
    have hj := j.isLt
    rw [if_pos (by show (q.val / 64 * 64 + j.val) / 64 = q.val / 64; omega)]
  · intro b _ hb
    refine Finset.sum_eq_zero fun j _ => ?_
    have hj := j.isLt
    have hb' : b.val ≠ q.val / 64 := fun h => hb (Fin.ext h)
    rw [if_neg (by show ¬ (b.val * 64 + j.val) / 64 = q.val / 64; omega), mul_zero]
  · intro h
    exact absurd (Finset.mem_univ _) h

variable {C : Fin 16384 → Fin 1024 → EReal} {t : Fin 64} {x : Vec Ideal S256x1024 .f32} {h : Vec Ideal S16x1024 .f32}

/-- The pooled columns of the block, before their matrix. -/
theorem pooled_at (hC : Rows C t x h) (i : grid6.Coords) (hi : (i 0).val = t.val) (r l : Fin 256) :
    Ideal.div (k6_pay12 (F := Ideal) (k6_pay6 i x h) (ix2 ⟨16 + r.val, by omega⟩ l))
        (FloatOps.sitofp (F := Ideal) .f32 (IntOp.minsi (IntOp.addi (k6_pay13 (BitVec.ofNat 32 (i 0).val) (ix2 r l)) 1#32)
          (BitVec.ofNat 32 (window l))))
      - (x (ix2 r ⟨768 + l.val, by omega⟩) : EReal) = pooledAt C ⟨t.val * 256 + r.val, by omega⟩ l := by
  have e : k6_pay13 (BitVec.ofNat 32 (i 0).val) (ix2 r l) = IntOp.addi (Scalar.muli (tileWord (BitVec.ofNat 32 t.val)) 256#32) (BitVec.ofNat 32 r.val) := by
    rw [hi]
    pointwise [k6_pay13]
    rfl
  rw [windows_at hC i hi, e, count_at, hC.block]
  rfl

/-- The mixed rows of the block. -/
theorem mixed_at (hC : Rows C t x h) (i : grid6.Coords) (hi : (i 0).val = t.val) (w : Vec Ideal S3x256 .f32) (p : Vec Ideal S256x256 .bf16)
    (s : Vec Ideal S1x256 .f32) (a : Vec Ideal S256x512 .f32) (A : Fin 16384 → Fin 512 → EReal) (P : Fin 4 → Fin 64 → Fin 64 → EReal)
    (hA : ∀ r e, (a (ix2 r e) : EReal) = A ⟨t.val * 256 + r.val, by omega⟩ e)
    (hP : ∀ k q : Fin 256, (p (ix2 k q) : EReal) = if k.val / 64 = q.val / 64 then P ⟨q.val / 64, by omega⟩ ⟨k.val % 64, by omega⟩ ⟨q.val % 64, by omega⟩ else 0)
    (r : Fin 256) (e : Fin 1024) :
    (mixed i x h w p s a (ix2 r e) : EReal) = mixAt A C (fun k l => w (ix2 k l)) P (fun l => s (ix2 0 l)) ⟨t.val * 256 + r.val, by omega⟩ e := by
  unfold mixAt mixed
  pointwise [k6_pay15, k6_pay14, k6_pay2]
  by_cases h1 : e.val < 512
  · rw [dif_pos h1, dif_pos h1, hA]
  · rw [dif_neg h1, dif_neg h1]
    by_cases h2 : e.val - 512 < 256
    · rw [dif_pos h2, dif_pos h2, conv_at hC i hi]
    · rw [dif_neg h2, dif_neg h2]
      unfold poolAt
      refine congrArg₂ (· * ·) ?_ rfl
      refine Eq.trans ?_ ((sum_group (pooledAt C ⟨t.val * 256 + r.val, by omega⟩)
        (fun k => P ⟨(e.val - 512 - 256) / 64, by omega⟩ ⟨k.val % 64, by omega⟩ ⟨(e.val - 512 - 256) % 64, by omega⟩) ⟨e.val - 512 - 256, by omega⟩).trans ?_)
      · refine Finset.sum_congr rfl fun k _ => ?_
        rw [hP]
        refine congrArg₂ (· * ·) ?_ rfl
        rw [← pooled_at hC i hi r k, ← windowWord_fin k]
      · refine Finset.sum_congr rfl fun j _ => ?_
        refine congrArg₂ (· * ·) rfl ?_
        refine congrArg (fun u => P _ u _) (Fin.ext ?_)
        show ((e.val - 512 - 256) / 64 * 64 + j.val) % 64 = j.val
        have hj := j.isLt
        omega

/-! ## The norms by heads -/

/-- The squares' sums over the heads, as the kernel takes them from two parts of the squares. -/
def squareSums (v111 v114 : FVec Ideal S256x1024 .bf16) (v116 : FVec Ideal S256x256 .bf16) (v121 v124 v126 : FVec Ideal S256x256 .f32) : FVec Ideal S256x1024 .f32 :=
  concatenate S256x1024 1 [⟨S256x256, v121⟩, ⟨S256x256, addf v124 v126⟩,
    ⟨S256x256, addf (matmul dot_S256x256_S256x256_S256x256_1_0_0_1_n_n none (extractStridedSlice S256x256 ![0, 512] v111 slices_S256x1024_o0_512_S256x256) v116
        (constant S256x256 .f32 0x00000000#32))
      (matmul dot_S256x256_S256x256_S256x256_1_0_0_1_n_n none (extractStridedSlice S256x256 ![0, 512] v114 slices_S256x1024_o0_512_S256x256) v116
        (constant S256x256 .f32 0x00000000#32))⟩,
    ⟨S256x256, addf (matmul dot_S256x256_S256x256_S256x256_1_0_0_1_n_n none (extractStridedSlice S256x256 ![0, 768] v111 slices_S256x1024_o0_768_S256x256) v116
        (constant S256x256 .f32 0x00000000#32))
      (matmul dot_S256x256_S256x256_S256x256_1_0_0_1_n_n none (extractStridedSlice S256x256 ![0, 768] v114 slices_S256x1024_o0_768_S256x256) v116
        (constant S256x256 .f32 0x00000000#32))⟩] concatenates_S256x256_S256x256_S256x256_S256x256_S256x1024_d1

/-- The rows before the last normalization, from the mixed rows and their heads' sums of squares. -/
def projectedRows (v106 v134 : FVec Ideal S256x1024 .f32) (v141 : Vec Ideal S1x1024 .f32) (v145 : Vec Ideal S256x1024 .f32) (v149 : Vec Ideal S1024x1024 .bf16) :
    FVec Ideal S256x1024 .f32 :=
  have v140 : FVec Ideal S256x1024 .f32 := mulf v106 (rsqrt (addf (mulf v134 (broadcast S256x1024 (Scalar.ofBits .f32 0x3C800000#32))) (broadcast S256x1024 (Scalar.ofBits .f32 0x358637BD#32))))
  have v144 : FVec Ideal S256x1024 .f32 := mulf v140 (broadcastTo S256x1024 (shapeCast S1x1024 v141 shapeCasts_S1x1024_S1x1024) broadcasts_S1x1024_S256x1024)
  have v150 : FVec Ideal S1024x1024 .bf16 := shapeCast S1024x1024 v149 shapeCasts_S1024x1024_S1024x1024
  addf (mulf (broadcast S256x1024 (Scalar.ofBits .f32 0x3FB504F3#32)) (shapeCast S256x1024 v145 shapeCasts_S256x1024_S256x1024))
    (matmul dot_S256x1024_S1024x1024_S256x1024_1_0_0_1_n_n none (truncf .bf16 v144 bitsLt_bf16_f32) v150
      (constant S256x1024 .f32 0x00000000#32))

/-- The means of a block of rows, along each row. -/
def means (v152 : FVec Ideal S256x1024 .f32) : FVec Ideal S256x1024 .f32 :=
  broadcastTo S256x1024 (divf (shapeCast S256x1 (multiReduction .add [1] S256 v152 0x00000000#32 reduces_S256x1024_S256 (.inl rfl) rfl) shapeCasts_S256_S256x1)
    (broadcast S256x1 (Scalar.ofBits .f32 0x44800000#32))) broadcasts_S256x1_S256x1024

theorem pay23_eq (v109 : FVec Ideal S256x1024 .f32) (v111 v114 : FVec Ideal S256x1024 .bf16) (v116 : FVec Ideal S256x256 .bf16) (v121 v124 v126 : FVec Ideal S256x256 .f32)
    (v144 : Vec Ideal S1x1024 .f32) (v148 : Vec Ideal S256x1024 .f32) (v152 : Vec Ideal S1024x1024 .bf16) :
    k6_pay23 (F := Ideal) v109 v111 v114 v116 v121 v124 v126 v144 v148 v152
      = projectedRows v109 (squareSums v111 v114 v116 v121 v124 v126) v144 v148 v152 := rfl

theorem pay26_eq (v109 : FVec Ideal S256x1024 .f32) (v111 v114 : FVec Ideal S256x1024 .bf16) (v116 : FVec Ideal S256x256 .bf16) (v121 v124 v126 : FVec Ideal S256x256 .f32)
    (v144 : Vec Ideal S1x1024 .f32) (v148 : Vec Ideal S256x1024 .f32) (v152 : Vec Ideal S1024x1024 .bf16) :
    k6_pay26 (F := Ideal) v109 v111 v114 v116 v121 v124 v126 v144 v148 v152
      = means (projectedRows v109 (squareSums v111 v114 v116 v121 v124 v126) v144 v148 v152) := rfl

/-- The projected rows, read from the mixed rows and their sums of squares. -/
theorem projectedRows_at (M Q : FVec Ideal S256x1024 .f32) (g : Vec Ideal S1x1024 .f32) (x : Vec Ideal S256x1024 .f32) (o : Vec Ideal S1024x1024 .bf16)
    (r : Fin 256) (d : Fin 1024) (hQ : ∀ e, (Q (ix2 r e) : EReal) = headSquares (fun e => M (ix2 r e)) e) :
    (projectedRows M Q g x o (ix2 r d) : EReal)
      = projected (fun d => x (ix2 r d)) (fun e => M (ix2 r e)) (fun e => g (ix2 0 e)) (fun e d => o (ix2 e d)) d := by
  pointwise [projectedRows]
  simp only [hQ]
  unfold projected headNorm
  have e : ∀ y : EReal, y * Ideal.ofBits .f32 0x3C800000#32 = Ideal.div y (Ideal.ofBits .f32 0x42800000#32) := fun y => by
    have h1 : Ideal.ofBits .f32 0x42800000#32 = ((64 : ℝ) : EReal) := by simp [Ideal.ofBits, Ideal.ieee]; rw [← EReal.coe_mul]; norm_num
    have h2 : Ideal.ofBits .f32 0x3C800000#32 = ((1 / 64 : ℝ) : EReal) := by simp [Ideal.ofBits, Ideal.ieee]; rw [← EReal.coe_mul]; norm_num
    rw [h1, Ideal.div_coe (by norm_num), h2]
  simp only [e]

/-- The stored row is the normalization of the projected one. -/
theorem pay1_at (p : FVec Ideal S256x1024 .f32) (g b : Vec Ideal S1x1024 .f32) (r : Fin 256) (l : Fin 1024) :
    k6_pay1 (F := Ideal) p (k6_pay24 g) (k6_pay25 b) (means p) (ix2 r l)
      = layerNorm (fun l => p (ix2 r l)) (fun l => g (ix2 0 l)) (fun l => b (ix2 0 l)) l := by
  pointwise [k6_pay1, k6_pay24, k6_pay25, means, layerNorm, mean]

section
variable (v13 : FVec Ideal S256x1024 .f32) (v44 : FVec Ideal S256x256 .f32) (v62 : FVec Ideal S272x256 .f32) (v76 v77 v82 : IVec S256x256 32) (v83 : BitVec 32)
  (v100 : Vec Ideal S256x256 .bf16) (v103 : Vec Ideal S1x256 .f32) (v107 : Vec Ideal S256x512 .f32) (v115 : Vec Ideal S256x256 .bf16)

/-- The sum of the squares of an entry's head, taken within its quarter of the columns against a matrix of ones on the diagonal blocks. -/
theorem headSquares_quarter (f : Fin 1024 → EReal) (e : Fin 1024) (b : ℕ) (hb : b % 64 = 0) (hb' : b ≤ 768) (q : Fin 256) (hq : e.val = b + q.val) :
    ∑ k : Fin 256, f ⟨b + k.val, by omega⟩ * f ⟨b + k.val, by omega⟩ * (if k.val / 64 = q.val / 64 then 1 else 0) = headSquares f e := by
  refine (sum_group (fun k => f ⟨b + k.val, by omega⟩ * f ⟨b + k.val, by omega⟩) (fun _ => 1) q).trans (Finset.sum_congr rfl fun j _ => ?_)
  rw [mul_one]
  have h : (⟨b + (q.val / 64 * 64 + j.val), by omega⟩ : Fin 1024) = ⟨e.val / 64 * 64 + j.val, by omega⟩ := Fin.ext (by
    show b + (q.val / 64 * 64 + j.val) = e.val / 64 * 64 + j.val
    have hj := j.isLt
    omega)
  rw [← h]

/-- The squares' sums of the mixed rows. -/
theorem squareSums_at (r : Fin 256) (e : Fin 1024)
    (hr : ∀ e, IsReal (k6_pay15 (F := Ideal) v13 v44 v62 v76 v77 v82 v83 v100 v103 v107 (ix2 r e)))
    (hO : ∀ k q : Fin 256, (v115 (ix2 k q) : EReal) = if k.val / 64 = q.val / 64 then 1 else 0) :
    (squareSums (k6_pay17 v13 v44 v62 v76 v77 v82 v83 v100 v103 v107) (k6_pay18 v13 v44 v62 v76 v77 v82 v83 v100 v103 v107) (k6_pay19 v115)
      (k6_pay20 v13 v44 v62 v76 v77 v82 v83 v100 v103 v107 v115) (k6_pay21 v13 v44 v62 v76 v77 v82 v83 v100 v103 v107 v115) (k6_pay22 v13 v44 v62 v76 v77 v82 v83 v100 v103 v107 v115) (ix2 r e) : EReal)
      = headSquares (fun e => k6_pay15 v13 v44 v62 v76 v77 v82 v83 v100 v103 v107 (ix2 r e)) e := by
  generalize hM : k6_pay15 (F := Ideal) v13 v44 v62 v76 v77 v82 v83 v100 v103 v107 = M at hr
  pointwise [squareSums, k6_pay20, k6_pay21, k6_pay22, k6_pay19, k6_pay18, k6_pay17, k6_pay16]
  simp only [hM, hO, (hr _).mul (hr _) |>.sub_self, zero_mul, Finset.sum_const_zero, add_zero]
  by_cases h1 : e.val < 256
  · rw [dif_pos h1]
    refine Eq.trans (Finset.sum_congr rfl fun k _ => ?_) (headSquares_quarter (fun e => M (ix2 r e)) e 0 (by omega) (by omega) ⟨e.val, h1⟩ (by show e.val = 0 + e.val; omega))
    simp only [zero_add]
  · rw [dif_neg h1]
    by_cases h2 : e.val - 256 < 256
    · rw [dif_pos h2]
      exact headSquares_quarter (fun e => M (ix2 r e)) e 256 (by omega) (by omega) ⟨e.val - 256, h2⟩ (by show e.val = 256 + (e.val - 256); omega)
    · rw [dif_neg h2]
      by_cases h3 : e.val - 256 - 256 < 256
      · rw [dif_pos h3]
        exact headSquares_quarter (fun e => M (ix2 r e)) e 512 (by omega) (by omega) ⟨e.val - 256 - 256, h3⟩ (by show e.val = 512 + (e.val - 256 - 256); omega)
      · rw [dif_neg h3]
        exact headSquares_quarter (fun e => M (ix2 r e)) e 768 (by omega) (by omega) ⟨e.val - 256 - 256 - 256, by omega⟩
          (by show e.val = 768 + (e.val - 256 - 256 - 256); omega)

/-- The value the body stores, at an index. -/
theorem stored_at (r : Fin 256) (d : Fin 1024) (x : Vec Ideal S256x1024 .f32) (g lg lb : Vec Ideal S1x1024 .f32) (o : Vec Ideal S1024x1024 .bf16)
    (hr : ∀ e, IsReal (k6_pay15 (F := Ideal) v13 v44 v62 v76 v77 v82 v83 v100 v103 v107 (ix2 r e)))
    (hO : ∀ k q : Fin 256, (v115 (ix2 k q) : EReal) = if k.val / 64 = q.val / 64 then 1 else 0) :
    (k6_pay1 (F := Ideal)
      (k6_pay23 (k6_pay15 v13 v44 v62 v76 v77 v82 v83 v100 v103 v107) (k6_pay17 v13 v44 v62 v76 v77 v82 v83 v100 v103 v107)
        (k6_pay18 v13 v44 v62 v76 v77 v82 v83 v100 v103 v107) (k6_pay19 v115) (k6_pay20 v13 v44 v62 v76 v77 v82 v83 v100 v103 v107 v115) (k6_pay21 v13 v44 v62 v76 v77 v82 v83 v100 v103 v107 v115) (k6_pay22 v13 v44 v62 v76 v77 v82 v83 v100 v103 v107 v115) g x o)
      (k6_pay24 lg) (k6_pay25 lb)
      (k6_pay26 (k6_pay15 v13 v44 v62 v76 v77 v82 v83 v100 v103 v107) (k6_pay17 v13 v44 v62 v76 v77 v82 v83 v100 v103 v107)
        (k6_pay18 v13 v44 v62 v76 v77 v82 v83 v100 v103 v107) (k6_pay19 v115) (k6_pay20 v13 v44 v62 v76 v77 v82 v83 v100 v103 v107 v115) (k6_pay21 v13 v44 v62 v76 v77 v82 v83 v100 v103 v107 v115) (k6_pay22 v13 v44 v62 v76 v77 v82 v83 v100 v103 v107 v115) g x o) (ix2 r d) : EReal)
      = layerNorm (projected (fun d => x (ix2 r d)) (fun e => k6_pay15 v13 v44 v62 v76 v77 v82 v83 v100 v103 v107 (ix2 r e)) (fun e => g (ix2 0 e))
          (fun e d => o (ix2 e d))) (fun d => lg (ix2 0 d)) (fun d => lb (ix2 0 d)) d := by
  rw [pay26_eq, pay23_eq]
  refine (pay1_at _ lg lb r d).trans ?_
  rw [funext fun d => projectedRows_at _ _ g x o r d fun e => squareSums_at v13 v44 v62 v76 v77 v82 v83 v100 v103 v107 v115 r e hr hO]
end

end Cert.KernelIdeal.SecondMixing
end
-- ==== Proof.SecondMixValue.lean ====
/- The second layer: what the mixing kernel leaves in its result array, as a function of its ten argument arrays. -/
module

public import proofs.«01_k».proof.Proof.SecondMixBody

@[expose] public section

set_option maxHeartbeats 2000000
set_option maxRecDepth 16384

noncomputable section

namespace Cert.KernelIdeal.SecondMixing

open Idealize.ShloMosaic Idealize.ShloMosaic.TcCoe Idealize.SL.Sem
open Idealize.ShloMosaic.Pipeline (Dat)
open Cert.KernelIdeal Cert.KernelIdeal.Gen
open Cert.FfnRow Cert.MixRow

variable (V : (c : Dev nD) → (b : Ref sig .tc) → Buf (Elt Ideal) ((c : Thread nD τ).loc b))

/-- Which block each window has at point `t`: rows advance by one block, the rows before it are the 16 that end there, weights stay. -/
theorem places : ∀ t : Fin cfg6.N, win6_0.index t = ![t.val, 0] ∧ win6_1.index t = ![t.val, 0] ∧ win6_2.index t = ![t.val, 0] ∧ win6_3.index t = ![t.val * 16 - 1, 0]
    ∧ win6_4.index t = ![0, 0] ∧ win6_5.index t = ![0, 0] ∧ win6_6.index t = ![0, 0] ∧ win6_7.index t = ![0, 0] ∧ win6_8.index t = ![0, 0] ∧ win6_9.index t = ![0, 0]
    ∧ win6_10.index t = ![0, 0] ∧ win6_11.index t = ![0, 0] ∧ win6_12.index t = ![t.val, 0] ∧ (cfg6.grid.coords t 0).val = t.val :=
  (by decide +kernel : ∀ t : Fin grid6.N, _)

/-- The result array after the run, from what the twelve argument arrays hold. -/
theorem mix_final (c : Dev nD) (pool : S4x64x64.Idx → EReal) (scale : S256.Idx → EReal) (gain : S1024.Idx → EReal) (wo : S1024x1024.Idx → EReal) (g b : S1024.Idx → EReal)
    (hR : RealArrays (V c main_v71) (V c main_v65_1) (V c main_v73) pool scale)
    (hB : ∀ k q : Fin 256, V c main_v96 (ix2 k q) = if k.val / 64 = q.val / 64 then pool (ix3 ⟨q.val / 64, by omega⟩ ⟨k.val % 64, by omega⟩ ⟨q.val % 64, by omega⟩) else (0 : EReal))
    (hE : ∀ k q : Fin 256, V c main_v104 (ix2 k q) = if k.val / 64 = q.val / 64 then (1 : EReal) else (0 : EReal))
    (hS : ∀ l : Fin 256, V c main_v105 (ix2 0 l) = scale (ix1 l)) (hG : ∀ d : Fin 1024, V c main_v106 (ix2 0 d) = gain (ix1 d))
    (hW : ∀ e d : Fin 1024, V c main_v82 (ix2 e d) = wo (ix2 e d)) (hNG : ∀ d : Fin 1024, V c main_v107 (ix2 0 d) = g (ix1 d))
    (hNB : ∀ d : Fin 1024, V c main_v108 (ix2 0 d) = b (ix1 d)) : (dat6 V c).arrAt 12 cfg6.N
    = mixOf (V c main_v61) (V c main_v71) (V c main_v65_1) (V c main_v73) pool scale gain wo g b := by
  refine (dat6 V c).arrAt_eq_of_covers 12 _ (by decide +kernel) fun t _ y => ?_
  blk_simp
  rw [after6_12]
  unfold_out out6_12
  frame_out
  obtain ⟨r, d, hy⟩ : ∃ (r : Fin 256) (d : Fin 1024), y = (ix2 r d : S256x1024.Idx) := ⟨y 0, y 1, eq_ix2 (n0 := 256) (n1 := 1024) y⟩
  subst hy
  have ht : t.val < 64 := lt_of_lt_of_eq t.isLt N_6
  have hi : (grid6.coords t 0).val = t.val := (places t).2.2.2.2.2.2.2.2.2.2.2.2.2
  have hC : Rows (fun R l => V c main_v65_1 (ix2 R l)) ⟨t.val, ht⟩ (iblk6 V c 2 t) (iblk6 V c 3 t) := {
    block := fun r l => by
      blk_point [iblk6, places t]
    before := fun h0 r l => by
      blk_point [iblk6, places t] }
  have hA : ∀ (r : Fin 256) (e : Fin 512), iblk6 V c 1 t (ix2 r e : S256x512.Idx) = V c main_v71 (ix2 ⟨t.val * 256 + r.val, by omega⟩ e) := fun r e => by
    blk_point [iblk6, places t]
  have hP : ∀ k q : Fin 256, iblk6 V c 5 t (ix2 k q : S256x256.Idx)
      = if k.val / 64 = q.val / 64 then pool (ix3 ⟨q.val / 64, by omega⟩ ⟨k.val % 64, by omega⟩ ⟨q.val % 64, by omega⟩) else (0 : EReal) := fun k q => by
    refine Eq.trans ?_ (hB k q)
    blk_point [iblk6, places t]
  have hO : ∀ k q : Fin 256, iblk6 V c 8 t (ix2 k q : S256x256.Idx) = if k.val / 64 = q.val / 64 then (1 : EReal) else (0 : EReal) := fun k q => by
    refine Eq.trans ?_ (hE k q)
    blk_point [iblk6, places t]
  have hw : ∀ (k : Fin 3) (l : Fin 256), iblk6 V c 4 t (ix2 k l : S3x256.Idx) = V c main_v73 (ix2 k l) := fun k l => by
    blk_point [iblk6, places t]
  have hs : ∀ l : Fin 256, iblk6 V c 6 t (ix2 0 l : S1x256.Idx) = scale (ix1 l) := fun l => by
    refine Eq.trans ?_ (hS l)
    blk_point [iblk6, places t]
  have hx : ∀ d : Fin 1024, iblk6 V c 0 t (ix2 r d : S256x1024.Idx) = V c main_v61 (ix2 ⟨t.val * 256 + r.val, by omega⟩ d) := fun d => by
    blk_point [iblk6, places t]
  have hg : ∀ d : Fin 1024, iblk6 V c 7 t (ix2 0 d : S1x1024.Idx) = gain (ix1 d) := fun d => by
    refine Eq.trans ?_ (hG d)
    blk_point [iblk6, places t]
  have ho : ∀ e d : Fin 1024, iblk6 V c 9 t (ix2 e d : S1024x1024.Idx) = wo (ix2 e d) := fun e d => by
    refine Eq.trans ?_ (hW e d)
    blk_point [iblk6, places t]
  have hlg : ∀ d : Fin 1024, iblk6 V c 10 t (ix2 0 d : S1x1024.Idx) = g (ix1 d) := fun d => by
    refine Eq.trans ?_ (hNG d)
    blk_point [iblk6, places t]
  have hlb : ∀ d : Fin 1024, iblk6 V c 11 t (ix2 0 d : S1x1024.Idx) = b (ix1 d) := fun d => by
    refine Eq.trans ?_ (hNB d)
    blk_point [iblk6, places t]
  have hM : ∀ e, mixed (grid6.coords t) (iblk6 V c 2 t) (iblk6 V c 3 t) (iblk6 V c 4 t) (iblk6 V c 5 t) (iblk6 V c 6 t) (iblk6 V c 1 t) (ix2 r e)
      = mixAt (fun R e => V c main_v71 (ix2 R e)) (fun R l => V c main_v65_1 (ix2 R l))
          (fun k l => V c main_v73 (ix2 k l)) (fun g i j => pool (ix3 g i j)) (fun l => scale (ix1 l)) ⟨t.val * 256 + r.val, by omega⟩ e := fun e => by
    refine (mixed_at hC (grid6.coords t) hi (iblk6 V c 4 t) (iblk6 V c 5 t) (iblk6 V c 6 t) (iblk6 V c 1 t)
      (fun R e => V c main_v71 (ix2 R e)) (fun g i j => pool (ix3 g i j)) hA hP r e).trans ?_
    exact congrArg₂ (fun w s => mixAt (fun R e => V c main_v71 (ix2 R e)) (fun R l => V c main_v65_1 (ix2 R l))
      w (fun g i j => pool (ix3 g i j)) s ⟨t.val * 256 + r.val, by omega⟩ e) (funext fun k => funext fun l => hw k l) (funext fun l => hs l)
  have hreal : ∀ e, IsReal (mixed (grid6.coords t) (iblk6 V c 2 t) (iblk6 V c 3 t) (iblk6 V c 4 t) (iblk6 V c 5 t) (iblk6 V c 6 t) (iblk6 V c 1 t) (ix2 r e)) := fun e => by
    rw [hM]
    exact mixAt_real (fun _ _ => hR.attn _) (fun _ _ => hR.cp _) (fun _ _ => hR.conv _) (fun _ _ _ => hR.pool _) (fun _ => hR.scale _) _ _
  refine (stored_at _ _ _ _ _ _ _ _ _ _ _ r d _ _ _ _ _ hreal hO).trans ?_
  have e : ((cfg6.win 12).blk t).view.emb (ix2 r d : S256x1024.Idx) = (ix2 ⟨t.val * 256 + r.val, by omega⟩ d : S16384x1024.Idx) := by
    blk_ext [places t]
  refine Eq.trans ?_ (congrArg (mixOf _ _ _ _ _ _ _ _ _ _) e).symm
  show layerNorm _ _ _ d = layerNorm _ _ _ d
  refine layerNorm_congr (fun d => ?_) hlg hlb d
  show projected _ _ _ _ d = projected _ _ _ _ d
  rw [funext hx, funext hg, funext fun e => funext fun d => ho e d]
  exact congrArg (fun M => projected _ M _ _ d) (funext hM)

end Cert.KernelIdeal.SecondMixing
end
-- ==== Proof.SecondFfnValue.lean ====
/- The second layer: what the feed-forward call leaves in its result array, as a function of what its five argument arrays hold. -/
module

public import proofs.«01_k».proof.Proof.Gen.KernelIdeal.Frame.Region7
public import proofs.«01_k».proof.Proof.FfnSpec
public import Idealize.ShloMosaic.Lib.Pipeline.ValueKit
public import Idealize.ShloMosaic.Lib.Claim

@[expose] public section

set_option maxRecDepth 16384

noncomputable section

namespace Cert.KernelIdeal.SecondFeedForward

open Idealize.ShloMosaic Idealize.ShloMosaic.TcCoe Idealize.SL.Sem
open Idealize.ShloMosaic.Pipeline (Dat)
open Cert.KernelIdeal Cert.KernelIdeal.Gen
open Cert.FfnRow

variable (V : (c : Dev nD) → (b : Ref sig .tc) → Buf (Elt Ideal) ((c : Thread nD τ).loc b))

/-- What one chunk of 512 hidden units adds to a row: the squared rectified units through the down-projection. -/
def chunk (x : Fin 1024 → EReal) (U : Fin 1024 → Fin 512 → EReal) (D : Fin 512 → Fin 1024 → EReal) (l : Fin 1024) : EReal :=
  ∑ k, max (∑ d, x d * U d k) 0 * max (∑ d, x d * U d k) 0 * D k l

/-- The scaled residual of a row. -/
theorem pay4_at (x : Vec Ideal S256x1024 .f32) (r : Fin 256) (l : Fin 1024) :
    k7_pay4 (F := Ideal) x (ix2 r l) = Ideal.ofBits .f32 0x3FB504F3#32 * x (ix2 r l) := by
  pointwise [k7_pay4, k7_pay2]

/-- First chunk. -/
theorem pay5_at (x : Vec Ideal S256x1024 .f32) (u : Vec Ideal S1024x512 .bf16) (a : Vec Ideal S256x1024 .f32) (d : Vec Ideal S512x1024 .bf16) (r : Fin 256) (l : Fin 1024) :
    k7_pay5 (F := Ideal) x u a d (ix2 r l) = a (ix2 r l) + chunk (fun d => x (ix2 r d)) (fun d k => u (ix2 d k)) (fun k l => d (ix2 k l)) l := by
  pointwise [k7_pay5, k7_pay3, k7_pay2, chunk]

/-- Second chunk. -/
theorem pay8_at (x : Vec Ideal S256x1024 .f32) (u : Vec Ideal S1024x512 .bf16) (a : Vec Ideal S256x1024 .f32) (d : Vec Ideal S512x1024 .bf16) (r : Fin 256) (l : Fin 1024) :
    k7_pay8 (F := Ideal) (k7_pay6 x u) a (k7_pay7 d) (ix2 r l) = a (ix2 r l) + chunk (fun d => x (ix2 r d)) (fun d k => u (ix2 d k)) (fun k l => d (ix2 k l)) l := by
  pointwise [k7_pay8, k7_pay7, k7_pay6, k7_pay3, k7_pay2, chunk]

/-- Third chunk. -/
theorem pay9_at (x : Vec Ideal S256x1024 .f32) (u : Vec Ideal S1024x512 .bf16) (a : Vec Ideal S256x1024 .f32) (d : Vec Ideal S512x1024 .bf16) (r : Fin 256) (l : Fin 1024) :
    k7_pay9 (F := Ideal) (k7_pay3 x) u a d (ix2 r l) = a (ix2 r l) + chunk (fun d => x (ix2 r d)) (fun d k => u (ix2 d k)) (fun k l => d (ix2 k l)) l := by
  pointwise [k7_pay9, k7_pay3, k7_pay2, chunk]

/-- Fourth chunk. -/
theorem pay11_at (x : Vec Ideal S256x1024 .f32) (u : Vec Ideal S1024x512 .bf16) (a : Vec Ideal S256x1024 .f32) (d : Vec Ideal S512x1024 .bf16) (r : Fin 256) (l : Fin 1024) :
    k7_pay11 (F := Ideal) (k7_pay10 (k7_pay3 x) u a d) (ix2 r l) = a (ix2 r l) + chunk (fun d => x (ix2 r d)) (fun d k => u (ix2 d k)) (fun k l => d (ix2 k l)) l := by
  pointwise [k7_pay11, k7_pay10, k7_pay3, k7_pay2, chunk]

/-- Fifth chunk. -/
theorem pay12_at (x : Vec Ideal S256x1024 .f32) (u : Vec Ideal S1024x512 .bf16) (a : Vec Ideal S256x1024 .f32) (d : Vec Ideal S512x1024 .bf16) (r : Fin 256) (l : Fin 1024) :
    k7_pay12 (F := Ideal) (k7_pay3 x) u a d (ix2 r l) = a (ix2 r l) + chunk (fun d => x (ix2 r d)) (fun d k => u (ix2 d k)) (fun k l => d (ix2 k l)) l := by
  pointwise [k7_pay12, k7_pay3, k7_pay2, chunk]

/-- Sixth chunk. -/
theorem pay13_at (x : Vec Ideal S256x1024 .f32) (u : Vec Ideal S1024x512 .bf16) (a : Vec Ideal S256x1024 .f32) (d : Vec Ideal S512x1024 .bf16) (r : Fin 256) (l : Fin 1024) :
    k7_pay13 (F := Ideal) (k7_pay3 x) u a d (ix2 r l) = a (ix2 r l) + chunk (fun d => x (ix2 r d)) (fun d k => u (ix2 d k)) (fun k l => d (ix2 k l)) l := by
  pointwise [k7_pay13, k7_pay3, k7_pay2, chunk]

/-- Seventh chunk. -/
theorem pay14_at (x : Vec Ideal S256x1024 .f32) (u : Vec Ideal S1024x512 .bf16) (a : Vec Ideal S256x1024 .f32) (d : Vec Ideal S512x1024 .bf16) (r : Fin 256) (l : Fin 1024) :
    k7_pay14 (F := Ideal) (k7_pay3 x) u a d (ix2 r l) = a (ix2 r l) + chunk (fun d => x (ix2 r d)) (fun d k => u (ix2 d k)) (fun k l => d (ix2 k l)) l := by
  pointwise [k7_pay14, k7_pay3, k7_pay2, chunk]

/-- Eighth chunk. -/
theorem pay15_at (x : Vec Ideal S256x1024 .f32) (u : Vec Ideal S1024x512 .bf16) (a : Vec Ideal S256x1024 .f32) (d : Vec Ideal S512x1024 .bf16) (r : Fin 256) (l : Fin 1024) :
    k7_pay15 (F := Ideal) (k7_pay3 x) u a d (ix2 r l) = a (ix2 r l) + chunk (fun d => x (ix2 r d)) (fun d k => u (ix2 d k)) (fun k l => d (ix2 k l)) l := by
  pointwise [k7_pay15, k7_pay3, k7_pay2, chunk]

/-- The stored row is the normalization of the accumulated one. -/
theorem pay1_at (p : Vec Ideal S256x1024 .f32) (g b : Vec Ideal S1x1024 .f32) (r : Fin 256) (l : Fin 1024) :
    k7_pay1 (F := Ideal) p (k7_pay16 g) b (ix2 r l)
      = layerNorm (fun l => p (ix2 r l)) (fun l => g (ix2 0 l)) (fun l => b (ix2 0 l)) l := by
  pointwise [k7_pay1, k7_pay16, layerNorm, mean]

/-- Eight chunks of 512 hidden units make the row before normalization. -/
theorem preNorm_chunks (x : Fin 1024 → EReal) (U : Fin 1024 → Fin 4096 → EReal) (D : Fin 4096 → Fin 1024 → EReal) (l : Fin 1024) :
    preNorm x U D l = Ideal.ofBits .f32 0x3FB504F3#32 * x l
      + ∑ j : Fin 8, chunk x (fun d k => U d ⟨j.val * 512 + k.val, by omega⟩) (fun k l => D ⟨j.val * 512 + k.val, by omega⟩ l) l := by
  unfold preNorm
  rw [Fin.sum_univ_tiles 8 512 rfl]
  rfl

/-- Which block each window has at point `t`: rows advance by one block, weights and normalization vectors stay. -/
theorem places : ∀ t : Fin cfg7.N, win7_0.index t = ![t.val, 0] ∧ win7_1.index t = ![0, 0] ∧ win7_2.index t = ![0, 0]
    ∧ win7_3.index t = ![0, 0] ∧ win7_4.index t = ![0, 0] ∧ win7_5.index t = ![t.val, 0] :=
  (by decide +kernel : ∀ t : Fin grid7.N, _)

/-- The result array after the run. -/
theorem ffn_final (c : Dev nD) : (dat7 V c).arrAt 5 cfg7.N
    = ffnOf (V c main_v109) (V c main_v112) (V c main_v115) (fun y => V c main_v120 (ix2 0 (y 0))) (fun y => V c main_v121 (ix2 0 (y 0))) := by
  refine (dat7 V c).arrAt_eq_of_covers 5 _ (by decide +kernel) fun t _ y => ?_
  blk_simp
  rw [after7_5, outsAt7]
  frame_out
  obtain ⟨r, l, hy⟩ : ∃ (r : Fin 256) (l : Fin 1024), y = (ix2 r l : S256x1024.Idx) := ⟨y 0, y 1, eq_ix2 (n0 := 256) (n1 := 1024) y⟩
  subst hy
  refine (pay1_at _ _ _ r l).trans ?_
  simp only [pay15_at, pay14_at, pay13_at, pay12_at, pay11_at, pay9_at, pay8_at, pay5_at, pay4_at]
  have e : ((cfg7.win 5).blk t).view.emb (ix2 r l : S256x1024.Idx)
      = (ix2 ⟨t.val * 256 + r.val, by have h : t.val < 64 := lt_of_lt_of_eq t.isLt N_7; omega⟩ l : S16384x1024.Idx) := by
    blk_ext [places t]
  refine Eq.trans ?_ (congrArg (ffnOf _ _ _ _ _) e).symm
  refine layerNorm_congr (fun l => ?_) (fun l => ?_) (fun l => ?_) l
  · refine Eq.trans ?_ (preNorm_chunks _ _ _ l).symm
    rw [Fin.sum_univ_eight]
    simp only [← add_assoc]
    unfold chunk
    pointwise
    blk_point [iblk7, places t]
  · blk_point [iblk7, places t]
  · blk_point [iblk7, places t]

end Cert.KernelIdeal.SecondFeedForward

end
-- ==== Proof.SecondLayerKernel.lean ====
/- The second layer: its four calls and the steps between them, one after another, give the layer's formula of the first layer's rows. -/
module

public import proofs.«01_k».proof.Proof.Gen.KernelIdeal.Frame
public import proofs.«01_k».proof.Proof.SecondHostSteps
public import proofs.«01_k».proof.Proof.SecondProjValue
public import proofs.«01_k».proof.Proof.SecondAttnValue
public import proofs.«01_k».proof.Proof.SecondMixValue
public import proofs.«01_k».proof.Proof.SecondFfnValue
public import proofs.«01_k».proof.Proof.LayerReal

@[expose] public section

set_option maxHeartbeats 2000000
set_option maxRecDepth 16384

noncomputable section

namespace Cert.KernelIdeal.SecondWhole

open Idealize.ShloMosaic Idealize.ShloMosaic.TcCoe Idealize.SL.Sem
open Cert.KernelIdeal Cert.KernelIdeal.Gen Cert.KernelIdeal.SecondHost
open Cert.FfnRow Cert.MixRow Cert.Stick Cert.LayerRow

variable (m : (ℓ : Loc nD τ sig) → Buf (Elt Ideal) ℓ) (ρ : Dev nD → PrngReg) (c : Dev nD)

/-- What the layer's input weights are at launch. -/
abbrev inputWeights : (⟨2, ![1024, 2560]⟩ : Shape).Idx → EReal := slice2 1 (m ((c.tc : Thread nD τ).loc main_arg1))

variable (x : (⟨2, ![16384, 1024]⟩ : Shape).Idx → EReal)

/-- The products of the layer's input rows `x` with its input weights. -/
abbrev products : Fin 16384 → Fin 2560 → EReal := productsOf x (inputWeights m c)

theorem entry_products (hx : W15 m ρ c main_v61 = x) : productsOf (V15 m ρ c main_v61) (V15 m ρ c main_v64) = products m c x :=
  congrArg₂ productsOf hx ((inputWeights_eq (W14 m ρ c)).trans (congrArg (slice2 1) (W14_args m ρ c main_arg1 (by decide))))

/-- After the projections the first buffer holds the queries, keys and values. -/
theorem after_qkv (hx : W15 m ρ c main_v61 = x) (R : Fin 16384) (j : Fin 1536) : (W16 m ρ c main_v65_0 (ix2 R j) : EReal) = qkvCol (products m c x) R j := by
  refine (congrFun ((W16_arr m ρ c 2).trans (SecondProjection.qkv_final (V15 m ρ) c)) (ix2 R j)).trans ?_
  rw [entry_products m ρ c x hx]
  rfl

/-- And the second the columns that the mixing reads. -/
theorem after_cp (hx : W15 m ρ c main_v61 = x) : W16 m ρ c main_v65_1 = mixCols (products m c x) := by
  refine ((W16_arr m ρ c 3).trans (SecondProjection.cp_final (V15 m ρ) c)).trans ?_
  rw [entry_products m ρ c x hx]

/-- The attention reads the queries, keys and values by sequence and time. -/
theorem attention_arg (hx : W15 m ρ c main_v61 = x) : SecondAttention.argAt (V19 m ρ) c = qkvAt (products m c x) := by
  funext b t j
  exact (bySequence_at (W16 m ρ c) b t j).trans (after_qkv m ρ c x hx _ j)

/-- After the attention its buffer holds the attention of them, where the products are real. -/
theorem after_attention (hx : W15 m ρ c main_v61 = x) (hP : ∀ R j, IsReal (products m c x R j)) (b : Fin 2) (t : Fin 8192) (e : Fin 512) :
    (W20 m ρ c main_v70 (ix3 b t e) : EReal) = attnAt (qkvAt (products m c x)) b t e := by
  have hX : RealQK (SecondAttention.argAt (V19 m ρ) c) := by
    rw [attention_arg m ρ c x hx]
    exact realQK hP
  refine (congrFun ((W20_arr m ρ c 4).trans (SecondAttention.attn_final (V19 m ρ) c hX (tril_at (W16 m ρ c)))) (ix3 b t e)).trans ?_
  rw [attention_arg m ρ c x hx]
  rfl

/-- The mixing reads the attention's rows. -/
theorem mix_attention (hx : W15 m ρ c main_v61 = x) (hP : ∀ R j, IsReal (products m c x R j)) : V25 m ρ c main_v71 = attnRows (qkvAt (products m c x)) := by
  funext y
  obtain ⟨R, e, rfl⟩ : ∃ (R : Fin 16384) (e : Fin 512), y = ix2 R e := ⟨y 0, y 1, eq_ix2 (n0 := 16384) (n1 := 512) y⟩
  exact (rows_at (W20 m ρ c) R e).trans (after_attention m ρ c x hx hP _ _ e)

/-- The mixing reads the projections' second result. -/
theorem mix_cp (hx : W15 m ρ c main_v61 = x) : V25 m ρ c main_v65_1 = mixCols (products m c x) :=
  (W25_of m ρ c main_v65_1 (by decide)).trans ((W24_of m ρ c main_v65_1 (by decide)).trans ((W23_of m ρ c main_v65_1 (by decide)).trans
    ((W22_of m ρ c main_v65_1 (by decide)).trans ((W21_of m ρ c main_v65_1 (by decide)).trans ((W20_of m ρ c main_v65_1 (by decide)).trans
    ((W19_of m ρ c main_v65_1 (by decide)).trans ((W18_of m ρ c main_v65_1 (by decide)).trans ((W17_of m ρ c main_v65_1 (by decide)).trans (after_cp m ρ c x hx)))))))))

/-- And the layer's input rows. -/
theorem mix_input (hx : W15 m ρ c main_v61 = x) : V25 m ρ c main_v61 = x :=
  (W25_of m ρ c main_v61 (by decide)).trans ((W24_of m ρ c main_v61 (by decide)).trans ((W23_of m ρ c main_v61 (by decide)).trans
    ((W22_of m ρ c main_v61 (by decide)).trans ((W21_of m ρ c main_v61 (by decide)).trans ((W20_of m ρ c main_v61 (by decide)).trans
    ((W19_of m ρ c main_v61 (by decide)).trans ((W18_of m ρ c main_v61 (by decide)).trans ((W17_of m ρ c main_v61 (by decide)).trans ((W16_of m ρ c main_v61 (by decide)).trans hx)))))))))

/-- And the layer's taps. -/
theorem mix_taps : V25 m ρ c main_v73 = slice2 1 (m ((c.tc : Thread nD τ).loc main_arg2)) :=
  (taps_eq (W20 m ρ c)).trans (congrArg (slice2 1) (W20_args m ρ c main_arg2 (by decide)))

/-- The rows after the mixing. -/
abbrev mixedRows : (⟨2, ![16384, 1024]⟩ : Shape).Idx → EReal :=
  mixOf x (attnRows (qkvAt (products m c x))) (mixCols (products m c x)) (slice2 1 (m ((c.tc : Thread nD τ).loc main_arg2)))
    (slice3 1 (m ((c.tc : Thread nD τ).loc main_arg3))) (slice1 1 (m ((c.tc : Thread nD τ).loc main_arg4))) (slice1 1 (m ((c.tc : Thread nD τ).loc main_arg5)))
    (slice2 1 (m ((c.tc : Thread nD τ).loc main_arg6))) (slice1 1 (m ((c.tc : Thread nD τ).loc main_arg7))) (slice1 1 (m ((c.tc : Thread nD τ).loc main_arg8)))

/-- After the mixing its buffer holds the mixed rows, where the five arrays that make them are real. -/
theorem after_mix (hx : W15 m ρ c main_v61 = x) (hP : ∀ R j, IsReal (products m c x R j)) (h2 : ∀ y, IsReal (slice2 1 (m ((c.tc : Thread nD τ).loc main_arg2)) y))
    (h3 : ∀ y, IsReal (slice3 1 (m ((c.tc : Thread nD τ).loc main_arg3)) y)) (h4 : ∀ y, IsReal (slice1 1 (m ((c.tc : Thread nD τ).loc main_arg4)) y)) :
    W26 m ρ c main_v109 = mixedRows m c x := by
  have hR : RealArrays (V25 m ρ c main_v71) (V25 m ρ c main_v65_1) (V25 m ρ c main_v73) (slice3 1 (m ((c.tc : Thread nD τ).loc main_arg3)))
      (slice1 1 (m ((c.tc : Thread nD τ).loc main_arg4))) := by
    refine ⟨?_, ?_, ?_, h3, h4⟩
    · rw [mix_attention m ρ c x hx hP]
      exact attnRows_real hP
    · rw [mix_cp m ρ c x hx]
      exact fun y => hP _ _
    · rw [mix_taps m ρ c]
      exact h2
  refine (W26_arr m ρ c 12).trans ((SecondMixing.mix_final (V25 m ρ) c _ _ (slice1 1 (m ((c.tc : Thread nD τ).loc main_arg5)))
    (slice2 1 (m ((c.tc : Thread nD τ).loc main_arg6))) (slice1 1 (m ((c.tc : Thread nD τ).loc main_arg7)))
    (slice1 1 (m ((c.tc : Thread nD τ).loc main_arg8))) hR ?_ ?_ ?_ ?_ ?_ ?_ ?_).trans ?_)
  · exact fun k q => (blockDiag_at (W20 m ρ c) k q).trans (if_congr Iff.rfl (congrFun (W20_args m ρ c main_arg3 (by decide)) _) rfl)
  · exact ones_at (W20 m ρ c)
  · exact fun l => (scale_at (W20 m ρ c) l).trans (congrFun (W20_args m ρ c main_arg4 (by decide)) _)
  · exact fun d => (gain_at (W20 m ρ c) d).trans (congrFun (W20_args m ρ c main_arg5 (by decide)) _)
  · exact fun e d => (weights_at (W20 m ρ c) e d).trans (congrFun (W20_args m ρ c main_arg6 (by decide)) _)
  · exact fun d => (normGain_at (W20 m ρ c) d).trans (congrFun (W20_args m ρ c main_arg7 (by decide)) _)
  · exact fun d => (normBias_at (W20 m ρ c) d).trans (congrFun (W20_args m ρ c main_arg8 (by decide)) _)
  · rw [mix_attention m ρ c x hx hP, mix_cp m ρ c x hx, mix_input m ρ c x hx, mix_taps m ρ c]

/-- After the layer's last call its buffer holds the layer's formula of its input rows, where they, the input weights and the mixing's own arrays are real. -/
theorem layer_final (hx : W15 m ρ c main_v61 = x) (h0 : ∀ y, IsReal (x y)) (h1 : ∀ y, IsReal (m ((c.tc : Thread nD τ).loc main_arg1) y))
    (h2 : ∀ y, IsReal (m ((c.tc : Thread nD τ).loc main_arg2) y)) (h3 : ∀ y, IsReal (m ((c.tc : Thread nD τ).loc main_arg3) y))
    (h4 : ∀ y, IsReal (m ((c.tc : Thread nD τ).loc main_arg4) y)) :
    W28 m ρ c main_v122
      = layerAt 1 x (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  have hm : V27 m ρ c main_v109 = mixedRows m c x := (W27_of m ρ c main_v109 (by decide)).trans
    (after_mix m ρ c x hx (productsOf_real h0 fun y => h1 _) (fun y => h2 _) (fun y => h3 _) (fun y => h4 _))
  have hu : V27 m ρ c main_v112 = slice2 1 (m ((c.tc : Thread nD τ).loc main_arg9)) :=
    (up_eq (W26 m ρ c)).trans (congrArg (slice2 1) (W26_args m ρ c main_arg9 (by decide)))
  have hd : V27 m ρ c main_v115 = slice2 1 (m ((c.tc : Thread nD τ).loc main_arg10)) :=
    (down_eq (W26 m ρ c)).trans (congrArg (slice2 1) (W26_args m ρ c main_arg10 (by decide)))
  have hg : (fun y : (⟨1, ![1024]⟩ : Shape).Idx => V27 m ρ c main_v120 (ix2 0 (y 0))) = slice1 1 (m ((c.tc : Thread nD τ).loc main_arg11)) := by
    funext y
    exact (lastGain_at (W26 m ρ c) (y 0)).trans (congrFun (W26_args m ρ c main_arg11 (by decide)) _)
  have hb : (fun y : (⟨1, ![1024]⟩ : Shape).Idx => V27 m ρ c main_v121 (ix2 0 (y 0))) = slice1 1 (m ((c.tc : Thread nD τ).loc main_arg12)) := by
    funext y
    exact (lastBias_at (W26 m ρ c) (y 0)).trans (congrFun (W26_args m ρ c main_arg12 (by decide)) _)
  refine ((W28_arr m ρ c 5).trans (SecondFeedForward.ffn_final (V27 m ρ) c)).trans ?_
  rw [hm, hu, hd, hg, hb]
  rfl

end Cert.KernelIdeal.SecondWhole

end
-- ==== Proof.TrunkKernel.lean ====
/- Both layers, one after the other: what the kernel leaves in its result's buffer is the two layers' formula. -/
module

public import proofs.«01_k».proof.Proof.LayerKernel
public import proofs.«01_k».proof.Proof.SecondLayerKernel

@[expose] public section

set_option maxHeartbeats 2000000
set_option maxRecDepth 16384

noncomputable section

namespace Cert.KernelIdeal.Trunk

open Idealize.ShloMosaic Idealize.ShloMosaic.TcCoe Idealize.SL.Sem
open Cert.KernelIdeal Cert.KernelIdeal.Gen
open Cert.MixRow Cert.LayerRow

variable (m : (ℓ : Loc nD τ sig) → Buf (Elt Ideal) ℓ) (ρ : Dev nD → PrngReg) (c : Dev nD)

/-- The first layer reads the input's rows. -/
theorem first_input : W1 m ρ c main_v0 = flatRows (m ((c.tc : Thread nD τ).loc main_arg0)) := Host.input_eq (W0 m ρ c)

/-- The kernel's result is the two layers' formula, where the arrays that make both layers' inputs are real. -/
theorem trunk_final (h : RealTrunk (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12))) :
    W29 m ρ c main_v123 = trunkOf (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) := by
  have e1 := Whole.layer_final m ρ c _ (first_input m ρ c) (fun y => h.x _) h.w h.conv h.pool h.scale
  have e2 := SecondWhole.layer_final m ρ c _ ((W15_of m ρ c main_v61 (by decide)).trans e1) h.first h.w h.conv h.pool h.scale
  exact (SecondHost.output_eq (W28 m ρ c)).trans (congrArg bySequence e2)

end Cert.KernelIdeal.Trunk

end
-- ==== Proof.AttnRef.lean ====
/- The attention's reference read at an index: its own operations, in steps, are the formula of AttnSpec. -/
module

public import proofs.«01_k».proof.Proof.Gen.ReferenceIdeal.Run
public import Idealize.ShloMosaic.Lib.Pipeline.ValueKit
public import Idealize.ShloMosaic.Lib.WordCmp
public import proofs.«01_k».proof.Proof.LayerSpec

@[expose] public section

set_option maxRecDepth 16384

noncomputable section

namespace Cert.ReferenceIdeal.Attention

open Cert.ReferenceIdeal Cert.ReferenceIdeal.Gen Idealize.ShloMosaic Idealize.ShloMosaic.TcCoe Idealize.SL.Sem
open Cert.Stick Cert.LayerRow

/-- A window that begins at an element and is as long as the last axis, padded with zeros past its end, sums what lies from that element on. -/
theorem window_sum {A B C N M : ℕ} (x : FVec Ideal ⟨4, ![A, B, C, N]⟩ .f32) (init : FVec Ideal ⟨0, ![]⟩ .f32) (hinit : ∀ i, init i = (0 : EReal))
    (h : (⟨4, ![A, B, C, N]⟩ : Shape).ReduceWindows ![1, 1, 1, N] ![1, 1, 1, 1] ![0, 0, 0, 0] ![0, 0, 0, M] ⟨4, ![A, B, C, N]⟩)
    (hu : 0 < (⟨0, ![]⟩ : Shape).numel) (a : Fin A) (b : Fin B) (c : Fin C) (j : Fin N) :
    (Host.reduceWindowAdd ![1, 1, 1, N] ![1, 1, 1, 1] ![0, 0, 0, 0] ![0, 0, 0, M] x init h hu (ix4 a b c j) : EReal)
      = ∑ u ∈ Finset.Ico j.val (j.val + N), if hu : u < N then (x (ix4 a b c ⟨u, hu⟩) : EReal) else 0 := by
  let W : Shape := ⟨4, ![1, 1, 1, N]⟩
  let f : ℕ → EReal := fun u => if hu : u < N then (x (ix4 a b c ⟨u, hu⟩) : EReal) else 0
  let g : W.Idx → EReal := fun w => f (j.val + (w 3).val)
  have e1 : (Host.reduceWindowAdd ![1, 1, 1, N] ![1, 1, 1, 1] ![0, 0, 0, 0] ![0, 0, 0, M] x init h hu (ix4 a b c j) : EReal) = ∑ w : W.Idx, g w := by
    rw [sum_idx_eq_foldl]
    show Ideal.hostReduceWindowAdd _ _ _ _ h x (init _) _ = _
    rw [hinit]
    unfold Ideal.hostReduceWindowAdd Host.reduceWindow
    refine congrArg (fun F => List.foldl F (0 : EReal) (List.finRange W.numel)) ?_
    funext r n
    show r + _ = r + _
    refine congrArg (fun z : EReal => r + z) ?_
    have h0 : ((W.rowMajor.symm n) 0).val = 0 := congrArg Fin.val (Subsingleton.elim (α := Fin 1) _ 0)
    have h1 : ((W.rowMajor.symm n) 1).val = 0 := congrArg Fin.val (Subsingleton.elim (α := Fin 1) _ 0)
    have h2 : ((W.rowMajor.symm n) 2).val = 0 := congrArg Fin.val (Subsingleton.elim (α := Fin 1) _ 0)
    split
    · next hin =>
      have h3 : j.val * 1 + ((W.rowMajor.symm n) 3).val - 0 < N := (hin 3).2
      have h4 : j.val + ((W.rowMajor.symm n) 3).val < N := by omega
      show _ = (if hu : j.val + ((W.rowMajor.symm n) 3).val < N then (x (ix4 a b c ⟨j.val + ((W.rowMajor.symm n) 3).val, hu⟩) : EReal) else 0)
      rw [dif_pos h4]
      refine congrArg x (funext fun e => Fin.ext ?_)
      match e with
      | ⟨0, _⟩ => show a.val * 1 + ((W.rowMajor.symm n) 0).val - 0 = a.val; omega
      | ⟨1, _⟩ => show b.val * 1 + ((W.rowMajor.symm n) 1).val - 0 = b.val; omega
      | ⟨2, _⟩ => show c.val * 1 + ((W.rowMajor.symm n) 2).val - 0 = c.val; omega
      | ⟨3, _⟩ => show j.val * 1 + ((W.rowMajor.symm n) 3).val - 0 = j.val + ((W.rowMajor.symm n) 3).val; omega
    · next hin =>
      show _ = (if hu : j.val + ((W.rowMajor.symm n) 3).val < N then (x (ix4 a b c ⟨j.val + ((W.rowMajor.symm n) 3).val, hu⟩) : EReal) else 0)
      rw [dif_neg fun h4 => hin fun e => by
        have := a.isLt
        have := b.isLt
        have := c.isLt
        match e with
        | ⟨0, _⟩ => show 0 ≤ a.val * 1 + ((W.rowMajor.symm n) 0).val ∧ a.val * 1 + ((W.rowMajor.symm n) 0).val - 0 < A; omega
        | ⟨1, _⟩ => show 0 ≤ b.val * 1 + ((W.rowMajor.symm n) 1).val ∧ b.val * 1 + ((W.rowMajor.symm n) 1).val - 0 < B; omega
        | ⟨2, _⟩ => show 0 ≤ c.val * 1 + ((W.rowMajor.symm n) 2).val ∧ c.val * 1 + ((W.rowMajor.symm n) 2).val - 0 < C; omega
        | ⟨3, _⟩ => show 0 ≤ j.val * 1 + ((W.rowMajor.symm n) 3).val ∧ j.val * 1 + ((W.rowMajor.symm n) 3).val - 0 < N; omega]
  rw [e1, ← sum_block f j.val N]
  refine (Fintype.sum_bijective (fun n : Fin N => (ix4 (0 : Fin 1) (0 : Fin 1) (0 : Fin 1) n : W.Idx)) ⟨fun n n' hn => ?_, fun w => ⟨w 3, ?_⟩⟩ _ _ fun n => rfl).symm
  · exact congrFun hn 3
  · funext e
    match e with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The queries by head. -/
def queryOps (X : FVec Ideal S2x8192x2560 .f32) : FVec Ideal S2x8x8192x64 .f32 :=
  transpose S2x8x8192x64 [0, 2, 1, 3] (shapeCast _ (extractStridedSlice S2x8192x512 ![0, 0, 0] X slices_S2x8192x2560_S2x8192x512_0_0_0) shapeCasts_S2x8192x512_S2x8192x8x64) transposes_S2x8192x8x64_S2x8x8192x64_0_2_1_3

/-- The keys by head. -/
def keyOps (X : FVec Ideal S2x8192x2560 .f32) : FVec Ideal S2x8x8192x64 .f32 :=
  transpose S2x8x8192x64 [0, 2, 1, 3] (shapeCast _ (extractStridedSlice S2x8192x512 ![0, 0, 512] X slices_S2x8192x2560_S2x8192x512_0_0_512) shapeCasts_S2x8192x512_S2x8192x8x64) transposes_S2x8192x8x64_S2x8x8192x64_0_2_1_3

/-- The values by head. -/
def valueOps (X : FVec Ideal S2x8192x2560 .f32) : FVec Ideal S2x8x8192x64 .f32 :=
  transpose S2x8x8192x64 [0, 2, 1, 3] (shapeCast _ (extractStridedSlice S2x8192x512 ![0, 0, 1024] X slices_S2x8192x2560_S2x8192x512_0_0_1024) shapeCasts_S2x8192x512_S2x8192x8x64) transposes_S2x8192x8x64_S2x8x8192x64_0_2_1_3

/-- The scores: an eighth of the products of queries and keys. -/
def scoreOps (X : FVec Ideal S2x8192x2560 .f32) : FVec Ideal S2x8x8192x8192 .f32 :=
  mulf (Host.dotGeneral dot_S2x8x8192x64_S2x8x8192x64_S2x8x8192x8192_3_3_2_2_01_01 none (queryOps X) (keyOps X))
    (broadcastInDim S2x8x8192x8192 ![] bcast_S_S2x8x8192x8192 (constant S_ .f32 0x3E000000#32))

/-- A score array kept where the key comes before the query, zero elsewhere. -/
def beforeOps (Z : FVec Ideal S2x8x8192x8192 .f32) : FVec Ideal S2x8x8192x8192 .f32 :=
  select (broadcastInDim S2x8x8192x8192 ![2, 3] bcast_S8192x8192_S2x8x8192x8192_2_3
      (cmpi .slt (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    Z (broadcastInDim S2x8x8192x8192 ![] bcast_S_S2x8x8192x8192 (id (constant S_ .f32 0x00000000#32)))

/-- The logarithm of the logistic function, as minus the softplus of minus its argument. -/
def logSigmoidOps (Z : FVec Ideal S2x8x8192x8192 .f32) : FVec Ideal S2x8x8192x8192 .f32 :=
  Host.negf (select
    (cmpf .une (subf (Host.negf Z) (broadcastInDim S2x8x8192x8192 ![] bcast_S_S2x8x8192x8192 (constant S_ .f32 0x00000000#32)))
      (subf (Host.negf Z) (broadcastInDim S2x8x8192x8192 ![] bcast_S_S2x8x8192x8192 (constant S_ .f32 0x00000000#32))))
    (addf (Host.negf Z) (broadcastInDim S2x8x8192x8192 ![] bcast_S_S2x8x8192x8192 (constant S_ .f32 0x00000000#32)))
    (addf (maximumf (Host.negf Z) (broadcastInDim S2x8x8192x8192 ![] bcast_S_S2x8x8192x8192 (constant S_ .f32 0x00000000#32)))
      (Host.log1p (Host.exp (Host.negf (Host.absf
        (subf (Host.negf Z) (broadcastInDim S2x8x8192x8192 ![] bcast_S_S2x8x8192x8192 (constant S_ .f32 0x00000000#32)))))))))

/-- The sums from each key on. -/
def runningOps (L : FVec Ideal S2x8x8192x8192 .f32) : FVec Ideal S2x8x8192x8192 .f32 :=
  Host.reduceWindowAdd ![1, 1, 1, 8192] ![1, 1, 1, 1] ![0, 0, 0, 0] ![0, 0, 0, 8191] L (broadcastInDim S_ ![] bcast_S_S_ (constant S_ .f32 0x00000000#32))
    reduceWindows_S2x8x8192x8192_S2x8x8192x8192_w1s1p0_0_w1s1p0_0_w1s1p0_0_w8192s1p0_8191 h_S_

/-- The weights of the keys for each query, from the scores. -/
def weightOps (Z : FVec Ideal S2x8x8192x8192 .f32) : FVec Ideal S2x8x8192x8192 .f32 :=
  beforeOps (Host.exp (addf (logSigmoidOps Z)
    (subf (runningOps (beforeOps (logSigmoidOps (Host.negf Z)))) (beforeOps (logSigmoidOps (Host.negf Z))))))

/-- The weighted values, the heads beside one another. -/
def outOps (P : FVec Ideal S2x8x8192x8192 .f32) (V : FVec Ideal S2x8x8192x64 .f32) : FVec Ideal S2x8192x512 .f32 :=
  shapeCast _ (transpose S2x8192x8x64 [0, 2, 1, 3] (Host.dotGeneral dot_S2x8x8192x8192_S2x8x8192x64_S2x8x8192x64_3_2_2_3_01_01 none P V) transposes_S2x8x8192x64_S2x8192x8x64_0_2_1_3) shapeCasts_S2x8192x8x64_S2x8192x512

/-- The queries scaled, the keys and the values. -/
def coords (X : FVec Ideal S2x8192x2560 .f32) (b : Fin 2) (t : Fin 8192) (j : Fin 1536) : EReal :=
  if j.val < 512 then X (ix3 b t ⟨j.val, by omega⟩) * (qScale : EReal) else X (ix3 b t ⟨j.val, by omega⟩)

/-- The constant an eighth. -/
theorem eighth_ideal : Ideal.ofBits .f32 0x3E000000#32 = ((1 / 8 : ℝ) : EReal) := by
  simp [Ideal.ofBits, Ideal.ieee]
  rw [← EReal.coe_mul]
  norm_num

/-- A score as an eighth of the product of a query and a key. -/
theorem score_product (X : FVec Ideal S2x8192x2560 .f32) (b : Fin 2) (h : Fin 8) (t s : Fin 8192) :
    (scoreOps X (ix4 b h t s) : EReal)
      = (∑ d : Fin 64, X (ix3 b t ⟨h.val * 64 + d.val, by omega⟩) * X (ix3 b s ⟨512 + (h.val * 64 + d.val), by omega⟩)) * ((1 / 8 : ℝ) : EReal) := by
  rw [← eighth_ideal]
  pointwise [scoreOps, queryOps, keyOps]

/-- A score is minus log 2 times the product of the scaled query and the key, where they are real. -/
theorem score_at (X : FVec Ideal S2x8192x2560 .f32) (hX : ∀ y, Cert.MixRow.IsReal (X y)) (b : Fin 2) (h : Fin 8) (t s : Fin 8192) :
    (scoreOps X (ix4 b h t s) : EReal) = scoreAt (coords X) b h t s * -((Real.log 2 : ℝ) : EReal) := by
  rw [score_product]
  choose x hx using hX
  unfold scoreAt coords
  have hd : ∀ d : Fin 64, h.val * 64 + d.val < 512 := fun d => by omega
  have hd' : ∀ d : Fin 64, ¬ 512 + h.val * 64 + d.val < 512 := fun d => by omega
  have hd'' : ∀ d : Fin 64, ¬ 512 + (h.val * 64 + d.val) < 512 := fun d => by omega
  simp only [hd, hd', hd'', if_true, if_false, hx, ← EReal.coe_mul, ereal_sum, ← EReal.coe_neg]
  refine congrArg _ ?_
  rw [Finset.sum_mul, Finset.sum_mul]
  refine Finset.sum_congr rfl fun d _ => ?_
  have h2 : Real.log 2 ≠ 0 := (Real.log_pos (by norm_num)).ne'
  unfold qScale
  field_simp

/-- The mask keeps the keys strictly before the query. -/
theorem before_at (Z : FVec Ideal S2x8x8192x8192 .f32) (b : Fin 2) (h : Fin 8) (t s : Fin 8192) :
    (beforeOps Z (ix4 b h t s) : EReal) = if s.val < t.val then (Z (ix4 b h t s) : EReal) else 0 := by
  have h0 : (id (constant (F := Ideal) S_ .f32 0x00000000#32) ix0 : EReal) = 0 := Ideal.ofBits_zero_f32
  pointwise [beforeOps]
  rw [h0]
  unfold Scalar.select
  have hc : IntOp.cmpi CmpIPredicate.slt (BitVec.ofNat 32 s.val) (BitVec.ofNat 32 t.val) = 1 ↔ s.val < t.val :=
    WordCmp.cmpi_slt_ofNat_eq_one_iff (w := 32) (by have := s.isLt; omega) (by have := t.isLt; omega)
  by_cases hst : s.val < t.val
  · rw [if_pos (hc.2 hst), if_pos hst]
  · rw [if_neg fun h1 => hst (hc.1 h1), if_neg hst]

/-- The log-sigmoid of a real. -/
theorem logSigmoid_at (Z : FVec Ideal S2x8x8192x8192 .f32) (b : Fin 2) (h : Fin 8) (t s : Fin 8192) (n : ℝ)
    (hz : (Z (ix4 b h t s) : EReal) = ((n * Real.log 2 : ℝ) : EReal)) :
    (logSigmoidOps Z (ix4 b h t s) : EReal) = ((logKeep n * Real.log 2 : ℝ) : EReal) := by
  pointwise [logSigmoidOps]
  have ha : FloatOps.absf (F := Ideal) (φ := .f32) (-(Z (ix4 b h t s)) : EReal) = (max (-(Z (ix4 b h t s)) : EReal) (- -(Z (ix4 b h t s)) : EReal) : EReal) := rfl
  have hp : 0 < Real.exp (-max (-(n * Real.log 2)) (n * Real.log 2)) := Real.exp_pos _
  rw [if_neg (fun hne => hne rfl), ha, hz, neg_neg, ← EReal.coe_neg, ereal_max, ← EReal.coe_neg, Ideal.exp_coe, ← EReal.coe_zero, ereal_max]
  unfold Ideal.log1p
  rw [← EReal.coe_one, ← EReal.coe_add, Ideal.log_coe, if_neg (by linarith), ← EReal.coe_add, softplus_real, ← EReal.coe_neg, neg_neg]

/-- The sums from each key on, where the terms are real and vanish from the query on. -/
theorem running_at (L : FVec Ideal S2x8x8192x8192 .f32) (b : Fin 2) (h : Fin 8) (t s : Fin 8192) (k : ℕ → ℝ)
    (hL : ∀ u : Fin 8192, (L (ix4 b h t u) : EReal) = if u.val < t.val then ((k u.val : ℝ) : EReal) else 0) :
    (runningOps L (ix4 b h t s) : EReal) = ((∑ u ∈ Finset.Ico s.val t.val, k u : ℝ) : EReal) := by
  have hs := s.isLt
  have ht := t.isLt
  refine (window_sum L _ (fun i => ?_) _ _ b h t s).trans ?_
  · exact Ideal.ofBits_zero_f32
  rw [← ereal_sum]
  have e : ∀ u ∈ Finset.Ico s.val (s.val + 8192), (if hu : u < 8192 then (L (ix4 b h t ⟨u, hu⟩) : EReal) else 0) = if u < t.val then ((k u : ℝ) : EReal) else 0 := by
    intro u _
    by_cases hu : u < 8192
    · rw [dif_pos hu, hL]
    · rw [dif_neg hu, if_neg (by omega)]
  rw [Finset.sum_congr rfl e, ← Finset.sum_filter]
  refine Finset.sum_congr ?_ fun _ _ => rfl
  ext u
  simp only [Finset.mem_filter, Finset.mem_Ico]
  omega

/-- A weight of the reference is the stick the key breaks off. -/
theorem weight_at (X : FVec Ideal S2x8192x2560 .f32) (hr : ∀ y, Cert.MixRow.IsReal (X y)) (hX : RealQK (coords X)) (b : Fin 2) (h : Fin 8) (t s : Fin 8192) :
    (weightOps (scoreOps X) (ix4 b h t s) : EReal) = ((weight (expo (coords X) b h t) t.val s.val : ℝ) : EReal) := by
  have hz : ∀ u : Fin 8192, (scoreOps X (ix4 b h t u) : EReal) = ((-expo (coords X) b h t u.val * Real.log 2 : ℝ) : EReal) := fun u => by
    rw [score_at X hr, score_real hX, ← EReal.coe_neg, ← EReal.coe_mul, mul_neg, neg_mul]
  have hn : ∀ u : Fin 8192, (Host.negf (scoreOps X) (ix4 b h t u) : EReal) = ((expo (coords X) b h t u.val * Real.log 2 : ℝ) : EReal) := fun u => by
    show -(scoreOps X (ix4 b h t u) : EReal) = _
    rw [hz, ← EReal.coe_neg, neg_mul, neg_neg]
  have hk : ∀ u : Fin 8192, (beforeOps (logSigmoidOps (Host.negf (scoreOps X))) (ix4 b h t u) : EReal)
      = if u.val < t.val then ((logKeep (expo (coords X) b h t u.val) * Real.log 2 : ℝ) : EReal) else 0 := fun u => by
    rw [before_at, logSigmoid_at _ _ _ _ _ _ (hn u)]
  unfold weightOps weight
  rw [before_at]
  by_cases hst : s.val < t.val
  · rw [if_pos hst, if_pos hst]
    show Ideal.exp ((logSigmoidOps (scoreOps X) (ix4 b h t s) : EReal)
      + ((runningOps (beforeOps (logSigmoidOps (Host.negf (scoreOps X)))) (ix4 b h t s) : EReal)
        - (beforeOps (logSigmoidOps (Host.negf (scoreOps X))) (ix4 b h t s) : EReal))) = _
    rw [logSigmoid_at _ _ _ _ _ _ (hz s), running_at _ b h t s (fun u => logKeep (expo (coords X) b h t u) * Real.log 2) hk, hk s, if_pos hst,
      ← EReal.coe_sub, ← EReal.coe_add, Ideal.exp_coe, logKeep_neg, ← Finset.sum_mul, ← exp_mul_log_two]
    congr 2
    ring
  · rw [if_neg hst, if_neg hst, EReal.coe_zero]

/-- The reference's last product, transposed and reshaped. -/
theorem out_at (P : FVec Ideal S2x8x8192x8192 .f32) (X : FVec Ideal S2x8192x2560 .f32) (b : Fin 2) (t : Fin 8192) (e : Fin 512) :
    (outOps P (valueOps X) (ix3 b t e) : EReal)
      = ∑ s : Fin 8192, (P (ix4 b ⟨e.val / 64, by have := e.isLt; omega⟩ t s) : EReal) * coords X b s ⟨1024 + e.val, by have := e.isLt; omega⟩ := by
  have he : ¬ 1024 + e.val < 512 := by omega
  unfold coords
  simp only [he, if_false]
  pointwise [outOps, valueOps]

/-- The weighted values are the attention formula, where the products are real. -/
theorem attention_at (X : FVec Ideal S2x8192x2560 .f32) (hr : ∀ y, Cert.MixRow.IsReal (X y)) (hX : RealQK (coords X)) (b : Fin 2) (t : Fin 8192) (e : Fin 512) :
    (outOps (weightOps (scoreOps X)) (valueOps X) (ix3 b t e) : EReal) = attnAt (coords X) b t e :=
  (out_at _ _ b t e).trans (Finset.sum_congr rfl fun s _ => by rw [weight_at X hr hX])

end Cert.ReferenceIdeal.Attention
end
-- ==== Proof.MixSums.lean ====
/- Running sums of columns, and the sums over trailing windows they give as differences. -/
module

public import proofs.«01_k».proof.Proof.Gen.ReferenceIdeal.Run
public import Idealize.ShloMosaic.Lib.Pipeline.ValueKit
public import Idealize.ShloMosaic.Lib.WordCmp
public import proofs.«01_k».proof.Proof.StickMath
public import proofs.«01_k».proof.Proof.MixSpec

@[expose] public section

set_option maxRecDepth 16384

noncomputable section

namespace Cert.ReferenceIdeal.Mixing

open Cert.ReferenceIdeal Cert.ReferenceIdeal.Gen Idealize.ShloMosaic Idealize.ShloMosaic.TcCoe Idealize.SL.Sem
open Cert.MixRow Cert.FfnRow Cert.Stick

/-- A running sum of real numbers less an earlier one is the sum over the window between them, counted backwards. -/
theorem window_difference (f : ℕ → EReal) (hf : ∀ u, IsReal (f u)) (t w : ℕ) :
    (∑ u ∈ Finset.range (t + 1), f u) - (∑ u ∈ Finset.range (t + 1 - w), f u) = ∑ k ∈ Finset.range w, if k ≤ t then f (t - k) else 0 := by
  have hI : ∑ k ∈ Finset.range w, (if k ≤ t then f (t - k) else 0) = ∑ u ∈ Finset.Ico (t + 1 - w) (t + 1), f u := by
    have h1 : ∑ k ∈ Finset.range w, (if k ≤ t then f (t - k) else 0) = ∑ k ∈ Finset.Ico 0 (min w (t + 1)), f (t - k) := by
      rw [← Finset.sum_filter]
      refine Finset.sum_congr ?_ fun _ _ => rfl
      ext k
      simp only [Finset.mem_filter, Finset.mem_range, Finset.mem_Ico]
      omega
    rw [h1, Finset.sum_Ico_reflect f 0 (m := min w (t + 1)) (n := t) (by omega)]
    refine Finset.sum_congr ?_ fun _ _ => rfl
    ext u
    simp only [Finset.mem_Ico]
    omega
  have hS := Finset.sum_range_add_sum_Ico f (show t + 1 - w ≤ t + 1 by omega)
  obtain ⟨a, ha⟩ := IsReal.sum (Finset.range (t + 1 - w)) f fun u _ => hf u
  obtain ⟨b, hb⟩ := IsReal.sum (Finset.Ico (t + 1 - w) (t + 1)) f fun u _ => hf u
  rw [hI, ← hS, ha, hb, ← EReal.coe_add, ← EReal.coe_sub]
  congr 1
  ring

/-- A window that ends at an element and is as long as the axis, padded with zeros before its beginning, sums what lies up to that element. -/
theorem running_sum {A N B C P : ℕ} (hP : P + 1 = N) (x : FVec Ideal ⟨4, ![A, N, B, C]⟩ .f32) (init : FVec Ideal ⟨0, ![]⟩ .f32) (hinit : ∀ i, init i = (0 : EReal))
    (h : (⟨4, ![A, N, B, C]⟩ : Shape).ReduceWindows ![1, N, 1, 1] ![1, 1, 1, 1] ![0, P, 0, 0] ![0, 0, 0, 0] ⟨4, ![A, N, B, C]⟩)
    (hu : 0 < (⟨0, ![]⟩ : Shape).numel) (a : Fin A) (t : Fin N) (b : Fin B) (c : Fin C) :
    (Host.reduceWindowAdd ![1, N, 1, 1] ![1, 1, 1, 1] ![0, P, 0, 0] ![0, 0, 0, 0] x init h hu (ix4 a t b c) : EReal)
      = ∑ u ∈ Finset.range (t.val + 1), if hu : u < N then (x (ix4 a ⟨u, hu⟩ b c) : EReal) else 0 := by
  let W : Shape := ⟨4, ![1, N, 1, 1]⟩
  let f : ℕ → EReal := fun v => if hv : P ≤ v ∧ v - P < N then (x (ix4 a ⟨v - P, hv.2⟩ b c) : EReal) else 0
  let g : W.Idx → EReal := fun w => f (t.val + (w 1).val)
  have e1 : (Host.reduceWindowAdd ![1, N, 1, 1] ![1, 1, 1, 1] ![0, P, 0, 0] ![0, 0, 0, 0] x init h hu (ix4 a t b c) : EReal) = ∑ w : W.Idx, g w := by
    rw [sum_idx_eq_foldl]
    show Ideal.hostReduceWindowAdd _ _ _ _ h x (init _) _ = _
    rw [hinit]
    unfold Ideal.hostReduceWindowAdd Host.reduceWindow
    refine congrArg (fun F => List.foldl F (0 : EReal) (List.finRange W.numel)) ?_
    funext r n
    show r + _ = r + _
    refine congrArg (fun z : EReal => r + z) ?_
    have h0 : ((W.rowMajor.symm n) 0).val = 0 := congrArg Fin.val (Subsingleton.elim (α := Fin 1) _ 0)
    have h2 : ((W.rowMajor.symm n) 2).val = 0 := congrArg Fin.val (Subsingleton.elim (α := Fin 1) _ 0)
    have h3 : ((W.rowMajor.symm n) 3).val = 0 := congrArg Fin.val (Subsingleton.elim (α := Fin 1) _ 0)
    split
    · next hin =>
      have h4 : P ≤ t.val * 1 + ((W.rowMajor.symm n) 1).val ∧ t.val * 1 + ((W.rowMajor.symm n) 1).val - P < N := hin 1
      have h5 : P ≤ t.val + ((W.rowMajor.symm n) 1).val ∧ t.val + ((W.rowMajor.symm n) 1).val - P < N := by omega
      show _ = (if hv : P ≤ t.val + ((W.rowMajor.symm n) 1).val ∧ t.val + ((W.rowMajor.symm n) 1).val - P < N then
        (x (ix4 a ⟨t.val + ((W.rowMajor.symm n) 1).val - P, hv.2⟩ b c) : EReal) else 0)
      rw [dif_pos h5]
      refine congrArg x (funext fun e => Fin.ext ?_)
      match e with
      | ⟨0, _⟩ => show a.val * 1 + ((W.rowMajor.symm n) 0).val - 0 = a.val; omega
      | ⟨1, _⟩ => show t.val * 1 + ((W.rowMajor.symm n) 1).val - P = t.val + ((W.rowMajor.symm n) 1).val - P; omega
      | ⟨2, _⟩ => show b.val * 1 + ((W.rowMajor.symm n) 2).val - 0 = b.val; omega
      | ⟨3, _⟩ => show c.val * 1 + ((W.rowMajor.symm n) 3).val - 0 = c.val; omega
    · next hin =>
      show _ = (if hv : P ≤ t.val + ((W.rowMajor.symm n) 1).val ∧ t.val + ((W.rowMajor.symm n) 1).val - P < N then
        (x (ix4 a ⟨t.val + ((W.rowMajor.symm n) 1).val - P, hv.2⟩ b c) : EReal) else 0)
      rw [dif_neg fun h4 => hin fun e => by
        have := a.isLt
        have := b.isLt
        have := c.isLt
        match e with
        | ⟨0, _⟩ => show 0 ≤ a.val * 1 + ((W.rowMajor.symm n) 0).val ∧ a.val * 1 + ((W.rowMajor.symm n) 0).val - 0 < A; omega
        | ⟨1, _⟩ => show P ≤ t.val * 1 + ((W.rowMajor.symm n) 1).val ∧ t.val * 1 + ((W.rowMajor.symm n) 1).val - P < N; omega
        | ⟨2, _⟩ => show 0 ≤ b.val * 1 + ((W.rowMajor.symm n) 2).val ∧ b.val * 1 + ((W.rowMajor.symm n) 2).val - 0 < B; omega
        | ⟨3, _⟩ => show 0 ≤ c.val * 1 + ((W.rowMajor.symm n) 3).val ∧ c.val * 1 + ((W.rowMajor.symm n) 3).val - 0 < C; omega]
  have e2 : ∑ w : W.Idx, g w = ∑ n : Fin N, f (t.val + n.val) := by
    refine (Fintype.sum_bijective (fun n : Fin N => (ix4 (0 : Fin 1) n (0 : Fin 1) (0 : Fin 1) : W.Idx)) ⟨fun n n' hn => ?_, fun w => ⟨w 1, ?_⟩⟩ _ _ fun n => rfl).symm
    · exact congrFun hn 1
    · funext e
      match e with
      | ⟨0, _⟩ => exact Subsingleton.elim (α := Fin 1) _ _
      | ⟨1, _⟩ => rfl
      | ⟨2, _⟩ => exact Subsingleton.elim (α := Fin 1) _ _
      | ⟨3, _⟩ => exact Subsingleton.elim (α := Fin 1) _ _
  have ht := t.isLt
  rw [e1, e2, sum_block f t.val N, ← Finset.sum_Ico_consecutive f (show t.val ≤ P by omega) (show P ≤ t.val + N by omega)]
  have e3 : ∑ v ∈ Finset.Ico t.val P, f v = 0 := Finset.sum_eq_zero fun v hv => by
    have hv' := (Finset.mem_Ico.1 hv).2
    exact dif_neg (by omega)
  rw [e3, zero_add, Finset.sum_Ico_eq_sum_range]
  have e4 : t.val + N - P = t.val + 1 := by omega
  rw [e4]
  refine Finset.sum_congr rfl fun u hu => ?_
  have hu' := Finset.mem_range.1 hu
  show (if hv : P ≤ P + u ∧ P + u - P < N then (x (ix4 a ⟨P + u - P, hv.2⟩ b c) : EReal) else 0) = _
  rw [dif_pos (show P ≤ P + u ∧ P + u - P < N by omega), dif_pos (show u < N by omega)]
  refine congrArg x (funext fun e => Fin.ext ?_)
  match e with
  | ⟨0, _⟩ => rfl
  | ⟨1, _⟩ => show P + u - P = u; omega
  | ⟨2, _⟩ => rfl
  | ⟨3, _⟩ => rfl

/-- Reading a row and a group at one pair of numbers for each time. -/
theorem gather_at {A N B C T : ℕ} (d : GatherDims ⟨4, ![A, N, B, C]⟩ ⟨2, ![T, 2]⟩ ⟨3, ![A, T, C]⟩) (hoff : d.offsetDims = [0, 2]) (hcoll : d.collapsedSliceDims = [1, 2])
    (hob : d.operandBatchingDims = []) (hsim : d.startIndexMap = [1, 2]) (hivd : d.indexVectorDim = 1) {α : Type} (x : (⟨4, ![A, N, B, C]⟩ : Shape).Idx → α)
    (idx : IVec ⟨2, ![T, 2]⟩ 32) (a : Fin A) (t : Fin T) (c : Fin C) (n : Fin N) (b : Fin B) (hn : idx (ix2 t 0) = BitVec.ofNat 32 n.val)
    (hb : idx (ix2 t 1) = BitVec.ofNat 32 b.val) (hN : N < 2 ^ 31) (hB : B < 2 ^ 31) :
    Host.gather d x idx (ix3 a t c) = x (ix4 a n b c) := by
  unfold Host.gather
  refine congrArg x (funext fun e => Fin.ext ?_)
  have hbN : ∀ e, e ∉ d.operandBatchingDims := fun e => by rw [hob]; exact List.not_mem_nil
  have hkept : d.batchDims = [1] := by show Shape.kept _ d.offsetDims = _; rw [hoff]; rfl
  have hsk : d.sKept = [0, 3] := by show Shape.kept _ (d.collapsedSliceDims ++ d.operandBatchingDims) = _; rw [hcoll, hob]; rfl
  have e1 : ∀ X : Fin 3, X = 1 → (ix3 a t c X).val = t.val := fun X h => by subst h; rfl
  have hk1 : ∀ k ∈ d.batchDims, k = (1 : Fin 3) := fun k hk => by rw [hkept] at hk; exact List.mem_singleton.1 hk
  have hsi : ∀ k : Fin d.startIndexMap.length, ∀ q : Fin 2, k.val = q.val → d.siIdx (ix3 a t c) k = ix2 t q := fun k q hkq => by
    funext b'
    apply Fin.ext
    match b' with
    | ⟨0, _⟩ =>
      unfold GatherDims.siIdx
      rw [dif_neg (by rw [hivd]; exact Nat.zero_ne_one)]
      unfold GatherDims.siCoord
      simp only [Fin.val_cast]
      exact e1 _ (hk1 _ (List.getElem_mem _))
    | ⟨1, _⟩ =>
      unfold GatherDims.siIdx
      rw [dif_pos (by rw [hivd])]
      exact hkq
  have hn' := n.isLt
  have hb' := b.isLt
  show d.start (ix3 a t c) idx e + d.batchCoord (ix3 a t c) e + d.offCoord (ix3 a t c) e = (ix4 a n b c e).val
  rw [d.batchCoord_eq_zero _ _ (hbN e), Nat.add_zero]
  match e with
  | ⟨0, _⟩ =>
    have hk : (0 : Fin 4) ∈ d.sKept := by rw [hsk]; exact (by decide : (0 : Fin 4) ∈ [(0 : Fin 4), 3])
    have hm : (0 : Fin 4) ∉ d.startIndexMap := by rw [hsim]; exact (by decide : (0 : Fin 4) ∉ [(1 : Fin 4), 2])
    show d.start (ix3 a t c) idx 0 + d.offCoord (ix3 a t c) 0 = a.val
    unfold GatherDims.start GatherDims.offCoord
    rw [dif_neg hm, dif_pos hk, Nat.zero_add]
    have : ∀ X : Fin 3, X = 0 → (ix3 a t c X).val = a.val := fun X h => by subst h; rfl
    refine this _ ?_
    simp only [hsk, hoff]
    rfl
  | ⟨1, _⟩ =>
    have hk : (1 : Fin 4) ∉ d.sKept := by rw [hsk]; exact (by decide : (1 : Fin 4) ∉ [(0 : Fin 4), 3])
    have hm : (1 : Fin 4) ∈ d.startIndexMap := by rw [hsim]; exact (by decide : (1 : Fin 4) ∈ [(1 : Fin 4), 2])
    have hsl : d.sliceSizes 1 = 1 := d.slice_collapsed 1 (by rw [hcoll]; exact (by decide : (1 : Fin 4) ∈ [(1 : Fin 4), 2]))
    show d.start (ix3 a t c) idx 1 + d.offCoord (ix3 a t c) 1 = n.val
    rw [d.offCoord_eq_zero _ _ hk]
    unfold GatherDims.start
    rw [dif_pos hm, hsi _ 0 (by show List.idxOf (1 : Fin 4) d.startIndexMap = 0; rw [hsim]; rfl), hn, hsl, toInt_word (by omega)]
    show min ((n.val : ℤ)).toNat (N - 1) + 0 = n.val
    omega
  | ⟨2, _⟩ =>
    have hk : (2 : Fin 4) ∉ d.sKept := by rw [hsk]; exact (by decide : (2 : Fin 4) ∉ [(0 : Fin 4), 3])
    have hm : (2 : Fin 4) ∈ d.startIndexMap := by rw [hsim]; exact (by decide : (2 : Fin 4) ∈ [(1 : Fin 4), 2])
    have hsl : d.sliceSizes 2 = 1 := d.slice_collapsed 2 (by rw [hcoll]; exact (by decide : (2 : Fin 4) ∈ [(1 : Fin 4), 2]))
    show d.start (ix3 a t c) idx 2 + d.offCoord (ix3 a t c) 2 = b.val
    rw [d.offCoord_eq_zero _ _ hk]
    unfold GatherDims.start
    rw [dif_pos hm, hsi _ 1 (by show List.idxOf (2 : Fin 4) d.startIndexMap = 1; rw [hsim]; rfl), hb, hsl, toInt_word (by omega)]
    show min ((b.val : ℤ)).toNat (B - 1) + 0 = b.val
    omega
  | ⟨3, _⟩ =>
    have hk : (3 : Fin 4) ∈ d.sKept := by rw [hsk]; exact (by decide : (3 : Fin 4) ∈ [(0 : Fin 4), 3])
    have hm : (3 : Fin 4) ∉ d.startIndexMap := by rw [hsim]; exact (by decide : (3 : Fin 4) ∉ [(1 : Fin 4), 2])
    show d.start (ix3 a t c) idx 3 + d.offCoord (ix3 a t c) 3 = c.val
    unfold GatherDims.start GatherDims.offCoord
    rw [dif_neg hm, dif_pos hk, Nat.zero_add]
    have : ∀ X : Fin 3, X = 2 → (ix3 a t c X).val = c.val := fun X h => by subst h; rfl
    refine this _ ?_
    simp only [hsk, hoff]
    rfl

end Cert.ReferenceIdeal.Mixing
end
-- ==== Proof.MixRef.lean ====
/- The mixing's reference read at an index: its own operations, in steps, are the formula of MixSpec. -/
module

public import proofs.«01_k».proof.Proof.MixSums

@[expose] public section

set_option maxRecDepth 16384

noncomputable section

namespace Cert.ReferenceIdeal.Mixing

open Cert.ReferenceIdeal Cert.ReferenceIdeal.Gen Idealize.ShloMosaic Idealize.ShloMosaic.TcCoe Idealize.SL.Sem
open Cert.MixRow Cert.FfnRow

/-- The products by sequence and time. -/
def splitOps (X : FVec Ideal S16384x2560 .f32) : FVec Ideal S2x8192x2560 .f32 := shapeCast _ X shapeCasts_S16384x2560_S2x8192x2560

/-- The gated products behind two rows of zeros. -/
def gatedOps (Y : FVec Ideal S2x8192x2560 .f32) : FVec Ideal S2x8194x256 .f32 :=
  pad S2x8194x256 ![0, 2, 0] ![0, 0, 0] ![0, 0, 0] (mulf (extractStridedSlice S2x8192x256 ![0, 0, 1792] Y slices_S2x8192x2560_S2x8192x256_0_0_1792) (extractStridedSlice S2x8192x256 ![0, 0, 2048] Y slices_S2x8192x2560_S2x8192x256_0_0_2048)) (sitofp .f32 (constantI S_ 32 0#32)) pads_S2x8192x256_S2x8194x256_000_200_000 h_S_

/-- One tap's weights along the rows. -/
def tapOps (T : FVec Ideal S1x256 .f32) : FVec Ideal S2x8192x256 .f32 :=
  broadcastInDim S2x8192x256 ![0, 1, 2] bcast_S1x1x256_S2x8192x256_0_1_2 (broadcastInDim S1x1x256 ![2] bcast_S256_S1x1x256_2 (shapeCast _ T shapeCasts_S1x256_S256))

/-- The short convolution. -/
def convOps (Y : FVec Ideal S2x8192x2560 .f32) (W : FVec Ideal S3x256 .f32) : FVec Ideal S2x8192x256 .f32 :=
  mulf (extractStridedSlice S2x8192x256 ![0, 0, 1536] Y slices_S2x8192x2560_S2x8192x256_0_0_1536)
    (addf (addf (mulf (extractStridedSlice S2x8192x256 ![0, 0, 0] (gatedOps Y) slices_S2x8194x256_S2x8192x256_0_0_0) (tapOps (extractStridedSlice S1x256 ![0, 0] W slices_S3x256_S1x256_0_0)))
      (mulf (extractStridedSlice S2x8192x256 ![0, 1, 0] (gatedOps Y) slices_S2x8194x256_S2x8192x256_0_1_0) (tapOps (extractStridedSlice S1x256 ![1, 0] W slices_S3x256_S1x256_1_0))))
      (mulf (extractStridedSlice S2x8192x256 ![0, 2, 0] (gatedOps Y) slices_S2x8194x256_S2x8192x256_0_2_0) (tapOps (extractStridedSlice S1x256 ![2, 0] W slices_S3x256_S1x256_2_0))))

/-- The pooling's columns in four groups. -/
def columnOps (Y : FVec Ideal S2x8192x2560 .f32) : FVec Ideal S2x8192x4x64 .f32 :=
  shapeCast _ (extractStridedSlice S2x8192x256 ![0, 0, 2304] Y slices_S2x8192x2560_S2x8192x256_0_0_2304) shapeCasts_S2x8192x256_S2x8192x4x64

/-- Their running sums, from the empty sum on. -/
def runOps (Z : FVec Ideal S2x8192x4x64 .f32) : FVec Ideal S2x8193x4x64 .f32 :=
  pad S2x8193x4x64 ![0, 1, 0, 0] ![0, 0, 0, 0] ![0, 0, 0, 0] (Host.reduceWindowAdd ![1, 8192, 1, 1] ![1, 1, 1, 1] ![0, 8191, 0, 0] ![0, 0, 0, 0] Z (broadcastInDim S_ ![] bcast_S_S_ (constant S_ .f32 0x00000000#32)) reduceWindows_S2x8192x4x64_S2x8192x4x64_w1s1p0_0_w8192s1p8191_0_w1s1p0_0_w1s1p0_0 h_S_) (sitofp .f32 (constantI S_ 32 0#32)) pads_S2x8192x4x64_S2x8193x4x64_000_100_000_000 h_S_

/-- One more than the time. -/
def nextOps : IVec S8192 32 := addi (iotaInDim S8192 32 0) (broadcastInDim S8192 ![] bcast_S_S8192 (constantI S_ 32 1#32))

/-- Where a window of `w` rows begins. -/
def lowOps (w : BitVec 32) : IVec S8192 32 :=
  maxsi (subi nextOps (broadcastInDim S8192 ![] bcast_S_S8192 (constantI S_ 32 w))) (broadcastInDim S8192 ![] bcast_S_S8192 (constantI S_ 32 0#32))

/-- The pairs of a window's beginning and a group at which the running sums are read. -/
def pairOps (L : IVec S8192 32) (g : BitVec 32) : IVec S8192x2 32 :=
  concatenate S8192x2 1 [⟨S8192x1, (broadcastInDim S8192x1 ![0] bcast_S8192_S8192x1_0 (select (cmpi .slt L (broadcastInDim S8192 ![] bcast_S_S8192 (constantI S_ 32 0#32))) (addi L (broadcastInDim S8192 ![] bcast_S_S8192 (constantI S_ 32 8193#32))) L))⟩,
    ⟨S8192x1, (broadcastInDim S8192x1 ![0] bcast_S8192_S8192x1_0 (id (broadcastInDim S8192 ![] bcast_S_S8192 (constantI S_ 32 g))))⟩] concatenates_S8192x1_S8192x1_S8192x2_d1

/-- One group's trailing means less the rows' own entries: `A` its running sums from the first on, `B` its columns. -/
def groupOps (K : FVec Ideal S2x8193x4x64 .f32) (A B : FVec Ideal S2x8192x1x64 .f32) (L : IVec S8192 32) (g : BitVec 32) : FVec Ideal S2x8192x1x64 .f32 :=
  broadcastInDim S2x8192x1x64 ![0, 1, 3] bcast_S2x8192x64_S2x8192x1x64_0_1_3 (subf (Host.divf (subf (shapeCast _ A shapeCasts_S2x8192x1x64_S2x8192x64) (Host.gather gather_S2x8193x4x64_S8192x2_S2x8192x64_02_12_n_n_12_1_21164 K (pairOps L g)))
    (broadcastInDim S2x8192x64 ![0, 1, 2] bcast_S1x8192x1_S2x8192x64_0_1_2 (broadcastInDim S1x8192x1 ![1] bcast_S8192_S1x8192x1_1 (sitofp .f32 (subi nextOps L))))) (shapeCast _ B shapeCasts_S2x8192x1x64_S2x8192x64))

/-- The four groups beside one another. -/
def pooledOps (K : FVec Ideal S2x8193x4x64 .f32) (Z : FVec Ideal S2x8192x4x64 .f32) : FVec Ideal S2x8192x4x64 .f32 :=
  concatenate S2x8192x4x64 2 [⟨S2x8192x1x64, groupOps K (extractStridedSlice S2x8192x1x64 ![0, 1, 0, 0] K slices_S2x8193x4x64_S2x8192x1x64_0_1_0_0) (extractStridedSlice S2x8192x1x64 ![0, 0, 0, 0] Z slices_S2x8192x4x64_S2x8192x1x64_0_0_0_0) (lowOps 2#32) 0#32⟩,
    ⟨S2x8192x1x64, groupOps K (extractStridedSlice S2x8192x1x64 ![0, 1, 1, 0] K slices_S2x8193x4x64_S2x8192x1x64_0_1_1_0) (extractStridedSlice S2x8192x1x64 ![0, 0, 1, 0] Z slices_S2x8192x4x64_S2x8192x1x64_0_0_1_0) (lowOps 4#32) 1#32⟩,
    ⟨S2x8192x1x64, groupOps K (extractStridedSlice S2x8192x1x64 ![0, 1, 2, 0] K slices_S2x8193x4x64_S2x8192x1x64_0_1_2_0) (extractStridedSlice S2x8192x1x64 ![0, 0, 2, 0] Z slices_S2x8192x4x64_S2x8192x1x64_0_0_2_0) (lowOps 8#32) 2#32⟩,
    ⟨S2x8192x1x64, groupOps K (extractStridedSlice S2x8192x1x64 ![0, 1, 3, 0] K slices_S2x8193x4x64_S2x8192x1x64_0_1_3_0) (extractStridedSlice S2x8192x1x64 ![0, 0, 3, 0] Z slices_S2x8192x4x64_S2x8192x1x64_0_0_3_0) (lowOps 16#32) 3#32⟩]
    concatenates_S2x8192x1x64_S2x8192x1x64_S2x8192x1x64_S2x8192x1x64_S2x8192x4x64_d2

/-- The pooled columns through their groups' matrices, scaled. -/
def poolOps (Q : FVec Ideal S2x8192x4x64 .f32) (P : FVec Ideal S4x64x64 .f32) (S : FVec Ideal S256 .f32) : FVec Ideal S2x8192x256 .f32 :=
  mulf (shapeCast _ (transpose S2x8192x4x64 [2, 3, 0, 1] (Host.dotGeneral dot_S4x64x64_S2x8192x4x64_S4x64x2x8192_1_3_2_01_0_2 none P Q) transposes_S4x64x2x8192_S2x8192x4x64_2_3_0_1) shapeCasts_S2x8192x4x64_S2x8192x256)
    (broadcastInDim S2x8192x256 ![0, 1, 2] bcast_S1x1x256_S2x8192x256_0_1_2 (broadcastInDim S1x1x256 ![2] bcast_S256_S1x1x256_2 S))

/-- The three head groups beside one another, by head. -/
def mixedOps (A : FVec Ideal S2x8192x512 .f32) (E G : FVec Ideal S2x8192x256 .f32) : FVec Ideal S2x8192x16x64 .f32 :=
  shapeCast _ (concatenate S2x8192x1024 2 [⟨S2x8192x512, A⟩, ⟨S2x8192x256, E⟩, ⟨S2x8192x256, G⟩]
    concatenates_S2x8192x512_S2x8192x256_S2x8192x256_S2x8192x1024_d2 : FVec Ideal S2x8192x1024 .f32) shapeCasts_S2x8192x1024_S2x8192x16x64

/-- The heads divided by the roots of their mean squares, with a gain. -/
def headOps (M : FVec Ideal S2x8192x16x64 .f32) (G : FVec Ideal S1024 .f32) : FVec Ideal S2x8192x1024 .f32 :=
  mulf (shapeCast _ (mulf M (broadcastInDim S2x8192x16x64 ![0, 1, 2, 3] bcast_S2x8192x16x1_S2x8192x16x64_0_1_2_3 (Host.rsqrt (addf (Host.divf (broadcastInDim S2x8192x16x1 ![0, 1, 2] bcast_S2x8192x16_S2x8192x16x1_0_1_2 (Host.reduceAdd (mulf M M) (constant S_ .f32 0x00000000#32) reducesTo_S2x8192x16x64_S2x8192x16_d3 h_S_)) (broadcastInDim S2x8192x16x1 ![] bcast_S_S2x8192x16x1 (constant S_ .f32 0x42800000#32))) (broadcastInDim S2x8192x16x1 ![] bcast_S_S2x8192x16x1 (constant S_ .f32 0x358637BD#32)))))) shapeCasts_S2x8192x16x64_S2x8192x1024)
    (broadcastInDim S2x8192x1024 ![0, 1, 2] bcast_S1x1x1024_S2x8192x1024_0_1_2 (broadcastInDim S1x1x1024 ![2] bcast_S1024_S1x1x1024_2 G))

/-- The scaled residual plus the heads through the output weights. -/
def residualOps (X : FVec Ideal S16384x1024 .f32) (H : FVec Ideal S2x8192x1024 .f32) (O : FVec Ideal S1024x1024 .f32) : FVec Ideal S16384x1024 .f32 :=
  addf (mulf (broadcastInDim S16384x1024 ![] bcast_S_S16384x1024 (constant S_ .f32 0x3FB504F3#32)) X) (shapeCast _ (Host.dotGeneral dot_S2x8192x1024_S1024x1024_S2x8192x1024_2_0_01_1_n_n none H O) shapeCasts_S2x8192x1024_S16384x1024)

/-- The deviations of rows from their means. -/
def deviationOps (P : FVec Ideal S16384x1024 .f32) : FVec Ideal S16384x1024 .f32 :=
  subf P (broadcastInDim S16384x1024 ![0, 1] bcast_S16384x1_S16384x1024_0_1 (Host.divf (broadcastInDim S16384x1 ![0] bcast_S16384_S16384x1_0 (Host.reduceAdd P (constant S_ .f32 0x00000000#32) reducesTo_S16384x1024_S16384_d1 h_S_)) (broadcastInDim S16384x1 ![] bcast_S_S16384x1 (constant S_ .f32 0x44800000#32))))

/-- The normalization of the deviations. -/
def normOps (Q : FVec Ideal S16384x1024 .f32) (g b : FVec Ideal S1024 .f32) : FVec Ideal S16384x1024 .f32 :=
  addf (mulf (mulf Q (broadcastInDim S16384x1024 ![0, 1] bcast_S16384x1_S16384x1024_0_1 (Host.rsqrt (addf (Host.divf (broadcastInDim S16384x1 ![0] bcast_S16384_S16384x1_0 (Host.reduceAdd (mulf Q Q) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

/-! ## The steps at an index -/

/-- The row of a sequence's time. -/
def row (b : Fin 2) (t : Fin 8192) : Fin 16384 := ⟨b.val * 8192 + t.val, by omega⟩

theorem splitOps_at (X : FVec Ideal S16384x2560 .f32) (b : Fin 2) (t : Fin 8192) (l : Fin 2560) : splitOps X (ix3 b t l) = X (ix2 (row b t) l) := by
  pointwise [splitOps, row]

/-- The last 1024 columns of the products. -/
def cols (X : FVec Ideal S16384x2560 .f32) (R : Fin 16384) (l : Fin 1024) : EReal := X (ix2 R ⟨1536 + l.val, by omega⟩)

/-- One of the last 1024 columns read by its number among all. -/
theorem col_eq (X : FVec Ideal S16384x2560 .f32) (R : Fin 16384) (l : Fin 1024) (j : Fin 2560) (h : j.val = 1536 + l.val) : (X (ix2 R j) : EReal) = cols X R l :=
  congrArg (fun j => X (ix2 R j)) (Fin.ext h)

theorem gatedOps_at (X : FVec Ideal S16384x2560 .f32) (b : Fin 2) (s : Fin 8194) (l : Fin 256) :
    gatedOps (splitOps X) (ix3 b s l) = if h : 2 ≤ s.val then gated (cols X) l (row b ⟨s.val - 2, by omega⟩) else (0 : EReal) := by
  pointwise [gatedOps, splitOps_at]
  by_cases h : 2 ≤ s.val
  · rw [dif_pos ⟨h, by omega⟩, dif_pos h]
    exact congrArg₂ (· * ·) (col_eq X _ _ _ (by dsimp only; omega)) (col_eq X _ _ _ (by dsimp only; omega))
  · rw [dif_neg fun h' => h h'.1, dif_neg h]
    exact (real_of_word (n := 0) (by norm_num)).trans (by norm_num)

theorem tapOps_at (T : FVec Ideal S1x256 .f32) (b : Fin 2) (t : Fin 8192) (l : Fin 256) : tapOps T (ix3 b t l) = T (ix2 0 l) := by
  pointwise [tapOps]

/-- A row's gated product some rows back, read behind the two rows of zeros. -/
theorem gatedOps_back (X : FVec Ideal S16384x2560 .f32) (b : Fin 2) (t : Fin 8192) (k : ℕ) (hk : k ≤ 2) (l : Fin 256) :
    gatedOps (splitOps X) (ix3 b ⟨t.val + k, by omega⟩ l) = back (gated (cols X) l) (row b t) (2 - k) := by
  rw [gatedOps_at]
  have hb := b.isLt
  have ht := t.isLt
  have e : (row b t).val % 8192 = t.val := by show (b.val * 8192 + t.val) % 8192 = t.val; omega
  unfold back
  rw [e]
  by_cases h : 2 - k ≤ t.val
  · rw [if_pos h, dif_pos (show 2 ≤ t.val + k by omega)]
    exact congrArg _ (Fin.ext (show b.val * 8192 + (t.val + k - 2) = b.val * 8192 + t.val - (2 - k) by omega))
  · rw [if_neg h, dif_neg (show ¬ 2 ≤ t.val + k by omega)]

theorem convOps_at (X : FVec Ideal S16384x2560 .f32) (W : FVec Ideal S3x256 .f32) (b : Fin 2) (t : Fin 8192) (l : Fin 256) :
    convOps (splitOps X) W (ix3 b t l) = convAt (cols X) (fun k l => W (ix2 k l)) (row b t) l := by
  have h0 := gatedOps_back X b t 0 (by omega) l
  have h1 := gatedOps_back X b t 1 (by omega) l
  have h2 := gatedOps_back X b t 2 (by omega) l
  pointwise [convOps, tapOps_at]
  have e1 : gatedOps (splitOps X) (ix3 b ⟨1 + t.val, by omega⟩ l) = gatedOps (splitOps X) (ix3 b ⟨t.val + 1, by omega⟩ l) :=
    congrArg (fun s => gatedOps (splitOps X) (ix3 b s l)) (Fin.ext (Nat.add_comm _ _))
  have e2 : gatedOps (splitOps X) (ix3 b ⟨2 + t.val, by omega⟩ l) = gatedOps (splitOps X) (ix3 b ⟨t.val + 2, by omega⟩ l) :=
    congrArg (fun s => gatedOps (splitOps X) (ix3 b s l)) (Fin.ext (Nat.add_comm _ _))
  have e0 : gatedOps (splitOps X) (ix3 b ⟨t.val, by omega⟩ l) = gatedOps (splitOps X) (ix3 b ⟨t.val + 0, by omega⟩ l) := rfl
  rw [e0, e1, e2, h0, h1, h2, splitOps_at]
  unfold convAt
  refine congrArg₂ (· * ·) (col_eq X _ ⟨l.val, by omega⟩ _ rfl) ?_
  show back (gated (cols X) l) (row b t) 2 * W (ix2 0 l) + back (gated (cols X) l) (row b t) 1 * W (ix2 1 l)
      + back (gated (cols X) l) (row b t) 0 * W (ix2 2 l)
    = back (gated (cols X) l) (row b t) 0 * W (ix2 2 l) + back (gated (cols X) l) (row b t) 1 * W (ix2 1 l)
      + back (gated (cols X) l) (row b t) 2 * W (ix2 0 l)
  generalize back (gated (cols X) l) (row b t) 0 * W (ix2 2 l) = p
  generalize back (gated (cols X) l) (row b t) 1 * W (ix2 1 l) = q
  generalize back (gated (cols X) l) (row b t) 2 * W (ix2 0 l) = r
  rw [add_comm, add_comm r q, add_assoc]

theorem columnOps_at (X : FVec Ideal S16384x2560 .f32) (b : Fin 2) (t : Fin 8192) (g : Fin 4) (j : Fin 64) :
    columnOps (splitOps X) (ix4 b t g j) = cols X (row b t) ⟨768 + (g.val * 64 + j.val), by omega⟩ := by
  pointwise [columnOps, splitOps_at]
  exact col_eq X _ _ _ (by dsimp only; omega)

theorem runOps_at (Z : FVec Ideal S2x8192x4x64 .f32) (b : Fin 2) (s : Fin 8193) (g : Fin 4) (j : Fin 64) :
    runOps Z (ix4 b s g j) = ∑ u ∈ Finset.range s.val, if hu : u < 8192 then (Z (ix4 b ⟨u, hu⟩ g j) : EReal) else 0 := by
  have h := fun t : Fin 8192 => running_sum (A := 2) (N := 8192) (B := 4) (C := 64) (P := 8191) rfl Z (broadcastInDim S_ ![] bcast_S_S_ (constant S_ .f32 0x00000000#32))
    (fun i => by show Ideal.ofBits .f32 0x00000000#32 = (0 : EReal); exact Ideal.ofBits_zero_f32)
    reduceWindows_S2x8192x4x64_S2x8192x4x64_w1s1p0_0_w8192s1p8191_0_w1s1p0_0_w1s1p0_0 h_S_ b t g j
  unfold runOps
  generalize (Host.reduceWindowAdd ![1, 8192, 1, 1] ![1, 1, 1, 1] ![0, 8191, 0, 0] ![0, 0, 0, 0] Z (broadcastInDim S_ ![] bcast_S_S_ (constant S_ .f32 0x00000000#32)) reduceWindows_S2x8192x4x64_S2x8192x4x64_w1s1p0_0_w8192s1p8191_0_w1s1p0_0_w1s1p0_0 h_S_) = Y at h ⊢
  pointwise
  by_cases h1 : 1 ≤ s.val
  · rw [dif_pos ⟨h1, by omega⟩, h]
    refine Finset.sum_congr (congrArg Finset.range (show s.val - 1 + 1 = s.val by omega)) fun _ _ => rfl
  · rw [dif_neg fun h' => h1 h'.1, show s.val = 0 by omega, Finset.sum_range_zero]
    exact (real_of_word (n := 0) (by norm_num)).trans (by norm_num)

theorem nextOps_at (t : Fin 8192) : nextOps (ix1 t) = BitVec.ofNat 32 (t.val + 1) := by
  pointwise [nextOps]
  exact WordCmp.addi_ofNat _ _

theorem lowOps_at (w : ℕ) (hw : w < 2 ^ 30) (t : Fin 8192) : lowOps (BitVec.ofNat 32 w) (ix1 t) = BitVec.ofNat 32 (t.val + 1 - w) := by
  pointwise [lowOps, nextOps_at]
  exact sub_word (by omega) hw

theorem pairOps_low (L : IVec S8192 32) (g : BitVec 32) (t : Fin 8192) (n : ℕ) (hn : n < 2 ^ 31) (hL : L (ix1 t) = BitVec.ofNat 32 n) :
    pairOps L g (ix2 t 0) = BitVec.ofNat 32 n := by
  pointwise [pairOps]
  rw [hL]
  have hs : IntOp.cmpi CmpIPredicate.slt (BitVec.ofNat 32 n) 0#32 = 0#1 := by
    show BitVec.ofBool ((BitVec.ofNat 32 n).slt 0#32) = 0#1
    have h0 : ((0#32 : BitVec 32)).toInt = 0 := by decide
    rw [BitVec.slt_eq_decide, toInt_word hn, h0, decide_eq_false (by omega)]
    rfl
  rw [hs]
  rfl

theorem pairOps_group (L : IVec S8192 32) (g : BitVec 32) (t : Fin 8192) : pairOps L g (ix2 t 1) = g := by
  pointwise [pairOps]
  rfl

theorem groupOps_at (K : FVec Ideal S2x8193x4x64 .f32) (A B : FVec Ideal S2x8192x1x64 .f32) (w : ℕ) (hw : w < 2 ^ 30) (g : Fin 4) (b : Fin 2) (t : Fin 8192) (j : Fin 64) :
    groupOps K A B (lowOps (BitVec.ofNat 32 w)) (BitVec.ofNat 32 g.val) (ix4 b t 0 j)
      = Ideal.div (A (ix4 b t 0 j) - K (ix4 b ⟨t.val + 1 - w, by omega⟩ g j)) (((t.val + 1 - (t.val + 1 - w) : ℕ) : ℝ) : EReal) - B (ix4 b t 0 j) := by
  have hG := gather_at gather_S2x8193x4x64_S8192x2_S2x8192x64_02_12_n_n_12_1_21164 rfl rfl rfl rfl rfl K (pairOps (lowOps (BitVec.ofNat 32 w)) (BitVec.ofNat 32 g.val)) b t j
    ⟨t.val + 1 - w, by omega⟩ g (pairOps_low _ _ t _ (by omega) (lowOps_at w hw t)) (pairOps_group _ _ t) (by norm_num) (by norm_num)
  unfold groupOps
  generalize (Host.gather gather_S2x8193x4x64_S8192x2_S2x8192x64_02_12_n_n_12_1_21164 K (pairOps (lowOps (BitVec.ofNat 32 w)) (BitVec.ofNat 32 g.val))) = Y at hG ⊢
  pointwise [nextOps_at, lowOps_at]
  rw [hG, lowOps_at w hw]
  have e : IntOp.subi (BitVec.ofNat 32 (t.val + 1)) (BitVec.ofNat 32 (t.val + 1 - w)) = BitVec.ofNat 32 (t.val + 1 - (t.val + 1 - w)) := by
    show BitVec.ofNat 32 (t.val + 1) - BitVec.ofNat 32 (t.val + 1 - w) = _
    refine BitVec.eq_of_toInt_eq ?_
    rw [BitVec.toInt_sub, toInt_word (by omega), toInt_word (by omega), toInt_word (by omega), Int.bmod_def]
    split <;> omega
  rw [e, real_of_word (by omega)]

theorem poolOps_at (Q : FVec Ideal S2x8192x4x64 .f32) (P : FVec Ideal S4x64x64 .f32) (S : FVec Ideal S256 .f32) (b : Fin 2) (t : Fin 8192) (l : Fin 256) :
    poolOps Q P S (ix3 b t l) = (∑ j : Fin 64, Q (ix4 b t ⟨l.val / 64, by omega⟩ j) * P (ix3 ⟨l.val / 64, by omega⟩ j ⟨l.val % 64, by omega⟩)) * S (ix1 l) := by
  pointwise [poolOps]
  exact congrArg (fun z : EReal => z * S (ix1 l)) (Finset.sum_congr rfl fun j _ => mul_comm _ _)

theorem mixedOps_at (A : FVec Ideal S2x8192x512 .f32) (E G : FVec Ideal S2x8192x256 .f32) (b : Fin 2) (t : Fin 8192) (h : Fin 16) (j : Fin 64) :
    mixedOps A E G (ix4 b t h j) = (if hq : h.val * 64 + j.val < 512 then A (ix3 b t ⟨h.val * 64 + j.val, hq⟩)
      else if hq : h.val * 64 + j.val - 512 < 256 then E (ix3 b t ⟨h.val * 64 + j.val - 512, hq⟩)
      else G (ix3 b t ⟨h.val * 64 + j.val - 512 - 256, by omega⟩) : EReal) := by
  pointwise [mixedOps]

theorem headOps_at (M : FVec Ideal S2x8192x16x64 .f32) (G : FVec Ideal S1024 .f32) (b : Fin 2) (t : Fin 8192) (e : Fin 1024) :
    headOps M G (ix3 b t e) = headNorm (fun e => M (ix4 b t ⟨e.val / 64, by omega⟩ ⟨e.val % 64, by omega⟩)) (fun e => G (ix1 e)) e := by
  pointwise [headOps, headNorm, headSquares]
  have h : ∀ x : Fin 64, (M (ix4 b t ⟨(e.val / 64 * 64 + x.val) / 64, by omega⟩ ⟨(e.val / 64 * 64 + x.val) % 64, by omega⟩) : EReal)
      = M (ix4 b t ⟨e.val / 64, by omega⟩ x) := fun x =>
    congrArg₂ (fun p q => M (ix4 b t p q)) (Fin.ext (show (e.val / 64 * 64 + x.val) / 64 = e.val / 64 by omega)) (Fin.ext (show (e.val / 64 * 64 + x.val) % 64 = x.val by omega))
  simp only [h]

theorem residualOps_at (X : FVec Ideal S16384x1024 .f32) (H : FVec Ideal S2x8192x1024 .f32) (O : FVec Ideal S1024x1024 .f32) (b : Fin 2) (t : Fin 8192) (d : Fin 1024) :
    residualOps X H O (ix2 (row b t) d) = Ideal.ofBits .f32 0x3FB504F3#32 * X (ix2 (row b t) d) + ∑ e : Fin 1024, H (ix3 b t e) * O (ix2 e d) := by
  pointwise [residualOps]
  have hb : (row b t).val / 8192 = b.val := by show (b.val * 8192 + t.val) / 8192 = b.val; omega
  have ht : (row b t).val % 8192 = t.val := by show (b.val * 8192 + t.val) % 8192 = t.val; omega
  refine congrArg (fun z : EReal => Ideal.ofBits .f32 1068827891#32 * X (ix2 (row b t) d) + z) (Finset.sum_congr rfl fun e _ => ?_)
  exact congrArg₂ (fun p q => (H (ix3 p q e) : EReal) * O (ix2 e d)) (Fin.ext hb) (Fin.ext ht)

/-- A row of the reference's deviations is the row less its mean. -/
theorem deviationOps_at (P : FVec Ideal S16384x1024 .f32) (r : Fin 16384) (l : Fin 1024) :
    deviationOps P (ix2 r l) = P (ix2 r l) - mean (fun l => P (ix2 r l)) := by
  pointwise [deviationOps, mean]

/-- The reference's normalized row is the plain formula's. -/
theorem normOps_at (P : FVec Ideal S16384x1024 .f32) (g b : FVec Ideal S1024 .f32) (r : Fin 16384) (l : Fin 1024) :
    normOps (deviationOps P) g b (ix2 r l) = layerNorm (fun l => P (ix2 r l)) (fun l => g (ix1 l)) (fun l => b (ix1 l)) l := by
  pointwise [normOps, layerNorm, deviationOps_at]
  simp only [zero_add, mean]

/-- One group's means as a window of `w` rows gives them, from the running sums of real columns. -/
theorem group_mean (X : FVec Ideal S16384x2560 .f32) (hX : ∀ y, IsReal (X y)) (b : Fin 2) (t : Fin 8192) (g : Fin 4) (j : Fin 64) (w : ℕ) (hw : w = 2 ^ (g.val + 1)) :
    (Ideal.div ((runOps (columnOps (splitOps X)) (ix4 b ⟨t.val + 1, by omega⟩ g j) : EReal) - runOps (columnOps (splitOps X)) (ix4 b ⟨t.val + 1 - w, by omega⟩ g j))
        (((t.val + 1 - (t.val + 1 - w) : ℕ) : ℝ) : EReal) - columnOps (splitOps X) (ix4 b t g j) : EReal)
      = pooledAt (cols X) (row b t) ⟨g.val * 64 + j.val, by omega⟩ := by
  rw [runOps_at, runOps_at, columnOps_at]
  have hbv := b.isLt
  have htv := t.isLt
  let f : ℕ → EReal := fun u => if hu : u < 8192 then (columnOps (splitOps X) (ix4 b ⟨u, hu⟩ g j) : EReal) else 0
  have hf : ∀ u, IsReal (f u) := fun u => by
    show IsReal (if hu : u < 8192 then (columnOps (splitOps X) (ix4 b ⟨u, hu⟩ g j) : EReal) else 0)
    split
    · rw [columnOps_at]; exact hX _
    · exact IsReal.zero
  have hd := window_difference f hf t.val w
  have hm : (row b t).val % 8192 = t.val := by show (b.val * 8192 + t.val) % 8192 = t.val; omega
  have hwin : window ⟨g.val * 64 + j.val, by omega⟩ = w := by
    rw [hw]
    show 2 ^ ((g.val * 64 + j.val) / 64 + 1) = 2 ^ (g.val + 1)
    rw [show (g.val * 64 + j.val) / 64 = g.val by omega]
  unfold pooledAt
  rw [hwin, hm, show t.val + 1 - (t.val + 1 - w) = min (t.val + 1) w by omega]
  refine congrArg (fun z : EReal => Ideal.div z (((min (t.val + 1) w : ℕ) : ℝ) : EReal) - cols X (row b t) ⟨768 + (g.val * 64 + j.val), by omega⟩) (hd.trans ?_)
  refine Finset.sum_congr rfl fun k _ => ?_
  unfold back
  rw [hm]
  by_cases hk : k ≤ t.val
  · rw [if_pos hk, if_pos hk]
    show (if hu : t.val - k < 8192 then (columnOps (splitOps X) (ix4 b ⟨t.val - k, hu⟩ g j) : EReal) else 0) = _
    rw [dif_pos (show t.val - k < 8192 by omega), columnOps_at]
    exact congrArg (fun R => cols X R ⟨768 + (g.val * 64 + j.val), by omega⟩) (Fin.ext (show b.val * 8192 + (t.val - k) = b.val * 8192 + t.val - k by omega))
  · rw [if_neg hk, if_neg hk]

theorem pooledOps_at (X : FVec Ideal S16384x2560 .f32) (hX : ∀ y, IsReal (X y)) (b : Fin 2) (t : Fin 8192) (g : Fin 4) (j : Fin 64) :
    pooledOps (runOps (columnOps (splitOps X))) (columnOps (splitOps X)) (ix4 b t g j) = pooledAt (cols X) (row b t) ⟨g.val * 64 + j.val, by omega⟩ := by
  have hg := group_mean X hX b t
  generalize runOps (columnOps (splitOps X)) = K at hg ⊢
  generalize columnOps (splitOps X) = Z at hg ⊢
  match g with
  | ⟨0, _⟩ =>
    refine Eq.trans ?_ (hg 0 j 2 rfl)
    have e := groupOps_at K (extractStridedSlice S2x8192x1x64 ![0, 1, 0, 0] K slices_S2x8193x4x64_S2x8192x1x64_0_1_0_0) (extractStridedSlice S2x8192x1x64 ![0, 0, 0, 0] Z slices_S2x8192x4x64_S2x8192x1x64_0_0_0_0) 2 (by norm_num) 0 b t j
    have e1 : extractStridedSlice S2x8192x1x64 ![0, 1, 0, 0] K slices_S2x8193x4x64_S2x8192x1x64_0_1_0_0 (ix4 b t 0 j) = K (ix4 b ⟨t.val + 1, by omega⟩ 0 j) := by
      pointwise
      exact congrArg (fun s => K (ix4 b s 0 j)) (Fin.ext (Nat.add_comm _ _))
    have e2 : extractStridedSlice S2x8192x1x64 ![0, 0, 0, 0] Z slices_S2x8192x4x64_S2x8192x1x64_0_0_0_0 (ix4 b t 0 j) = Z (ix4 b t 0 j) := by
      pointwise
    have e3 : pooledOps K Z (ix4 b t 0 j) = groupOps K (extractStridedSlice S2x8192x1x64 ![0, 1, 0, 0] K slices_S2x8193x4x64_S2x8192x1x64_0_1_0_0) (extractStridedSlice S2x8192x1x64 ![0, 0, 0, 0] Z slices_S2x8192x4x64_S2x8192x1x64_0_0_0_0) (lowOps 2#32) 0#32 (ix4 b t 0 j) := by
      pointwise [pooledOps]
    exact e3.trans (e.trans (by rw [e1, e2]))
  | ⟨1, _⟩ =>
    refine Eq.trans ?_ (hg 1 j 4 rfl)
    have e := groupOps_at K (extractStridedSlice S2x8192x1x64 ![0, 1, 1, 0] K slices_S2x8193x4x64_S2x8192x1x64_0_1_1_0) (extractStridedSlice S2x8192x1x64 ![0, 0, 1, 0] Z slices_S2x8192x4x64_S2x8192x1x64_0_0_1_0) 4 (by norm_num) 1 b t j
    have e1 : extractStridedSlice S2x8192x1x64 ![0, 1, 1, 0] K slices_S2x8193x4x64_S2x8192x1x64_0_1_1_0 (ix4 b t 0 j) = K (ix4 b ⟨t.val + 1, by omega⟩ 1 j) := by
      pointwise
      exact congrArg (fun s => K (ix4 b s 1 j)) (Fin.ext (Nat.add_comm _ _))
    have e2 : extractStridedSlice S2x8192x1x64 ![0, 0, 1, 0] Z slices_S2x8192x4x64_S2x8192x1x64_0_0_1_0 (ix4 b t 0 j) = Z (ix4 b t 1 j) := by
      pointwise
    have e3 : pooledOps K Z (ix4 b t 1 j) = groupOps K (extractStridedSlice S2x8192x1x64 ![0, 1, 1, 0] K slices_S2x8193x4x64_S2x8192x1x64_0_1_1_0) (extractStridedSlice S2x8192x1x64 ![0, 0, 1, 0] Z slices_S2x8192x4x64_S2x8192x1x64_0_0_1_0) (lowOps 4#32) 1#32 (ix4 b t 0 j) := by
      pointwise [pooledOps]
    exact e3.trans (e.trans (by rw [e1, e2]))
  | ⟨2, _⟩ =>
    refine Eq.trans ?_ (hg 2 j 8 rfl)
    have e := groupOps_at K (extractStridedSlice S2x8192x1x64 ![0, 1, 2, 0] K slices_S2x8193x4x64_S2x8192x1x64_0_1_2_0) (extractStridedSlice S2x8192x1x64 ![0, 0, 2, 0] Z slices_S2x8192x4x64_S2x8192x1x64_0_0_2_0) 8 (by norm_num) 2 b t j
    have e1 : extractStridedSlice S2x8192x1x64 ![0, 1, 2, 0] K slices_S2x8193x4x64_S2x8192x1x64_0_1_2_0 (ix4 b t 0 j) = K (ix4 b ⟨t.val + 1, by omega⟩ 2 j) := by
      pointwise
      exact congrArg (fun s => K (ix4 b s 2 j)) (Fin.ext (Nat.add_comm _ _))
    have e2 : extractStridedSlice S2x8192x1x64 ![0, 0, 2, 0] Z slices_S2x8192x4x64_S2x8192x1x64_0_0_2_0 (ix4 b t 0 j) = Z (ix4 b t 2 j) := by
      pointwise
    have e3 : pooledOps K Z (ix4 b t 2 j) = groupOps K (extractStridedSlice S2x8192x1x64 ![0, 1, 2, 0] K slices_S2x8193x4x64_S2x8192x1x64_0_1_2_0) (extractStridedSlice S2x8192x1x64 ![0, 0, 2, 0] Z slices_S2x8192x4x64_S2x8192x1x64_0_0_2_0) (lowOps 8#32) 2#32 (ix4 b t 0 j) := by
      pointwise [pooledOps]
    exact e3.trans (e.trans (by rw [e1, e2]))
  | ⟨3, _⟩ =>
    refine Eq.trans ?_ (hg 3 j 16 rfl)
    have e := groupOps_at K (extractStridedSlice S2x8192x1x64 ![0, 1, 3, 0] K slices_S2x8193x4x64_S2x8192x1x64_0_1_3_0) (extractStridedSlice S2x8192x1x64 ![0, 0, 3, 0] Z slices_S2x8192x4x64_S2x8192x1x64_0_0_3_0) 16 (by norm_num) 3 b t j
    have e1 : extractStridedSlice S2x8192x1x64 ![0, 1, 3, 0] K slices_S2x8193x4x64_S2x8192x1x64_0_1_3_0 (ix4 b t 0 j) = K (ix4 b ⟨t.val + 1, by omega⟩ 3 j) := by
      pointwise
      exact congrArg (fun s => K (ix4 b s 3 j)) (Fin.ext (Nat.add_comm _ _))
    have e2 : extractStridedSlice S2x8192x1x64 ![0, 0, 3, 0] Z slices_S2x8192x4x64_S2x8192x1x64_0_0_3_0 (ix4 b t 0 j) = Z (ix4 b t 3 j) := by
      pointwise
    have e3 : pooledOps K Z (ix4 b t 3 j) = groupOps K (extractStridedSlice S2x8192x1x64 ![0, 1, 3, 0] K slices_S2x8193x4x64_S2x8192x1x64_0_1_3_0) (extractStridedSlice S2x8192x1x64 ![0, 0, 3, 0] Z slices_S2x8192x4x64_S2x8192x1x64_0_0_3_0) (lowOps 16#32) 3#32 (ix4 b t 0 j) := by
      pointwise [pooledOps]
    exact e3.trans (e.trans (by rw [e1, e2]))

/-- The steps from the attention's result and the products to the normalized rows. -/
def stepsOf (x : FVec Ideal S16384x1024 .f32) (A : FVec Ideal S2x8192x512 .f32) (X : FVec Ideal S16384x2560 .f32) (conv : FVec Ideal S3x256 .f32)
    (pool : FVec Ideal S4x64x64 .f32) (scale : FVec Ideal S256 .f32) (gain : FVec Ideal S1024 .f32) (wo : FVec Ideal S1024x1024 .f32) (g b : FVec Ideal S1024 .f32) :
    FVec Ideal S16384x1024 .f32 :=
  normOps (deviationOps (residualOps x (headOps (mixedOps A (convOps (splitOps X) conv)
    (poolOps (pooledOps (runOps (columnOps (splitOps X))) (columnOps (splitOps X))) pool scale)) gain) wo)) g b

/-- These steps are the plain formula, where the products are real. -/
theorem steps_eq (x : FVec Ideal S16384x1024 .f32) (A : FVec Ideal S2x8192x512 .f32) (X : FVec Ideal S16384x2560 .f32) (conv : FVec Ideal S3x256 .f32)
    (pool : FVec Ideal S4x64x64 .f32) (scale : FVec Ideal S256 .f32) (gain : FVec Ideal S1024 .f32) (wo : FVec Ideal S1024x1024 .f32) (g b : FVec Ideal S1024 .f32)
    (attn : (⟨2, ![16384, 512]⟩ : Shape).Idx → EReal) (hA : ∀ (q : Fin 2) (t : Fin 8192) (e : Fin 512), (A (ix3 q t e) : EReal) = attn (ix2 (row q t) e)) (hX : ∀ y, IsReal (X y)) :
    stepsOf x A X conv pool scale gain wo g b = mixOf x attn (fun y => cols X (y 0) (y 1)) conv pool scale gain wo g b := by
  funext y
  obtain ⟨q, t, d, rfl⟩ : ∃ (q : Fin 2) (t : Fin 8192) (d : Fin 1024), y = ix2 (row q t) d := by
    have h : (y 0).val < 16384 := (y 0).isLt
    refine ⟨⟨(y 0).val / 8192, by omega⟩, ⟨(y 0).val % 8192, by omega⟩, y 1, (eq_ix2 y).trans ?_⟩
    refine congrArg (fun R : Fin 16384 => (ix2 R (y 1) : S16384x1024.Idx)) (Fin.ext ?_)
    show (y 0).val = (y 0).val / 8192 * 8192 + (y 0).val % 8192
    omega
  refine (normOps_at _ g b (row q t) d).trans ?_
  show layerNorm _ _ _ d = layerNorm _ _ _ d
  refine congrArg (fun p => layerNorm p (fun l => g (ix1 l)) (fun l => b (ix1 l)) d) (funext fun l => ?_)
  refine (residualOps_at _ _ _ q t l).trans ?_
  show _ = projected _ _ _ _ l
  unfold projected
  refine congrArg (fun z : EReal => Ideal.ofBits .f32 0x3FB504F3#32 * x (ix2 (row q t) l) + z) (Finset.sum_congr rfl fun e _ => ?_)
  refine congrArg (fun z : EReal => z * wo (ix2 e l)) ((headOps_at _ _ q t e).trans ?_)
  refine congrArg (fun M => headNorm M (fun e => gain (ix1 e)) e) (funext fun e => ?_)
  refine (mixedOps_at _ _ _ q t _ _).trans ?_
  have he : e.val / 64 * 64 + e.val % 64 = e.val := by omega
  show _ = mixAt _ _ _ _ _ (row q t) e
  unfold mixAt
  simp only [he, convOps_at, poolOps_at, pooledOps_at X hX, hA]
  rfl

end Cert.ReferenceIdeal.Mixing
end
-- ==== Proof.LayerRef.lean ====
/- The reference, stage by stage, is the plain formula of the two layers. -/
module

public import proofs.«01_k».proof.Proof.AttnRef
public import proofs.«01_k».proof.Proof.MixRef
public import proofs.«01_k».proof.Proof.LayerReal

@[expose] public section

set_option maxHeartbeats 2000000
set_option maxRecDepth 16384

noncomputable section

namespace Cert.ReferenceIdeal.Whole

open Cert.ReferenceIdeal Cert.ReferenceIdeal.Gen Cert.ReferenceIdeal.Value Idealize.ShloMosaic Idealize.ShloMosaic.TcCoe Idealize.SL.Sem
open Cert.ReferenceIdeal.Attention Cert.ReferenceIdeal.Mixing
open Cert.FfnRow Cert.MixRow Cert.Stick Cert.LayerRow

/-- The reference's rows before normalization, as its own operations give them. -/
def feedForwardOps (X : FVec Ideal S16384x1024 .f32) (U : FVec Ideal S1024x4096 .f32) (D : FVec Ideal S4096x1024 .f32) : FVec Ideal S16384x1024 .f32 :=
  addf (mulf (broadcastInDim S16384x1024 ![] bcast_S_S16384x1024 (constant S_ .f32 0x3FB504F3#32)) X)
    (Host.dotGeneral dot_S16384x4096_S4096x1024_S16384x1024_1_0_0_1_n_n none
      (mulf (maximumf (Host.dotGeneral dot_S16384x1024_S1024x4096_S16384x4096_1_0_0_1_n_n none X U) (broadcastInDim S16384x4096 ![] bcast_S_S16384x4096 (constant S_ .f32 0x00000000#32)))
        (maximumf (Host.dotGeneral dot_S16384x1024_S1024x4096_S16384x4096_1_0_0_1_n_n none X U) (broadcastInDim S16384x4096 ![] bcast_S_S16384x4096 (constant S_ .f32 0x00000000#32)))) D)

theorem feedForwardOps_at (X : FVec Ideal S16384x1024 .f32) (U : FVec Ideal S1024x4096 .f32) (D : FVec Ideal S4096x1024 .f32) (r : Fin 16384) (l : Fin 1024) :
    feedForwardOps X U D (ix2 r l) = preNorm (fun d => X (ix2 r d)) (fun d k => U (ix2 d k)) (fun k l => D (ix2 k l)) l := by
  pointwise [feedForwardOps, preNorm, hiddenUnit]

/-- The feed-forward block's steps are its formula. -/
theorem feedForward_eq (X : FVec Ideal S16384x1024 .f32) (U : FVec Ideal S1024x4096 .f32) (D : FVec Ideal S4096x1024 .f32) (g b : FVec Ideal S1024 .f32) :
    normOps (deviationOps (feedForwardOps X U D)) g b = ffnOf X U D g b := by
  funext i
  obtain ⟨r, l, rfl⟩ : ∃ (r : Fin 16384) (l : Fin 1024), i = ix2 r l := ⟨i 0, i 1, eq_ix2 i⟩
  refine (normOps_at _ _ _ r l).trans ?_
  simp only [feedForwardOps_at]
  rfl

/-- The products of the rows with the input weights. -/
def productOps (x : FVec Ideal S16384x1024 .f32) (w : FVec Ideal S1024x2560 .f32) : FVec Ideal S16384x2560 .f32 :=
  Host.dotGeneral dot_S16384x1024_S1024x2560_S16384x2560_1_0_0_1_n_n none x w

theorem productOps_at (x : FVec Ideal S16384x1024 .f32) (w : FVec Ideal S1024x2560 .f32) (R : Fin 16384) (j : Fin 2560) :
    (productOps x w (ix2 R j) : EReal) = productsOf x w R j := by
  pointwise [productOps, productsOf, prodAt]

/-- The attention's steps from the products. -/
def attentionOps (P : FVec Ideal S16384x2560 .f32) : FVec Ideal S2x8192x512 .f32 := outOps (weightOps (scoreOps (splitOps P))) (valueOps (splitOps P))

/-! ## One layer's steps, whatever its input and weights -/

/-- A layer's steps are the layer's formula, where its input and input weights are real. -/
theorem layer_steps (x : FVec Ideal S16384x1024 .f32) (w : FVec Ideal S1024x2560 .f32) (conv : FVec Ideal S3x256 .f32) (pool : FVec Ideal S4x64x64 .f32)
    (scale : FVec Ideal S256 .f32) (gain : FVec Ideal S1024 .f32) (wo : FVec Ideal S1024x1024 .f32) (g1 b1 : FVec Ideal S1024 .f32) (up : FVec Ideal S1024x4096 .f32)
    (down : FVec Ideal S4096x1024 .f32) (g2 b2 : FVec Ideal S1024 .f32) (hx : ∀ y, IsReal (x y)) (hw : ∀ y, IsReal (w y)) :
    normOps (deviationOps (feedForwardOps (stepsOf x (attentionOps (productOps x w)) (productOps x w) conv pool scale gain wo g1 b1) up down)) g2 b2
      = layerOf x w conv pool scale gain wo g1 b1 up down g2 b2 := by
  obtain ⟨P, hP⟩ : ∃ P, P = productOps x w := ⟨_, rfl⟩
  have hat : ∀ (R : Fin 16384) (j : Fin 2560), (P (ix2 R j) : EReal) = productsOf x w R j := fun R j => by rw [hP]; exact productOps_at _ _ R j
  have hreal : ∀ y, IsReal (P y) := fun y => by
    have e : P y = productsOf x w (y 0) (y 1) := by rw [eq_ix2 (n0 := 16384) (n1 := 2560) y]; exact hat _ _
    rw [e]
    exact productsOf_real hx hw _ _
  have hsplit : ∀ y, IsReal (splitOps P y) := fun y => by
    obtain ⟨q, s, l, rfl⟩ : ∃ (q : Fin 2) (s : Fin 8192) (l : Fin 2560), y = ix3 q s l := ⟨y 0, y 1, y 2, eq_ix3 (n0 := 2) (n1 := 8192) (n2 := 2560) y⟩
    have e := splitOps_at P q s l
    rw [e]
    exact hreal _
  have hcoords : coords (splitOps P) = qkvAt (productsOf x w) := by
    funext b t j
    unfold coords qkvAt qkvCol
    simp only [splitOps_at, hat, row]
  have hQK : RealQK (coords (splitOps P)) := by
    rw [hcoords]
    exact realQK (productsOf_real hx hw)
  have hA : ∀ (q : Fin 2) (t : Fin 8192) (e : Fin 512), (attentionOps P (ix3 q t e) : EReal) = attnRows (qkvAt (productsOf x w)) (ix2 (row q t) e) := by
    intro q t e
    refine (attention_at _ hsplit hQK q t e).trans ?_
    rw [hcoords]
    unfold attnRows
    have h0 : (row q t).val / 8192 = q.val := by unfold row; dsimp only; omega
    have h1 : (row q t).val % 8192 = t.val := by unfold row; dsimp only; omega
    exact congrArg₂ (fun b t => attnAt _ b t e) (Fin.ext h0.symm) (Fin.ext h1.symm)
  have hcols : (fun y : (⟨2, ![16384, 1024]⟩ : Shape).Idx => cols P (y 0) (y 1)) = mixCols (productsOf x w) := by
    funext y
    unfold cols mixCols
    exact hat _ _
  rw [← hP, feedForward_eq, steps_eq _ _ _ _ _ _ _ _ _ _ _ hA hreal, hcols]
  rfl

/-! ## Each layer's weights as the reference takes them from the stacks -/

/-- Layer 0's input weights. -/
def inOps0 (a : FVec Ideal S2x1024x2560 .f32) : FVec Ideal S1024x2560 .f32 := shapeCast _ (extractStridedSlice S1x1024x2560 ![0, 0, 0] a slices_S2x1024x2560_S1x1024x2560_0_0_0) shapeCasts_S1x1024x2560_S1024x2560

theorem inOps0_eq (a : FVec Ideal S2x1024x2560 .f32) : inOps0 a = slice2 0 a := by
  funext y
  obtain ⟨i, j, rfl⟩ : ∃ i j, y = ix2 i j := ⟨y 0, y 1, eq_ix2 y⟩
  pointwise [inOps0, slice2]

/-- Layer 0's taps. -/
def tapsOps0 (a : FVec Ideal S2x3x256 .f32) : FVec Ideal S3x256 .f32 := shapeCast _ (extractStridedSlice S1x3x256 ![0, 0, 0] a slices_S2x3x256_S1x3x256_0_0_0) shapeCasts_S1x3x256_S3x256

theorem tapsOps0_eq (a : FVec Ideal S2x3x256 .f32) : tapsOps0 a = slice2 0 a := by
  funext y
  obtain ⟨i, j, rfl⟩ : ∃ i j, y = ix2 i j := ⟨y 0, y 1, eq_ix2 y⟩
  pointwise [tapsOps0, slice2]

/-- Layer 0's pooling matrices. -/
def poolOps0 (a : FVec Ideal S2x4x64x64 .f32) : FVec Ideal S4x64x64 .f32 := shapeCast _ (extractStridedSlice S1x4x64x64 ![0, 0, 0, 0] a slices_S2x4x64x64_S1x4x64x64_0_0_0_0) shapeCasts_S1x4x64x64_S4x64x64

theorem poolOps0_eq (a : FVec Ideal S2x4x64x64 .f32) : poolOps0 a = slice3 0 a := by
  funext y
  obtain ⟨i, j, k, rfl⟩ : ∃ i j k, y = ix3 i j k := ⟨y 0, y 1, y 2, eq_ix3 y⟩
  pointwise [poolOps0, slice3]

/-- Layer 0's pooling scales. -/
def scaleOps0 (a : FVec Ideal S2x256 .f32) : FVec Ideal S256 .f32 := shapeCast _ (extractStridedSlice S1x256 ![0, 0] a slices_S2x256_S1x256_0_0) shapeCasts_S1x256_S256

theorem scaleOps0_eq (a : FVec Ideal S2x256 .f32) : scaleOps0 a = slice1 0 a := by
  funext y
  obtain ⟨i, rfl⟩ : ∃ i, y = ix1 i := ⟨y 0, eq_ix1 y⟩
  pointwise [scaleOps0, slice1]

/-- Layer 0's gains or biases. -/
def rowOps0 (a : FVec Ideal S2x1024 .f32) : FVec Ideal S1024 .f32 := shapeCast _ (extractStridedSlice S1x1024 ![0, 0] a slices_S2x1024_S1x1024_0_0) shapeCasts_S1x1024_S1024

theorem rowOps0_eq (a : FVec Ideal S2x1024 .f32) : rowOps0 a = slice1 0 a := by
  funext y
  obtain ⟨i, rfl⟩ : ∃ i, y = ix1 i := ⟨y 0, eq_ix1 y⟩
  pointwise [rowOps0, slice1]

/-- Layer 0's output weights. -/
def outOps0 (a : FVec Ideal S2x1024x1024 .f32) : FVec Ideal S1024x1024 .f32 := shapeCast _ (extractStridedSlice S1x1024x1024 ![0, 0, 0] a slices_S2x1024x1024_S1x1024x1024_0_0_0) shapeCasts_S1x1024x1024_S1024x1024

theorem outOps0_eq (a : FVec Ideal S2x1024x1024 .f32) : outOps0 a = slice2 0 a := by
  funext y
  obtain ⟨i, j, rfl⟩ : ∃ i j, y = ix2 i j := ⟨y 0, y 1, eq_ix2 y⟩
  pointwise [outOps0, slice2]

/-- Layer 0's first feed-forward weights. -/
def upOps0 (a : FVec Ideal S2x1024x4096 .f32) : FVec Ideal S1024x4096 .f32 := shapeCast _ (extractStridedSlice S1x1024x4096 ![0, 0, 0] a slices_S2x1024x4096_S1x1024x4096_0_0_0) shapeCasts_S1x1024x4096_S1024x4096

theorem upOps0_eq (a : FVec Ideal S2x1024x4096 .f32) : upOps0 a = slice2 0 a := by
  funext y
  obtain ⟨i, j, rfl⟩ : ∃ i j, y = ix2 i j := ⟨y 0, y 1, eq_ix2 y⟩
  pointwise [upOps0, slice2]

/-- Layer 0's second feed-forward weights. -/
def downOps0 (a : FVec Ideal S2x4096x1024 .f32) : FVec Ideal S4096x1024 .f32 := shapeCast _ (extractStridedSlice S1x4096x1024 ![0, 0, 0] a slices_S2x4096x1024_S1x4096x1024_0_0_0) shapeCasts_S1x4096x1024_S4096x1024

theorem downOps0_eq (a : FVec Ideal S2x4096x1024 .f32) : downOps0 a = slice2 0 a := by
  funext y
  obtain ⟨i, j, rfl⟩ : ∃ i j, y = ix2 i j := ⟨y 0, y 1, eq_ix2 y⟩
  pointwise [downOps0, slice2]

/-- Layer 1's input weights. -/
def inOps1 (a : FVec Ideal S2x1024x2560 .f32) : FVec Ideal S1024x2560 .f32 := shapeCast _ (extractStridedSlice S1x1024x2560 ![1, 0, 0] a slices_S2x1024x2560_S1x1024x2560_1_0_0) shapeCasts_S1x1024x2560_S1024x2560

theorem inOps1_eq (a : FVec Ideal S2x1024x2560 .f32) : inOps1 a = slice2 1 a := by
  funext y
  obtain ⟨i, j, rfl⟩ : ∃ i j, y = ix2 i j := ⟨y 0, y 1, eq_ix2 y⟩
  pointwise [inOps1, slice2]

/-- Layer 1's taps. -/
def tapsOps1 (a : FVec Ideal S2x3x256 .f32) : FVec Ideal S3x256 .f32 := shapeCast _ (extractStridedSlice S1x3x256 ![1, 0, 0] a slices_S2x3x256_S1x3x256_1_0_0) shapeCasts_S1x3x256_S3x256

theorem tapsOps1_eq (a : FVec Ideal S2x3x256 .f32) : tapsOps1 a = slice2 1 a := by
  funext y
  obtain ⟨i, j, rfl⟩ : ∃ i j, y = ix2 i j := ⟨y 0, y 1, eq_ix2 y⟩
  pointwise [tapsOps1, slice2]

/-- Layer 1's pooling matrices. -/
def poolOps1 (a : FVec Ideal S2x4x64x64 .f32) : FVec Ideal S4x64x64 .f32 := shapeCast _ (extractStridedSlice S1x4x64x64 ![1, 0, 0, 0] a slices_S2x4x64x64_S1x4x64x64_1_0_0_0) shapeCasts_S1x4x64x64_S4x64x64

theorem poolOps1_eq (a : FVec Ideal S2x4x64x64 .f32) : poolOps1 a = slice3 1 a := by
  funext y
  obtain ⟨i, j, k, rfl⟩ : ∃ i j k, y = ix3 i j k := ⟨y 0, y 1, y 2, eq_ix3 y⟩
  pointwise [poolOps1, slice3]

/-- Layer 1's pooling scales. -/
def scaleOps1 (a : FVec Ideal S2x256 .f32) : FVec Ideal S256 .f32 := shapeCast _ (extractStridedSlice S1x256 ![1, 0] a slices_S2x256_S1x256_1_0) shapeCasts_S1x256_S256

theorem scaleOps1_eq (a : FVec Ideal S2x256 .f32) : scaleOps1 a = slice1 1 a := by
  funext y
  obtain ⟨i, rfl⟩ : ∃ i, y = ix1 i := ⟨y 0, eq_ix1 y⟩
  pointwise [scaleOps1, slice1]

/-- Layer 1's gains or biases. -/
def rowOps1 (a : FVec Ideal S2x1024 .f32) : FVec Ideal S1024 .f32 := shapeCast _ (extractStridedSlice S1x1024 ![1, 0] a slices_S2x1024_S1x1024_1_0) shapeCasts_S1x1024_S1024

theorem rowOps1_eq (a : FVec Ideal S2x1024 .f32) : rowOps1 a = slice1 1 a := by
  funext y
  obtain ⟨i, rfl⟩ : ∃ i, y = ix1 i := ⟨y 0, eq_ix1 y⟩
  pointwise [rowOps1, slice1]

/-- Layer 1's output weights. -/
def outOps1 (a : FVec Ideal S2x1024x1024 .f32) : FVec Ideal S1024x1024 .f32 := shapeCast _ (extractStridedSlice S1x1024x1024 ![1, 0, 0] a slices_S2x1024x1024_S1x1024x1024_1_0_0) shapeCasts_S1x1024x1024_S1024x1024

theorem outOps1_eq (a : FVec Ideal S2x1024x1024 .f32) : outOps1 a = slice2 1 a := by
  funext y
  obtain ⟨i, j, rfl⟩ : ∃ i j, y = ix2 i j := ⟨y 0, y 1, eq_ix2 y⟩
  pointwise [outOps1, slice2]

/-- Layer 1's first feed-forward weights. -/
def upOps1 (a : FVec Ideal S2x1024x4096 .f32) : FVec Ideal S1024x4096 .f32 := shapeCast _ (extractStridedSlice S1x1024x4096 ![1, 0, 0] a slices_S2x1024x4096_S1x1024x4096_1_0_0) shapeCasts_S1x1024x4096_S1024x4096

theorem upOps1_eq (a : FVec Ideal S2x1024x4096 .f32) : upOps1 a = slice2 1 a := by
  funext y
  obtain ⟨i, j, rfl⟩ : ∃ i j, y = ix2 i j := ⟨y 0, y 1, eq_ix2 y⟩
  pointwise [upOps1, slice2]

/-- Layer 1's second feed-forward weights. -/
def downOps1 (a : FVec Ideal S2x4096x1024 .f32) : FVec Ideal S4096x1024 .f32 := shapeCast _ (extractStridedSlice S1x4096x1024 ![1, 0, 0] a slices_S2x4096x1024_S1x4096x1024_1_0_0) shapeCasts_S1x4096x1024_S4096x1024

theorem downOps1_eq (a : FVec Ideal S2x4096x1024 .f32) : downOps1 a = slice2 1 a := by
  funext y
  obtain ⟨i, j, rfl⟩ : ∃ i j, y = ix2 i j := ⟨y 0, y 1, eq_ix2 y⟩
  pointwise [downOps1, slice2]

/-- The input's rows one after another. -/
def flatOps (x : FVec Ideal S2x8192x1024 .f32) : FVec Ideal S16384x1024 .f32 := shapeCast _ x shapeCasts_S2x8192x1024_S16384x1024

theorem flatOps_eq (x : FVec Ideal S2x8192x1024 .f32) : flatOps x = flatRows x := by
  funext y
  obtain ⟨i, j, rfl⟩ : ∃ i j, y = ix2 i j := ⟨y 0, y 1, eq_ix2 y⟩
  pointwise [flatOps, flatRows]

/-- The last rows as two sequences. -/
theorem sequences_eq (x : FVec Ideal S16384x1024 .f32) : shapeCast S2x8192x1024 x shapeCasts_S16384x1024_S2x8192x1024 = bySequence x := by
  funext y
  obtain ⟨i, j, k, rfl⟩ : ∃ i j k, y = ix3 i j k := ⟨y 0, y 1, y 2, eq_ix3 y⟩
  pointwise [bySequence]

/-! ## The reference's named stages -/

variable (W : Valuation τ sig (Elt Ideal))

theorem input_eq : res_main_v0 W = flatRows (W main_arg0) := (rfl : res_main_v0 W = flatOps (W main_arg0)).trans (flatOps_eq _)

theorem first_products : res_main_v26 W = splitOps (productOps (res_main_v0 W) (inOps0 (W main_arg1))) := rfl

theorem first_scores : res_main_v42 W = scoreOps (res_main_v26 W) := rfl

theorem first_mixed : res_main_v221 W = mixedOps (outOps (weightOps (res_main_v42 W)) (valueOps (res_main_v26 W))) (convOps (res_main_v26 W) (tapsOps0 (W main_arg2)))
    (poolOps (pooledOps (runOps (columnOps (res_main_v26 W))) (columnOps (res_main_v26 W))) (poolOps0 (W main_arg3)) (scaleOps0 (W main_arg4))) := rfl

theorem first_residual : res_main_v240 W = residualOps (res_main_v0 W) (headOps (res_main_v221 W) (rowOps0 (W main_arg5))) (outOps0 (W main_arg6)) := rfl

theorem first_normed : res_main_v262 W = normOps (deviationOps (res_main_v240 W)) (rowOps0 (W main_arg7)) (rowOps0 (W main_arg8)) := rfl

theorem first_deviations : res_main_v275 W = deviationOps (feedForwardOps (res_main_v262 W) (upOps0 (W main_arg9)) (downOps0 (W main_arg10))) := rfl

/-- Layer 0's steps are its formula, where its input and the input weights are real. -/
theorem first_layer (hx : ∀ y, IsReal (res_main_v0 W y)) (hw : ∀ y, IsReal (W main_arg1 y)) :
    normOps (res_main_v275 W) (rowOps0 (W main_arg11)) (rowOps0 (W main_arg12))
      = layerAt 0 (res_main_v0 W) (W main_arg1) (W main_arg2) (W main_arg3) (W main_arg4) (W main_arg5) (W main_arg6) (W main_arg7) (W main_arg8)
          (W main_arg9) (W main_arg10) (W main_arg11) (W main_arg12) := by
  have hmix : res_main_v262 W = stepsOf (res_main_v0 W) (attentionOps (productOps (res_main_v0 W) (inOps0 (W main_arg1)))) (productOps (res_main_v0 W) (inOps0 (W main_arg1)))
      (tapsOps0 (W main_arg2)) (poolOps0 (W main_arg3)) (scaleOps0 (W main_arg4)) (rowOps0 (W main_arg5)) (outOps0 (W main_arg6)) (rowOps0 (W main_arg7)) (rowOps0 (W main_arg8)) := by
    rw [first_normed, first_residual, first_mixed, first_scores, first_products]
    rfl
  have hw' : ∀ y, IsReal (inOps0 (W main_arg1) y) := by
    rw [inOps0_eq]
    exact fun y => hw _
  rw [first_deviations, hmix, layer_steps _ _ _ _ _ _ _ _ _ _ _ _ _ hx hw', inOps0_eq, tapsOps0_eq, poolOps0_eq, scaleOps0_eq, outOps0_eq, upOps0_eq, downOps0_eq]
  simp only [rowOps0_eq]
  rfl

theorem second_products : res_main_v317 W = splitOps (productOps (res_main_v291 W) (inOps1 (W main_arg1))) := rfl

theorem second_scores : res_main_v333 W = scoreOps (res_main_v317 W) := rfl

theorem second_mixed : res_main_v512 W = mixedOps (outOps (weightOps (res_main_v333 W)) (valueOps (res_main_v317 W))) (convOps (res_main_v317 W) (tapsOps1 (W main_arg2)))
    (poolOps (pooledOps (runOps (columnOps (res_main_v317 W))) (columnOps (res_main_v317 W))) (poolOps1 (W main_arg3)) (scaleOps1 (W main_arg4))) := rfl

theorem second_residual : res_main_v531 W = residualOps (res_main_v291 W) (headOps (res_main_v512 W) (rowOps1 (W main_arg5))) (outOps1 (W main_arg6)) := rfl

theorem second_normed : res_main_v553 W = normOps (deviationOps (res_main_v531 W)) (rowOps1 (W main_arg7)) (rowOps1 (W main_arg8)) := rfl

theorem second_deviations : res_main_v566 W = deviationOps (feedForwardOps (res_main_v553 W) (upOps1 (W main_arg9)) (downOps1 (W main_arg10))) := rfl

/-- Layer 1's steps are its formula, where its input and the input weights are real. -/
theorem second_layer (hx : ∀ y, IsReal (res_main_v291 W y)) (hw : ∀ y, IsReal (W main_arg1 y)) :
    normOps (res_main_v566 W) (rowOps1 (W main_arg11)) (rowOps1 (W main_arg12))
      = layerAt 1 (res_main_v291 W) (W main_arg1) (W main_arg2) (W main_arg3) (W main_arg4) (W main_arg5) (W main_arg6) (W main_arg7) (W main_arg8)
          (W main_arg9) (W main_arg10) (W main_arg11) (W main_arg12) := by
  have hmix : res_main_v553 W = stepsOf (res_main_v291 W) (attentionOps (productOps (res_main_v291 W) (inOps1 (W main_arg1)))) (productOps (res_main_v291 W) (inOps1 (W main_arg1)))
      (tapsOps1 (W main_arg2)) (poolOps1 (W main_arg3)) (scaleOps1 (W main_arg4)) (rowOps1 (W main_arg5)) (outOps1 (W main_arg6)) (rowOps1 (W main_arg7)) (rowOps1 (W main_arg8)) := by
    rw [second_normed, second_residual, second_mixed, second_scores, second_products]
    rfl
  have hw' : ∀ y, IsReal (inOps1 (W main_arg1) y) := by
    rw [inOps1_eq]
    exact fun y => hw _
  rw [second_deviations, hmix, layer_steps _ _ _ _ _ _ _ _ _ _ _ _ _ hx hw', inOps1_eq, tapsOps1_eq, poolOps1_eq, scaleOps1_eq, outOps1_eq, upOps1_eq, downOps1_eq]
  simp only [rowOps1_eq]
  rfl

theorem first_result : res_main_v291 W = normOps (res_main_v275 W) (rowOps0 (W main_arg11)) (rowOps0 (W main_arg12)) := rfl

/-- The reference's steps are the two layers' formula, where the arrays that make both layers' inputs are real. -/
theorem trunk_eq (h : RealTrunk (W main_arg0) (W main_arg1) (W main_arg2) (W main_arg3) (W main_arg4) (W main_arg5) (W main_arg6) (W main_arg7) (W main_arg8)
      (W main_arg9) (W main_arg10) (W main_arg11) (W main_arg12)) :
    shapeCast S2x8192x1024 (normOps (res_main_v566 W) (rowOps1 (W main_arg11)) (rowOps1 (W main_arg12))) shapeCasts_S16384x1024_S2x8192x1024
      = trunkOf (W main_arg0) (W main_arg1) (W main_arg2) (W main_arg3) (W main_arg4) (W main_arg5) (W main_arg6) (W main_arg7) (W main_arg8)
          (W main_arg9) (W main_arg10) (W main_arg11) (W main_arg12) := by
  have h0 : ∀ y, IsReal (res_main_v0 W y) := by
    rw [input_eq]
    exact fun y => h.x _
  have e1 : res_main_v291 W = layerAt 0 (flatRows (W main_arg0)) (W main_arg1) (W main_arg2) (W main_arg3) (W main_arg4) (W main_arg5) (W main_arg6) (W main_arg7) (W main_arg8)
      (W main_arg9) (W main_arg10) (W main_arg11) (W main_arg12) := by
    rw [first_result, first_layer W h0 h.w, input_eq]
  have h1 : ∀ y, IsReal (res_main_v291 W y) := by
    rw [e1]
    exact h.first
  rw [second_layer W h1 h.w, e1, sequences_eq]
  rfl

end Cert.ReferenceIdeal.Whole

end
-- ==== Proof.LayerPre.lean ====
/- The precondition read as what it says: five of the arrays, and the first layer's part of the others, hold real numbers. -/
module

public import proofs.«01_k».proof.Pre_finite_trunk
public import Idealize.ShloMosaic.Lib.Pipeline.ValueKit
public import Idealize.ShloMosaic.Lib.Claim
public import Idealize.ShloMosaic.Lib.ReduceAll
public import proofs.«01_k».proof.Proof.LayerReal

@[expose] public section

set_option maxHeartbeats 2000000
set_option maxRecDepth 16384

noncomputable section

namespace Cert.Pre_finite_trunk.Reading

open Idealize.ShloMosaic Idealize.ShloMosaic.TcCoe
open Cert.Pre_finite_trunk Cert.Pre_finite_trunk.Facts Cert.MixRow Cert.LayerRow

theorem real_of_lt (x : EReal) (h : max x (-x) < ⊤) : ∃ r : ℝ, x = (r : EReal) := by
  induction x using EReal.rec with
  | bot => simp at h
  | coe r => exact ⟨r, rfl⟩
  | top => simp at h

theorem inf_ideal : Ideal.ofBits .f32 0x7F800000#32 = (⊤ : EReal) := by
  simp [Ideal.ofBits, Ideal.ieee]

/-- Where a number's magnitude compares as less than infinity, it is real. -/
theorem real_of_compare {s : Shape} (x : FVec Ideal s .f32) (hb : S_.BroadcastsInDim s (![] : Fin 0 → Fin s.rank)) (y : s.Idx)
    (h : cmpf .olt (Host.absf x) (broadcastInDim s ![] hb (constant (F := Ideal) S_ .f32 0x7F800000#32)) y = 1#1) : IsReal (x y) := by
  have h1 : max (x y) (-(x y)) < ⊤ := by
    by_contra hc
    have h2 : BitVec.ofBool (decide (max (x y) (-(x y)) < Ideal.ofBits .f32 0x7F800000#32)) = 1#1 := h
    rw [inf_ideal, decide_eq_false hc] at h2
    exact absurd h2 (by decide)
  exact real_of_lt _ h1

/-- Two bits whose conjunction is one are one. -/
theorem both_of_and : ∀ a b : BitVec 1, IntOp.andi a b = 1#1 → a = 1#1 ∧ b = 1#1 := by decide

theorem row_eq [Cert.Pre_finite_trunk.Facts] (a : FVec Ideal S2x1024 .f32) :
    shapeCast S1024 (extractStridedSlice S1x1024 ![0, 0] a slices_S2x1024_S1x1024_0_0) shapeCasts_S1x1024_S1024 = slice1 0 a := by
  funext y
  obtain ⟨i, rfl⟩ : ∃ i, y = ix1 i := ⟨y 0, eq_ix1 y⟩
  pointwise [slice1]

theorem out_eq [Cert.Pre_finite_trunk.Facts] (a : FVec Ideal S2x1024x1024 .f32) :
    shapeCast S1024x1024 (extractStridedSlice S1x1024x1024 ![0, 0, 0] a slices_S2x1024x1024_S1x1024x1024_0_0_0) shapeCasts_S1x1024x1024_S1024x1024 = slice2 0 a := by
  funext y
  obtain ⟨i, j, rfl⟩ : ∃ i j, y = ix2 i j := ⟨y 0, y 1, eq_ix2 y⟩
  pointwise [slice2]

theorem up_eq [Cert.Pre_finite_trunk.Facts] (a : FVec Ideal S2x1024x4096 .f32) :
    shapeCast S1024x4096 (extractStridedSlice S1x1024x4096 ![0, 0, 0] a slices_S2x1024x4096_S1x1024x4096_0_0_0) shapeCasts_S1x1024x4096_S1024x4096 = slice2 0 a := by
  funext y
  obtain ⟨i, j, rfl⟩ : ∃ i j, y = ix2 i j := ⟨y 0, y 1, eq_ix2 y⟩
  pointwise [slice2]

theorem down_eq [Cert.Pre_finite_trunk.Facts] (a : FVec Ideal S2x4096x1024 .f32) :
    shapeCast S4096x1024 (extractStridedSlice S1x4096x1024 ![0, 0, 0] a slices_S2x4096x1024_S1x4096x1024_0_0_0) shapeCasts_S1x4096x1024_S4096x1024 = slice2 0 a := by
  funext y
  obtain ⟨i, j, rfl⟩ : ∃ i j, y = ix2 i j := ⟨y 0, y 1, eq_ix2 y⟩
  pointwise [slice2]

/-- Where the precondition holds, the first five arrays and the first layer's part of the others are real numbers. -/
theorem real_arrays [Cert.Pre_finite_trunk.Facts] (a0 : FVec Ideal S2x8192x1024 .f32) (a1 : FVec Ideal S2x1024x2560 .f32) (a2 : FVec Ideal S2x3x256 .f32)
    (a3 : FVec Ideal S2x4x64x64 .f32) (a4 : FVec Ideal S2x256 .f32) (a5 : FVec Ideal S2x1024 .f32) (a6 : FVec Ideal S2x1024x1024 .f32) (a7 a8 : FVec Ideal S2x1024 .f32)
    (a9 : FVec Ideal S2x1024x4096 .f32) (a10 : FVec Ideal S2x4096x1024 .f32) (a11 a12 : FVec Ideal S2x1024 .f32)
    (h : fn (F := Ideal) a0 a1 a2 a3 a4 a5 a6 a7 a8 a9 a10 a11 a12 = fun _ => 1#1) : RealTrunk a0 a1 a2 a3 a4 a5 a6 a7 a8 a9 a10 a11 a12 := by
  have h0 := congrFun h (fun a => a.elim0)
  unfold fn fn_part1 fn_part2 fn_part3 fn_part4 at h0
  dsimp only at h0
  obtain ⟨h1, k12⟩ := both_of_and _ _ h0
  obtain ⟨h2, k11⟩ := both_of_and _ _ h1
  obtain ⟨h3, k10⟩ := both_of_and _ _ h2
  obtain ⟨h4, k9⟩ := both_of_and _ _ h3
  obtain ⟨h5, k8⟩ := both_of_and _ _ h4
  obtain ⟨h6, k7⟩ := both_of_and _ _ h5
  obtain ⟨h7, k6⟩ := both_of_and _ _ h6
  obtain ⟨h8, k5⟩ := both_of_and _ _ h7
  obtain ⟨h9, k4⟩ := both_of_and _ _ h8
  obtain ⟨h10, k3⟩ := both_of_and _ _ h9
  obtain ⟨h11, k2⟩ := both_of_and _ _ h10
  obtain ⟨k0, k1⟩ := both_of_and _ _ h11
  exact ⟨fun y => real_of_compare _ _ y (Host.reduce_andi_all _ _ _ _ _ k0 y),
    fun y => real_of_compare _ _ y (Host.reduce_andi_all _ _ _ _ _ k1 y),
    fun y => real_of_compare _ _ y (Host.reduce_andi_all _ _ _ _ _ k2 y),
    fun y => real_of_compare _ _ y (Host.reduce_andi_all _ _ _ _ _ k3 y),
    fun y => real_of_compare _ _ y (Host.reduce_andi_all _ _ _ _ _ k4 y),
    fun y => Eq.mp (congrArg IsReal (congrFun (row_eq a5) y)) (real_of_compare _ _ y (Host.reduce_andi_all _ _ _ _ _ k5 y)),
    fun y => Eq.mp (congrArg IsReal (congrFun (out_eq a6) y)) (real_of_compare _ _ y (Host.reduce_andi_all _ _ _ _ _ k6 y)),
    fun y => Eq.mp (congrArg IsReal (congrFun (row_eq a7) y)) (real_of_compare _ _ y (Host.reduce_andi_all _ _ _ _ _ k7 y)),
    fun y => Eq.mp (congrArg IsReal (congrFun (row_eq a8) y)) (real_of_compare _ _ y (Host.reduce_andi_all _ _ _ _ _ k8 y)),
    fun y => Eq.mp (congrArg IsReal (congrFun (up_eq a9) y)) (real_of_compare _ _ y (Host.reduce_andi_all _ _ _ _ _ k9 y)),
    fun y => Eq.mp (congrArg IsReal (congrFun (down_eq a10) y)) (real_of_compare _ _ y (Host.reduce_andi_all _ _ _ _ _ k10 y)),
    fun y => Eq.mp (congrArg IsReal (congrFun (row_eq a11) y)) (real_of_compare _ _ y (Host.reduce_andi_all _ _ _ _ _ k11 y)),
    fun y => Eq.mp (congrArg IsReal (congrFun (row_eq a12) y)) (real_of_compare _ _ y (Host.reduce_andi_all _ _ _ _ _ k12 y))⟩

end Cert.Pre_finite_trunk.Reading

end
-- ==== Proof.Claims.lean ====
/- The claims about the kernel, each from the run of its program. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.LayerRun
public import proofs.«01_k».proof.Proof.TrunkKernel
public import proofs.«01_k».proof.Proof.LayerRef
public import proofs.«01_k».proof.Proof.LayerPre
public import Idealize.ShloMosaic.Lib.Claim

@[expose] public section

set_option maxRecDepth 16384

noncomputable section

namespace Cert.Whole

open Idealize.ShloMosaic Idealize.SL.Sem

/-- The kernel runs, faults nowhere and leaves its arguments as they were. -/
theorem frame_trunk : Cert.quiescent_Kernel := fun m ρ _ => Cert.Kernel.Gen.frame m ρ

/-- The same of the kernel over the extended reals. -/
theorem frame_trunk_ideal : Cert.quiescent_KernelIdeal := fun m ρ _ => Cert.KernelIdeal.Gen.frame m ρ

/-- The same of the reference. -/
theorem frame_trunk_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel over the extended reals so behaves on finite arguments too. -/
theorem frame_trunk_ideal_finite [Cert.Pre_finite_trunk.Facts] : Cert.quiescent_KernelIdeal_pre_finite_trunk := fun m ρ _ => frame_trunk_ideal m ρ trivial

/-- And so does the reference. -/
theorem frame_trunk_reference_finite [Cert.Pre_finite_trunk.Facts] : Cert.quiescent_ReferenceIdeal_pre_finite_trunk := fun m ρ _ => frame_trunk_reference m ρ trivial

/-- The kernel's two named constants have the values its table gives them. -/
theorem preserves_trunk : Cert.preserves_Kernel_KernelIdeal :=
  ⟨IdealRules.named_const.statement Cert.KernelIdeal.κ "q_scale" .f32 0xBE38AA3B#32 ((-((8 * (Real.log 2))⁻¹) : ℝ) : EReal) rfl,
    IdealRules.named_const.statement Cert.KernelIdeal.κ "log2e" .f32 0x3FB8AA3B#32 (((Real.log 2)⁻¹ : ℝ) : EReal) rfl⟩

set_option maxHeartbeats 2000000 in
/-- The kernel and its reference end with equal results on equal arguments of which the first five, and the first layer's part of the others, are finite. -/
theorem algebraic_trunk [Cert.Pre_finite_trunk.Facts] : Cert.algebraic_KernelIdeal_ReferenceIdeal_pre_finite_trunk := by
  intro m g m' g' hpre hagree
  have hR := fun c => Cert.Pre_finite_trunk.Reading.real_arrays _ _ _ _ _ _ _ _ _ _ _ _ _ (hpre c)
  refine ⟨fun c => Cert.LayerRow.trunkOf (m ((c.tc : Thread _ _).loc Cert.KernelIdeal.main_arg0)) (m ((c.tc : Thread _ _).loc Cert.KernelIdeal.main_arg1)) (m ((c.tc : Thread _ _).loc Cert.KernelIdeal.main_arg2))
     (m ((c.tc : Thread _ _).loc Cert.KernelIdeal.main_arg3)) (m ((c.tc : Thread _ _).loc Cert.KernelIdeal.main_arg4)) (m ((c.tc : Thread _ _).loc Cert.KernelIdeal.main_arg5))
     (m ((c.tc : Thread _ _).loc Cert.KernelIdeal.main_arg6)) (m ((c.tc : Thread _ _).loc Cert.KernelIdeal.main_arg7)) (m ((c.tc : Thread _ _).loc Cert.KernelIdeal.main_arg8))
     (m ((c.tc : Thread _ _).loc Cert.KernelIdeal.main_arg9)) (m ((c.tc : Thread _ _).loc Cert.KernelIdeal.main_arg10)) (m ((c.tc : Thread _ _).loc Cert.KernelIdeal.main_arg11))
     (m ((c.tc : Thread _ _).loc Cert.KernelIdeal.main_arg12)), ?_, ?_⟩
  · refine (θ_run Cert.KernelIdeal.defs _ _).mono (fun r h c => ?_) (Cert.KernelIdeal.Whole.run_whole (F := Ideal) m g)
    exact ⟨(h c).1.trans (Cert.KernelIdeal.Trunk.trunk_final m g c (hR c)), (h c).2⟩
  · refine (θ_run Cert.ReferenceIdeal.defs _ _).mono (fun r h c => ?_) (Cert.ReferenceIdeal.Value.run (F := Ideal) m' g')
    obtain ⟨h0, h1, h2, h3, h4, h5, h6, h7, h8, h9, h10, h11, h12⟩ := hagree c
    refine ⟨(h c).1.trans (Eq.trans (Cert.ReferenceIdeal.Whole.trunk_eq (StableHlo.launchContents m' c) ?_) ?_), (h c).2⟩
    · show Cert.LayerRow.RealTrunk (m' ((c.tc : Thread _ _).loc Cert.ReferenceIdeal.main_arg0)) (m' ((c.tc : Thread _ _).loc Cert.ReferenceIdeal.main_arg1)) (m' ((c.tc : Thread _ _).loc Cert.ReferenceIdeal.main_arg2))
          (m' ((c.tc : Thread _ _).loc Cert.ReferenceIdeal.main_arg3)) (m' ((c.tc : Thread _ _).loc Cert.ReferenceIdeal.main_arg4)) (m' ((c.tc : Thread _ _).loc Cert.ReferenceIdeal.main_arg5))
          (m' ((c.tc : Thread _ _).loc Cert.ReferenceIdeal.main_arg6)) (m' ((c.tc : Thread _ _).loc Cert.ReferenceIdeal.main_arg7)) (m' ((c.tc : Thread _ _).loc Cert.ReferenceIdeal.main_arg8))
          (m' ((c.tc : Thread _ _).loc Cert.ReferenceIdeal.main_arg9)) (m' ((c.tc : Thread _ _).loc Cert.ReferenceIdeal.main_arg10)) (m' ((c.tc : Thread _ _).loc Cert.ReferenceIdeal.main_arg11))
          (m' ((c.tc : Thread _ _).loc Cert.ReferenceIdeal.main_arg12))
      rw [h0, h1, h2, h3, h4, h5, h6, h7, h8, h9, h10, h11, h12]
      exact hR c
    · show Cert.LayerRow.trunkOf (m' ((c.tc : Thread _ _).loc Cert.ReferenceIdeal.main_arg0)) (m' ((c.tc : Thread _ _).loc Cert.ReferenceIdeal.main_arg1)) (m' ((c.tc : Thread _ _).loc Cert.ReferenceIdeal.main_arg2))
          (m' ((c.tc : Thread _ _).loc Cert.ReferenceIdeal.main_arg3)) (m' ((c.tc : Thread _ _).loc Cert.ReferenceIdeal.main_arg4)) (m' ((c.tc : Thread _ _).loc Cert.ReferenceIdeal.main_arg5))
          (m' ((c.tc : Thread _ _).loc Cert.ReferenceIdeal.main_arg6)) (m' ((c.tc : Thread _ _).loc Cert.ReferenceIdeal.main_arg7)) (m' ((c.tc : Thread _ _).loc Cert.ReferenceIdeal.main_arg8))
          (m' ((c.tc : Thread _ _).loc Cert.ReferenceIdeal.main_arg9)) (m' ((c.tc : Thread _ _).loc Cert.ReferenceIdeal.main_arg10)) (m' ((c.tc : Thread _ _).loc Cert.ReferenceIdeal.main_arg11))
          (m' ((c.tc : Thread _ _).loc Cert.ReferenceIdeal.main_arg12)) = _
      rw [h0, h1, h2, h3, h4, h5, h6, h7, h8, h9, h10, h11, h12]

end Cert.Whole

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_trunk
public import proofs.«01_k».proof.Proof.Claims

@[expose] public section

noncomputable section

namespace Cert.Proof

open Cert.Whole

/-- Every claim of the certificate. -/
theorem claim : Cert.Claim :=
  ⟨Cert.Kernel.Gen.facts, Cert.KernelIdeal.Gen.facts, Cert.ReferenceIdeal.Gen.facts, Cert.Pre_finite_trunk.Gen.facts,
    frame_trunk, frame_trunk_ideal, frame_trunk_ideal_finite, frame_trunk_reference, frame_trunk_reference_finite, preserves_trunk, algebraic_trunk⟩

end Cert.Proof

end
